-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_InBack (m : (ℓ : Loc Cert.InBack.nD Cert.InBack.τ Cert.InBack.sig) → Buf (Elt Bits) ℓ) : Prop :=
  True

def Pre_InBackIdeal (m : (ℓ : Loc Cert.InBackIdeal.nD Cert.InBackIdeal.τ Cert.InBackIdeal.sig) → Buf (Elt Ideal) ℓ) : Prop :=
  True

def Pre_InBackIdeal_finite_in [hPre_finite_in : Cert.Pre_finite_in.Facts] (m : (ℓ : Loc Cert.InBackIdeal.nD Cert.InBackIdeal.τ Cert.InBackIdeal.sig) → Buf (Elt Ideal) ℓ) : Prop :=
  ∀ c : Dev Cert.InBackIdeal.nD,
    (Cert.Pre_finite_in.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).1 = (fun _ => 1#1)
    ∧ (Cert.Pre_finite_in.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).2.1 = (fun _ => 1#1)
    ∧ (Cert.Pre_finite_in.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).2.2.1 = (fun _ => 1#1)
    ∧ (Cert.Pre_finite_in.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).2.2.2.1 = (fun _ => 1#1)
    ∧ (Cert.Pre_finite_in.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).2.2.2.2.1 = (fun _ => 1#1)
    ∧ (Cert.Pre_finite_in.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).2.2.2.2.2.1 = (fun _ => 1#1)
    ∧ (Cert.Pre_finite_in.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).2.2.2.2.2.2.1 = (fun _ => 1#1)
    ∧ (Cert.Pre_finite_in.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).2.2.2.2.2.2.2.1 = (fun _ => 1#1)
    ∧ (Cert.Pre_finite_in.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).2.2.2.2.2.2.2.2 = (fun _ => 1#1)

def Pre_InBackRefIdeal (m : (ℓ : Loc Cert.InBackRefIdeal.nD Cert.InBackRefIdeal.τ Cert.InBackRefIdeal.sig) → Buf (Elt Ideal) ℓ) : Prop :=
  True

def Pre_InBackRefIdeal_finite_in [hPre_finite_in : Cert.Pre_finite_in.Facts] (m : (ℓ : Loc Cert.InBackRefIdeal.nD Cert.InBackRefIdeal.τ Cert.InBackRefIdeal.sig) → Buf (Elt Ideal) ℓ) : Prop :=
  ∀ c : Dev Cert.InBackRefIdeal.nD,
    (Cert.Pre_finite_in.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).1 = (fun _ => 1#1)
    ∧ (Cert.Pre_finite_in.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).2.1 = (fun _ => 1#1)
    ∧ (Cert.Pre_finite_in.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).2.2.1 = (fun _ => 1#1)
    ∧ (Cert.Pre_finite_in.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).2.2.2.1 = (fun _ => 1#1)
    ∧ (Cert.Pre_finite_in.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).2.2.2.2.1 = (fun _ => 1#1)
    ∧ (Cert.Pre_finite_in.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).2.2.2.2.2.1 = (fun _ => 1#1)
    ∧ (Cert.Pre_finite_in.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).2.2.2.2.2.2.1 = (fun _ => 1#1)
    ∧ (Cert.Pre_finite_in.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).2.2.2.2.2.2.2.1 = (fun _ => 1#1)
    ∧ (Cert.Pre_finite_in.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).2.2.2.2.2.2.2.2 = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_finite_down [hPre_finite_down : Cert.Pre_finite_down.Facts] (m : (ℓ : Loc Cert.HeadIdeal.nD Cert.HeadIdeal.τ Cert.HeadIdeal.sig) → Buf (Elt Ideal) ℓ) : Prop :=
  ∀ c : Dev Cert.HeadIdeal.nD,
    (Cert.Pre_finite_down.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).1 = (fun _ => 1#1)
    ∧ (Cert.Pre_finite_down.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).2.1 = (fun _ => 1#1)
    ∧ (Cert.Pre_finite_down.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).2.2.1 = (fun _ => 1#1)
    ∧ (Cert.Pre_finite_down.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).2.2.2.1 = (fun _ => 1#1)
    ∧ (Cert.Pre_finite_down.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).2.2.2.2.1 = (fun _ => 1#1)
    ∧ (Cert.Pre_finite_down.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).2.2.2.2.2 = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_finite_down [hPre_finite_down : Cert.Pre_finite_down.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_finite_down.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))).1 = (fun _ => 1#1)
    ∧ (Cert.Pre_finite_down.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))).2.1 = (fun _ => 1#1)
    ∧ (Cert.Pre_finite_down.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))).2.2.1 = (fun _ => 1#1)
    ∧ (Cert.Pre_finite_down.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))).2.2.2.1 = (fun _ => 1#1)
    ∧ (Cert.Pre_finite_down.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))).2.2.2.2.1 = (fun _ => 1#1)
    ∧ (Cert.Pre_finite_down.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))).2.2.2.2.2 = (fun _ => 1#1)

def Pre_MixBack (m : (ℓ : Loc Cert.MixBack.nD Cert.MixBack.τ Cert.MixBack.sig) → Buf (Elt Bits) ℓ) : Prop :=
  True

def Pre_MixBackIdeal (m : (ℓ : Loc Cert.MixBackIdeal.nD Cert.MixBackIdeal.τ Cert.MixBackIdeal.sig) → Buf (Elt Ideal) ℓ) : Prop :=
  True

def Pre_MixBackIdeal_finite_mix [hPre_finite_mix : Cert.Pre_finite_mix.Facts] (m : (ℓ : Loc Cert.MixBackIdeal.nD Cert.MixBackIdeal.τ Cert.MixBackIdeal.sig) → Buf (Elt Ideal) ℓ) : Prop :=
  ∀ c : Dev Cert.MixBackIdeal.nD,
    (Cert.Pre_finite_mix.fn (F := Ideal) (m ((c.tc : Thread Cert.MixBackIdeal.nD Cert.MixBackIdeal.τ).loc Cert.MixBackIdeal.main_arg0)) (m ((c.tc : Thread Cert.MixBackIdeal.nD Cert.MixBackIdeal.τ).loc Cert.MixBackIdeal.main_arg1)) (m ((c.tc : Thread Cert.MixBackIdeal.nD Cert.MixBackIdeal.τ).loc Cert.MixBackIdeal.main_arg2)) (m ((c.tc : Thread Cert.MixBackIdeal.nD Cert.MixBackIdeal.τ).loc Cert.MixBackIdeal.main_arg3)) (m ((c.tc : Thread Cert.MixBackIdeal.nD Cert.MixBackIdeal.τ).loc Cert.MixBackIdeal.main_arg4)) (m ((c.tc : Thread Cert.MixBackIdeal.nD Cert.MixBackIdeal.τ).loc Cert.MixBackIdeal.main_arg5)) (m ((c.tc : Thread Cert.MixBackIdeal.nD Cert.MixBackIdeal.τ).loc Cert.MixBackIdeal.main_arg6))).1 = (fun _ => 1#1)
    ∧ (Cert.Pre_finite_mix.fn (F := Ideal) (m ((c.tc : Thread Cert.MixBackIdeal.nD Cert.MixBackIdeal.τ).loc Cert.MixBackIdeal.main_arg0)) (m ((c.tc : Thread Cert.MixBackIdeal.nD Cert.MixBackIdeal.τ).loc Cert.MixBackIdeal.main_arg1)) (m ((c.tc : Thread Cert.MixBackIdeal.nD Cert.MixBackIdeal.τ).loc Cert.MixBackIdeal.main_arg2)) (m ((c.tc : Thread Cert.MixBackIdeal.nD Cert.MixBackIdeal.τ).loc Cert.MixBackIdeal.main_arg3)) (m ((c.tc : Thread Cert.MixBackIdeal.nD Cert.MixBackIdeal.τ).loc Cert.MixBackIdeal.main_arg4)) (m ((c.tc : Thread Cert.MixBackIdeal.nD Cert.MixBackIdeal.τ).loc Cert.MixBackIdeal.main_arg5)) (m ((c.tc : Thread Cert.MixBackIdeal.nD Cert.MixBackIdeal.τ).loc Cert.MixBackIdeal.main_arg6))).2.1 = (fun _ => 1#1)
    ∧ (Cert.Pre_finite_mix.fn (F := Ideal) (m ((c.tc : Thread Cert.MixBackIdeal.nD Cert.MixBackIdeal.τ).loc Cert.MixBackIdeal.main_arg0)) (m ((c.tc : Thread Cert.MixBackIdeal.nD Cert.MixBackIdeal.τ).loc Cert.MixBackIdeal.main_arg1)) (m ((c.tc : Thread Cert.MixBackIdeal.nD Cert.MixBackIdeal.τ).loc Cert.MixBackIdeal.main_arg2)) (m ((c.tc : Thread Cert.MixBackIdeal.nD Cert.MixBackIdeal.τ).loc Cert.MixBackIdeal.main_arg3)) (m ((c.tc : Thread Cert.MixBackIdeal.nD Cert.MixBackIdeal.τ).loc Cert.MixBackIdeal.main_arg4)) (m ((c.tc : Thread Cert.MixBackIdeal.nD Cert.MixBackIdeal.τ).loc Cert.MixBackIdeal.main_arg5)) (m ((c.tc : Thread Cert.MixBackIdeal.nD Cert.MixBackIdeal.τ).loc Cert.MixBackIdeal.main_arg6))).2.2.1 = (fun _ => 1#1)
    ∧ (Cert.Pre_finite_mix.fn (F := Ideal) (m ((c.tc : Thread Cert.MixBackIdeal.nD Cert.MixBackIdeal.τ).loc Cert.MixBackIdeal.main_arg0)) (m ((c.tc : Thread Cert.MixBackIdeal.nD Cert.MixBackIdeal.τ).loc Cert.MixBackIdeal.main_arg1)) (m ((c.tc : Thread Cert.MixBackIdeal.nD Cert.MixBackIdeal.τ).loc Cert.MixBackIdeal.main_arg2)) (m ((c.tc : Thread Cert.MixBackIdeal.nD Cert.MixBackIdeal.τ).loc Cert.MixBackIdeal.main_arg3)) (m ((c.tc : Thread Cert.MixBackIdeal.nD Cert.MixBackIdeal.τ).loc Cert.MixBackIdeal.main_arg4)) (m ((c.tc : Thread Cert.MixBackIdeal.nD Cert.MixBackIdeal.τ).loc Cert.MixBackIdeal.main_arg5)) (m ((c.tc : Thread Cert.MixBackIdeal.nD Cert.MixBackIdeal.τ).loc Cert.MixBackIdeal.main_arg6))).2.2.2.1 = (fun _ => 1#1)
    ∧ (Cert.Pre_finite_mix.fn (F := Ideal) (m ((c.tc : Thread Cert.MixBackIdeal.nD Cert.MixBackIdeal.τ).loc Cert.MixBackIdeal.main_arg0)) (m ((c.tc : Thread Cert.MixBackIdeal.nD Cert.MixBackIdeal.τ).loc Cert.MixBackIdeal.main_arg1)) (m ((c.tc : Thread Cert.MixBackIdeal.nD Cert.MixBackIdeal.τ).loc Cert.MixBackIdeal.main_arg2)) (m ((c.tc : Thread Cert.MixBackIdeal.nD Cert.MixBackIdeal.τ).loc Cert.MixBackIdeal.main_arg3)) (m ((c.tc : Thread Cert.MixBackIdeal.nD Cert.MixBackIdeal.τ).loc Cert.MixBackIdeal.main_arg4)) (m ((c.tc : Thread Cert.MixBackIdeal.nD Cert.MixBackIdeal.τ).loc Cert.MixBackIdeal.main_arg5)) (m ((c.tc : Thread Cert.MixBackIdeal.nD Cert.MixBackIdeal.τ).loc Cert.MixBackIdeal.main_arg6))).2.2.2.2.1 = (fun _ => 1#1)
    ∧ (Cert.Pre_finite_mix.fn (F := Ideal) (m ((c.tc : Thread Cert.MixBackIdeal.nD Cert.MixBackIdeal.τ).loc Cert.MixBackIdeal.main_arg0)) (m ((c.tc : Thread Cert.MixBackIdeal.nD Cert.MixBackIdeal.τ).loc Cert.MixBackIdeal.main_arg1)) (m ((c.tc : Thread Cert.MixBackIdeal.nD Cert.MixBackIdeal.τ).loc Cert.MixBackIdeal.main_arg2)) (m ((c.tc : Thread Cert.MixBackIdeal.nD Cert.MixBackIdeal.τ).loc Cert.MixBackIdeal.main_arg3)) (m ((c.tc : Thread Cert.MixBackIdeal.nD Cert.MixBackIdeal.τ).loc Cert.MixBackIdeal.main_arg4)) (m ((c.tc : Thread Cert.MixBackIdeal.nD Cert.MixBackIdeal.τ).loc Cert.MixBackIdeal.main_arg5)) (m ((c.tc : Thread Cert.MixBackIdeal.nD Cert.MixBackIdeal.τ).loc Cert.MixBackIdeal.main_arg6))).2.2.2.2.2 = (fun _ => 1#1)

def Pre_MixBackRefIdeal (m : (ℓ : Loc Cert.MixBackRefIdeal.nD Cert.MixBackRefIdeal.τ Cert.MixBackRefIdeal.sig) → Buf (Elt Ideal) ℓ) : Prop :=
  True

def Pre_MixBackRefIdeal_finite_mix [hPre_finite_mix : Cert.Pre_finite_mix.Facts] (m : (ℓ : Loc Cert.MixBackRefIdeal.nD Cert.MixBackRefIdeal.τ Cert.MixBackRefIdeal.sig) → Buf (Elt Ideal) ℓ) : Prop :=
  ∀ c : Dev Cert.MixBackRefIdeal.nD,
    (Cert.Pre_finite_mix.fn (F := Ideal) (m ((c.tc : Thread Cert.MixBackRefIdeal.nD Cert.MixBackRefIdeal.τ).loc Cert.MixBackRefIdeal.main_arg0)) (m ((c.tc : Thread Cert.MixBackRefIdeal.nD Cert.MixBackRefIdeal.τ).loc Cert.MixBackRefIdeal.main_arg1)) (m ((c.tc : Thread Cert.MixBackRefIdeal.nD Cert.MixBackRefIdeal.τ).loc Cert.MixBackRefIdeal.main_arg2)) (m ((c.tc : Thread Cert.MixBackRefIdeal.nD Cert.MixBackRefIdeal.τ).loc Cert.MixBackRefIdeal.main_arg3)) (m ((c.tc : Thread Cert.MixBackRefIdeal.nD Cert.MixBackRefIdeal.τ).loc Cert.MixBackRefIdeal.main_arg4)) (m ((c.tc : Thread Cert.MixBackRefIdeal.nD Cert.MixBackRefIdeal.τ).loc Cert.MixBackRefIdeal.main_arg5)) (m ((c.tc : Thread Cert.MixBackRefIdeal.nD Cert.MixBackRefIdeal.τ).loc Cert.MixBackRefIdeal.main_arg6))).1 = (fun _ => 1#1)
    ∧ (Cert.Pre_finite_mix.fn (F := Ideal) (m ((c.tc : Thread Cert.MixBackRefIdeal.nD Cert.MixBackRefIdeal.τ).loc Cert.MixBackRefIdeal.main_arg0)) (m ((c.tc : Thread Cert.MixBackRefIdeal.nD Cert.MixBackRefIdeal.τ).loc Cert.MixBackRefIdeal.main_arg1)) (m ((c.tc : Thread Cert.MixBackRefIdeal.nD Cert.MixBackRefIdeal.τ).loc Cert.MixBackRefIdeal.main_arg2)) (m ((c.tc : Thread Cert.MixBackRefIdeal.nD Cert.MixBackRefIdeal.τ).loc Cert.MixBackRefIdeal.main_arg3)) (m ((c.tc : Thread Cert.MixBackRefIdeal.nD Cert.MixBackRefIdeal.τ).loc Cert.MixBackRefIdeal.main_arg4)) (m ((c.tc : Thread Cert.MixBackRefIdeal.nD Cert.MixBackRefIdeal.τ).loc Cert.MixBackRefIdeal.main_arg5)) (m ((c.tc : Thread Cert.MixBackRefIdeal.nD Cert.MixBackRefIdeal.τ).loc Cert.MixBackRefIdeal.main_arg6))).2.1 = (fun _ => 1#1)
    ∧ (Cert.Pre_finite_mix.fn (F := Ideal) (m ((c.tc : Thread Cert.MixBackRefIdeal.nD Cert.MixBackRefIdeal.τ).loc Cert.MixBackRefIdeal.main_arg0)) (m ((c.tc : Thread Cert.MixBackRefIdeal.nD Cert.MixBackRefIdeal.τ).loc Cert.MixBackRefIdeal.main_arg1)) (m ((c.tc : Thread Cert.MixBackRefIdeal.nD Cert.MixBackRefIdeal.τ).loc Cert.MixBackRefIdeal.main_arg2)) (m ((c.tc : Thread Cert.MixBackRefIdeal.nD Cert.MixBackRefIdeal.τ).loc Cert.MixBackRefIdeal.main_arg3)) (m ((c.tc : Thread Cert.MixBackRefIdeal.nD Cert.MixBackRefIdeal.τ).loc Cert.MixBackRefIdeal.main_arg4)) (m ((c.tc : Thread Cert.MixBackRefIdeal.nD Cert.MixBackRefIdeal.τ).loc Cert.MixBackRefIdeal.main_arg5)) (m ((c.tc : Thread Cert.MixBackRefIdeal.nD Cert.MixBackRefIdeal.τ).loc Cert.MixBackRefIdeal.main_arg6))).2.2.1 = (fun _ => 1#1)
    ∧ (Cert.Pre_finite_mix.fn (F := Ideal) (m ((c.tc : Thread Cert.MixBackRefIdeal.nD Cert.MixBackRefIdeal.τ).loc Cert.MixBackRefIdeal.main_arg0)) (m ((c.tc : Thread Cert.MixBackRefIdeal.nD Cert.MixBackRefIdeal.τ).loc Cert.MixBackRefIdeal.main_arg1)) (m ((c.tc : Thread Cert.MixBackRefIdeal.nD Cert.MixBackRefIdeal.τ).loc Cert.MixBackRefIdeal.main_arg2)) (m ((c.tc : Thread Cert.MixBackRefIdeal.nD Cert.MixBackRefIdeal.τ).loc Cert.MixBackRefIdeal.main_arg3)) (m ((c.tc : Thread Cert.MixBackRefIdeal.nD Cert.MixBackRefIdeal.τ).loc Cert.MixBackRefIdeal.main_arg4)) (m ((c.tc : Thread Cert.MixBackRefIdeal.nD Cert.MixBackRefIdeal.τ).loc Cert.MixBackRefIdeal.main_arg5)) (m ((c.tc : Thread Cert.MixBackRefIdeal.nD Cert.MixBackRefIdeal.τ).loc Cert.MixBackRefIdeal.main_arg6))).2.2.2.1 = (fun _ => 1#1)
    ∧ (Cert.Pre_finite_mix.fn (F := Ideal) (m ((c.tc : Thread Cert.MixBackRefIdeal.nD Cert.MixBackRefIdeal.τ).loc Cert.MixBackRefIdeal.main_arg0)) (m ((c.tc : Thread Cert.MixBackRefIdeal.nD Cert.MixBackRefIdeal.τ).loc Cert.MixBackRefIdeal.main_arg1)) (m ((c.tc : Thread Cert.MixBackRefIdeal.nD Cert.MixBackRefIdeal.τ).loc Cert.MixBackRefIdeal.main_arg2)) (m ((c.tc : Thread Cert.MixBackRefIdeal.nD Cert.MixBackRefIdeal.τ).loc Cert.MixBackRefIdeal.main_arg3)) (m ((c.tc : Thread Cert.MixBackRefIdeal.nD Cert.MixBackRefIdeal.τ).loc Cert.MixBackRefIdeal.main_arg4)) (m ((c.tc : Thread Cert.MixBackRefIdeal.nD Cert.MixBackRefIdeal.τ).loc Cert.MixBackRefIdeal.main_arg5)) (m ((c.tc : Thread Cert.MixBackRefIdeal.nD Cert.MixBackRefIdeal.τ).loc Cert.MixBackRefIdeal.main_arg6))).2.2.2.2.1 = (fun _ => 1#1)
    ∧ (Cert.Pre_finite_mix.fn (F := Ideal) (m ((c.tc : Thread Cert.MixBackRefIdeal.nD Cert.MixBackRefIdeal.τ).loc Cert.MixBackRefIdeal.main_arg0)) (m ((c.tc : Thread Cert.MixBackRefIdeal.nD Cert.MixBackRefIdeal.τ).loc Cert.MixBackRefIdeal.main_arg1)) (m ((c.tc : Thread Cert.MixBackRefIdeal.nD Cert.MixBackRefIdeal.τ).loc Cert.MixBackRefIdeal.main_arg2)) (m ((c.tc : Thread Cert.MixBackRefIdeal.nD Cert.MixBackRefIdeal.τ).loc Cert.MixBackRefIdeal.main_arg3)) (m ((c.tc : Thread Cert.MixBackRefIdeal.nD Cert.MixBackRefIdeal.τ).loc Cert.MixBackRefIdeal.main_arg4)) (m ((c.tc : Thread Cert.MixBackRefIdeal.nD Cert.MixBackRefIdeal.τ).loc Cert.MixBackRefIdeal.main_arg5)) (m ((c.tc : Thread Cert.MixBackRefIdeal.nD Cert.MixBackRefIdeal.τ).loc Cert.MixBackRefIdeal.main_arg6))).2.2.2.2.2 = (fun _ => 1#1)

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamTaps (m : (ℓ : Loc Cert.AdamTaps.nD Cert.AdamTaps.τ Cert.AdamTaps.sig) → Buf (Elt Bits) ℓ) : Prop :=
  True

def Pre_AdamTapsIdeal (m : (ℓ : Loc Cert.AdamTapsIdeal.nD Cert.AdamTapsIdeal.τ Cert.AdamTapsIdeal.sig) → Buf (Elt Ideal) ℓ) : Prop :=
  True

def Pre_AdamTapsRefIdeal (m : (ℓ : Loc Cert.AdamTapsRefIdeal.nD Cert.AdamTapsRefIdeal.τ Cert.AdamTapsRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_PreMix (m : (ℓ : Loc Cert.PreMix.nD Cert.PreMix.τ Cert.PreMix.sig) → Buf (Elt Bits) ℓ) : Prop :=
  True

def Pre_PreMixIdeal (m : (ℓ : Loc Cert.PreMixIdeal.nD Cert.PreMixIdeal.τ Cert.PreMixIdeal.sig) → Buf (Elt Ideal) ℓ) : Prop :=
  True

def Pre_PreMixRefIdeal (m : (ℓ : Loc Cert.PreMixRefIdeal.nD Cert.PreMixRefIdeal.τ Cert.PreMixRefIdeal.sig) → Buf (Elt Ideal) ℓ) : Prop :=
  True

def Pre_GradAda (m : (ℓ : Loc Cert.GradAda.nD Cert.GradAda.τ Cert.GradAda.sig) → Buf (Elt Bits) ℓ) : Prop :=
  True

def Pre_GradAdaIdeal (m : (ℓ : Loc Cert.GradAdaIdeal.nD Cert.GradAdaIdeal.τ Cert.GradAdaIdeal.sig) → Buf (Elt Ideal) ℓ) : Prop :=
  True

def Pre_GradAdaRefIdeal (m : (ℓ : Loc Cert.GradAdaRefIdeal.nD Cert.GradAdaRefIdeal.τ Cert.GradAdaRefIdeal.sig) → Buf (Elt Ideal) ℓ) : Prop :=
  True

def Pre_ModCols (m : (ℓ : Loc Cert.ModCols.nD Cert.ModCols.τ Cert.ModCols.sig) → Buf (Elt Bits) ℓ) : Prop :=
  True

def Pre_ModColsIdeal (m : (ℓ : Loc Cert.ModColsIdeal.nD Cert.ModColsIdeal.τ Cert.ModColsIdeal.sig) → Buf (Elt Ideal) ℓ) : Prop :=
  True

def Pre_ModColsRefIdeal (m : (ℓ : Loc Cert.ModColsRefIdeal.nD Cert.ModColsRefIdeal.τ Cert.ModColsRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1)
      ∧ r.2.mem ((c.tc : Thread Cert.GradUp.nD Cert.GradUp.τ).loc Cert.GradUp.main_arg2) = m ((c.tc : Thread Cert.GradUp.nD Cert.GradUp.τ).loc Cert.GradUp.main_arg2))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1)
      ∧ r.2.mem ((c.tc : Thread Cert.GradUpIdeal.nD Cert.GradUpIdeal.τ).loc Cert.GradUpIdeal.main_arg2) = m ((c.tc : Thread Cert.GradUpIdeal.nD Cert.GradUpIdeal.τ).loc Cert.GradUpIdeal.main_arg2))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1)
      ∧ r.2.mem ((c.tc : Thread Cert.GradUpRefIdeal.nD Cert.GradUpRefIdeal.τ).loc Cert.GradUpRefIdeal.main_arg2) = m ((c.tc : Thread Cert.GradUpRefIdeal.nD Cert.GradUpRefIdeal.τ).loc Cert.GradUpRefIdeal.main_arg2))
      ∧ r.2.sem = fun _ => 0)

def quiescent_InBack [hInBack : Cert.InBack.Facts] : Prop :=
  ∀ (m : (ℓ : Loc Cert.InBack.nD Cert.InBack.τ Cert.InBack.sig) → Buf (Elt Bits) ℓ) (g : Dev Cert.InBack.nD → PrngReg), Pre_InBack m →
    θ_run (Cert.InBack.defs (F := Bits)) (onTc (τ := Cert.InBack.τ) (Cert.InBack.main (F := Bits))) ⟨m, fun _ => 0, g⟩ (fun r => (∀ c : Dev Cert.InBack.nD,
      r.2.mem ((c.tc : Thread Cert.InBack.nD Cert.InBack.τ).loc Cert.InBack.main_arg0) = m ((c.tc : Thread Cert.InBack.nD Cert.InBack.τ).loc Cert.InBack.main_arg0)
      ∧ r.2.mem ((c.tc : Thread Cert.InBack.nD Cert.InBack.τ).loc Cert.InBack.main_arg1) = m ((c.tc : Thread Cert.InBack.nD Cert.InBack.τ).loc Cert.InBack.main_arg1)
      ∧ r.2.mem ((c.tc : Thread Cert.InBack.nD Cert.InBack.τ).loc Cert.InBack.main_arg2) = m ((c.tc : Thread Cert.InBack.nD Cert.InBack.τ).loc Cert.InBack.main_arg2)
      ∧ r.2.mem ((c.tc : Thread Cert.InBack.nD Cert.InBack.τ).loc Cert.InBack.main_arg3) = m ((c.tc : Thread Cert.InBack.nD Cert.InBack.τ).loc Cert.InBack.main_arg3)
      ∧ r.2.mem ((c.tc : Thread Cert.InBack.nD Cert.InBack.τ).loc Cert.InBack.main_arg4) = m ((c.tc : Thread Cert.InBack.nD Cert.InBack.τ).loc Cert.InBack.main_arg4)
      ∧ r.2.mem ((c.tc : Thread Cert.InBack.nD Cert.InBack.τ).loc Cert.InBack.main_arg5) = m ((c.tc : Thread Cert.InBack.nD Cert.InBack.τ).loc Cert.InBack.main_arg5)
      ∧ r.2.mem ((c.tc : Thread Cert.InBack.nD Cert.InBack.τ).loc Cert.InBack.main_arg6) = m ((c.tc : Thread Cert.InBack.nD Cert.InBack.τ).loc Cert.InBack.main_arg6)
      ∧ r.2.mem ((c.tc : Thread Cert.InBack.nD Cert.InBack.τ).loc Cert.InBack.main_arg7) = m ((c.tc : Thread Cert.InBack.nD Cert.InBack.τ).loc Cert.InBack.main_arg7)
      ∧ r.2.mem ((c.tc : Thread Cert.InBack.nD Cert.InBack.τ).loc Cert.InBack.main_arg8) = m ((c.tc : Thread Cert.InBack.nD Cert.InBack.τ).loc Cert.InBack.main_arg8)
      ∧ r.2.mem ((c.tc : Thread Cert.InBack.nD Cert.InBack.τ).loc Cert.InBack.main_arg9) = m ((c.tc : Thread Cert.InBack.nD Cert.InBack.τ).loc Cert.InBack.main_arg9))
      ∧ r.2.sem = fun _ => 0)

def quiescent_InBackIdeal [hInBackIdeal : Cert.InBackIdeal.Facts] : Prop :=
  ∀ (m : (ℓ : Loc Cert.InBackIdeal.nD Cert.InBackIdeal.τ Cert.InBackIdeal.sig) → Buf (Elt Ideal) ℓ) (g : Dev Cert.InBackIdeal.nD → PrngReg), Pre_InBackIdeal m →
    θ_run (Cert.InBackIdeal.defs (F := Ideal)) (onTc (τ := Cert.InBackIdeal.τ) (Cert.InBackIdeal.main (F := Ideal))) ⟨m, fun _ => 0, g⟩ (fun r => (∀ c : Dev Cert.InBackIdeal.nD,
      r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
      ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1)
      ∧ r.2.mem ((c.tc : Thread Cert.InBackIdeal.nD Cert.InBackIdeal.τ).loc Cert.InBackIdeal.main_arg2) = m ((c.tc : Thread Cert.InBackIdeal.nD Cert.InBackIdeal.τ).loc Cert.InBackIdeal.main_arg2)
      ∧ r.2.mem ((c.tc : Thread Cert.InBackIdeal.nD Cert.InBackIdeal.τ).loc Cert.InBackIdeal.main_arg3) = m ((c.tc : Thread Cert.InBackIdeal.nD Cert.InBackIdeal.τ).loc Cert.InBackIdeal.main_arg3)
      ∧ r.2.mem ((c.tc : Thread Cert.InBackIdeal.nD Cert.InBackIdeal.τ).loc Cert.InBackIdeal.main_arg4) = m ((c.tc : Thread Cert.InBackIdeal.nD Cert.InBackIdeal.τ).loc Cert.InBackIdeal.main_arg4)
      ∧ r.2.mem ((c.tc : Thread Cert.InBackIdeal.nD Cert.InBackIdeal.τ).loc Cert.InBackIdeal.main_arg5) = m ((c.tc : Thread Cert.InBackIdeal.nD Cert.InBackIdeal.τ).loc Cert.InBackIdeal.main_arg5)
      ∧ r.2.mem ((c.tc : Thread Cert.InBackIdeal.nD Cert.InBackIdeal.τ).loc Cert.InBackIdeal.main_arg6) = m ((c.tc : Thread Cert.InBackIdeal.nD Cert.InBackIdeal.τ).loc Cert.InBackIdeal.main_arg6)
      ∧ r.2.mem ((c.tc : Thread Cert.InBackIdeal.nD Cert.InBackIdeal.τ).loc Cert.InBackIdeal.main_arg7) = m ((c.tc : Thread Cert.InBackIdeal.nD Cert.InBackIdeal.τ).loc Cert.InBackIdeal.main_arg7)
      ∧ r.2.mem ((c.tc : Thread Cert.InBackIdeal.nD Cert.InBackIdeal.τ).loc Cert.InBackIdeal.main_arg8) = m ((c.tc : Thread Cert.InBackIdeal.nD Cert.InBackIdeal.τ).loc Cert.InBackIdeal.main_arg8)
      ∧ r.2.mem ((c.tc : Thread Cert.InBackIdeal.nD Cert.InBackIdeal.τ).loc Cert.InBackIdeal.main_arg9) = m ((c.tc : Thread Cert.InBackIdeal.nD Cert.InBackIdeal.τ).loc Cert.InBackIdeal.main_arg9))
      ∧ r.2.sem = fun _ => 0)

def quiescent_InBackIdeal_pre_finite_in [hInBackIdeal : Cert.InBackIdeal.Facts] [hPre_finite_in : Cert.Pre_finite_in.Facts] : Prop :=
  ∀ (m : (ℓ : Loc Cert.InBackIdeal.nD Cert.InBackIdeal.τ Cert.InBackIdeal.sig) → Buf (Elt Ideal) ℓ) (g : Dev Cert.InBackIdeal.nD → PrngReg), Pre_InBackIdeal_finite_in m →
    θ_run (Cert.InBackIdeal.defs (F := Ideal)) (onTc (τ := Cert.InBackIdeal.τ) (Cert.InBackIdeal.main (F := Ideal))) ⟨m, fun _ => 0, g⟩ (fun r => (∀ c : Dev Cert.InBackIdeal.nD,
      r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
      ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1)
      ∧ r.2.mem ((c.tc : Thread Cert.InBackIdeal.nD Cert.InBackIdeal.τ).loc Cert.InBackIdeal.main_arg2) = m ((c.tc : Thread Cert.InBackIdeal.nD Cert.InBackIdeal.τ).loc Cert.InBackIdeal.main_arg2)
      ∧ r.2.mem ((c.tc : Thread Cert.InBackIdeal.nD Cert.InBackIdeal.τ).loc Cert.InBackIdeal.main_arg3) = m ((c.tc : Thread Cert.InBackIdeal.nD Cert.InBackIdeal.τ).loc Cert.InBackIdeal.main_arg3)
      ∧ r.2.mem ((c.tc : Thread Cert.InBackIdeal.nD Cert.InBackIdeal.τ).loc Cert.InBackIdeal.main_arg4) = m ((c.tc : Thread Cert.InBackIdeal.nD Cert.InBackIdeal.τ).loc Cert.InBackIdeal.main_arg4)
      ∧ r.2.mem ((c.tc : Thread Cert.InBackIdeal.nD Cert.InBackIdeal.τ).loc Cert.InBackIdeal.main_arg5) = m ((c.tc : Thread Cert.InBackIdeal.nD Cert.InBackIdeal.τ).loc Cert.InBackIdeal.main_arg5)
      ∧ r.2.mem ((c.tc : Thread Cert.InBackIdeal.nD Cert.InBackIdeal.τ).loc Cert.InBackIdeal.main_arg6) = m ((c.tc : Thread Cert.InBackIdeal.nD Cert.InBackIdeal.τ).loc Cert.InBackIdeal.main_arg6)
      ∧ r.2.mem ((c.tc : Thread Cert.InBackIdeal.nD Cert.InBackIdeal.τ).loc Cert.InBackIdeal.main_arg7) = m ((c.tc : Thread Cert.InBackIdeal.nD Cert.InBackIdeal.τ).loc Cert.InBackIdeal.main_arg7)
      ∧ r.2.mem ((c.tc : Thread Cert.InBackIdeal.nD Cert.InBackIdeal.τ).loc Cert.InBackIdeal.main_arg8) = m ((c.tc : Thread Cert.InBackIdeal.nD Cert.InBackIdeal.τ).loc Cert.InBackIdeal.main_arg8)
      ∧ r.2.mem ((c.tc : Thread Cert.InBackIdeal.nD Cert.InBackIdeal.τ).loc Cert.InBackIdeal.main_arg9) = m ((c.tc : Thread Cert.InBackIdeal.nD Cert.InBackIdeal.τ).loc Cert.InBackIdeal.main_arg9))
      ∧ r.2.sem = fun _ => 0)

def quiescent_InBackRefIdeal [hInBackRefIdeal : Cert.InBackRefIdeal.Facts] : Prop :=
  ∀ (m : (ℓ : Loc Cert.InBackRefIdeal.nD Cert.InBackRefIdeal.τ Cert.InBackRefIdeal.sig) → Buf (Elt Ideal) ℓ) (g : Dev Cert.InBackRefIdeal.nD → PrngReg), Pre_InBackRefIdeal m →
    θ_run (Cert.InBackRefIdeal.defs (F := Ideal)) (onTc (τ := Cert.InBackRefIdeal.τ) (Cert.InBackRefIdeal.main (F := Ideal))) ⟨m, fun _ => 0, g⟩ (fun r => (∀ c : Dev Cert.InBackRefIdeal.nD,
      r.2.mem ((c.tc : Thread Cert.InBackRefIdeal.nD Cert.InBackRefIdeal.τ).loc Cert.InBackRefIdeal.main_arg0) = m ((c.tc : Thread Cert.InBackRefIdeal.nD Cert.InBackRefIdeal.τ).loc Cert.InBackRefIdeal.main_arg0)
      ∧ r.2.mem ((c.tc : Thread Cert.InBackRefIdeal.nD Cert.InBackRefIdeal.τ).loc Cert.InBackRefIdeal.main_arg1) = m ((c.tc : Thread Cert.InBackRefIdeal.nD Cert.InBackRefIdeal.τ).loc Cert.InBackRefIdeal.main_arg1)
      ∧ r.2.mem ((c.tc : Thread Cert.InBackRefIdeal.nD Cert.InBackRefIdeal.τ).loc Cert.InBackRefIdeal.main_arg2) = m ((c.tc : Thread Cert.InBackRefIdeal.nD Cert.InBackRefIdeal.τ).loc Cert.InBackRefIdeal.main_arg2)
      ∧ r.2.mem ((c.tc : Thread Cert.InBackRefIdeal.nD Cert.InBackRefIdeal.τ).loc Cert.InBackRefIdeal.main_arg3) = m ((c.tc : Thread Cert.InBackRefIdeal.nD Cert.InBackRefIdeal.τ).loc Cert.InBackRefIdeal.main_arg3)
      ∧ r.2.mem ((c.tc : Thread Cert.InBackRefIdeal.nD Cert.InBackRefIdeal.τ).loc Cert.InBackRefIdeal.main_arg4) = m ((c.tc : Thread Cert.InBackRefIdeal.nD Cert.InBackRefIdeal.τ).loc Cert.InBackRefIdeal.main_arg4)
      ∧ r.2.mem ((c.tc : Thread Cert.InBackRefIdeal.nD Cert.InBackRefIdeal.τ).loc Cert.InBackRefIdeal.main_arg5) = m ((c.tc : Thread Cert.InBackRefIdeal.nD Cert.InBackRefIdeal.τ).loc Cert.InBackRefIdeal.main_arg5)
      ∧ r.2.mem ((c.tc : Thread Cert.InBackRefIdeal.nD Cert.InBackRefIdeal.τ).loc Cert.InBackRefIdeal.main_arg6) = m ((c.tc : Thread Cert.InBackRefIdeal.nD Cert.InBackRefIdeal.τ).loc Cert.InBackRefIdeal.main_arg6)
      ∧ r.2.mem ((c.tc : Thread Cert.InBackRefIdeal.nD Cert.InBackRefIdeal.τ).loc Cert.InBackRefIdeal.main_arg7) = m ((c.tc : Thread Cert.InBackRefIdeal.nD Cert.InBackRefIdeal.τ).loc Cert.InBackRefIdeal.main_arg7)
      ∧ r.2.mem ((c.tc : Thread Cert.InBackRefIdeal.nD Cert.InBackRefIdeal.τ).loc Cert.InBackRefIdeal.main_arg8) = m ((c.tc : Thread Cert.InBackRefIdeal.nD Cert.InBackRefIdeal.τ).loc Cert.InBackRefIdeal.main_arg8)
      ∧ r.2.mem ((c.tc : Thread Cert.InBackRefIdeal.nD Cert.InBackRefIdeal.τ).loc Cert.InBackRefIdeal.main_arg9) = m ((c.tc : Thread Cert.InBackRefIdeal.nD Cert.InBackRefIdeal.τ).loc Cert.InBackRefIdeal.main_arg9))
      ∧ r.2.sem = fun _ => 0)

def quiescent_InBackRefIdeal_pre_finite_in [hInBackRefIdeal : Cert.InBackRefIdeal.Facts] [hPre_finite_in : Cert.Pre_finite_in.Facts] : Prop :=
  ∀ (m : (ℓ : Loc Cert.InBackRefIdeal.nD Cert.InBackRefIdeal.τ Cert.InBackRefIdeal.sig) → Buf (Elt Ideal) ℓ) (g : Dev Cert.InBackRefIdeal.nD → PrngReg), Pre_InBackRefIdeal_finite_in m →
    θ_run (Cert.InBackRefIdeal.defs (F := Ideal)) (onTc (τ := Cert.InBackRefIdeal.τ) (Cert.InBackRefIdeal.main (F := Ideal))) ⟨m, fun _ => 0, g⟩ (fun r => (∀ c : Dev Cert.InBackRefIdeal.nD,
      r.2.mem ((c.tc : Thread Cert.InBackRefIdeal.nD Cert.InBackRefIdeal.τ).loc Cert.InBackRefIdeal.main_arg0) = m ((c.tc : Thread Cert.InBackRefIdeal.nD Cert.InBackRefIdeal.τ).loc Cert.InBackRefIdeal.main_arg0)
      ∧ r.2.mem ((c.tc : Thread Cert.InBackRefIdeal.nD Cert.InBackRefIdeal.τ).loc Cert.InBackRefIdeal.main_arg1) = m ((c.tc : Thread Cert.InBackRefIdeal.nD Cert.InBackRefIdeal.τ).loc Cert.InBackRefIdeal.main_arg1)
      ∧ r.2.mem ((c.tc : Thread Cert.InBackRefIdeal.nD Cert.InBackRefIdeal.τ).loc Cert.InBackRefIdeal.main_arg2) = m ((c.tc : Thread Cert.InBackRefIdeal.nD Cert.InBackRefIdeal.τ).loc Cert.InBackRefIdeal.main_arg2)
      ∧ r.2.mem ((c.tc : Thread Cert.InBackRefIdeal.nD Cert.InBackRefIdeal.τ).loc Cert.InBackRefIdeal.main_arg3) = m ((c.tc : Thread Cert.InBackRefIdeal.nD Cert.InBackRefIdeal.τ).loc Cert.InBackRefIdeal.main_arg3)
      ∧ r.2.mem ((c.tc : Thread Cert.InBackRefIdeal.nD Cert.InBackRefIdeal.τ).loc Cert.InBackRefIdeal.main_arg4) = m ((c.tc : Thread Cert.InBackRefIdeal.nD Cert.InBackRefIdeal.τ).loc Cert.InBackRefIdeal.main_arg4)
      ∧ r.2.mem ((c.tc : Thread Cert.InBackRefIdeal.nD Cert.InBackRefIdeal.τ).loc Cert.InBackRefIdeal.main_arg5) = m ((c.tc : Thread Cert.InBackRefIdeal.nD Cert.InBackRefIdeal.τ).loc Cert.InBackRefIdeal.main_arg5)
      ∧ r.2.mem ((c.tc : Thread Cert.InBackRefIdeal.nD Cert.InBackRefIdeal.τ).loc Cert.InBackRefIdeal.main_arg6) = m ((c.tc : Thread Cert.InBackRefIdeal.nD Cert.InBackRefIdeal.τ).loc Cert.InBackRefIdeal.main_arg6)
      ∧ r.2.mem ((c.tc : Thread Cert.InBackRefIdeal.nD Cert.InBackRefIdeal.τ).loc Cert.InBackRefIdeal.main_arg7) = m ((c.tc : Thread Cert.InBackRefIdeal.nD Cert.InBackRefIdeal.τ).loc Cert.InBackRefIdeal.main_arg7)
      ∧ r.2.mem ((c.tc : Thread Cert.InBackRefIdeal.nD Cert.InBackRefIdeal.τ).loc Cert.InBackRefIdeal.main_arg8) = m ((c.tc : Thread Cert.InBackRefIdeal.nD Cert.InBackRefIdeal.τ).loc Cert.InBackRefIdeal.main_arg8)
      ∧ r.2.mem ((c.tc : Thread Cert.InBackRefIdeal.nD Cert.InBackRefIdeal.τ).loc Cert.InBackRefIdeal.main_arg9) = m ((c.tc : Thread Cert.InBackRefIdeal.nD Cert.InBackRefIdeal.τ).loc Cert.InBackRefIdeal.main_arg9))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ r.2.sem = fun _ => 0)

def quiescent_HeadIdeal_pre_finite_down [hHeadIdeal : Cert.HeadIdeal.Facts] [hPre_finite_down : Cert.Pre_finite_down.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_finite_down m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5))
      ∧ r.2.sem = fun _ => 0)

def quiescent_HeadRefIdeal_pre_finite_down [hHeadRefIdeal : Cert.HeadRefIdeal.Facts] [hPre_finite_down : Cert.Pre_finite_down.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_finite_down m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5))
      ∧ r.2.sem = fun _ => 0)

def quiescent_MixBack [hMixBack : Cert.MixBack.Facts] : Prop :=
  ∀ (m : (ℓ : Loc Cert.MixBack.nD Cert.MixBack.τ Cert.MixBack.sig) → Buf (Elt Bits) ℓ) (g : Dev Cert.MixBack.nD → PrngReg), Pre_MixBack m →
    θ_run (Cert.MixBack.defs (F := Bits)) (onTc (τ := Cert.MixBack.τ) (Cert.MixBack.main (F := Bits))) ⟨m, fun _ => 0, g⟩ (fun r => (∀ c : Dev Cert.MixBack.nD,
      r.2.mem ((c.tc : Thread Cert.MixBack.nD Cert.MixBack.τ).loc Cert.MixBack.main_arg0) = m ((c.tc : Thread Cert.MixBack.nD Cert.MixBack.τ).loc Cert.MixBack.main_arg0)
      ∧ r.2.mem ((c.tc : Thread Cert.MixBack.nD Cert.MixBack.τ).loc Cert.MixBack.main_arg1) = m ((c.tc : Thread Cert.MixBack.nD Cert.MixBack.τ).loc Cert.MixBack.main_arg1)
      ∧ r.2.mem ((c.tc : Thread Cert.MixBack.nD Cert.MixBack.τ).loc Cert.MixBack.main_arg2) = m ((c.tc : Thread Cert.MixBack.nD Cert.MixBack.τ).loc Cert.MixBack.main_arg2)
      ∧ r.2.mem ((c.tc : Thread Cert.MixBack.nD Cert.MixBack.τ).loc Cert.MixBack.main_arg3) = m ((c.tc : Thread Cert.MixBack.nD Cert.MixBack.τ).loc Cert.MixBack.main_arg3)
      ∧ r.2.mem ((c.tc : Thread Cert.MixBack.nD Cert.MixBack.τ).loc Cert.MixBack.main_arg4) = m ((c.tc : Thread Cert.MixBack.nD Cert.MixBack.τ).loc Cert.MixBack.main_arg4)
      ∧ r.2.mem ((c.tc : Thread Cert.MixBack.nD Cert.MixBack.τ).loc Cert.MixBack.main_arg5) = m ((c.tc : Thread Cert.MixBack.nD Cert.MixBack.τ).loc Cert.MixBack.main_arg5)
      ∧ r.2.mem ((c.tc : Thread Cert.MixBack.nD Cert.MixBack.τ).loc Cert.MixBack.main_arg6) = m ((c.tc : Thread Cert.MixBack.nD Cert.MixBack.τ).loc Cert.MixBack.main_arg6))
      ∧ r.2.sem = fun _ => 0)

def quiescent_MixBackIdeal [hMixBackIdeal : Cert.MixBackIdeal.Facts] : Prop :=
  ∀ (m : (ℓ : Loc Cert.MixBackIdeal.nD Cert.MixBackIdeal.τ Cert.MixBackIdeal.sig) → Buf (Elt Ideal) ℓ) (g : Dev Cert.MixBackIdeal.nD → PrngReg), Pre_MixBackIdeal m →
    θ_run (Cert.MixBackIdeal.defs (F := Ideal)) (onTc (τ := Cert.MixBackIdeal.τ) (Cert.MixBackIdeal.main (F := Ideal))) ⟨m, fun _ => 0, g⟩ (fun r => (∀ c : Dev Cert.MixBackIdeal.nD,
      r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
      ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
      ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
      ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
      ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4)
      ∧ r.2.mem ((c.tc : Thread Cert.MixBackIdeal.nD Cert.MixBackIdeal.τ).loc Cert.MixBackIdeal.main_arg5) = m ((c.tc : Thread Cert.MixBackIdeal.nD Cert.MixBackIdeal.τ).loc Cert.MixBackIdeal.main_arg5)
      ∧ r.2.mem ((c.tc : Thread Cert.MixBackIdeal.nD Cert.MixBackIdeal.τ).loc Cert.MixBackIdeal.main_arg6) = m ((c.tc : Thread Cert.MixBackIdeal.nD Cert.MixBackIdeal.τ).loc Cert.MixBackIdeal.main_arg6))
      ∧ r.2.sem = fun _ => 0)

def quiescent_MixBackIdeal_pre_finite_mix [hMixBackIdeal : Cert.MixBackIdeal.Facts] [hPre_finite_mix : Cert.Pre_finite_mix.Facts] : Prop :=
  ∀ (m : (ℓ : Loc Cert.MixBackIdeal.nD Cert.MixBackIdeal.τ Cert.MixBackIdeal.sig) → Buf (Elt Ideal) ℓ) (g : Dev Cert.MixBackIdeal.nD → PrngReg), Pre_MixBackIdeal_finite_mix m →
    θ_run (Cert.MixBackIdeal.defs (F := Ideal)) (onTc (τ := Cert.MixBackIdeal.τ) (Cert.MixBackIdeal.main (F := Ideal))) ⟨m, fun _ => 0, g⟩ (fun r => (∀ c : Dev Cert.MixBackIdeal.nD,
      r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
      ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
      ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
      ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
      ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4)
      ∧ r.2.mem ((c.tc : Thread Cert.MixBackIdeal.nD Cert.MixBackIdeal.τ).loc Cert.MixBackIdeal.main_arg5) = m ((c.tc : Thread Cert.MixBackIdeal.nD Cert.MixBackIdeal.τ).loc Cert.MixBackIdeal.main_arg5)
      ∧ r.2.mem ((c.tc : Thread Cert.MixBackIdeal.nD Cert.MixBackIdeal.τ).loc Cert.MixBackIdeal.main_arg6) = m ((c.tc : Thread Cert.MixBackIdeal.nD Cert.MixBackIdeal.τ).loc Cert.MixBackIdeal.main_arg6))
      ∧ r.2.sem = fun _ => 0)

def quiescent_MixBackRefIdeal [hMixBackRefIdeal : Cert.MixBackRefIdeal.Facts] : Prop :=
  ∀ (m : (ℓ : Loc Cert.MixBackRefIdeal.nD Cert.MixBackRefIdeal.τ Cert.MixBackRefIdeal.sig) → Buf (Elt Ideal) ℓ) (g : Dev Cert.MixBackRefIdeal.nD → PrngReg), Pre_MixBackRefIdeal m →
    θ_run (Cert.MixBackRefIdeal.defs (F := Ideal)) (onTc (τ := Cert.MixBackRefIdeal.τ) (Cert.MixBackRefIdeal.main (F := Ideal))) ⟨m, fun _ => 0, g⟩ (fun r => (∀ c : Dev Cert.MixBackRefIdeal.nD,
      r.2.mem ((c.tc : Thread Cert.MixBackRefIdeal.nD Cert.MixBackRefIdeal.τ).loc Cert.MixBackRefIdeal.main_arg0) = m ((c.tc : Thread Cert.MixBackRefIdeal.nD Cert.MixBackRefIdeal.τ).loc Cert.MixBackRefIdeal.main_arg0)
      ∧ r.2.mem ((c.tc : Thread Cert.MixBackRefIdeal.nD Cert.MixBackRefIdeal.τ).loc Cert.MixBackRefIdeal.main_arg1) = m ((c.tc : Thread Cert.MixBackRefIdeal.nD Cert.MixBackRefIdeal.τ).loc Cert.MixBackRefIdeal.main_arg1)
      ∧ r.2.mem ((c.tc : Thread Cert.MixBackRefIdeal.nD Cert.MixBackRefIdeal.τ).loc Cert.MixBackRefIdeal.main_arg2) = m ((c.tc : Thread Cert.MixBackRefIdeal.nD Cert.MixBackRefIdeal.τ).loc Cert.MixBackRefIdeal.main_arg2)
      ∧ r.2.mem ((c.tc : Thread Cert.MixBackRefIdeal.nD Cert.MixBackRefIdeal.τ).loc Cert.MixBackRefIdeal.main_arg3) = m ((c.tc : Thread Cert.MixBackRefIdeal.nD Cert.MixBackRefIdeal.τ).loc Cert.MixBackRefIdeal.main_arg3)
      ∧ r.2.mem ((c.tc : Thread Cert.MixBackRefIdeal.nD Cert.MixBackRefIdeal.τ).loc Cert.MixBackRefIdeal.main_arg4) = m ((c.tc : Thread Cert.MixBackRefIdeal.nD Cert.MixBackRefIdeal.τ).loc Cert.MixBackRefIdeal.main_arg4)
      ∧ r.2.mem ((c.tc : Thread Cert.MixBackRefIdeal.nD Cert.MixBackRefIdeal.τ).loc Cert.MixBackRefIdeal.main_arg5) = m ((c.tc : Thread Cert.MixBackRefIdeal.nD Cert.MixBackRefIdeal.τ).loc Cert.MixBackRefIdeal.main_arg5)
      ∧ r.2.mem ((c.tc : Thread Cert.MixBackRefIdeal.nD Cert.MixBackRefIdeal.τ).loc Cert.MixBackRefIdeal.main_arg6) = m ((c.tc : Thread Cert.MixBackRefIdeal.nD Cert.MixBackRefIdeal.τ).loc Cert.MixBackRefIdeal.main_arg6))
      ∧ r.2.sem = fun _ => 0)

def quiescent_MixBackRefIdeal_pre_finite_mix [hMixBackRefIdeal : Cert.MixBackRefIdeal.Facts] [hPre_finite_mix : Cert.Pre_finite_mix.Facts] : Prop :=
  ∀ (m : (ℓ : Loc Cert.MixBackRefIdeal.nD Cert.MixBackRefIdeal.τ Cert.MixBackRefIdeal.sig) → Buf (Elt Ideal) ℓ) (g : Dev Cert.MixBackRefIdeal.nD → PrngReg), Pre_MixBackRefIdeal_finite_mix m →
    θ_run (Cert.MixBackRefIdeal.defs (F := Ideal)) (onTc (τ := Cert.MixBackRefIdeal.τ) (Cert.MixBackRefIdeal.main (F := Ideal))) ⟨m, fun _ => 0, g⟩ (fun r => (∀ c : Dev Cert.MixBackRefIdeal.nD,
      r.2.mem ((c.tc : Thread Cert.MixBackRefIdeal.nD Cert.MixBackRefIdeal.τ).loc Cert.MixBackRefIdeal.main_arg0) = m ((c.tc : Thread Cert.MixBackRefIdeal.nD Cert.MixBackRefIdeal.τ).loc Cert.MixBackRefIdeal.main_arg0)
      ∧ r.2.mem ((c.tc : Thread Cert.MixBackRefIdeal.nD Cert.MixBackRefIdeal.τ).loc Cert.MixBackRefIdeal.main_arg1) = m ((c.tc : Thread Cert.MixBackRefIdeal.nD Cert.MixBackRefIdeal.τ).loc Cert.MixBackRefIdeal.main_arg1)
      ∧ r.2.mem ((c.tc : Thread Cert.MixBackRefIdeal.nD Cert.MixBackRefIdeal.τ).loc Cert.MixBackRefIdeal.main_arg2) = m ((c.tc : Thread Cert.MixBackRefIdeal.nD Cert.MixBackRefIdeal.τ).loc Cert.MixBackRefIdeal.main_arg2)
      ∧ r.2.mem ((c.tc : Thread Cert.MixBackRefIdeal.nD Cert.MixBackRefIdeal.τ).loc Cert.MixBackRefIdeal.main_arg3) = m ((c.tc : Thread Cert.MixBackRefIdeal.nD Cert.MixBackRefIdeal.τ).loc Cert.MixBackRefIdeal.main_arg3)
      ∧ r.2.mem ((c.tc : Thread Cert.MixBackRefIdeal.nD Cert.MixBackRefIdeal.τ).loc Cert.MixBackRefIdeal.main_arg4) = m ((c.tc : Thread Cert.MixBackRefIdeal.nD Cert.MixBackRefIdeal.τ).loc Cert.MixBackRefIdeal.main_arg4)
      ∧ r.2.mem ((c.tc : Thread Cert.MixBackRefIdeal.nD Cert.MixBackRefIdeal.τ).loc Cert.MixBackRefIdeal.main_arg5) = m ((c.tc : Thread Cert.MixBackRefIdeal.nD Cert.MixBackRefIdeal.τ).loc Cert.MixBackRefIdeal.main_arg5)
      ∧ r.2.mem ((c.tc : Thread Cert.MixBackRefIdeal.nD Cert.MixBackRefIdeal.τ).loc Cert.MixBackRefIdeal.main_arg6) = m ((c.tc : Thread Cert.MixBackRefIdeal.nD Cert.MixBackRefIdeal.τ).loc Cert.MixBackRefIdeal.main_arg6))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1)
      ∧ r.2.mem ((c.tc : Thread Cert.GradIn.nD Cert.GradIn.τ).loc Cert.GradIn.main_arg2) = m ((c.tc : Thread Cert.GradIn.nD Cert.GradIn.τ).loc Cert.GradIn.main_arg2))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
      ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1)
      ∧ r.2.mem ((c.tc : Thread Cert.GradInRefIdeal.nD Cert.GradInRefIdeal.τ).loc Cert.GradInRefIdeal.main_arg2) = m ((c.tc : Thread Cert.GradInRefIdeal.nD Cert.GradInRefIdeal.τ).loc Cert.GradInRefIdeal.main_arg2))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1)
      ∧ r.2.mem ((c.tc : Thread Cert.GradOut.nD Cert.GradOut.τ).loc Cert.GradOut.main_arg2) = m ((c.tc : Thread Cert.GradOut.nD Cert.GradOut.τ).loc Cert.GradOut.main_arg2))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
      ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1)
      ∧ r.2.mem ((c.tc : Thread Cert.GradOutRefIdeal.nD Cert.GradOutRefIdeal.τ).loc Cert.GradOutRefIdeal.main_arg2) = m ((c.tc : Thread Cert.GradOutRefIdeal.nD Cert.GradOutRefIdeal.τ).loc Cert.GradOutRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamTaps [hAdamTaps : Cert.AdamTaps.Facts] : Prop :=
  ∀ (m : (ℓ : Loc Cert.AdamTaps.nD Cert.AdamTaps.τ Cert.AdamTaps.sig) → Buf (Elt Bits) ℓ) (g : Dev Cert.AdamTaps.nD → PrngReg), Pre_AdamTaps m →
    θ_run (Cert.AdamTaps.defs (F := Bits)) (onTc (τ := Cert.AdamTaps.τ) (Cert.AdamTaps.main (F := Bits))) ⟨m, fun _ => 0, g⟩ (fun r => (∀ c : Dev Cert.AdamTaps.nD,
      r.2.mem ((c.tc : Thread Cert.AdamTaps.nD Cert.AdamTaps.τ).loc Cert.AdamTaps.main_arg0) = m ((c.tc : Thread Cert.AdamTaps.nD Cert.AdamTaps.τ).loc Cert.AdamTaps.main_arg0)
      ∧ r.2.mem ((c.tc : Thread Cert.AdamTaps.nD Cert.AdamTaps.τ).loc Cert.AdamTaps.main_arg1) = m ((c.tc : Thread Cert.AdamTaps.nD Cert.AdamTaps.τ).loc Cert.AdamTaps.main_arg1)
      ∧ r.2.mem ((c.tc : Thread Cert.AdamTaps.nD Cert.AdamTaps.τ).loc Cert.AdamTaps.main_arg2) = m ((c.tc : Thread Cert.AdamTaps.nD Cert.AdamTaps.τ).loc Cert.AdamTaps.main_arg2)
      ∧ r.2.mem ((c.tc : Thread Cert.AdamTaps.nD Cert.AdamTaps.τ).loc Cert.AdamTaps.main_arg3) = m ((c.tc : Thread Cert.AdamTaps.nD Cert.AdamTaps.τ).loc Cert.AdamTaps.main_arg3))
      ∧ r.2.sem = fun _ => 0)

def quiescent_AdamTapsIdeal [hAdamTapsIdeal : Cert.AdamTapsIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg), Pre_AdamTapsIdeal m →
    θ_run (Cert.AdamTapsIdeal.defs (F := Ideal)) (onTc (τ := Cert.AdamTapsIdeal.τ) (Cert.AdamTapsIdeal.main (F := Ideal))) ⟨m, fun _ => 0, g⟩ (fun r => (∀ c : Dev Cert.AdamTapsIdeal.nD,
      r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
      ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
      ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
      ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ r.2.sem = fun _ => 0)

def quiescent_AdamTapsRefIdeal [hAdamTapsRefIdeal : Cert.AdamTapsRefIdeal.Facts] : Prop :=
  ∀ (m : (ℓ : Loc Cert.AdamTapsRefIdeal.nD Cert.AdamTapsRefIdeal.τ Cert.AdamTapsRefIdeal.sig) → Buf (Elt Ideal) ℓ) (g : Dev Cert.AdamTapsRefIdeal.nD → PrngReg), Pre_AdamTapsRefIdeal m →
    θ_run (Cert.AdamTapsRefIdeal.defs (F := Ideal)) (onTc (τ := Cert.AdamTapsRefIdeal.τ) (Cert.AdamTapsRefIdeal.main (F := Ideal))) ⟨m, fun _ => 0, g⟩ (fun r => (∀ c : Dev Cert.AdamTapsRefIdeal.nD,
      r.2.mem ((c.tc : Thread Cert.AdamTapsRefIdeal.nD Cert.AdamTapsRefIdeal.τ).loc Cert.AdamTapsRefIdeal.main_arg0) = m ((c.tc : Thread Cert.AdamTapsRefIdeal.nD Cert.AdamTapsRefIdeal.τ).loc Cert.AdamTapsRefIdeal.main_arg0)
      ∧ r.2.mem ((c.tc : Thread Cert.AdamTapsRefIdeal.nD Cert.AdamTapsRefIdeal.τ).loc Cert.AdamTapsRefIdeal.main_arg1) = m ((c.tc : Thread Cert.AdamTapsRefIdeal.nD Cert.AdamTapsRefIdeal.τ).loc Cert.AdamTapsRefIdeal.main_arg1)
      ∧ r.2.mem ((c.tc : Thread Cert.AdamTapsRefIdeal.nD Cert.AdamTapsRefIdeal.τ).loc Cert.AdamTapsRefIdeal.main_arg2) = m ((c.tc : Thread Cert.AdamTapsRefIdeal.nD Cert.AdamTapsRefIdeal.τ).loc Cert.AdamTapsRefIdeal.main_arg2)
      ∧ r.2.mem ((c.tc : Thread Cert.AdamTapsRefIdeal.nD Cert.AdamTapsRefIdeal.τ).loc Cert.AdamTapsRefIdeal.main_arg3) = m ((c.tc : Thread Cert.AdamTapsRefIdeal.nD Cert.AdamTapsRefIdeal.τ).loc Cert.AdamTapsRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_PreMix [hPreMix : Cert.PreMix.Facts] : Prop :=
  ∀ (m : (ℓ : Loc Cert.PreMix.nD Cert.PreMix.τ Cert.PreMix.sig) → Buf (Elt Bits) ℓ) (g : Dev Cert.PreMix.nD → PrngReg), Pre_PreMix m →
    θ_run (Cert.PreMix.defs (F := Bits)) (onTc (τ := Cert.PreMix.τ) (Cert.PreMix.main (F := Bits))) ⟨m, fun _ => 0, g⟩ (fun r => (∀ c : Dev Cert.PreMix.nD,
      r.2.mem ((c.tc : Thread Cert.PreMix.nD Cert.PreMix.τ).loc Cert.PreMix.main_arg0) = m ((c.tc : Thread Cert.PreMix.nD Cert.PreMix.τ).loc Cert.PreMix.main_arg0)
      ∧ r.2.mem ((c.tc : Thread Cert.PreMix.nD Cert.PreMix.τ).loc Cert.PreMix.main_arg1) = m ((c.tc : Thread Cert.PreMix.nD Cert.PreMix.τ).loc Cert.PreMix.main_arg1)
      ∧ r.2.mem ((c.tc : Thread Cert.PreMix.nD Cert.PreMix.τ).loc Cert.PreMix.main_arg2) = m ((c.tc : Thread Cert.PreMix.nD Cert.PreMix.τ).loc Cert.PreMix.main_arg2)
      ∧ r.2.mem ((c.tc : Thread Cert.PreMix.nD Cert.PreMix.τ).loc Cert.PreMix.main_arg3) = m ((c.tc : Thread Cert.PreMix.nD Cert.PreMix.τ).loc Cert.PreMix.main_arg3)
      ∧ r.2.mem ((c.tc : Thread Cert.PreMix.nD Cert.PreMix.τ).loc Cert.PreMix.main_arg4) = m ((c.tc : Thread Cert.PreMix.nD Cert.PreMix.τ).loc Cert.PreMix.main_arg4))
      ∧ r.2.sem = fun _ => 0)

def quiescent_PreMixIdeal [hPreMixIdeal : Cert.PreMixIdeal.Facts] : Prop :=
  ∀ (m : (ℓ : Loc Cert.PreMixIdeal.nD Cert.PreMixIdeal.τ Cert.PreMixIdeal.sig) → Buf (Elt Ideal) ℓ) (g : Dev Cert.PreMixIdeal.nD → PrngReg), Pre_PreMixIdeal m →
    θ_run (Cert.PreMixIdeal.defs (F := Ideal)) (onTc (τ := Cert.PreMixIdeal.τ) (Cert.PreMixIdeal.main (F := Ideal))) ⟨m, fun _ => 0, g⟩ (fun r => (∀ c : Dev Cert.PreMixIdeal.nD,
      r.2.mem ((c.tc : Thread Cert.PreMixIdeal.nD Cert.PreMixIdeal.τ).loc Cert.PreMixIdeal.main_arg0) = m ((c.tc : Thread Cert.PreMixIdeal.nD Cert.PreMixIdeal.τ).loc Cert.PreMixIdeal.main_arg0)
      ∧ r.2.mem ((c.tc : Thread Cert.PreMixIdeal.nD Cert.PreMixIdeal.τ).loc Cert.PreMixIdeal.main_arg1) = m ((c.tc : Thread Cert.PreMixIdeal.nD Cert.PreMixIdeal.τ).loc Cert.PreMixIdeal.main_arg1)
      ∧ r.2.mem ((c.tc : Thread Cert.PreMixIdeal.nD Cert.PreMixIdeal.τ).loc Cert.PreMixIdeal.main_arg2) = m ((c.tc : Thread Cert.PreMixIdeal.nD Cert.PreMixIdeal.τ).loc Cert.PreMixIdeal.main_arg2)
      ∧ r.2.mem ((c.tc : Thread Cert.PreMixIdeal.nD Cert.PreMixIdeal.τ).loc Cert.PreMixIdeal.main_arg3) = m ((c.tc : Thread Cert.PreMixIdeal.nD Cert.PreMixIdeal.τ).loc Cert.PreMixIdeal.main_arg3)
      ∧ r.2.mem ((c.tc : Thread Cert.PreMixIdeal.nD Cert.PreMixIdeal.τ).loc Cert.PreMixIdeal.main_arg4) = m ((c.tc : Thread Cert.PreMixIdeal.nD Cert.PreMixIdeal.τ).loc Cert.PreMixIdeal.main_arg4))
      ∧ r.2.sem = fun _ => 0)

def quiescent_PreMixRefIdeal [hPreMixRefIdeal : Cert.PreMixRefIdeal.Facts] : Prop :=
  ∀ (m : (ℓ : Loc Cert.PreMixRefIdeal.nD Cert.PreMixRefIdeal.τ Cert.PreMixRefIdeal.sig) → Buf (Elt Ideal) ℓ) (g : Dev Cert.PreMixRefIdeal.nD → PrngReg), Pre_PreMixRefIdeal m →
    θ_run (Cert.PreMixRefIdeal.defs (F := Ideal)) (onTc (τ := Cert.PreMixRefIdeal.τ) (Cert.PreMixRefIdeal.main (F := Ideal))) ⟨m, fun _ => 0, g⟩ (fun r => (∀ c : Dev Cert.PreMixRefIdeal.nD,
      r.2.mem ((c.tc : Thread Cert.PreMixRefIdeal.nD Cert.PreMixRefIdeal.τ).loc Cert.PreMixRefIdeal.main_arg0) = m ((c.tc : Thread Cert.PreMixRefIdeal.nD Cert.PreMixRefIdeal.τ).loc Cert.PreMixRefIdeal.main_arg0)
      ∧ r.2.mem ((c.tc : Thread Cert.PreMixRefIdeal.nD Cert.PreMixRefIdeal.τ).loc Cert.PreMixRefIdeal.main_arg1) = m ((c.tc : Thread Cert.PreMixRefIdeal.nD Cert.PreMixRefIdeal.τ).loc Cert.PreMixRefIdeal.main_arg1)
      ∧ r.2.mem ((c.tc : Thread Cert.PreMixRefIdeal.nD Cert.PreMixRefIdeal.τ).loc Cert.PreMixRefIdeal.main_arg2) = m ((c.tc : Thread Cert.PreMixRefIdeal.nD Cert.PreMixRefIdeal.τ).loc Cert.PreMixRefIdeal.main_arg2)
      ∧ r.2.mem ((c.tc : Thread Cert.PreMixRefIdeal.nD Cert.PreMixRefIdeal.τ).loc Cert.PreMixRefIdeal.main_arg3) = m ((c.tc : Thread Cert.PreMixRefIdeal.nD Cert.PreMixRefIdeal.τ).loc Cert.PreMixRefIdeal.main_arg3)
      ∧ r.2.mem ((c.tc : Thread Cert.PreMixRefIdeal.nD Cert.PreMixRefIdeal.τ).loc Cert.PreMixRefIdeal.main_arg4) = m ((c.tc : Thread Cert.PreMixRefIdeal.nD Cert.PreMixRefIdeal.τ).loc Cert.PreMixRefIdeal.main_arg4))
      ∧ r.2.sem = fun _ => 0)

def quiescent_GradAda [hGradAda : Cert.GradAda.Facts] : Prop :=
  ∀ (m : (ℓ : Loc Cert.GradAda.nD Cert.GradAda.τ Cert.GradAda.sig) → Buf (Elt Bits) ℓ) (g : Dev Cert.GradAda.nD → PrngReg), Pre_GradAda m →
    θ_run (Cert.GradAda.defs (F := Bits)) (onTc (τ := Cert.GradAda.τ) (Cert.GradAda.main (F := Bits))) ⟨m, fun _ => 0, g⟩ (fun r => (∀ c : Dev Cert.GradAda.nD,
      r.2.mem ((c.tc : Thread Cert.GradAda.nD Cert.GradAda.τ).loc Cert.GradAda.main_arg0) = m ((c.tc : Thread Cert.GradAda.nD Cert.GradAda.τ).loc Cert.GradAda.main_arg0)
      ∧ r.2.mem ((c.tc : Thread Cert.GradAda.nD Cert.GradAda.τ).loc Cert.GradAda.main_arg1) = m ((c.tc : Thread Cert.GradAda.nD Cert.GradAda.τ).loc Cert.GradAda.main_arg1)
      ∧ r.2.mem ((c.tc : Thread Cert.GradAda.nD Cert.GradAda.τ).loc Cert.GradAda.main_arg2) = m ((c.tc : Thread Cert.GradAda.nD Cert.GradAda.τ).loc Cert.GradAda.main_arg2))
      ∧ r.2.sem = fun _ => 0)

def quiescent_GradAdaIdeal [hGradAdaIdeal : Cert.GradAdaIdeal.Facts] : Prop :=
  ∀ (m : (ℓ : Loc Cert.GradAdaIdeal.nD Cert.GradAdaIdeal.τ Cert.GradAdaIdeal.sig) → Buf (Elt Ideal) ℓ) (g : Dev Cert.GradAdaIdeal.nD → PrngReg), Pre_GradAdaIdeal m →
    θ_run (Cert.GradAdaIdeal.defs (F := Ideal)) (onTc (τ := Cert.GradAdaIdeal.τ) (Cert.GradAdaIdeal.main (F := Ideal))) ⟨m, fun _ => 0, g⟩ (fun r => (∀ c : Dev Cert.GradAdaIdeal.nD,
      r.2.mem ((c.tc : Thread Cert.GradAdaIdeal.nD Cert.GradAdaIdeal.τ).loc Cert.GradAdaIdeal.main_arg0) = m ((c.tc : Thread Cert.GradAdaIdeal.nD Cert.GradAdaIdeal.τ).loc Cert.GradAdaIdeal.main_arg0)
      ∧ r.2.mem ((c.tc : Thread Cert.GradAdaIdeal.nD Cert.GradAdaIdeal.τ).loc Cert.GradAdaIdeal.main_arg1) = m ((c.tc : Thread Cert.GradAdaIdeal.nD Cert.GradAdaIdeal.τ).loc Cert.GradAdaIdeal.main_arg1)
      ∧ r.2.mem ((c.tc : Thread Cert.GradAdaIdeal.nD Cert.GradAdaIdeal.τ).loc Cert.GradAdaIdeal.main_arg2) = m ((c.tc : Thread Cert.GradAdaIdeal.nD Cert.GradAdaIdeal.τ).loc Cert.GradAdaIdeal.main_arg2))
      ∧ r.2.sem = fun _ => 0)

def quiescent_GradAdaRefIdeal [hGradAdaRefIdeal : Cert.GradAdaRefIdeal.Facts] : Prop :=
  ∀ (m : (ℓ : Loc Cert.GradAdaRefIdeal.nD Cert.GradAdaRefIdeal.τ Cert.GradAdaRefIdeal.sig) → Buf (Elt Ideal) ℓ) (g : Dev Cert.GradAdaRefIdeal.nD → PrngReg), Pre_GradAdaRefIdeal m →
    θ_run (Cert.GradAdaRefIdeal.defs (F := Ideal)) (onTc (τ := Cert.GradAdaRefIdeal.τ) (Cert.GradAdaRefIdeal.main (F := Ideal))) ⟨m, fun _ => 0, g⟩ (fun r => (∀ c : Dev Cert.GradAdaRefIdeal.nD,
      r.2.mem ((c.tc : Thread Cert.GradAdaRefIdeal.nD Cert.GradAdaRefIdeal.τ).loc Cert.GradAdaRefIdeal.main_arg0) = m ((c.tc : Thread Cert.GradAdaRefIdeal.nD Cert.GradAdaRefIdeal.τ).loc Cert.GradAdaRefIdeal.main_arg0)
      ∧ r.2.mem ((c.tc : Thread Cert.GradAdaRefIdeal.nD Cert.GradAdaRefIdeal.τ).loc Cert.GradAdaRefIdeal.main_arg1) = m ((c.tc : Thread Cert.GradAdaRefIdeal.nD Cert.GradAdaRefIdeal.τ).loc Cert.GradAdaRefIdeal.main_arg1)
      ∧ r.2.mem ((c.tc : Thread Cert.GradAdaRefIdeal.nD Cert.GradAdaRefIdeal.τ).loc Cert.GradAdaRefIdeal.main_arg2) = m ((c.tc : Thread Cert.GradAdaRefIdeal.nD Cert.GradAdaRefIdeal.τ).loc Cert.GradAdaRefIdeal.main_arg2))
      ∧ r.2.sem = fun _ => 0)

def quiescent_ModCols [hModCols : Cert.ModCols.Facts] : Prop :=
  ∀ (m : (ℓ : Loc Cert.ModCols.nD Cert.ModCols.τ Cert.ModCols.sig) → Buf (Elt Bits) ℓ) (g : Dev Cert.ModCols.nD → PrngReg), Pre_ModCols m →
    θ_run (Cert.ModCols.defs (F := Bits)) (onTc (τ := Cert.ModCols.τ) (Cert.ModCols.main (F := Bits))) ⟨m, fun _ => 0, g⟩ (fun r => (∀ c : Dev Cert.ModCols.nD,
      r.2.mem ((c.tc : Thread Cert.ModCols.nD Cert.ModCols.τ).loc Cert.ModCols.main_arg0) = m ((c.tc : Thread Cert.ModCols.nD Cert.ModCols.τ).loc Cert.ModCols.main_arg0)
      ∧ r.2.mem ((c.tc : Thread Cert.ModCols.nD Cert.ModCols.τ).loc Cert.ModCols.main_arg1) = m ((c.tc : Thread Cert.ModCols.nD Cert.ModCols.τ).loc Cert.ModCols.main_arg1)
      ∧ r.2.mem ((c.tc : Thread Cert.ModCols.nD Cert.ModCols.τ).loc Cert.ModCols.main_arg2) = m ((c.tc : Thread Cert.ModCols.nD Cert.ModCols.τ).loc Cert.ModCols.main_arg2))
      ∧ r.2.sem = fun _ => 0)

def quiescent_ModColsIdeal [hModColsIdeal : Cert.ModColsIdeal.Facts] : Prop :=
  ∀ (m : (ℓ : Loc Cert.ModColsIdeal.nD Cert.ModColsIdeal.τ Cert.ModColsIdeal.sig) → Buf (Elt Ideal) ℓ) (g : Dev Cert.ModColsIdeal.nD → PrngReg), Pre_ModColsIdeal m →
    θ_run (Cert.ModColsIdeal.defs (F := Ideal)) (onTc (τ := Cert.ModColsIdeal.τ) (Cert.ModColsIdeal.main (F := Ideal))) ⟨m, fun _ => 0, g⟩ (fun r => (∀ c : Dev Cert.ModColsIdeal.nD,
      r.2.mem ((c.tc : Thread Cert.ModColsIdeal.nD Cert.ModColsIdeal.τ).loc Cert.ModColsIdeal.main_arg0) = m ((c.tc : Thread Cert.ModColsIdeal.nD Cert.ModColsIdeal.τ).loc Cert.ModColsIdeal.main_arg0)
      ∧ r.2.mem ((c.tc : Thread Cert.ModColsIdeal.nD Cert.ModColsIdeal.τ).loc Cert.ModColsIdeal.main_arg1) = m ((c.tc : Thread Cert.ModColsIdeal.nD Cert.ModColsIdeal.τ).loc Cert.ModColsIdeal.main_arg1)
      ∧ r.2.mem ((c.tc : Thread Cert.ModColsIdeal.nD Cert.ModColsIdeal.τ).loc Cert.ModColsIdeal.main_arg2) = m ((c.tc : Thread Cert.ModColsIdeal.nD Cert.ModColsIdeal.τ).loc Cert.ModColsIdeal.main_arg2))
      ∧ r.2.sem = fun _ => 0)

def quiescent_ModColsRefIdeal [hModColsRefIdeal : Cert.ModColsRefIdeal.Facts] : Prop :=
  ∀ (m : (ℓ : Loc Cert.ModColsRefIdeal.nD Cert.ModColsRefIdeal.τ Cert.ModColsRefIdeal.sig) → Buf (Elt Ideal) ℓ) (g : Dev Cert.ModColsRefIdeal.nD → PrngReg), Pre_ModColsRefIdeal m →
    θ_run (Cert.ModColsRefIdeal.defs (F := Ideal)) (onTc (τ := Cert.ModColsRefIdeal.τ) (Cert.ModColsRefIdeal.main (F := Ideal))) ⟨m, fun _ => 0, g⟩ (fun r => (∀ c : Dev Cert.ModColsRefIdeal.nD,
      r.2.mem ((c.tc : Thread Cert.ModColsRefIdeal.nD Cert.ModColsRefIdeal.τ).loc Cert.ModColsRefIdeal.main_arg0) = m ((c.tc : Thread Cert.ModColsRefIdeal.nD Cert.ModColsRefIdeal.τ).loc Cert.ModColsRefIdeal.main_arg0)
      ∧ r.2.mem ((c.tc : Thread Cert.ModColsRefIdeal.nD Cert.ModColsRefIdeal.τ).loc Cert.ModColsRefIdeal.main_arg1) = m ((c.tc : Thread Cert.ModColsRefIdeal.nD Cert.ModColsRefIdeal.τ).loc Cert.ModColsRefIdeal.main_arg1)
      ∧ r.2.mem ((c.tc : Thread Cert.ModColsRefIdeal.nD Cert.ModColsRefIdeal.τ).loc Cert.ModColsRefIdeal.main_arg2) = m ((c.tc : Thread Cert.ModColsRefIdeal.nD Cert.ModColsRefIdeal.τ).loc Cert.ModColsRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v11)) (v1 : (c : Dev Cert.ConvIdeal.nD) → Buf (Elt Ideal) ((c.tc : Thread Cert.ConvIdeal.nD Cert.ConvIdeal.τ).loc Cert.ConvIdeal.main_v14)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v11) = v0 c
          ∧ r.2.mem ((c.tc : Thread Cert.ConvIdeal.nD Cert.ConvIdeal.τ).loc Cert.ConvIdeal.main_v14) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v57) = v0 c
          ∧ r.2.mem ((c.tc : Thread Cert.ConvRefIdeal.nD Cert.ConvRefIdeal.τ).loc Cert.ConvRefIdeal.main_v53) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v12)) (v1 : (c : Dev Cert.UpIdeal.nD) → Buf (Elt Ideal) ((c.tc : Thread Cert.UpIdeal.nD Cert.UpIdeal.τ).loc Cert.UpIdeal.main_v15)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v12) = v0 c
          ∧ r.2.mem ((c.tc : Thread Cert.UpIdeal.nD Cert.UpIdeal.τ).loc Cert.UpIdeal.main_v15) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v0) = v0 c
          ∧ r.2.mem ((c.tc : Thread Cert.UpRefIdeal.nD Cert.UpRefIdeal.τ).loc Cert.UpRefIdeal.main_v22) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)
      ∧ m' ((c.tc : Thread Cert.GradUpRefIdeal.nD Cert.GradUpRefIdeal.τ).loc Cert.GradUpRefIdeal.main_arg2) = m ((c.tc : Thread Cert.GradUpIdeal.nD Cert.GradUpIdeal.τ).loc Cert.GradUpIdeal.main_arg2)) →
    ∃ (v0 : (c : Dev Cert.GradUpIdeal.nD) → Buf (Elt Ideal) ((c.tc : Thread Cert.GradUpIdeal.nD Cert.GradUpIdeal.τ).loc Cert.GradUpIdeal.main_v8)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v8) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1)
          ∧ r.2.mem ((c.tc : Thread Cert.GradUpIdeal.nD Cert.GradUpIdeal.τ).loc Cert.GradUpIdeal.main_arg2) = m ((c.tc : Thread Cert.GradUpIdeal.nD Cert.GradUpIdeal.τ).loc Cert.GradUpIdeal.main_arg2))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v2) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1)
          ∧ r.2.mem ((c.tc : Thread Cert.GradUpRefIdeal.nD Cert.GradUpRefIdeal.τ).loc Cert.GradUpRefIdeal.main_arg2) = m' ((c.tc : Thread Cert.GradUpRefIdeal.nD Cert.GradUpRefIdeal.τ).loc Cert.GradUpRefIdeal.main_arg2))

def preserves_InBack_InBackIdeal : Prop :=
  True

def algebraic_InBackIdeal_InBackRefIdeal_pre_finite_in [hInBackIdeal : Cert.InBackIdeal.Facts] [hInBackRefIdeal : Cert.InBackRefIdeal.Facts] [hPre_finite_in : Cert.Pre_finite_in.Facts] : Prop :=
  ∀ (m : (ℓ : Loc Cert.InBackIdeal.nD Cert.InBackIdeal.τ Cert.InBackIdeal.sig) → Buf (Elt Ideal) ℓ) (g : Dev Cert.InBackIdeal.nD → PrngReg)
    (m' : (ℓ : Loc Cert.InBackRefIdeal.nD Cert.InBackRefIdeal.τ Cert.InBackRefIdeal.sig) → Buf (Elt Ideal) ℓ) (g' : Dev Cert.InBackRefIdeal.nD → PrngReg), Pre_InBackIdeal_finite_in m →
    (∀ c : Dev Cert.InBackIdeal.nD,
      m' ((c.tc : Thread Cert.InBackRefIdeal.nD Cert.InBackRefIdeal.τ).loc Cert.InBackRefIdeal.main_arg0) = m ((c.tc : Thread Cert.InBackIdeal.nD Cert.InBackIdeal.τ).loc Cert.InBackIdeal.main_arg0)
      ∧ m' ((c.tc : Thread Cert.InBackRefIdeal.nD Cert.InBackRefIdeal.τ).loc Cert.InBackRefIdeal.main_arg1) = m ((c.tc : Thread Cert.InBackIdeal.nD Cert.InBackIdeal.τ).loc Cert.InBackIdeal.main_arg1)
      ∧ m' ((c.tc : Thread Cert.InBackRefIdeal.nD Cert.InBackRefIdeal.τ).loc Cert.InBackRefIdeal.main_arg2) = m ((c.tc : Thread Cert.InBackIdeal.nD Cert.InBackIdeal.τ).loc Cert.InBackIdeal.main_arg2)
      ∧ m' ((c.tc : Thread Cert.InBackRefIdeal.nD Cert.InBackRefIdeal.τ).loc Cert.InBackRefIdeal.main_arg3) = m ((c.tc : Thread Cert.InBackIdeal.nD Cert.InBackIdeal.τ).loc Cert.InBackIdeal.main_arg3)
      ∧ m' ((c.tc : Thread Cert.InBackRefIdeal.nD Cert.InBackRefIdeal.τ).loc Cert.InBackRefIdeal.main_arg4) = m ((c.tc : Thread Cert.InBackIdeal.nD Cert.InBackIdeal.τ).loc Cert.InBackIdeal.main_arg4)
      ∧ m' ((c.tc : Thread Cert.InBackRefIdeal.nD Cert.InBackRefIdeal.τ).loc Cert.InBackRefIdeal.main_arg5) = m ((c.tc : Thread Cert.InBackIdeal.nD Cert.InBackIdeal.τ).loc Cert.InBackIdeal.main_arg5)
      ∧ m' ((c.tc : Thread Cert.InBackRefIdeal.nD Cert.InBackRefIdeal.τ).loc Cert.InBackRefIdeal.main_arg6) = m ((c.tc : Thread Cert.InBackIdeal.nD Cert.InBackIdeal.τ).loc Cert.InBackIdeal.main_arg6)
      ∧ m' ((c.tc : Thread Cert.InBackRefIdeal.nD Cert.InBackRefIdeal.τ).loc Cert.InBackRefIdeal.main_arg7) = m ((c.tc : Thread Cert.InBackIdeal.nD Cert.InBackIdeal.τ).loc Cert.InBackIdeal.main_arg7)
      ∧ m' ((c.tc : Thread Cert.InBackRefIdeal.nD Cert.InBackRefIdeal.τ).loc Cert.InBackRefIdeal.main_arg8) = m ((c.tc : Thread Cert.InBackIdeal.nD Cert.InBackIdeal.τ).loc Cert.InBackIdeal.main_arg8)
      ∧ m' ((c.tc : Thread Cert.InBackRefIdeal.nD Cert.InBackRefIdeal.τ).loc Cert.InBackRefIdeal.main_arg9) = m ((c.tc : Thread Cert.InBackIdeal.nD Cert.InBackIdeal.τ).loc Cert.InBackIdeal.main_arg9)) →
    ∃ (v0 : (c : Dev Cert.InBackIdeal.nD) → Buf (Elt Ideal) ((c.tc : Thread Cert.InBackIdeal.nD Cert.InBackIdeal.τ).loc Cert.InBackIdeal.main_v10_0)) (v1 : (c : Dev Cert.InBackIdeal.nD) → Buf (Elt Ideal) ((c.tc : Thread Cert.InBackIdeal.nD Cert.InBackIdeal.τ).loc Cert.InBackIdeal.main_v10_1)) (v2 : (c : Dev Cert.InBackIdeal.nD) → Buf (Elt Ideal) ((c.tc : Thread Cert.InBackIdeal.nD Cert.InBackIdeal.τ).loc Cert.InBackIdeal.main_v10_2)) (v3 : (c : Dev Cert.InBackIdeal.nD) → Buf (Elt Ideal) ((c.tc : Thread Cert.InBackIdeal.nD Cert.InBackIdeal.τ).loc Cert.InBackIdeal.main_v10_3)) (v4 : (c : Dev Cert.InBackIdeal.nD) → Buf (Elt Ideal) ((c.tc : Thread Cert.InBackIdeal.nD Cert.InBackIdeal.τ).loc Cert.InBackIdeal.main_v11)) (v5 : (c : Dev Cert.InBackIdeal.nD) → Buf (Elt Ideal) ((c.tc : Thread Cert.InBackIdeal.nD Cert.InBackIdeal.τ).loc Cert.InBackIdeal.main_v10_5)) (v6 : (c : Dev Cert.InBackIdeal.nD) → Buf (Elt Ideal) ((c.tc : Thread Cert.InBackIdeal.nD Cert.InBackIdeal.τ).loc Cert.InBackIdeal.main_v10_6)),
      θ_run (Cert.InBackIdeal.defs (F := Ideal)) (onTc (τ := Cert.InBackIdeal.τ) (Cert.InBackIdeal.main (F := Ideal))) ⟨m, fun _ => 0, g⟩ (fun r => ∀ c : Dev Cert.InBackIdeal.nD,
          r.2.mem ((c.tc : Thread Cert.InBackIdeal.nD Cert.InBackIdeal.τ).loc Cert.InBackIdeal.main_v10_0) = v0 c
          ∧ r.2.mem ((c.tc : Thread Cert.InBackIdeal.nD Cert.InBackIdeal.τ).loc Cert.InBackIdeal.main_v10_1) = v1 c
          ∧ r.2.mem ((c.tc : Thread Cert.InBackIdeal.nD Cert.InBackIdeal.τ).loc Cert.InBackIdeal.main_v10_2) = v2 c
          ∧ r.2.mem ((c.tc : Thread Cert.InBackIdeal.nD Cert.InBackIdeal.τ).loc Cert.InBackIdeal.main_v10_3) = v3 c
          ∧ r.2.mem ((c.tc : Thread Cert.InBackIdeal.nD Cert.InBackIdeal.τ).loc Cert.InBackIdeal.main_v11) = v4 c
          ∧ r.2.mem ((c.tc : Thread Cert.InBackIdeal.nD Cert.InBackIdeal.τ).loc Cert.InBackIdeal.main_v10_5) = v5 c
          ∧ r.2.mem ((c.tc : Thread Cert.InBackIdeal.nD Cert.InBackIdeal.τ).loc Cert.InBackIdeal.main_v10_6) = v6 c
          ∧ r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
          ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1)
          ∧ r.2.mem ((c.tc : Thread Cert.InBackIdeal.nD Cert.InBackIdeal.τ).loc Cert.InBackIdeal.main_arg2) = m ((c.tc : Thread Cert.InBackIdeal.nD Cert.InBackIdeal.τ).loc Cert.InBackIdeal.main_arg2)
          ∧ r.2.mem ((c.tc : Thread Cert.InBackIdeal.nD Cert.InBackIdeal.τ).loc Cert.InBackIdeal.main_arg3) = m ((c.tc : Thread Cert.InBackIdeal.nD Cert.InBackIdeal.τ).loc Cert.InBackIdeal.main_arg3)
          ∧ r.2.mem ((c.tc : Thread Cert.InBackIdeal.nD Cert.InBackIdeal.τ).loc Cert.InBackIdeal.main_arg4) = m ((c.tc : Thread Cert.InBackIdeal.nD Cert.InBackIdeal.τ).loc Cert.InBackIdeal.main_arg4)
          ∧ r.2.mem ((c.tc : Thread Cert.InBackIdeal.nD Cert.InBackIdeal.τ).loc Cert.InBackIdeal.main_arg5) = m ((c.tc : Thread Cert.InBackIdeal.nD Cert.InBackIdeal.τ).loc Cert.InBackIdeal.main_arg5)
          ∧ r.2.mem ((c.tc : Thread Cert.InBackIdeal.nD Cert.InBackIdeal.τ).loc Cert.InBackIdeal.main_arg6) = m ((c.tc : Thread Cert.InBackIdeal.nD Cert.InBackIdeal.τ).loc Cert.InBackIdeal.main_arg6)
          ∧ r.2.mem ((c.tc : Thread Cert.InBackIdeal.nD Cert.InBackIdeal.τ).loc Cert.InBackIdeal.main_arg7) = m ((c.tc : Thread Cert.InBackIdeal.nD Cert.InBackIdeal.τ).loc Cert.InBackIdeal.main_arg7)
          ∧ r.2.mem ((c.tc : Thread Cert.InBackIdeal.nD Cert.InBackIdeal.τ).loc Cert.InBackIdeal.main_arg8) = m ((c.tc : Thread Cert.InBackIdeal.nD Cert.InBackIdeal.τ).loc Cert.InBackIdeal.main_arg8)
          ∧ r.2.mem ((c.tc : Thread Cert.InBackIdeal.nD Cert.InBackIdeal.τ).loc Cert.InBackIdeal.main_arg9) = m ((c.tc : Thread Cert.InBackIdeal.nD Cert.InBackIdeal.τ).loc Cert.InBackIdeal.main_arg9))
      ∧ θ_run (Cert.InBackRefIdeal.defs (F := Ideal)) (onTc (τ := Cert.InBackRefIdeal.τ) (Cert.InBackRefIdeal.main (F := Ideal))) ⟨m', fun _ => 0, g'⟩ (fun r => ∀ c : Dev Cert.InBackRefIdeal.nD,
          r.2.mem ((c.tc : Thread Cert.InBackRefIdeal.nD Cert.InBackRefIdeal.τ).loc Cert.InBackRefIdeal.main_v49) = v0 c
          ∧ r.2.mem ((c.tc : Thread Cert.InBackRefIdeal.nD Cert.InBackRefIdeal.τ).loc Cert.InBackRefIdeal.main_v24) = v1 c
          ∧ r.2.mem ((c.tc : Thread Cert.InBackRefIdeal.nD Cert.InBackRefIdeal.τ).loc Cert.InBackRefIdeal.main_v27) = v2 c
          ∧ r.2.mem ((c.tc : Thread Cert.InBackRefIdeal.nD Cert.InBackRefIdeal.τ).loc Cert.InBackRefIdeal.main_v32) = v3 c
          ∧ r.2.mem ((c.tc : Thread Cert.InBackRefIdeal.nD Cert.InBackRefIdeal.τ).loc Cert.InBackRefIdeal.main_v90) = v4 c
          ∧ r.2.mem ((c.tc : Thread Cert.InBackRefIdeal.nD Cert.InBackRefIdeal.τ).loc Cert.InBackRefIdeal.main_v71) = v5 c
          ∧ r.2.mem ((c.tc : Thread Cert.InBackRefIdeal.nD Cert.InBackRefIdeal.τ).loc Cert.InBackRefIdeal.main_v74) = v6 c
          ∧ r.2.mem ((c.tc : Thread Cert.InBackRefIdeal.nD Cert.InBackRefIdeal.τ).loc Cert.InBackRefIdeal.main_arg0) = m' ((c.tc : Thread Cert.InBackRefIdeal.nD Cert.InBackRefIdeal.τ).loc Cert.InBackRefIdeal.main_arg0)
          ∧ r.2.mem ((c.tc : Thread Cert.InBackRefIdeal.nD Cert.InBackRefIdeal.τ).loc Cert.InBackRefIdeal.main_arg1) = m' ((c.tc : Thread Cert.InBackRefIdeal.nD Cert.InBackRefIdeal.τ).loc Cert.InBackRefIdeal.main_arg1)
          ∧ r.2.mem ((c.tc : Thread Cert.InBackRefIdeal.nD Cert.InBackRefIdeal.τ).loc Cert.InBackRefIdeal.main_arg2) = m' ((c.tc : Thread Cert.InBackRefIdeal.nD Cert.InBackRefIdeal.τ).loc Cert.InBackRefIdeal.main_arg2)
          ∧ r.2.mem ((c.tc : Thread Cert.InBackRefIdeal.nD Cert.InBackRefIdeal.τ).loc Cert.InBackRefIdeal.main_arg3) = m' ((c.tc : Thread Cert.InBackRefIdeal.nD Cert.InBackRefIdeal.τ).loc Cert.InBackRefIdeal.main_arg3)
          ∧ r.2.mem ((c.tc : Thread Cert.InBackRefIdeal.nD Cert.InBackRefIdeal.τ).loc Cert.InBackRefIdeal.main_arg4) = m' ((c.tc : Thread Cert.InBackRefIdeal.nD Cert.InBackRefIdeal.τ).loc Cert.InBackRefIdeal.main_arg4)
          ∧ r.2.mem ((c.tc : Thread Cert.InBackRefIdeal.nD Cert.InBackRefIdeal.τ).loc Cert.InBackRefIdeal.main_arg5) = m' ((c.tc : Thread Cert.InBackRefIdeal.nD Cert.InBackRefIdeal.τ).loc Cert.InBackRefIdeal.main_arg5)
          ∧ r.2.mem ((c.tc : Thread Cert.InBackRefIdeal.nD Cert.InBackRefIdeal.τ).loc Cert.InBackRefIdeal.main_arg6) = m' ((c.tc : Thread Cert.InBackRefIdeal.nD Cert.InBackRefIdeal.τ).loc Cert.InBackRefIdeal.main_arg6)
          ∧ r.2.mem ((c.tc : Thread Cert.InBackRefIdeal.nD Cert.InBackRefIdeal.τ).loc Cert.InBackRefIdeal.main_arg7) = m' ((c.tc : Thread Cert.InBackRefIdeal.nD Cert.InBackRefIdeal.τ).loc Cert.InBackRefIdeal.main_arg7)
          ∧ r.2.mem ((c.tc : Thread Cert.InBackRefIdeal.nD Cert.InBackRefIdeal.τ).loc Cert.InBackRefIdeal.main_arg8) = m' ((c.tc : Thread Cert.InBackRefIdeal.nD Cert.InBackRefIdeal.τ).loc Cert.InBackRefIdeal.main_arg8)
          ∧ r.2.mem ((c.tc : Thread Cert.InBackRefIdeal.nD Cert.InBackRefIdeal.τ).loc Cert.InBackRefIdeal.main_arg9) = m' ((c.tc : Thread Cert.InBackRefIdeal.nD Cert.InBackRefIdeal.τ).loc Cert.InBackRefIdeal.main_arg9))

def preserves_Head_HeadIdeal : Prop :=
  True

def algebraic_HeadIdeal_HeadRefIdeal_pre_finite_down [hHeadIdeal : Cert.HeadIdeal.Facts] [hHeadRefIdeal : Cert.HeadRefIdeal.Facts] [hPre_finite_down : Cert.Pre_finite_down.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_finite_down m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)) →
    ∃ (v0 : (c : Dev Cert.HeadIdeal.nD) → Buf (Elt Ideal) ((c.tc : Thread Cert.HeadIdeal.nD Cert.HeadIdeal.τ).loc Cert.HeadIdeal.main_v8)) (v1 : (c : Dev Cert.HeadIdeal.nD) → Buf (Elt Ideal) ((c.tc : Thread Cert.HeadIdeal.nD Cert.HeadIdeal.τ).loc Cert.HeadIdeal.main_v9)) (v2 : (c : Dev Cert.HeadIdeal.nD) → Buf (Elt Ideal) ((c.tc : Thread Cert.HeadIdeal.nD Cert.HeadIdeal.τ).loc Cert.HeadIdeal.main_v5_1)) (v3 : (c : Dev Cert.HeadIdeal.nD) → Buf (Elt Ideal) ((c.tc : Thread Cert.HeadIdeal.nD Cert.HeadIdeal.τ).loc Cert.HeadIdeal.main_v5_3)) (v4 : (c : Dev Cert.HeadIdeal.nD) → Buf (Elt Ideal) ((c.tc : Thread Cert.HeadIdeal.nD Cert.HeadIdeal.τ).loc Cert.HeadIdeal.main_v5_4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v8) = v0 c
          ∧ r.2.mem ((c.tc : Thread Cert.HeadIdeal.nD Cert.HeadIdeal.τ).loc Cert.HeadIdeal.main_v9) = v1 c
          ∧ r.2.mem ((c.tc : Thread Cert.HeadIdeal.nD Cert.HeadIdeal.τ).loc Cert.HeadIdeal.main_v5_1) = v2 c
          ∧ r.2.mem ((c.tc : Thread Cert.HeadIdeal.nD Cert.HeadIdeal.τ).loc Cert.HeadIdeal.main_v5_3) = v3 c
          ∧ r.2.mem ((c.tc : Thread Cert.HeadIdeal.nD Cert.HeadIdeal.τ).loc Cert.HeadIdeal.main_v5_4) = v4 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v31) = v0 c
          ∧ r.2.mem ((c.tc : Thread Cert.HeadRefIdeal.nD Cert.HeadRefIdeal.τ).loc Cert.HeadRefIdeal.main_v61) = v1 c
          ∧ r.2.mem ((c.tc : Thread Cert.HeadRefIdeal.nD Cert.HeadRefIdeal.τ).loc Cert.HeadRefIdeal.main_v37) = v2 c
          ∧ r.2.mem ((c.tc : Thread Cert.HeadRefIdeal.nD Cert.HeadRefIdeal.τ).loc Cert.HeadRefIdeal.main_v42) = v3 c
          ∧ r.2.mem ((c.tc : Thread Cert.HeadRefIdeal.nD Cert.HeadRefIdeal.τ).loc Cert.HeadRefIdeal.main_v45) = v4 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5))

def preserves_MixBack_MixBackIdeal : Prop :=
  True

def algebraic_MixBackIdeal_MixBackRefIdeal_pre_finite_mix [hMixBackIdeal : Cert.MixBackIdeal.Facts] [hMixBackRefIdeal : Cert.MixBackRefIdeal.Facts] [hPre_finite_mix : Cert.Pre_finite_mix.Facts] : Prop :=
  ∀ (m : (ℓ : Loc Cert.MixBackIdeal.nD Cert.MixBackIdeal.τ Cert.MixBackIdeal.sig) → Buf (Elt Ideal) ℓ) (g : Dev Cert.MixBackIdeal.nD → PrngReg)
    (m' : (ℓ : Loc Cert.MixBackRefIdeal.nD Cert.MixBackRefIdeal.τ Cert.MixBackRefIdeal.sig) → Buf (Elt Ideal) ℓ) (g' : Dev Cert.MixBackRefIdeal.nD → PrngReg), Pre_MixBackIdeal_finite_mix m →
    (∀ c : Dev Cert.MixBackIdeal.nD,
      m' ((c.tc : Thread Cert.MixBackRefIdeal.nD Cert.MixBackRefIdeal.τ).loc Cert.MixBackRefIdeal.main_arg0) = m ((c.tc : Thread Cert.MixBackIdeal.nD Cert.MixBackIdeal.τ).loc Cert.MixBackIdeal.main_arg0)
      ∧ m' ((c.tc : Thread Cert.MixBackRefIdeal.nD Cert.MixBackRefIdeal.τ).loc Cert.MixBackRefIdeal.main_arg1) = m ((c.tc : Thread Cert.MixBackIdeal.nD Cert.MixBackIdeal.τ).loc Cert.MixBackIdeal.main_arg1)
      ∧ m' ((c.tc : Thread Cert.MixBackRefIdeal.nD Cert.MixBackRefIdeal.τ).loc Cert.MixBackRefIdeal.main_arg2) = m ((c.tc : Thread Cert.MixBackIdeal.nD Cert.MixBackIdeal.τ).loc Cert.MixBackIdeal.main_arg2)
      ∧ m' ((c.tc : Thread Cert.MixBackRefIdeal.nD Cert.MixBackRefIdeal.τ).loc Cert.MixBackRefIdeal.main_arg3) = m ((c.tc : Thread Cert.MixBackIdeal.nD Cert.MixBackIdeal.τ).loc Cert.MixBackIdeal.main_arg3)
      ∧ m' ((c.tc : Thread Cert.MixBackRefIdeal.nD Cert.MixBackRefIdeal.τ).loc Cert.MixBackRefIdeal.main_arg4) = m ((c.tc : Thread Cert.MixBackIdeal.nD Cert.MixBackIdeal.τ).loc Cert.MixBackIdeal.main_arg4)
      ∧ m' ((c.tc : Thread Cert.MixBackRefIdeal.nD Cert.MixBackRefIdeal.τ).loc Cert.MixBackRefIdeal.main_arg5) = m ((c.tc : Thread Cert.MixBackIdeal.nD Cert.MixBackIdeal.τ).loc Cert.MixBackIdeal.main_arg5)
      ∧ m' ((c.tc : Thread Cert.MixBackRefIdeal.nD Cert.MixBackRefIdeal.τ).loc Cert.MixBackRefIdeal.main_arg6) = m ((c.tc : Thread Cert.MixBackIdeal.nD Cert.MixBackIdeal.τ).loc Cert.MixBackIdeal.main_arg6)) →
    ∃ (v0 : (c : Dev Cert.MixBackIdeal.nD) → Buf (Elt Ideal) ((c.tc : Thread Cert.MixBackIdeal.nD Cert.MixBackIdeal.τ).loc Cert.MixBackIdeal.main_v4_0)) (v1 : (c : Dev Cert.MixBackIdeal.nD) → Buf (Elt Ideal) ((c.tc : Thread Cert.MixBackIdeal.nD Cert.MixBackIdeal.τ).loc Cert.MixBackIdeal.main_v4_1)) (v2 : (c : Dev Cert.MixBackIdeal.nD) → Buf (Elt Ideal) ((c.tc : Thread Cert.MixBackIdeal.nD Cert.MixBackIdeal.τ).loc Cert.MixBackIdeal.main_v4_2)) (v3 : (c : Dev Cert.MixBackIdeal.nD) → Buf (Elt Ideal) ((c.tc : Thread Cert.MixBackIdeal.nD Cert.MixBackIdeal.τ).loc Cert.MixBackIdeal.main_v4_3)),
      θ_run (Cert.MixBackIdeal.defs (F := Ideal)) (onTc (τ := Cert.MixBackIdeal.τ) (Cert.MixBackIdeal.main (F := Ideal))) ⟨m, fun _ => 0, g⟩ (fun r => ∀ c : Dev Cert.MixBackIdeal.nD,
          r.2.mem ((c.tc : Thread Cert.MixBackIdeal.nD Cert.MixBackIdeal.τ).loc Cert.MixBackIdeal.main_v4_0) = v0 c
          ∧ r.2.mem ((c.tc : Thread Cert.MixBackIdeal.nD Cert.MixBackIdeal.τ).loc Cert.MixBackIdeal.main_v4_1) = v1 c
          ∧ r.2.mem ((c.tc : Thread Cert.MixBackIdeal.nD Cert.MixBackIdeal.τ).loc Cert.MixBackIdeal.main_v4_2) = v2 c
          ∧ r.2.mem ((c.tc : Thread Cert.MixBackIdeal.nD Cert.MixBackIdeal.τ).loc Cert.MixBackIdeal.main_v4_3) = v3 c
          ∧ r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
          ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
          ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
          ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
          ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4)
          ∧ r.2.mem ((c.tc : Thread Cert.MixBackIdeal.nD Cert.MixBackIdeal.τ).loc Cert.MixBackIdeal.main_arg5) = m ((c.tc : Thread Cert.MixBackIdeal.nD Cert.MixBackIdeal.τ).loc Cert.MixBackIdeal.main_arg5)
          ∧ r.2.mem ((c.tc : Thread Cert.MixBackIdeal.nD Cert.MixBackIdeal.τ).loc Cert.MixBackIdeal.main_arg6) = m ((c.tc : Thread Cert.MixBackIdeal.nD Cert.MixBackIdeal.τ).loc Cert.MixBackIdeal.main_arg6))
      ∧ θ_run (Cert.MixBackRefIdeal.defs (F := Ideal)) (onTc (τ := Cert.MixBackRefIdeal.τ) (Cert.MixBackRefIdeal.main (F := Ideal))) ⟨m', fun _ => 0, g'⟩ (fun r => ∀ c : Dev Cert.MixBackRefIdeal.nD,
          r.2.mem ((c.tc : Thread Cert.MixBackRefIdeal.nD Cert.MixBackRefIdeal.τ).loc Cert.MixBackRefIdeal.main_v49) = v0 c
          ∧ r.2.mem ((c.tc : Thread Cert.MixBackRefIdeal.nD Cert.MixBackRefIdeal.τ).loc Cert.MixBackRefIdeal.main_v24) = v1 c
          ∧ r.2.mem ((c.tc : Thread Cert.MixBackRefIdeal.nD Cert.MixBackRefIdeal.τ).loc Cert.MixBackRefIdeal.main_v27) = v2 c
          ∧ r.2.mem ((c.tc : Thread Cert.MixBackRefIdeal.nD Cert.MixBackRefIdeal.τ).loc Cert.MixBackRefIdeal.main_v32) = v3 c
          ∧ r.2.mem ((c.tc : Thread Cert.MixBackRefIdeal.nD Cert.MixBackRefIdeal.τ).loc Cert.MixBackRefIdeal.main_arg0) = m' ((c.tc : Thread Cert.MixBackRefIdeal.nD Cert.MixBackRefIdeal.τ).loc Cert.MixBackRefIdeal.main_arg0)
          ∧ r.2.mem ((c.tc : Thread Cert.MixBackRefIdeal.nD Cert.MixBackRefIdeal.τ).loc Cert.MixBackRefIdeal.main_arg1) = m' ((c.tc : Thread Cert.MixBackRefIdeal.nD Cert.MixBackRefIdeal.τ).loc Cert.MixBackRefIdeal.main_arg1)
          ∧ r.2.mem ((c.tc : Thread Cert.MixBackRefIdeal.nD Cert.MixBackRefIdeal.τ).loc Cert.MixBackRefIdeal.main_arg2) = m' ((c.tc : Thread Cert.MixBackRefIdeal.nD Cert.MixBackRefIdeal.τ).loc Cert.MixBackRefIdeal.main_arg2)
          ∧ r.2.mem ((c.tc : Thread Cert.MixBackRefIdeal.nD Cert.MixBackRefIdeal.τ).loc Cert.MixBackRefIdeal.main_arg3) = m' ((c.tc : Thread Cert.MixBackRefIdeal.nD Cert.MixBackRefIdeal.τ).loc Cert.MixBackRefIdeal.main_arg3)
          ∧ r.2.mem ((c.tc : Thread Cert.MixBackRefIdeal.nD Cert.MixBackRefIdeal.τ).loc Cert.MixBackRefIdeal.main_arg4) = m' ((c.tc : Thread Cert.MixBackRefIdeal.nD Cert.MixBackRefIdeal.τ).loc Cert.MixBackRefIdeal.main_arg4)
          ∧ r.2.mem ((c.tc : Thread Cert.MixBackRefIdeal.nD Cert.MixBackRefIdeal.τ).loc Cert.MixBackRefIdeal.main_arg5) = m' ((c.tc : Thread Cert.MixBackRefIdeal.nD Cert.MixBackRefIdeal.τ).loc Cert.MixBackRefIdeal.main_arg5)
          ∧ r.2.mem ((c.tc : Thread Cert.MixBackRefIdeal.nD Cert.MixBackRefIdeal.τ).loc Cert.MixBackRefIdeal.main_arg6) = m' ((c.tc : Thread Cert.MixBackRefIdeal.nD Cert.MixBackRefIdeal.τ).loc Cert.MixBackRefIdeal.main_arg6))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)
      ∧ m' ((c.tc : Thread Cert.GradInRefIdeal.nD Cert.GradInRefIdeal.τ).loc Cert.GradInRefIdeal.main_arg2) = m ((c.tc : Thread Cert.GradInIdeal.nD Cert.GradInIdeal.τ).loc Cert.GradInIdeal.main_arg2)) →
    ∃ (v0 : (c : Dev Cert.GradInIdeal.nD) → Buf (Elt Ideal) ((c.tc : Thread Cert.GradInIdeal.nD Cert.GradInIdeal.τ).loc Cert.GradInIdeal.main_v5)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v5) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
          ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v2) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1)
          ∧ r.2.mem ((c.tc : Thread Cert.GradInRefIdeal.nD Cert.GradInRefIdeal.τ).loc Cert.GradInRefIdeal.main_arg2) = m' ((c.tc : Thread Cert.GradInRefIdeal.nD Cert.GradInRefIdeal.τ).loc Cert.GradInRefIdeal.main_arg2))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)
      ∧ m' ((c.tc : Thread Cert.GradOutRefIdeal.nD Cert.GradOutRefIdeal.τ).loc Cert.GradOutRefIdeal.main_arg2) = m ((c.tc : Thread Cert.GradOutIdeal.nD Cert.GradOutIdeal.τ).loc Cert.GradOutIdeal.main_arg2)) →
    ∃ (v0 : (c : Dev Cert.GradOutIdeal.nD) → Buf (Elt Ideal) ((c.tc : Thread Cert.GradOutIdeal.nD Cert.GradOutIdeal.τ).loc Cert.GradOutIdeal.main_v4)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v4) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
          ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v2) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1)
          ∧ r.2.mem ((c.tc : Thread Cert.GradOutRefIdeal.nD Cert.GradOutRefIdeal.τ).loc Cert.GradOutRefIdeal.main_arg2) = m' ((c.tc : Thread Cert.GradOutRefIdeal.nD Cert.GradOutRefIdeal.τ).loc Cert.GradOutRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v3)) (v1 : (c : Dev Cert.OutProjIdeal.nD) → Buf (Elt Ideal) ((c.tc : Thread Cert.OutProjIdeal.nD Cert.OutProjIdeal.τ).loc Cert.OutProjIdeal.main_v2_1)) (v2 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_v4) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_v15) = v1 c
          ∧ r.2.mem ((c.tc : Thread Cert.OutProjRefIdeal.nD Cert.OutProjRefIdeal.τ).loc Cert.OutProjRefIdeal.main_v33) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)) (v3 : (c : Dev Cert.AdamOutIdeal.nD) → Buf (Elt Ideal) ((c.tc : Thread Cert.AdamOutIdeal.nD Cert.AdamOutIdeal.τ).loc Cert.AdamOutIdeal.main_v1_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_v1_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v1_0)) (v1 : (c : Dev Cert.AdamGluIdeal.nD) → Buf (Elt Ideal) ((c.tc : Thread Cert.AdamGluIdeal.nD Cert.AdamGluIdeal.τ).loc Cert.AdamGluIdeal.main_v1_1)) (v2 : (c : Dev Cert.AdamGluIdeal.nD) → Buf (Elt Ideal) ((c.tc : Thread Cert.AdamGluIdeal.nD Cert.AdamGluIdeal.τ).loc Cert.AdamGluIdeal.main_v1_2)) (v3 : (c : Dev Cert.AdamGluIdeal.nD) → Buf (Elt Ideal) ((c.tc : Thread Cert.AdamGluIdeal.nD Cert.AdamGluIdeal.τ).loc Cert.AdamGluIdeal.main_v1_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v1_0) = v0 c
          ∧ r.2.mem ((c.tc : Thread Cert.AdamGluIdeal.nD Cert.AdamGluIdeal.τ).loc Cert.AdamGluIdeal.main_v1_1) = v1 c
          ∧ r.2.mem ((c.tc : Thread Cert.AdamGluIdeal.nD Cert.AdamGluIdeal.τ).loc Cert.AdamGluIdeal.main_v1_2) = v2 c
          ∧ r.2.mem ((c.tc : Thread Cert.AdamGluIdeal.nD Cert.AdamGluIdeal.τ).loc Cert.AdamGluIdeal.main_v1_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v0) = v0 c
          ∧ r.2.mem ((c.tc : Thread Cert.AdamGluRefIdeal.nD Cert.AdamGluRefIdeal.τ).loc Cert.AdamGluRefIdeal.main_v24) = v1 c
          ∧ r.2.mem ((c.tc : Thread Cert.AdamGluRefIdeal.nD Cert.AdamGluRefIdeal.τ).loc Cert.AdamGluRefIdeal.main_v5) = v2 c
          ∧ r.2.mem ((c.tc : Thread Cert.AdamGluRefIdeal.nD Cert.AdamGluRefIdeal.τ).loc Cert.AdamGluRefIdeal.main_v11) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v1_0)) (v1 : (c : Dev Cert.AdamDownIdeal.nD) → Buf (Elt Ideal) ((c.tc : Thread Cert.AdamDownIdeal.nD Cert.AdamDownIdeal.τ).loc Cert.AdamDownIdeal.main_v1_1)) (v2 : (c : Dev Cert.AdamDownIdeal.nD) → Buf (Elt Ideal) ((c.tc : Thread Cert.AdamDownIdeal.nD Cert.AdamDownIdeal.τ).loc Cert.AdamDownIdeal.main_v1_2)) (v3 : (c : Dev Cert.AdamDownIdeal.nD) → Buf (Elt Ideal) ((c.tc : Thread Cert.AdamDownIdeal.nD Cert.AdamDownIdeal.τ).loc Cert.AdamDownIdeal.main_v1_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v1_0) = v0 c
          ∧ r.2.mem ((c.tc : Thread Cert.AdamDownIdeal.nD Cert.AdamDownIdeal.τ).loc Cert.AdamDownIdeal.main_v1_1) = v1 c
          ∧ r.2.mem ((c.tc : Thread Cert.AdamDownIdeal.nD Cert.AdamDownIdeal.τ).loc Cert.AdamDownIdeal.main_v1_2) = v2 c
          ∧ r.2.mem ((c.tc : Thread Cert.AdamDownIdeal.nD Cert.AdamDownIdeal.τ).loc Cert.AdamDownIdeal.main_v1_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v0) = v0 c
          ∧ r.2.mem ((c.tc : Thread Cert.AdamDownRefIdeal.nD Cert.AdamDownRefIdeal.τ).loc Cert.AdamDownRefIdeal.main_v24) = v1 c
          ∧ r.2.mem ((c.tc : Thread Cert.AdamDownRefIdeal.nD Cert.AdamDownRefIdeal.τ).loc Cert.AdamDownRefIdeal.main_v5) = v2 c
          ∧ r.2.mem ((c.tc : Thread Cert.AdamDownRefIdeal.nD Cert.AdamDownRefIdeal.τ).loc Cert.AdamDownRefIdeal.main_v11) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v0) = v0 c
          ∧ r.2.mem ((c.tc : Thread Cert.AdamConvRefIdeal.nD Cert.AdamConvRefIdeal.τ).loc Cert.AdamConvRefIdeal.main_v24) = v1 c
          ∧ r.2.mem ((c.tc : Thread Cert.AdamConvRefIdeal.nD Cert.AdamConvRefIdeal.τ).loc Cert.AdamConvRefIdeal.main_v5) = v2 c
          ∧ r.2.mem ((c.tc : Thread Cert.AdamConvRefIdeal.nD Cert.AdamConvRefIdeal.τ).loc Cert.AdamConvRefIdeal.main_v11) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamTaps_AdamTapsIdeal : Prop :=
  True

def algebraic_AdamTapsIdeal_AdamTapsRefIdeal [hAdamTapsIdeal : Cert.AdamTapsIdeal.Facts] [hAdamTapsRefIdeal : Cert.AdamTapsRefIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg)
    (m' : (ℓ : Loc Cert.AdamTapsRefIdeal.nD Cert.AdamTapsRefIdeal.τ Cert.AdamTapsRefIdeal.sig) → Buf (Elt Ideal) ℓ) (g' : Dev Cert.AdamTapsRefIdeal.nD → PrngReg), Pre_AdamTapsIdeal m →
    (∀ c : Dev Cert.AdamTapsIdeal.nD,
      m' ((c.tc : Thread Cert.AdamTapsRefIdeal.nD Cert.AdamTapsRefIdeal.τ).loc Cert.AdamTapsRefIdeal.main_arg0) = m ((c.tc : Thread Cert.AdamTapsIdeal.nD Cert.AdamTapsIdeal.τ).loc Cert.AdamTapsIdeal.main_arg0)
      ∧ m' ((c.tc : Thread Cert.AdamTapsRefIdeal.nD Cert.AdamTapsRefIdeal.τ).loc Cert.AdamTapsRefIdeal.main_arg1) = m ((c.tc : Thread Cert.AdamTapsIdeal.nD Cert.AdamTapsIdeal.τ).loc Cert.AdamTapsIdeal.main_arg1)
      ∧ m' ((c.tc : Thread Cert.AdamTapsRefIdeal.nD Cert.AdamTapsRefIdeal.τ).loc Cert.AdamTapsRefIdeal.main_arg2) = m ((c.tc : Thread Cert.AdamTapsIdeal.nD Cert.AdamTapsIdeal.τ).loc Cert.AdamTapsIdeal.main_arg2)
      ∧ m' ((c.tc : Thread Cert.AdamTapsRefIdeal.nD Cert.AdamTapsRefIdeal.τ).loc Cert.AdamTapsRefIdeal.main_arg3) = m ((c.tc : Thread Cert.AdamTapsIdeal.nD Cert.AdamTapsIdeal.τ).loc Cert.AdamTapsIdeal.main_arg3)) →
    ∃ (v0 : (c : Dev Cert.AdamTapsIdeal.nD) → Buf (Elt Ideal) ((c.tc : Thread Cert.AdamTapsIdeal.nD Cert.AdamTapsIdeal.τ).loc Cert.AdamTapsIdeal.main_v0_0)) (v1 : (c : Dev Cert.AdamTapsIdeal.nD) → Buf (Elt Ideal) ((c.tc : Thread Cert.AdamTapsIdeal.nD Cert.AdamTapsIdeal.τ).loc Cert.AdamTapsIdeal.main_v0_1)) (v2 : (c : Dev Cert.AdamTapsIdeal.nD) → Buf (Elt Ideal) ((c.tc : Thread Cert.AdamTapsIdeal.nD Cert.AdamTapsIdeal.τ).loc Cert.AdamTapsIdeal.main_v0_2)) (v3 : (c : Dev Cert.AdamTapsIdeal.nD) → Buf (Elt Ideal) ((c.tc : Thread Cert.AdamTapsIdeal.nD Cert.AdamTapsIdeal.τ).loc Cert.AdamTapsIdeal.main_v0_3)),
      θ_run (Cert.AdamTapsIdeal.defs (F := Ideal)) (onTc (τ := Cert.AdamTapsIdeal.τ) (Cert.AdamTapsIdeal.main (F := Ideal))) ⟨m, fun _ => 0, g⟩ (fun r => ∀ c : Dev Cert.AdamTapsIdeal.nD,
          r.2.mem ((c.tc : Thread Cert.AdamTapsIdeal.nD Cert.AdamTapsIdeal.τ).loc Cert.AdamTapsIdeal.main_v0_0) = v0 c
          ∧ r.2.mem ((c.tc : Thread Cert.AdamTapsIdeal.nD Cert.AdamTapsIdeal.τ).loc Cert.AdamTapsIdeal.main_v0_1) = v1 c
          ∧ r.2.mem ((c.tc : Thread Cert.AdamTapsIdeal.nD Cert.AdamTapsIdeal.τ).loc Cert.AdamTapsIdeal.main_v0_2) = v2 c
          ∧ r.2.mem ((c.tc : Thread Cert.AdamTapsIdeal.nD Cert.AdamTapsIdeal.τ).loc Cert.AdamTapsIdeal.main_v0_3) = v3 c
          ∧ r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
          ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
          ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
          ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ θ_run (Cert.AdamTapsRefIdeal.defs (F := Ideal)) (onTc (τ := Cert.AdamTapsRefIdeal.τ) (Cert.AdamTapsRefIdeal.main (F := Ideal))) ⟨m', fun _ => 0, g'⟩ (fun r => ∀ c : Dev Cert.AdamTapsRefIdeal.nD,
          r.2.mem ((c.tc : Thread Cert.AdamTapsRefIdeal.nD Cert.AdamTapsRefIdeal.τ).loc Cert.AdamTapsRefIdeal.main_v0) = v0 c
          ∧ r.2.mem ((c.tc : Thread Cert.AdamTapsRefIdeal.nD Cert.AdamTapsRefIdeal.τ).loc Cert.AdamTapsRefIdeal.main_v24) = v1 c
          ∧ r.2.mem ((c.tc : Thread Cert.AdamTapsRefIdeal.nD Cert.AdamTapsRefIdeal.τ).loc Cert.AdamTapsRefIdeal.main_v5) = v2 c
          ∧ r.2.mem ((c.tc : Thread Cert.AdamTapsRefIdeal.nD Cert.AdamTapsRefIdeal.τ).loc Cert.AdamTapsRefIdeal.main_v11) = v3 c
          ∧ r.2.mem ((c.tc : Thread Cert.AdamTapsRefIdeal.nD Cert.AdamTapsRefIdeal.τ).loc Cert.AdamTapsRefIdeal.main_arg0) = m' ((c.tc : Thread Cert.AdamTapsRefIdeal.nD Cert.AdamTapsRefIdeal.τ).loc Cert.AdamTapsRefIdeal.main_arg0)
          ∧ r.2.mem ((c.tc : Thread Cert.AdamTapsRefIdeal.nD Cert.AdamTapsRefIdeal.τ).loc Cert.AdamTapsRefIdeal.main_arg1) = m' ((c.tc : Thread Cert.AdamTapsRefIdeal.nD Cert.AdamTapsRefIdeal.τ).loc Cert.AdamTapsRefIdeal.main_arg1)
          ∧ r.2.mem ((c.tc : Thread Cert.AdamTapsRefIdeal.nD Cert.AdamTapsRefIdeal.τ).loc Cert.AdamTapsRefIdeal.main_arg2) = m' ((c.tc : Thread Cert.AdamTapsRefIdeal.nD Cert.AdamTapsRefIdeal.τ).loc Cert.AdamTapsRefIdeal.main_arg2)
          ∧ r.2.mem ((c.tc : Thread Cert.AdamTapsRefIdeal.nD Cert.AdamTapsRefIdeal.τ).loc Cert.AdamTapsRefIdeal.main_arg3) = m' ((c.tc : Thread Cert.AdamTapsRefIdeal.nD Cert.AdamTapsRefIdeal.τ).loc Cert.AdamTapsRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v1_0)) (v1 : (c : Dev Cert.AdamAdaIdeal.nD) → Buf (Elt Ideal) ((c.tc : Thread Cert.AdamAdaIdeal.nD Cert.AdamAdaIdeal.τ).loc Cert.AdamAdaIdeal.main_v1_1)) (v2 : (c : Dev Cert.AdamAdaIdeal.nD) → Buf (Elt Ideal) ((c.tc : Thread Cert.AdamAdaIdeal.nD Cert.AdamAdaIdeal.τ).loc Cert.AdamAdaIdeal.main_v1_2)) (v3 : (c : Dev Cert.AdamAdaIdeal.nD) → Buf (Elt Ideal) ((c.tc : Thread Cert.AdamAdaIdeal.nD Cert.AdamAdaIdeal.τ).loc Cert.AdamAdaIdeal.main_v1_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v1_0) = v0 c
          ∧ r.2.mem ((c.tc : Thread Cert.AdamAdaIdeal.nD Cert.AdamAdaIdeal.τ).loc Cert.AdamAdaIdeal.main_v1_1) = v1 c
          ∧ r.2.mem ((c.tc : Thread Cert.AdamAdaIdeal.nD Cert.AdamAdaIdeal.τ).loc Cert.AdamAdaIdeal.main_v1_2) = v2 c
          ∧ r.2.mem ((c.tc : Thread Cert.AdamAdaIdeal.nD Cert.AdamAdaIdeal.τ).loc Cert.AdamAdaIdeal.main_v1_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_arg0) = v0 c
          ∧ r.2.mem ((c.tc : Thread Cert.AdamAdaRefIdeal.nD Cert.AdamAdaRefIdeal.τ).loc Cert.AdamAdaRefIdeal.main_v23) = v1 c
          ∧ r.2.mem ((c.tc : Thread Cert.AdamAdaRefIdeal.nD Cert.AdamAdaRefIdeal.τ).loc Cert.AdamAdaRefIdeal.main_v4) = v2 c
          ∧ r.2.mem ((c.tc : Thread Cert.AdamAdaRefIdeal.nD Cert.AdamAdaRefIdeal.τ).loc Cert.AdamAdaRefIdeal.main_v10) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v8)) (v1 : (c : Dev Cert.AdamUpIdeal.nD) → Buf (Elt Ideal) ((c.tc : Thread Cert.AdamUpIdeal.nD Cert.AdamUpIdeal.τ).loc Cert.AdamUpIdeal.main_v9)) (v2 : (c : Dev Cert.AdamUpIdeal.nD) → Buf (Elt Ideal) ((c.tc : Thread Cert.AdamUpIdeal.nD Cert.AdamUpIdeal.τ).loc Cert.AdamUpIdeal.main_v10)) (v3 : (c : Dev Cert.AdamUpIdeal.nD) → Buf (Elt Ideal) ((c.tc : Thread Cert.AdamUpIdeal.nD Cert.AdamUpIdeal.τ).loc Cert.AdamUpIdeal.main_v11)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v8) = v0 c
          ∧ r.2.mem ((c.tc : Thread Cert.AdamUpIdeal.nD Cert.AdamUpIdeal.τ).loc Cert.AdamUpIdeal.main_v9) = v1 c
          ∧ r.2.mem ((c.tc : Thread Cert.AdamUpIdeal.nD Cert.AdamUpIdeal.τ).loc Cert.AdamUpIdeal.main_v10) = v2 c
          ∧ r.2.mem ((c.tc : Thread Cert.AdamUpIdeal.nD Cert.AdamUpIdeal.τ).loc Cert.AdamUpIdeal.main_v11) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v0) = v0 c
          ∧ r.2.mem ((c.tc : Thread Cert.AdamUpRefIdeal.nD Cert.AdamUpRefIdeal.τ).loc Cert.AdamUpRefIdeal.main_v24) = v1 c
          ∧ r.2.mem ((c.tc : Thread Cert.AdamUpRefIdeal.nD Cert.AdamUpRefIdeal.τ).loc Cert.AdamUpRefIdeal.main_v5) = v2 c
          ∧ r.2.mem ((c.tc : Thread Cert.AdamUpRefIdeal.nD Cert.AdamUpRefIdeal.τ).loc Cert.AdamUpRefIdeal.main_v11) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_PreMix_PreMixIdeal : Prop :=
  True

def algebraic_PreMixIdeal_PreMixRefIdeal [hPreMixIdeal : Cert.PreMixIdeal.Facts] [hPreMixRefIdeal : Cert.PreMixRefIdeal.Facts] : Prop :=
  ∀ (m : (ℓ : Loc Cert.PreMixIdeal.nD Cert.PreMixIdeal.τ Cert.PreMixIdeal.sig) → Buf (Elt Ideal) ℓ) (g : Dev Cert.PreMixIdeal.nD → PrngReg)
    (m' : (ℓ : Loc Cert.PreMixRefIdeal.nD Cert.PreMixRefIdeal.τ Cert.PreMixRefIdeal.sig) → Buf (Elt Ideal) ℓ) (g' : Dev Cert.PreMixRefIdeal.nD → PrngReg), Pre_PreMixIdeal m →
    (∀ c : Dev Cert.PreMixIdeal.nD,
      m' ((c.tc : Thread Cert.PreMixRefIdeal.nD Cert.PreMixRefIdeal.τ).loc Cert.PreMixRefIdeal.main_arg0) = m ((c.tc : Thread Cert.PreMixIdeal.nD Cert.PreMixIdeal.τ).loc Cert.PreMixIdeal.main_arg0)
      ∧ m' ((c.tc : Thread Cert.PreMixRefIdeal.nD Cert.PreMixRefIdeal.τ).loc Cert.PreMixRefIdeal.main_arg1) = m ((c.tc : Thread Cert.PreMixIdeal.nD Cert.PreMixIdeal.τ).loc Cert.PreMixIdeal.main_arg1)
      ∧ m' ((c.tc : Thread Cert.PreMixRefIdeal.nD Cert.PreMixRefIdeal.τ).loc Cert.PreMixRefIdeal.main_arg2) = m ((c.tc : Thread Cert.PreMixIdeal.nD Cert.PreMixIdeal.τ).loc Cert.PreMixIdeal.main_arg2)
      ∧ m' ((c.tc : Thread Cert.PreMixRefIdeal.nD Cert.PreMixRefIdeal.τ).loc Cert.PreMixRefIdeal.main_arg3) = m ((c.tc : Thread Cert.PreMixIdeal.nD Cert.PreMixIdeal.τ).loc Cert.PreMixIdeal.main_arg3)
      ∧ m' ((c.tc : Thread Cert.PreMixRefIdeal.nD Cert.PreMixRefIdeal.τ).loc Cert.PreMixRefIdeal.main_arg4) = m ((c.tc : Thread Cert.PreMixIdeal.nD Cert.PreMixIdeal.τ).loc Cert.PreMixIdeal.main_arg4)) →
    ∃ (v0 : (c : Dev Cert.PreMixIdeal.nD) → Buf (Elt Ideal) ((c.tc : Thread Cert.PreMixIdeal.nD Cert.PreMixIdeal.τ).loc Cert.PreMixIdeal.main_v3_0)) (v1 : (c : Dev Cert.PreMixIdeal.nD) → Buf (Elt Ideal) ((c.tc : Thread Cert.PreMixIdeal.nD Cert.PreMixIdeal.τ).loc Cert.PreMixIdeal.main_v4)),
      θ_run (Cert.PreMixIdeal.defs (F := Ideal)) (onTc (τ := Cert.PreMixIdeal.τ) (Cert.PreMixIdeal.main (F := Ideal))) ⟨m, fun _ => 0, g⟩ (fun r => ∀ c : Dev Cert.PreMixIdeal.nD,
          r.2.mem ((c.tc : Thread Cert.PreMixIdeal.nD Cert.PreMixIdeal.τ).loc Cert.PreMixIdeal.main_v3_0) = v0 c
          ∧ r.2.mem ((c.tc : Thread Cert.PreMixIdeal.nD Cert.PreMixIdeal.τ).loc Cert.PreMixIdeal.main_v4) = v1 c
          ∧ r.2.mem ((c.tc : Thread Cert.PreMixIdeal.nD Cert.PreMixIdeal.τ).loc Cert.PreMixIdeal.main_arg0) = m ((c.tc : Thread Cert.PreMixIdeal.nD Cert.PreMixIdeal.τ).loc Cert.PreMixIdeal.main_arg0)
          ∧ r.2.mem ((c.tc : Thread Cert.PreMixIdeal.nD Cert.PreMixIdeal.τ).loc Cert.PreMixIdeal.main_arg1) = m ((c.tc : Thread Cert.PreMixIdeal.nD Cert.PreMixIdeal.τ).loc Cert.PreMixIdeal.main_arg1)
          ∧ r.2.mem ((c.tc : Thread Cert.PreMixIdeal.nD Cert.PreMixIdeal.τ).loc Cert.PreMixIdeal.main_arg2) = m ((c.tc : Thread Cert.PreMixIdeal.nD Cert.PreMixIdeal.τ).loc Cert.PreMixIdeal.main_arg2)
          ∧ r.2.mem ((c.tc : Thread Cert.PreMixIdeal.nD Cert.PreMixIdeal.τ).loc Cert.PreMixIdeal.main_arg3) = m ((c.tc : Thread Cert.PreMixIdeal.nD Cert.PreMixIdeal.τ).loc Cert.PreMixIdeal.main_arg3)
          ∧ r.2.mem ((c.tc : Thread Cert.PreMixIdeal.nD Cert.PreMixIdeal.τ).loc Cert.PreMixIdeal.main_arg4) = m ((c.tc : Thread Cert.PreMixIdeal.nD Cert.PreMixIdeal.τ).loc Cert.PreMixIdeal.main_arg4))
      ∧ θ_run (Cert.PreMixRefIdeal.defs (F := Ideal)) (onTc (τ := Cert.PreMixRefIdeal.τ) (Cert.PreMixRefIdeal.main (F := Ideal))) ⟨m', fun _ => 0, g'⟩ (fun r => ∀ c : Dev Cert.PreMixRefIdeal.nD,
          r.2.mem ((c.tc : Thread Cert.PreMixRefIdeal.nD Cert.PreMixRefIdeal.τ).loc Cert.PreMixRefIdeal.main_v18) = v0 c
          ∧ r.2.mem ((c.tc : Thread Cert.PreMixRefIdeal.nD Cert.PreMixRefIdeal.τ).loc Cert.PreMixRefIdeal.main_v17) = v1 c
          ∧ r.2.mem ((c.tc : Thread Cert.PreMixRefIdeal.nD Cert.PreMixRefIdeal.τ).loc Cert.PreMixRefIdeal.main_arg0) = m' ((c.tc : Thread Cert.PreMixRefIdeal.nD Cert.PreMixRefIdeal.τ).loc Cert.PreMixRefIdeal.main_arg0)
          ∧ r.2.mem ((c.tc : Thread Cert.PreMixRefIdeal.nD Cert.PreMixRefIdeal.τ).loc Cert.PreMixRefIdeal.main_arg1) = m' ((c.tc : Thread Cert.PreMixRefIdeal.nD Cert.PreMixRefIdeal.τ).loc Cert.PreMixRefIdeal.main_arg1)
          ∧ r.2.mem ((c.tc : Thread Cert.PreMixRefIdeal.nD Cert.PreMixRefIdeal.τ).loc Cert.PreMixRefIdeal.main_arg2) = m' ((c.tc : Thread Cert.PreMixRefIdeal.nD Cert.PreMixRefIdeal.τ).loc Cert.PreMixRefIdeal.main_arg2)
          ∧ r.2.mem ((c.tc : Thread Cert.PreMixRefIdeal.nD Cert.PreMixRefIdeal.τ).loc Cert.PreMixRefIdeal.main_arg3) = m' ((c.tc : Thread Cert.PreMixRefIdeal.nD Cert.PreMixRefIdeal.τ).loc Cert.PreMixRefIdeal.main_arg3)
          ∧ r.2.mem ((c.tc : Thread Cert.PreMixRefIdeal.nD Cert.PreMixRefIdeal.τ).loc Cert.PreMixRefIdeal.main_arg4) = m' ((c.tc : Thread Cert.PreMixRefIdeal.nD Cert.PreMixRefIdeal.τ).loc Cert.PreMixRefIdeal.main_arg4))

def preserves_GradAda_GradAdaIdeal : Prop :=
  True

def algebraic_GradAdaIdeal_GradAdaRefIdeal [hGradAdaIdeal : Cert.GradAdaIdeal.Facts] [hGradAdaRefIdeal : Cert.GradAdaRefIdeal.Facts] : Prop :=
  ∀ (m : (ℓ : Loc Cert.GradAdaIdeal.nD Cert.GradAdaIdeal.τ Cert.GradAdaIdeal.sig) → Buf (Elt Ideal) ℓ) (g : Dev Cert.GradAdaIdeal.nD → PrngReg)
    (m' : (ℓ : Loc Cert.GradAdaRefIdeal.nD Cert.GradAdaRefIdeal.τ Cert.GradAdaRefIdeal.sig) → Buf (Elt Ideal) ℓ) (g' : Dev Cert.GradAdaRefIdeal.nD → PrngReg), Pre_GradAdaIdeal m →
    (∀ c : Dev Cert.GradAdaIdeal.nD,
      m' ((c.tc : Thread Cert.GradAdaRefIdeal.nD Cert.GradAdaRefIdeal.τ).loc Cert.GradAdaRefIdeal.main_arg0) = m ((c.tc : Thread Cert.GradAdaIdeal.nD Cert.GradAdaIdeal.τ).loc Cert.GradAdaIdeal.main_arg0)
      ∧ m' ((c.tc : Thread Cert.GradAdaRefIdeal.nD Cert.GradAdaRefIdeal.τ).loc Cert.GradAdaRefIdeal.main_arg1) = m ((c.tc : Thread Cert.GradAdaIdeal.nD Cert.GradAdaIdeal.τ).loc Cert.GradAdaIdeal.main_arg1)
      ∧ m' ((c.tc : Thread Cert.GradAdaRefIdeal.nD Cert.GradAdaRefIdeal.τ).loc Cert.GradAdaRefIdeal.main_arg2) = m ((c.tc : Thread Cert.GradAdaIdeal.nD Cert.GradAdaIdeal.τ).loc Cert.GradAdaIdeal.main_arg2)) →
    ∃ (v0 : (c : Dev Cert.GradAdaIdeal.nD) → Buf (Elt Ideal) ((c.tc : Thread Cert.GradAdaIdeal.nD Cert.GradAdaIdeal.τ).loc Cert.GradAdaIdeal.main_v1)),
      θ_run (Cert.GradAdaIdeal.defs (F := Ideal)) (onTc (τ := Cert.GradAdaIdeal.τ) (Cert.GradAdaIdeal.main (F := Ideal))) ⟨m, fun _ => 0, g⟩ (fun r => ∀ c : Dev Cert.GradAdaIdeal.nD,
          r.2.mem ((c.tc : Thread Cert.GradAdaIdeal.nD Cert.GradAdaIdeal.τ).loc Cert.GradAdaIdeal.main_v1) = v0 c
          ∧ r.2.mem ((c.tc : Thread Cert.GradAdaIdeal.nD Cert.GradAdaIdeal.τ).loc Cert.GradAdaIdeal.main_arg0) = m ((c.tc : Thread Cert.GradAdaIdeal.nD Cert.GradAdaIdeal.τ).loc Cert.GradAdaIdeal.main_arg0)
          ∧ r.2.mem ((c.tc : Thread Cert.GradAdaIdeal.nD Cert.GradAdaIdeal.τ).loc Cert.GradAdaIdeal.main_arg1) = m ((c.tc : Thread Cert.GradAdaIdeal.nD Cert.GradAdaIdeal.τ).loc Cert.GradAdaIdeal.main_arg1)
          ∧ r.2.mem ((c.tc : Thread Cert.GradAdaIdeal.nD Cert.GradAdaIdeal.τ).loc Cert.GradAdaIdeal.main_arg2) = m ((c.tc : Thread Cert.GradAdaIdeal.nD Cert.GradAdaIdeal.τ).loc Cert.GradAdaIdeal.main_arg2))
      ∧ θ_run (Cert.GradAdaRefIdeal.defs (F := Ideal)) (onTc (τ := Cert.GradAdaRefIdeal.τ) (Cert.GradAdaRefIdeal.main (F := Ideal))) ⟨m', fun _ => 0, g'⟩ (fun r => ∀ c : Dev Cert.GradAdaRefIdeal.nD,
          r.2.mem ((c.tc : Thread Cert.GradAdaRefIdeal.nD Cert.GradAdaRefIdeal.τ).loc Cert.GradAdaRefIdeal.main_v2) = v0 c
          ∧ r.2.mem ((c.tc : Thread Cert.GradAdaRefIdeal.nD Cert.GradAdaRefIdeal.τ).loc Cert.GradAdaRefIdeal.main_arg0) = m' ((c.tc : Thread Cert.GradAdaRefIdeal.nD Cert.GradAdaRefIdeal.τ).loc Cert.GradAdaRefIdeal.main_arg0)
          ∧ r.2.mem ((c.tc : Thread Cert.GradAdaRefIdeal.nD Cert.GradAdaRefIdeal.τ).loc Cert.GradAdaRefIdeal.main_arg1) = m' ((c.tc : Thread Cert.GradAdaRefIdeal.nD Cert.GradAdaRefIdeal.τ).loc Cert.GradAdaRefIdeal.main_arg1)
          ∧ r.2.mem ((c.tc : Thread Cert.GradAdaRefIdeal.nD Cert.GradAdaRefIdeal.τ).loc Cert.GradAdaRefIdeal.main_arg2) = m' ((c.tc : Thread Cert.GradAdaRefIdeal.nD Cert.GradAdaRefIdeal.τ).loc Cert.GradAdaRefIdeal.main_arg2))

def preserves_ModCols_ModColsIdeal : Prop :=
  True

def algebraic_ModColsIdeal_ModColsRefIdeal [hModColsIdeal : Cert.ModColsIdeal.Facts] [hModColsRefIdeal : Cert.ModColsRefIdeal.Facts] : Prop :=
  ∀ (m : (ℓ : Loc Cert.ModColsIdeal.nD Cert.ModColsIdeal.τ Cert.ModColsIdeal.sig) → Buf (Elt Ideal) ℓ) (g : Dev Cert.ModColsIdeal.nD → PrngReg)
    (m' : (ℓ : Loc Cert.ModColsRefIdeal.nD Cert.ModColsRefIdeal.τ Cert.ModColsRefIdeal.sig) → Buf (Elt Ideal) ℓ) (g' : Dev Cert.ModColsRefIdeal.nD → PrngReg), Pre_ModColsIdeal m →
    (∀ c : Dev Cert.ModColsIdeal.nD,
      m' ((c.tc : Thread Cert.ModColsRefIdeal.nD Cert.ModColsRefIdeal.τ).loc Cert.ModColsRefIdeal.main_arg0) = m ((c.tc : Thread Cert.ModColsIdeal.nD Cert.ModColsIdeal.τ).loc Cert.ModColsIdeal.main_arg0)
      ∧ m' ((c.tc : Thread Cert.ModColsRefIdeal.nD Cert.ModColsRefIdeal.τ).loc Cert.ModColsRefIdeal.main_arg1) = m ((c.tc : Thread Cert.ModColsIdeal.nD Cert.ModColsIdeal.τ).loc Cert.ModColsIdeal.main_arg1)
      ∧ m' ((c.tc : Thread Cert.ModColsRefIdeal.nD Cert.ModColsRefIdeal.τ).loc Cert.ModColsRefIdeal.main_arg2) = m ((c.tc : Thread Cert.ModColsIdeal.nD Cert.ModColsIdeal.τ).loc Cert.ModColsIdeal.main_arg2)) →
    ∃ (v0 : (c : Dev Cert.ModColsIdeal.nD) → Buf (Elt Ideal) ((c.tc : Thread Cert.ModColsIdeal.nD Cert.ModColsIdeal.τ).loc Cert.ModColsIdeal.main_v0_0)) (v1 : (c : Dev Cert.ModColsIdeal.nD) → Buf (Elt Ideal) ((c.tc : Thread Cert.ModColsIdeal.nD Cert.ModColsIdeal.τ).loc Cert.ModColsIdeal.main_v0_1)),
      θ_run (Cert.ModColsIdeal.defs (F := Ideal)) (onTc (τ := Cert.ModColsIdeal.τ) (Cert.ModColsIdeal.main (F := Ideal))) ⟨m, fun _ => 0, g⟩ (fun r => ∀ c : Dev Cert.ModColsIdeal.nD,
          r.2.mem ((c.tc : Thread Cert.ModColsIdeal.nD Cert.ModColsIdeal.τ).loc Cert.ModColsIdeal.main_v0_0) = v0 c
          ∧ r.2.mem ((c.tc : Thread Cert.ModColsIdeal.nD Cert.ModColsIdeal.τ).loc Cert.ModColsIdeal.main_v0_1) = v1 c
          ∧ r.2.mem ((c.tc : Thread Cert.ModColsIdeal.nD Cert.ModColsIdeal.τ).loc Cert.ModColsIdeal.main_arg0) = m ((c.tc : Thread Cert.ModColsIdeal.nD Cert.ModColsIdeal.τ).loc Cert.ModColsIdeal.main_arg0)
          ∧ r.2.mem ((c.tc : Thread Cert.ModColsIdeal.nD Cert.ModColsIdeal.τ).loc Cert.ModColsIdeal.main_arg1) = m ((c.tc : Thread Cert.ModColsIdeal.nD Cert.ModColsIdeal.τ).loc Cert.ModColsIdeal.main_arg1)
          ∧ r.2.mem ((c.tc : Thread Cert.ModColsIdeal.nD Cert.ModColsIdeal.τ).loc Cert.ModColsIdeal.main_arg2) = m ((c.tc : Thread Cert.ModColsIdeal.nD Cert.ModColsIdeal.τ).loc Cert.ModColsIdeal.main_arg2))
      ∧ θ_run (Cert.ModColsRefIdeal.defs (F := Ideal)) (onTc (τ := Cert.ModColsRefIdeal.τ) (Cert.ModColsRefIdeal.main (F := Ideal))) ⟨m', fun _ => 0, g'⟩ (fun r => ∀ c : Dev Cert.ModColsRefIdeal.nD,
          r.2.mem ((c.tc : Thread Cert.ModColsRefIdeal.nD Cert.ModColsRefIdeal.τ).loc Cert.ModColsRefIdeal.main_v3) = v0 c
          ∧ r.2.mem ((c.tc : Thread Cert.ModColsRefIdeal.nD Cert.ModColsRefIdeal.τ).loc Cert.ModColsRefIdeal.main_v0) = v1 c
          ∧ r.2.mem ((c.tc : Thread Cert.ModColsRefIdeal.nD Cert.ModColsRefIdeal.τ).loc Cert.ModColsRefIdeal.main_arg0) = m' ((c.tc : Thread Cert.ModColsRefIdeal.nD Cert.ModColsRefIdeal.τ).loc Cert.ModColsRefIdeal.main_arg0)
          ∧ r.2.mem ((c.tc : Thread Cert.ModColsRefIdeal.nD Cert.ModColsRefIdeal.τ).loc Cert.ModColsRefIdeal.main_arg1) = m' ((c.tc : Thread Cert.ModColsRefIdeal.nD Cert.ModColsRefIdeal.τ).loc Cert.ModColsRefIdeal.main_arg1)
          ∧ r.2.mem ((c.tc : Thread Cert.ModColsRefIdeal.nD Cert.ModColsRefIdeal.τ).loc Cert.ModColsRefIdeal.main_arg2) = m' ((c.tc : Thread Cert.ModColsRefIdeal.nD Cert.ModColsRefIdeal.τ).loc Cert.ModColsRefIdeal.main_arg2))

def Claim : Prop :=
  ∃ (hKernel : Cert.Kernel.Facts) (hKernelIdeal : Cert.KernelIdeal.Facts) (hReferenceIdeal : Cert.ReferenceIdeal.Facts) (hConv : Cert.Conv.Facts) (hConvIdeal : Cert.ConvIdeal.Facts) (hConvRefIdeal : Cert.ConvRefIdeal.Facts) (hUp : Cert.Up.Facts) (hUpIdeal : Cert.UpIdeal.Facts) (hUpRefIdeal : Cert.UpRefIdeal.Facts) (hGradUp : Cert.GradUp.Facts) (hGradUpIdeal : Cert.GradUpIdeal.Facts) (hGradUpRefIdeal : Cert.GradUpRefIdeal.Facts) (hInBack : Cert.InBack.Facts) (hInBackIdeal : Cert.InBackIdeal.Facts) (hInBackRefIdeal : Cert.InBackRefIdeal.Facts) (hHead : Cert.Head.Facts) (hHeadIdeal : Cert.HeadIdeal.Facts) (hHeadRefIdeal : Cert.HeadRefIdeal.Facts) (hMixBack : Cert.MixBack.Facts) (hMixBackIdeal : Cert.MixBackIdeal.Facts) (hMixBackRefIdeal : Cert.MixBackRefIdeal.Facts) (hGradIn : Cert.GradIn.Facts) (hGradInIdeal : Cert.GradInIdeal.Facts) (hGradInRefIdeal : Cert.GradInRefIdeal.Facts) (hGradOut : Cert.GradOut.Facts) (hGradOutIdeal : Cert.GradOutIdeal.Facts) (hGradOutRefIdeal : Cert.GradOutRefIdeal.Facts) (hOutProj : Cert.OutProj.Facts) (hOutProjIdeal : Cert.OutProjIdeal.Facts) (hOutProjRefIdeal : Cert.OutProjRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamGlu : Cert.AdamGlu.Facts) (hAdamGluIdeal : Cert.AdamGluIdeal.Facts) (hAdamGluRefIdeal : Cert.AdamGluRefIdeal.Facts) (hAdamDown : Cert.AdamDown.Facts) (hAdamDownIdeal : Cert.AdamDownIdeal.Facts) (hAdamDownRefIdeal : Cert.AdamDownRefIdeal.Facts) (hAdamConv : Cert.AdamConv.Facts) (hAdamConvIdeal : Cert.AdamConvIdeal.Facts) (hAdamConvRefIdeal : Cert.AdamConvRefIdeal.Facts) (hAdamTaps : Cert.AdamTaps.Facts) (hAdamTapsIdeal : Cert.AdamTapsIdeal.Facts) (hAdamTapsRefIdeal : Cert.AdamTapsRefIdeal.Facts) (hAdamAda : Cert.AdamAda.Facts) (hAdamAdaIdeal : Cert.AdamAdaIdeal.Facts) (hAdamAdaRefIdeal : Cert.AdamAdaRefIdeal.Facts) (hAdamUp : Cert.AdamUp.Facts) (hAdamUpIdeal : Cert.AdamUpIdeal.Facts) (hAdamUpRefIdeal : Cert.AdamUpRefIdeal.Facts) (hPreMix : Cert.PreMix.Facts) (hPreMixIdeal : Cert.PreMixIdeal.Facts) (hPreMixRefIdeal : Cert.PreMixRefIdeal.Facts) (hGradAda : Cert.GradAda.Facts) (hGradAdaIdeal : Cert.GradAdaIdeal.Facts) (hGradAdaRefIdeal : Cert.GradAdaRefIdeal.Facts) (hModCols : Cert.ModCols.Facts) (hModColsIdeal : Cert.ModColsIdeal.Facts) (hModColsRefIdeal : Cert.ModColsRefIdeal.Facts) (hPre_finite : Cert.Pre_finite.Facts) (hPre_finite_in : Cert.Pre_finite_in.Facts) (hPre_finite_down : Cert.Pre_finite_down.Facts) (hPre_finite_mix : Cert.Pre_finite_mix.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Conv (hConv := hConv)
    ∧ quiescent_ConvIdeal (hConvIdeal := hConvIdeal)
    ∧ quiescent_ConvRefIdeal (hConvRefIdeal := hConvRefIdeal)
    ∧ quiescent_Up (hUp := hUp)
    ∧ quiescent_UpIdeal (hUpIdeal := hUpIdeal)
    ∧ quiescent_UpRefIdeal (hUpRefIdeal := hUpRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_InBack (hInBack := hInBack)
    ∧ quiescent_InBackIdeal (hInBackIdeal := hInBackIdeal)
    ∧ quiescent_InBackIdeal_pre_finite_in (hInBackIdeal := hInBackIdeal) (hPre_finite_in := hPre_finite_in)
    ∧ quiescent_InBackRefIdeal (hInBackRefIdeal := hInBackRefIdeal)
    ∧ quiescent_InBackRefIdeal_pre_finite_in (hInBackRefIdeal := hInBackRefIdeal) (hPre_finite_in := hPre_finite_in)
    ∧ quiescent_Head (hHead := hHead)
    ∧ quiescent_HeadIdeal (hHeadIdeal := hHeadIdeal)
    ∧ quiescent_HeadIdeal_pre_finite_down (hHeadIdeal := hHeadIdeal) (hPre_finite_down := hPre_finite_down)
    ∧ quiescent_HeadRefIdeal (hHeadRefIdeal := hHeadRefIdeal)
    ∧ quiescent_HeadRefIdeal_pre_finite_down (hHeadRefIdeal := hHeadRefIdeal) (hPre_finite_down := hPre_finite_down)
    ∧ quiescent_MixBack (hMixBack := hMixBack)
    ∧ quiescent_MixBackIdeal (hMixBackIdeal := hMixBackIdeal)
    ∧ quiescent_MixBackIdeal_pre_finite_mix (hMixBackIdeal := hMixBackIdeal) (hPre_finite_mix := hPre_finite_mix)
    ∧ quiescent_MixBackRefIdeal (hMixBackRefIdeal := hMixBackRefIdeal)
    ∧ quiescent_MixBackRefIdeal_pre_finite_mix (hMixBackRefIdeal := hMixBackRefIdeal) (hPre_finite_mix := hPre_finite_mix)
    ∧ quiescent_GradIn (hGradIn := hGradIn)
    ∧ quiescent_GradInIdeal (hGradInIdeal := hGradInIdeal)
    ∧ quiescent_GradInRefIdeal (hGradInRefIdeal := hGradInRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamTaps (hAdamTaps := hAdamTaps)
    ∧ quiescent_AdamTapsIdeal (hAdamTapsIdeal := hAdamTapsIdeal)
    ∧ quiescent_AdamTapsRefIdeal (hAdamTapsRefIdeal := hAdamTapsRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_PreMix (hPreMix := hPreMix)
    ∧ quiescent_PreMixIdeal (hPreMixIdeal := hPreMixIdeal)
    ∧ quiescent_PreMixRefIdeal (hPreMixRefIdeal := hPreMixRefIdeal)
    ∧ quiescent_GradAda (hGradAda := hGradAda)
    ∧ quiescent_GradAdaIdeal (hGradAdaIdeal := hGradAdaIdeal)
    ∧ quiescent_GradAdaRefIdeal (hGradAdaRefIdeal := hGradAdaRefIdeal)
    ∧ quiescent_ModCols (hModCols := hModCols)
    ∧ quiescent_ModColsIdeal (hModColsIdeal := hModColsIdeal)
    ∧ quiescent_ModColsRefIdeal (hModColsRefIdeal := hModColsRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Conv_ConvIdeal
    ∧ algebraic_ConvIdeal_ConvRefIdeal (hConvIdeal := hConvIdeal) (hConvRefIdeal := hConvRefIdeal)
    ∧ preserves_Up_UpIdeal
    ∧ algebraic_UpIdeal_UpRefIdeal (hUpIdeal := hUpIdeal) (hUpRefIdeal := hUpRefIdeal)
    ∧ preserves_GradUp_GradUpIdeal
    ∧ algebraic_GradUpIdeal_GradUpRefIdeal (hGradUpIdeal := hGradUpIdeal) (hGradUpRefIdeal := hGradUpRefIdeal)
    ∧ preserves_InBack_InBackIdeal
    ∧ algebraic_InBackIdeal_InBackRefIdeal_pre_finite_in (hInBackIdeal := hInBackIdeal) (hInBackRefIdeal := hInBackRefIdeal) (hPre_finite_in := hPre_finite_in)
    ∧ preserves_Head_HeadIdeal
    ∧ algebraic_HeadIdeal_HeadRefIdeal_pre_finite_down (hHeadIdeal := hHeadIdeal) (hHeadRefIdeal := hHeadRefIdeal) (hPre_finite_down := hPre_finite_down)
    ∧ preserves_MixBack_MixBackIdeal
    ∧ algebraic_MixBackIdeal_MixBackRefIdeal_pre_finite_mix (hMixBackIdeal := hMixBackIdeal) (hMixBackRefIdeal := hMixBackRefIdeal) (hPre_finite_mix := hPre_finite_mix)
    ∧ preserves_GradIn_GradInIdeal
    ∧ algebraic_GradInIdeal_GradInRefIdeal (hGradInIdeal := hGradInIdeal) (hGradInRefIdeal := hGradInRefIdeal)
    ∧ preserves_GradOut_GradOutIdeal
    ∧ algebraic_GradOutIdeal_GradOutRefIdeal (hGradOutIdeal := hGradOutIdeal) (hGradOutRefIdeal := hGradOutRefIdeal)
    ∧ preserves_OutProj_OutProjIdeal
    ∧ algebraic_OutProjIdeal_OutProjRefIdeal (hOutProjIdeal := hOutProjIdeal) (hOutProjRefIdeal := hOutProjRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamTaps_AdamTapsIdeal
    ∧ algebraic_AdamTapsIdeal_AdamTapsRefIdeal (hAdamTapsIdeal := hAdamTapsIdeal) (hAdamTapsRefIdeal := hAdamTapsRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamUp_AdamUpIdeal
    ∧ algebraic_AdamUpIdeal_AdamUpRefIdeal (hAdamUpIdeal := hAdamUpIdeal) (hAdamUpRefIdeal := hAdamUpRefIdeal)
    ∧ preserves_PreMix_PreMixIdeal
    ∧ algebraic_PreMixIdeal_PreMixRefIdeal (hPreMixIdeal := hPreMixIdeal) (hPreMixRefIdeal := hPreMixRefIdeal)
    ∧ preserves_GradAda_GradAdaIdeal
    ∧ algebraic_GradAdaIdeal_GradAdaRefIdeal (hGradAdaIdeal := hGradAdaIdeal) (hGradAdaRefIdeal := hGradAdaRefIdeal)
    ∧ preserves_ModCols_ModColsIdeal
    ∧ algebraic_ModColsIdeal_ModColsRefIdeal (hModColsIdeal := hModColsIdeal) (hModColsRefIdeal := hModColsRefIdeal)
-- ==== Pre_finite.lean ====
abbrev S4096x5632 : Shape := ⟨2, ![4096, 5632]⟩
abbrev S2816x1024 : Shape := ⟨2, ![2816, 1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x5632 .f32) (main_arg1 : FVec F S2816x1024 .f32) (main_arg2 : FVec F S4096x1024 .f32) : IVec S4096x5632 1 × IVec S2816x1024 1 × IVec S4096x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite_down.lean ====
abbrev S4096x5632 : Shape := ⟨2, ![4096, 5632]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S4096x5632 : S_.BroadcastsInDim S4096x5632 (![] : Fin 0 → Fin S4096x5632.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x5632 .f32) (main_arg1 : FVec F S2816x1024 .f32) (main_arg2 : FVec F S4096x1024 .f32) (main_arg3 : FVec F S4096x1024 .f32) (main_arg4 : FVec F S1x1024 .f32) (main_arg5 : FVec F S1x1024 .f32) : IVec S4096x5632 1 × IVec S2816x1024 1 × IVec S4096x1024 1 × IVec S4096x1024 1 × IVec S1x1024 1 × IVec S1x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite_in.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S4096x5632 : S_.BroadcastsInDim S4096x5632 (![] : Fin 0 → Fin S4096x5632.rank)

variable [Facts]

def fn_part1 {F : FTy → Type} [FloatOps F] (main_arg7 : FVec F S1024x5632 .f32) (main_arg8 : FVec F S4096x1024 .f32) (main_arg9 : FVec F S4096x5632 .f32) (main_v2 : IVec S4096x1024 1) (main_v5 : IVec S1x1024 1) (main_v8 : IVec S1x1024 1) (main_v11 : IVec S4096x1024 1) (main_v14 : IVec S1x1024 1) (main_v17 : IVec S1x1024 1) : IVec S4096x1024 1 × IVec S1x1024 1 × IVec S1x1024 1 × IVec S4096x1024 1 × IVec S1x1024 1 × IVec S1x1024 1 × IVec S1024x5632 1 × IVec S4096x1024 1 × IVec S4096x5632 1 :=
  let main_v18 : FVec F S1024x5632 .f32 := Host.absf main_arg7
  let main_cst_5 : FVec F S_ .f32 := constant S_ .f32 0x7F800000#32
  let main_v19 : FVec F S1024x5632 .f32 := broadcastInDim S1024x5632 ![] bcast_S_S1024x5632 main_cst_5
  let main_v20 : IVec S1024x5632 1 := cmpf .olt main_v18 main_v19
  let main_v21 : FVec F S4096x1024 .f32 := Host.absf main_arg8
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_v24 : FVec F S4096x5632 .f32 := Host.absf main_arg9
  let main_cst_7 : FVec F S_ .f32 := constant S_ .f32 0x7F800000#32
  let main_v25 : FVec F S4096x5632 .f32 := broadcastInDim S4096x5632 ![] bcast_S_S4096x5632 main_cst_7
  let main_v26 : IVec S4096x5632 1 := cmpf .olt main_v24 main_v25
  (main_v2, main_v5, main_v8, main_v11, main_v14, main_v17, main_v20, main_v23, main_v26)

def fn {F : FTy → Type} [FloatOps F] (main_arg0 : FVec F S4096x1024 .f32) (main_arg1 : FVec F S1x1024 .f32) (main_arg2 : FVec F S1x1024 .f32) (main_arg3 : FVec F S4096x1024 .f32) (main_arg4 : FVec F S1x1024 .f32) (main_arg5 : FVec F S1x1024 .f32) (main_arg6 : FVec F S1x1024 .f32) (main_arg7 : FVec F S1024x5632 .f32) (main_arg8 : FVec F S4096x1024 .f32) (main_arg9 : FVec F S4096x5632 .f32) : IVec S4096x1024 1 × IVec S1x1024 1 × IVec S1x1024 1 × IVec S4096x1024 1 × IVec S1x1024 1 × IVec S1x1024 1 × IVec S1024x5632 1 × IVec S4096x1024 1 × IVec S4096x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg6
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg7 main_arg8 main_arg9 main_v2 main_v5 main_v8 main_v11 main_v14 main_v17
-- ==== Pre_finite_mix.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2048 : S_.BroadcastsInDim S1024x2048 (![] : Fin 0 → Fin S1024x2048.rank)
  bcast_S_S4096x2048 : S_.BroadcastsInDim S4096x2048 (![] : Fin 0 → Fin S4096x2048.rank)

variable [Facts]

def fn {F : FTy → Type} [FloatOps F] (main_arg0 : FVec F S4096x1024 .f32) (main_arg1 : FVec F S1x1024 .f32) (main_arg2 : FVec F S1x1024 .f32) (main_arg3 : FVec F S1x1024 .f32) (main_arg4 : FVec F S1024x2048 .f32) (main_arg5 : FVec F S4096x1024 .f32) (main_arg6 : FVec F S4096x2048 .f32) : IVec S4096x1024 1 × IVec S1x1024 1 × IVec S1x1024 1 × IVec S1024x2048 1 × IVec S4096x1024 1 × IVec S4096x2048 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2048 .f32 := Host.absf main_arg4
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_v12 : FVec F S4096x1024 .f32 := Host.absf main_arg5
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S4096x2048 .f32 := Host.absf main_arg6
  let main_cst_4 : FVec F S_ .f32 := constant S_ .f32 0x7F800000#32
  let main_v16 : FVec F S4096x2048 .f32 := broadcastInDim S4096x2048 ![] bcast_S_S4096x2048 main_cst_4
  let main_v17 : IVec S4096x2048 1 := cmpf .olt main_v15 main_v16
  (main_v2, main_v5, main_v8, main_v11, main_v14, main_v17)
-- ==== Kernel.lean ====
abbrev S4096x5632 : Shape := ⟨2, ![4096, 5632]⟩
abbrev S2816x1024 : Shape := ⟨2, ![2816, 1024]⟩
abbrev S4096x1024 : Shape := ⟨2, ![4096, 1024]⟩
abbrev S4096x2x4x704 : Shape := ⟨4, ![4096, 2, 4, 704]⟩
abbrev S2x4x4096x704 : Shape := ⟨4, ![2, 4, 4096, 704]⟩
abbrev S4x704x1024 : Shape := ⟨3, ![4, 704, 1024]⟩
abbrev S1024x1024 : Shape := ⟨2, ![1024, 1024]⟩
abbrev S1x704x1024 : Shape := ⟨3, ![1, 704, 1024]⟩
abbrev S2x1x1024x704 : Shape := ⟨4, ![2, 1, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 16
  | .vmem => 11
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x5632, .bf16⟩
  | .hbm, ⟨4, _⟩ => ⟨S4096x2x4x704, .bf16⟩
  | .hbm, ⟨5, _⟩ => ⟨S2x4x4096x704, .bf16⟩
  | .hbm, ⟨6, _⟩ => ⟨S2816x1024, .bf16⟩
  | .hbm, ⟨7, _⟩ => ⟨S4x704x1024, .bf16⟩
  | .hbm, ⟨8, _⟩ => ⟨S4096x1024, .bf16⟩
  | .hbm, ⟨9, _⟩ => ⟨S2x4x4096x704, .bf16⟩
  | .hbm, ⟨10, _⟩ => ⟨S4x704x1024, .bf16⟩
  | .hbm, ⟨11, _⟩ => ⟨S4096x2x4x704, .bf16⟩
  | .hbm, ⟨12, _⟩ => ⟨S4096x5632, .bf16⟩
  | .hbm, ⟨13, _⟩ => ⟨S4096x5632, .f32⟩
  | .hbm, ⟨14, _⟩ => ⟨S2816x1024, .bf16⟩
  | .hbm, ⟨15, _⟩ => ⟨S2816x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S2x1x1024x704, .bf16⟩
  | .local _ .vmem, ⟨7, _⟩ => ⟨S2x1x1024x704, .bf16⟩
  | .local _ .vmem, ⟨8, _⟩ => ⟨S1x704x1024, .bf16⟩
  | .local _ .vmem, ⟨9, _⟩ => ⟨S1x704x1024, .bf16⟩
  | .local _ .vmem, ⟨10, _⟩ => ⟨S704x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v45 : BitVec 1 := Scalar.cmpi .eq arg1 c3_i32
  let v46 : BitVec 32 := Scalar.extui v45
  let c0_i32_28 : BitVec 32 := 0#32
  let v47 : BitVec 1 := Scalar.cmpi .ne v46 c0_i32_28
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩

abbrev nBuf : Space → Nat
  | .hbm => 30
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S1024x2816, .f32⟩
  | .hbm, ⟨21, _⟩ => ⟨S2816x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩

abbrev nD : Nat := 1
abbrev τ : Topo := Topo.v7x

variable {F : FTy → Type} [FloatOps F]
-- ==== Conv.lean ====
abbrev S4096x5632 : Shape := ⟨2, ![4096, 5632]⟩
abbrev S3x5632 : Shape := ⟨2, ![3, 5632]⟩
abbrev S4096x8x704 : Shape := ⟨3, ![4096, 8, 704]⟩
abbrev S8x4096x704 : Shape := ⟨3, ![8, 4096, 704]⟩
abbrev S3x8x704 : Shape := ⟨3, ![3, 8, 704]⟩
abbrev S8x3x704 : Shape := ⟨3, ![8, 3, 704]⟩
abbrev S8x8x704 : Shape := ⟨3, ![8, 8, 704]⟩
abbrev S1x1024x704 : Shape := ⟨3, ![1, 1024, 704]⟩
abbrev S1x16x704 : Shape := ⟨3, ![1, 16, 704]⟩
abbrev S1x3x704 : Shape := ⟨3, ![1, 3, 704]⟩
abbrev S1x8x704 : Shape := ⟨3, ![1, 8, 704]⟩
abbrev S8x704 : Shape := ⟨2, ![8, 704]⟩
abbrev S1024x704 : Shape := ⟨2, ![1024, 704]⟩
abbrev S16x704 : Shape := ⟨2, ![16, 704]⟩
abbrev S1040x704 : Shape := ⟨2, ![1040, 704]⟩
abbrev S1x1x704 : Shape := ⟨3, ![1, 1, 704]⟩
abbrev S1x704 : Shape := ⟨2, ![1, 704]⟩
abbrev S704 : Shape := ⟨1, ![704]⟩

abbrev nBuf : Space → Nat
  | .hbm => 19
  | .vmem => 12
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S4096x5632, .f32⟩
  | .hbm, ⟨3, _⟩ => ⟨S4096x5632, .bf16⟩
  | .hbm, ⟨4, _⟩ => ⟨S4096x8x704, .bf16⟩
  | .hbm, ⟨5, _⟩ => ⟨S8x4096x704, .bf16⟩
  | .hbm, ⟨6, _⟩ => ⟨S4096x5632, .bf16⟩
  | .hbm, ⟨7, _⟩ => ⟨S4096x8x704, .bf16⟩
  | .hbm, ⟨8, _⟩ => ⟨S8x4096x704, .bf16⟩
  | .hbm, ⟨9, _⟩ => ⟨S3x8x704, .f32⟩
  | .hbm, ⟨10, _⟩ => ⟨S8x3x704, .f32⟩
  | .hbm, ⟨11, _⟩ => ⟨S8x4096x704, .bf16⟩
  | .hbm, ⟨12, _⟩ => ⟨S8x8x704, .f32⟩
  | .hbm, ⟨13, _⟩ => ⟨S4096x8x704, .bf16⟩
  | .hbm, ⟨14, _⟩ => ⟨S4096x5632, .bf16⟩
  | .hbm, ⟨15, _⟩ => ⟨S4096x5632, .f32⟩
  | .hbm, ⟨16, _⟩ => ⟨S8x3x704, .f32⟩
  | .hbm, ⟨17, _⟩ => ⟨S3x8x704, .f32⟩
  | .hbm, ⟨18, _⟩ => ⟨S3x5632, .f32⟩
  | .local _ .vmem, ⟨0, _⟩ => ⟨S1x1024x704, .bf16⟩
  | .local _ .vmem, ⟨1, _⟩ => ⟨S1x1024x704, .bf16⟩
  | .local _ .vmem, ⟨2, _⟩ => ⟨S1x16x704, .bf16⟩
  | .local _ .vmem, ⟨3, _⟩ => ⟨S1x16x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x3x704, .f32⟩
  | .local _ .vmem, ⟨7, _⟩ => ⟨S1x3x704, .f32⟩
  | .local _ .vmem, ⟨8, _⟩ => ⟨S1x1024x704, .bf16⟩
  | .local _ .vmem, ⟨9, _⟩ => ⟨S1x1024x704, .bf16⟩
  | .local _ .vmem, ⟨10, _⟩ => ⟨S1x8x704, .f32⟩
  | .local _ .vmem, ⟨11, _⟩ => ⟨S1x8x704, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ConvRefIdeal.lean ====
abbrev S4096x5632 : Shape := ⟨2, ![4096, 5632]⟩
abbrev S3x5632 : Shape := ⟨2, ![3, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩

abbrev nBuf : Space → Nat
  | .hbm => 75
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S4096x5632, .f32⟩
  | .hbm, ⟨3, _⟩ => ⟨S_, .f32⟩
  | .hbm, ⟨4, _⟩ => ⟨S2x5632, .f32⟩
  | .hbm, ⟨5, _⟩ => ⟨S4098x5632, .f32⟩
  | .hbm, ⟨6, _⟩ => ⟨S_, .f32⟩
  | .hbm, ⟨7, _⟩ => ⟨S2x5632, .f32⟩
  | .hbm, ⟨8, _⟩ => ⟨S4096x5632, .f32⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S1x5632, .f32⟩
  | .hbm, ⟨16, _⟩ => ⟨S5632, .f32⟩
  | .hbm, ⟨17, _⟩ => ⟨S1x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S1x5632, .f32⟩
  | .hbm, ⟨23, _⟩ => ⟨S5632, .f32⟩
  | .hbm, ⟨24, _⟩ => ⟨S1x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S_, .f32⟩
  | .hbm, ⟨32, _⟩ => ⟨S5632, .f32⟩
  | .hbm, ⟨33, _⟩ => ⟨S1x5632, .f32⟩
  | .hbm, ⟨34, _⟩ => ⟨S4096x5632, .f32⟩
  | .hbm, ⟨35, _⟩ => ⟨S4096x5632, .f32⟩
  | .hbm, ⟨36, _⟩ => ⟨S_, .f32⟩
  | .hbm, ⟨37, _⟩ => ⟨S5632, .f32⟩
  | .hbm, ⟨38, _⟩ => ⟨S1x5632, .f32⟩
  | .hbm, ⟨39, _⟩ => ⟨S_, .f32⟩
  | .hbm, ⟨40, _⟩ => ⟨S3x5632, .f32⟩
  | .hbm, ⟨41, _⟩ => ⟨S_, .f32⟩
  | .hbm, ⟨42, _⟩ => ⟨S4098x5632, .f32⟩
  | .hbm, ⟨43, _⟩ => ⟨S4096x5632, .f32⟩
  | .hbm, ⟨44, _⟩ => ⟨S_, .f32⟩
  | .hbm, ⟨45, _⟩ => ⟨S5632, .f32⟩
  | .hbm, ⟨46, _⟩ => ⟨S1x5632, .f32⟩
  | .hbm, ⟨47, _⟩ => ⟨S4096x5632, .f32⟩
  | .hbm, ⟨48, _⟩ => ⟨S4096x5632, .f32⟩
  | .hbm, ⟨49, _⟩ => ⟨S_, .f32⟩
  | .hbm, ⟨50, _⟩ => ⟨S5632, .f32⟩
  | .hbm, ⟨51, _⟩ => ⟨S1x5632, .f32⟩
  | .hbm, ⟨52, _⟩ => ⟨S_, .f32⟩
  | .hbm, ⟨53, _⟩ => ⟨S3x5632, .f32⟩
  | .hbm, ⟨54, _⟩ => ⟨S3x5632, .f32⟩
  | .hbm, ⟨55, _⟩ => ⟨S_, .f32⟩
  | .hbm, ⟨56, _⟩ => ⟨S4098x5632, .f32⟩
  | .hbm, ⟨57, _⟩ => ⟨S4098x5632, .f32⟩
  | .hbm, ⟨58, _⟩ => ⟨S4096x5632, .f32⟩
  | .hbm, ⟨59, _⟩ => ⟨S_, .f32⟩
  | .hbm, ⟨60, _⟩ => ⟨S5632, .f32⟩
  | .hbm, ⟨61, _⟩ => ⟨S1x5632, .f32⟩
  | .hbm, ⟨62, _⟩ => ⟨S4096x5632, .f32⟩
  | .hbm, ⟨63, _⟩ => ⟨S4096x5632, .f32⟩
  | .hbm, ⟨64, _⟩ => ⟨S_, .f32⟩
  | .hbm, ⟨65, _⟩ => ⟨S5632, .f32⟩
  | .hbm, ⟨66, _⟩ => ⟨S1x5632, .f32⟩
  | .hbm, ⟨67, _⟩ => ⟨S_, .f32⟩
  | .hbm, ⟨68, _⟩ => ⟨S3x5632, .f32⟩
  | .hbm, ⟨69, _⟩ => ⟨S3x5632, .f32⟩
  | .hbm, ⟨70, _⟩ => ⟨S_, .f32⟩
  | .hbm, ⟨71, _⟩ => ⟨S4098x5632, .f32⟩
  | .hbm, ⟨72, _⟩ => ⟨S4098x5632, .f32⟩
  | .hbm, ⟨73, _⟩ => ⟨S2x5632, .f32⟩
  | .hbm, ⟨74, _⟩ => ⟨S4096x5632, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_9 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_cst_12 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Up.lean ====
abbrev S4096x1024 : Shape := ⟨2, ![4096, 1024]⟩
abbrev S1024x5632 : Shape := ⟨2, ![1024, 5632]⟩
abbrev S3x5632 : Shape := ⟨2, ![3, 5632]⟩
abbrev S5632x1024 : Shape := ⟨2, ![5632, 1024]⟩
abbrev S8x704x1024 : Shape := ⟨3, ![8, 704, 1024]⟩
abbrev S8x704x512 : Shape := ⟨3, ![8, 704, 512]⟩
abbrev S3x8x704 : Shape := ⟨3, ![3, 8, 704]⟩
abbrev S8x3x704 : Shape := ⟨3, ![8, 3, 704]⟩
abbrev S8x4096x704 : Shape := ⟨3, ![8, 4096, 704]⟩
abbrev S1024x1024 : Shape := ⟨2, ![1024, 1024]⟩
abbrev S16x1024 : Shape := ⟨2, ![16, 1024]⟩
abbrev S2x704x512 : Shape := ⟨3, ![2, 704, 512]⟩
abbrev S2x3x704 : Shape := ⟨3, ![2, 3, 704]⟩
abbrev S2x1024x704 : Shape := ⟨3, ![2, 1024, 704]⟩
abbrev S1024x512 : Shape := ⟨2, ![1024, 512]⟩
abbrev S1x704x512 : Shape := ⟨3, ![1, 704, 512]⟩
abbrev S704x512 : Shape := ⟨2, ![704, 512]⟩
abbrev S1024x704 : Shape := ⟨2, ![1024, 704]⟩
abbrev S1x1024x704 : Shape := ⟨3, ![1, 1024, 704]⟩
abbrev S16x512 : Shape := ⟨2, ![16, 512]⟩
abbrev S16x704 : Shape := ⟨2, ![16, 704]⟩
abbrev S1040x704 : Shape := ⟨2, ![1040, 704]⟩
abbrev S1x3x704 : Shape := ⟨3, ![1, 3, 704]⟩
abbrev S3x704 : Shape := ⟨2, ![3, 704]⟩
abbrev S1x704 : Shape := ⟨2, ![1, 704]⟩
abbrev S4096x8x704 : Shape := ⟨3, ![4096, 8, 704]⟩
abbrev S4096x5632 : Shape := ⟨2, ![4096, 5632]⟩

abbrev nBuf : Space → Nat
  | .hbm => 20
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632x1024, .f32⟩
  | .hbm, ⟨4, _⟩ => ⟨S8x704x1024, .f32⟩
  | .hbm, ⟨5, _⟩ => ⟨S4096x1024, .bf16⟩
  | .hbm, ⟨6, _⟩ => ⟨S8x704x512, .f32⟩
  | .hbm, ⟨7, _⟩ => ⟨S8x704x512, .bf16⟩
  | .hbm, ⟨8, _⟩ => ⟨S8x704x512, .f32⟩
  | .hbm, ⟨9, _⟩ => ⟨S8x704x512, .bf16⟩
  | .hbm, ⟨10, _⟩ => ⟨S3x8x704, .f32⟩
  | .hbm, ⟨11, _⟩ => ⟨S8x3x704, .f32⟩
  | .hbm, ⟨12, _⟩ => ⟨S8x4096x704, .bf16⟩
  | .hbm, ⟨13, _⟩ => ⟨S8x4096x704, .bf16⟩
  | .hbm, ⟨14, _⟩ => ⟨S4096x8x704, .bf16⟩
  | .hbm, ⟨15, _⟩ => ⟨S4096x5632, .bf16⟩
  | .hbm, ⟨16, _⟩ => ⟨S4096x5632, .f32⟩
  | .hbm, ⟨17, _⟩ => ⟨S4096x8x704, .bf16⟩
  | .hbm, ⟨18, _⟩ => ⟨S4096x5632, .bf16⟩
  | .hbm, ⟨19, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S2x704x512, .bf16⟩
  | .local _ .vmem, ⟨5, _⟩ => ⟨S2x704x512, .bf16⟩
  | .local _ .vmem, ⟨6, _⟩ => ⟨S2x704x512, .bf16⟩
  | .local _ .vmem, ⟨7, _⟩ => ⟨S2x704x512, .bf16⟩
  | .local _ .vmem, ⟨8, _⟩ => ⟨S2x3x704, .f32⟩
  | .local _ .vmem, ⟨9, _⟩ => ⟨S2x3x704, .f32⟩
  | .local _ .vmem, ⟨10, _⟩ => ⟨S2x1024x704, .bf16⟩
  | .local _ .vmem, ⟨11, _⟩ => ⟨S2x1024x704, .bf16⟩
  | .local _ .vmem, ⟨12, _⟩ => ⟨S2x1024x704, .bf16⟩
  | .local _ .vmem, ⟨13, _⟩ => ⟨S2x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x704x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== UpRefIdeal.lean ====
abbrev S4096x1024 : Shape := ⟨2, ![4096, 1024]⟩
abbrev S1024x5632 : Shape := ⟨2, ![1024, 5632]⟩
abbrev S3x5632 : Shape := ⟨2, ![3, 5632]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S4096x5632, .f32⟩
  | .hbm, ⟨4, _⟩ => ⟨S_, .f32⟩
  | .hbm, ⟨5, _⟩ => ⟨S2x5632, .f32⟩
  | .hbm, ⟨6, _⟩ => ⟨S4098x5632, .f32⟩
  | .hbm, ⟨7, _⟩ => ⟨S4096x5632, .f32⟩
  | .hbm, ⟨8, _⟩ => ⟨S1x5632, .f32⟩
  | .hbm, ⟨9, _⟩ => ⟨S5632, .f32⟩
  | .hbm, ⟨10, _⟩ => ⟨S1x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S1x5632, .f32⟩
  | .hbm, ⟨15, _⟩ => ⟨S5632, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== GradUp.lean ====
abbrev S4096x1024 : Shape := ⟨2, ![4096, 1024]⟩
abbrev S1024x5632 : Shape := ⟨2, ![1024, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S8x352x1024 : Shape := ⟨3, ![8, 352, 1024]⟩
abbrev S1x4096x704 : Shape := ⟨3, ![1, 4096, 704]⟩
abbrev S1x352x1024 : Shape := ⟨3, ![1, 352, 1024]⟩
abbrev S704x1024 : Shape := ⟨2, ![704, 1024]⟩
abbrev S4096x704 : Shape := ⟨2, ![4096, 704]⟩
abbrev S352x1024 : Shape := ⟨2, ![352, 1024]⟩
abbrev S8x704x1024 : Shape := ⟨3, ![8, 704, 1024]⟩
abbrev S5632x1024 : Shape := ⟨2, ![5632, 1024]⟩

abbrev nBuf : Space → Nat
  | .hbm => 13
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .bf16⟩
  | .hbm, ⟨4, _⟩ => ⟨S4096x8x704, .bf16⟩
  | .hbm, ⟨5, _⟩ => ⟨S8x4096x704, .bf16⟩
  | .hbm, ⟨6, _⟩ => ⟨S4096x1024, .bf16⟩
  | .hbm, ⟨7, _⟩ => ⟨S8x352x1024, .bf16⟩
  | .hbm, ⟨8, _⟩ => ⟨S8x352x1024, .bf16⟩
  | .hbm, ⟨9, _⟩ => ⟨S8x704x1024, .bf16⟩
  | .hbm, ⟨10, _⟩ => ⟨S5632x1024, .bf16⟩
  | .hbm, ⟨11, _⟩ => ⟨S1024x5632, .bf16⟩
  | .hbm, ⟨12, _⟩ => ⟨S1024x5632, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x352x1024, .bf16⟩
  | .local _ .vmem, ⟨4, _⟩ => ⟨S1x352x1024, .bf16⟩
  | .local _ .vmem, ⟨5, _⟩ => ⟨S1x352x1024, .bf16⟩
  | .local _ .vmem, ⟨6, _⟩ => ⟨S1x352x1024, .bf16⟩
  | .local _ .vmem, ⟨7, _⟩ => ⟨S704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_7 : BitVec 32 := 0#32
  let v11 : BitVec 1 := Scalar.cmpi .eq arg1 c0_i32_7
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GradUpRefIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InBack.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S5632x1024 : Shape := ⟨2, ![5632, 1024]⟩
abbrev S8x704x1024 : Shape := ⟨3, ![8, 704, 1024]⟩
abbrev S8x704x512 : Shape := ⟨3, ![8, 704, 512]⟩
abbrev S4096x8x704 : Shape := ⟨3, ![4096, 8, 704]⟩
abbrev S8x4096x704 : Shape := ⟨3, ![8, 4096, 704]⟩
abbrev S8x512x704 : Shape := ⟨3, ![8, 512, 704]⟩
abbrev S512x1024 : Shape := ⟨2, ![512, 1024]⟩
abbrev S1x512x704 : Shape := ⟨3, ![1, 512, 704]⟩
abbrev S512x704 : Shape := ⟨2, ![512, 704]⟩
abbrev S1x704x512 : Shape := ⟨3, ![1, 704, 512]⟩
abbrev S704x512 : Shape := ⟨2, ![704, 512]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 28
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S4096x1024, .f32⟩
  | .hbm, ⟨9, _⟩ => ⟨S4096x5632, .f32⟩
  | .hbm, ⟨10, _⟩ => ⟨S5632x1024, .f32⟩
  | .hbm, ⟨11, _⟩ => ⟨S8x704x1024, .f32⟩
  | .hbm, ⟨12, _⟩ => ⟨S8x704x512, .f32⟩
  | .hbm, ⟨13, _⟩ => ⟨S8x704x512, .bf16⟩
  | .hbm, ⟨14, _⟩ => ⟨S8x704x512, .f32⟩
  | .hbm, ⟨15, _⟩ => ⟨S8x704x512, .bf16⟩
  | .hbm, ⟨16, _⟩ => ⟨S4096x5632, .bf16⟩
  | .hbm, ⟨17, _⟩ => ⟨S4096x8x704, .bf16⟩
  | .hbm, ⟨18, _⟩ => ⟨S8x4096x704, .bf16⟩
  | .hbm, ⟨19, _⟩ => ⟨S4096x1024, .bf16⟩
  | .hbm, ⟨20, _⟩ => ⟨S4096x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S4096x1024, .bf16⟩
  | .hbm, ⟨25, _⟩ => ⟨S1x1024, .f32⟩
  | .hbm, ⟨26, _⟩ => ⟨S1x1024, .f32⟩
  | .hbm, ⟨27, _⟩ => ⟨S4096x1024, .f32⟩
  | .local _ .vmem, ⟨0, _⟩ => ⟨S8x512x704, .bf16⟩
  | .local _ .vmem, ⟨1, _⟩ => ⟨S8x512x704, .bf16⟩
  | .local _ .vmem, ⟨2, _⟩ => ⟨S8x704x512, .bf16⟩
  | .local _ .vmem, ⟨3, _⟩ => ⟨S8x704x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg16_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem16_0 : DmaSem sig := 22

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_105 : BitVec 32 := 0#32
  let v99 : BitVec 1 := Scalar.cmpi .eq arg1 c0_i32_105
  let v100 : BitVec 32 := Scalar.extui v99
  let c0_i32_106 : BitVec 32 := 0#32
  let v101 : BitVec 1 := Scalar.cmpi .ne v100 c0_i32_106
  v101

def k0_cond3 (i : grid0.Coords) : BitVec 1 :=
  let arg1 : BitVec 32 := BitVec.ofNat 32 (i 1).val
  let c0_i32_107 : BitVec 32 := 0#32
  let v102 : BitVec 1 := Scalar.cmpi .sgt arg1 c0_i32_107
  let v103 : BitVec 32 := Scalar.extui v102
  let c0_i32_108 : BitVec 32 := 0#32
  let v104 : BitVec 1 := Scalar.cmpi .ne v103 c0_i32_108
  v104

def k0_cond4 (i : grid0.Coords) : BitVec 1 :=
  let arg1 : BitVec 32 := BitVec.ofNat 32 (i 1).val
  let c0_i32_109 : BitVec 32 := 0#32
  let v105 : BitVec 1 := Scalar.cmpi .eq arg1 c0_i32_109
  let v106 : BitVec 32 := Scalar.extui v105
  let c0_i32_110 : BitVec 32 := 0#32
  let v107 : BitVec 1 := Scalar.cmpi .ne v106 c0_i32_110
  v107

def k0_cond1 (i : grid0.Coords) : BitVec 1 :=
  let arg0 : BitVec 32 := BitVec.ofNat 32 (i 0).val
  let c0_i32 : BitVec 32 := 0#32
  let v94 : BitVec 1 := Scalar.cmpi .eq arg0 c0_i32
  let arg1 : BitVec 32 := BitVec.ofNat 32 (i 1).val
  let c0_i32_103 : BitVec 32 := 0#32
  let v95 : BitVec 1 := Scalar.cmpi .eq arg1 c0_i32_103
  let v96 : BitVec 1 := Scalar.andi v94 v95
  let v97 : BitVec 32 := Scalar.extui v96
  let c0_i32_104 : BitVec 32 := 0#32
  let v98 : BitVec 1 := Scalar.cmpi .ne v97 c0_i32_104
  v98

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x704x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x704x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== InBackRefIdeal.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 121
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S4096x1024, .f32⟩
  | .hbm, ⟨9, _⟩ => ⟨S4096x5632, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x5632, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S4096x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S_, .f32⟩
  | .hbm, ⟨106, _⟩ => ⟨S4096, .f32⟩
  | .hbm, ⟨107, _⟩ => ⟨S4096x1, .f32⟩
  | .hbm, ⟨108, _⟩ => ⟨S4096x1024, .f32⟩
  | .hbm, ⟨109, _⟩ => ⟨S4096x1024, .f32⟩
  | .hbm, ⟨110, _⟩ => ⟨S4096x1, .f32⟩
  | .hbm, ⟨111, _⟩ => ⟨S_, .f32⟩
  | .hbm, ⟨112, _⟩ => ⟨S4096x1, .f32⟩
  | .hbm, ⟨113, _⟩ => ⟨S4096x1, .f32⟩
  | .hbm, ⟨114, _⟩ => ⟨S_, .f32⟩
  | .hbm, ⟨115, _⟩ => ⟨S4096, .f32⟩
  | .hbm, ⟨116, _⟩ => ⟨S4096x1024, .f32⟩
  | .hbm, ⟨117, _⟩ => ⟨S4096x1024, .f32⟩
  | .hbm, ⟨118, _⟩ => ⟨S4096x1024, .f32⟩
  | .hbm, ⟨119, _⟩ => ⟨S4096x1024, .f32⟩
  | .hbm, ⟨120, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_15 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩
abbrev main_v84 : Ref sig .tc := ⟨.hbm, 113, rfl⟩
abbrev main_cst_18 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]
-- ==== Head.lean ====
abbrev S4096x5632 : Shape := ⟨2, ![4096, 5632]⟩
abbrev S2816x1024 : Shape := ⟨2, ![2816, 1024]⟩
abbrev S4096x1024 : Shape := ⟨2, ![4096, 1024]⟩
abbrev S1x1024 : Shape := ⟨2, ![1, 1024]⟩
abbrev S4096x2x4x704 : Shape := ⟨4, ![4096, 2, 4, 704]⟩
abbrev S2x4x4096x704 : Shape := ⟨4, ![2, 4, 4096, 704]⟩
abbrev S4x704x1024 : Shape := ⟨3, ![4, 704, 1024]⟩
abbrev S8x8x128 : Shape := ⟨3, ![8, 8, 128]⟩
abbrev S2x4x512x704 : Shape := ⟨4, ![2, 4, 512, 704]⟩
abbrev S512x1024 : Shape := ⟨2, ![512, 1024]⟩
abbrev S1x8x128 : Shape := ⟨3, ![1, 8, 128]⟩
abbrev S1x1x512x704 : Shape := ⟨4, ![1, 1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S8x128 : Shape := ⟨2, ![8, 128]⟩
abbrev S1024 : Shape := ⟨1, ![1024]⟩
abbrev S8x1x1 : Shape := ⟨3, ![8, 1, 1]⟩
abbrev S8 : Shape := ⟨1, ![8]⟩
abbrev S_ : Shape := ⟨0, ![]⟩

abbrev nBuf : Space → Nat
  | .hbm => 21
  | .vmem => 18
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x5632, .bf16⟩
  | .hbm, ⟨7, _⟩ => ⟨S4096x2x4x704, .bf16⟩
  | .hbm, ⟨8, _⟩ => ⟨S2x4x4096x704, .bf16⟩
  | .hbm, ⟨9, _⟩ => ⟨S2816x1024, .bf16⟩
  | .hbm, ⟨10, _⟩ => ⟨S4x704x1024, .bf16⟩
  | .hbm, ⟨11, _⟩ => ⟨S4096x1024, .bf16⟩
  | .hbm, ⟨12, _⟩ => ⟨S4096x1024, .f32⟩
  | .hbm, ⟨13, _⟩ => ⟨S8x8x128, .f32⟩
  | .hbm, ⟨14, _⟩ => ⟨S1x1024, .f32⟩
  | .hbm, ⟨15, _⟩ => ⟨S1x1024, .f32⟩
  | .hbm, ⟨16, _⟩ => ⟨S8x1x1, .f32⟩
  | .hbm, ⟨17, _⟩ => ⟨S8, .f32⟩
  | .hbm, ⟨18, _⟩ => ⟨S_, .f32⟩
  | .hbm, ⟨19, _⟩ => ⟨S_, .f32⟩
  | .hbm, ⟨20, _⟩ => ⟨S4096x1024, .f32⟩
  | .local _ .vmem, ⟨0, _⟩ => ⟨S2x4x512x704, .bf16⟩
  | .local _ .vmem, ⟨1, _⟩ => ⟨S2x4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S1x8x128, .f32⟩
  | .local _ .vmem, ⟨14, _⟩ => ⟨S1x8x128, .f32⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨2, ![8, 1], ![false, false]⟩

def k0_cond4 (i : grid0.Coords) : BitVec 1 :=
  let arg1 : BitVec 32 := BitVec.ofNat 32 (i 1).val
  let c0_i32_61 : BitVec 32 := 0#32
  let v90 : BitVec 1 := Scalar.cmpi .eq arg1 c0_i32_61
  let v91 : BitVec 32 := Scalar.extui v90
  let c0_i32_62 : BitVec 32 := 0#32
  let v92 : BitVec 1 := Scalar.cmpi .ne v91 c0_i32_62
  v92

def k0_cond1 (i : grid0.Coords) : BitVec 1 :=
  let arg0 : BitVec 32 := BitVec.ofNat 32 (i 0).val
  let c0_i32 : BitVec 32 := 0#32
  let v79 : BitVec 1 := Scalar.cmpi .eq arg0 c0_i32
  let arg1 : BitVec 32 := BitVec.ofNat 32 (i 1).val
  let c0_i32_55 : BitVec 32 := 0#32
  let v80 : BitVec 1 := Scalar.cmpi .eq arg1 c0_i32_55
  let v81 : BitVec 1 := Scalar.andi v79 v80
  let v82 : BitVec 32 := Scalar.extui v81
  let c0_i32_56 : BitVec 32 := 0#32
  let v83 : BitVec 1 := Scalar.cmpi .ne v82 c0_i32_56
  v83

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== HeadRefIdeal.lean ====
abbrev S4096x5632 : Shape := ⟨2, ![4096, 5632]⟩
abbrev S2816x1024 : Shape := ⟨2, ![2816, 1024]⟩
abbrev S4096x1024 : Shape := ⟨2, ![4096, 1024]⟩
abbrev S1x1024 : Shape := ⟨2, ![1, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_cst_8 : Ref sig .tc := ⟨.hbm, 55, rfl⟩
abbrev main_cst_9 : Ref sig .tc := ⟨.hbm, 56, rfl⟩
abbrev main_v32 : Ref sig .tc := ⟨.hbm, 57, rfl⟩
abbrev main_v33 : Ref sig .tc := ⟨.hbm, 58, rfl⟩
abbrev main_cst_10 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_13 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_14 : Ref sig .tc := ⟨.hbm, 83, rfl⟩
abbrev main_v54 : Ref sig .tc := ⟨.hbm, 84, rfl⟩
abbrev main_v55 : Ref sig .tc := ⟨.hbm, 85, rfl⟩
abbrev main_cst_15 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== MixBack.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S1024x8x256 : Shape := ⟨3, ![1024, 8, 256]⟩
abbrev S8x1024x256 : Shape := ⟨3, ![8, 1024, 256]⟩
abbrev S512x2048 : Shape := ⟨2, ![512, 2048]⟩
abbrev S512x1024 : Shape := ⟨2, ![512, 1024]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .f32⟩
  | .hbm, ⟨5, _⟩ => ⟨S4096x1024, .f32⟩
  | .hbm, ⟨6, _⟩ => ⟨S4096x2048, .f32⟩
  | .hbm, ⟨7, _⟩ => ⟨S1024x2048, .bf16⟩
  | .hbm, ⟨8, _⟩ => ⟨S1024x8x256, .bf16⟩
  | .hbm, ⟨9, _⟩ => ⟨S8x1024x256, .bf16⟩
  | .hbm, ⟨10, _⟩ => ⟨S4096x2048, .bf16⟩
  | .hbm, ⟨11, _⟩ => ⟨S4096x1024, .f32⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S8x1024x256, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_34 : BitVec 32 := 0#32
  let v52 : BitVec 1 := Scalar.cmpi .eq arg1 c0_i32_34
  let v53 : BitVec 32 := Scalar.extui v52
  let c0_i32_35 : BitVec 32 := 0#32
  let v54 : BitVec 1 := Scalar.cmpi .ne v53 c0_i32_35
  v54

def k0_cond3 (i : grid0.Coords) : BitVec 1 :=
  let arg1 : BitVec 32 := BitVec.ofNat 32 (i 1).val
  let c0_i32_36 : BitVec 32 := 0#32
  let v55 : BitVec 1 := Scalar.cmpi .sgt arg1 c0_i32_36
  let v56 : BitVec 32 := Scalar.extui v55
  let c0_i32_37 : BitVec 32 := 0#32
  let v57 : BitVec 1 := Scalar.cmpi .ne v56 c0_i32_37
  v57

def k0_cond4 (i : grid0.Coords) : BitVec 1 :=
  let arg1 : BitVec 32 := BitVec.ofNat 32 (i 1).val
  let c0_i32_38 : BitVec 32 := 0#32
  let v58 : BitVec 1 := Scalar.cmpi .eq arg1 c0_i32_38
  let v59 : BitVec 32 := Scalar.extui v58
  let c0_i32_39 : BitVec 32 := 0#32
  let v60 : BitVec 1 := Scalar.cmpi .ne v59 c0_i32_39
  v60

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let arg1 : BitVec 32 := BitVec.ofNat 32 (i 1).val
  let c0_i32_32 : BitVec 32 := 0#32
  let v48 : BitVec 1 := Scalar.cmpi .eq arg1 c0_i32_32
  let v49 : BitVec 1 := Scalar.andi v47 v48
  let v50 : BitVec 32 := Scalar.extui v49
  let c0_i32_33 : BitVec 32 := 0#32
  let v51 : BitVec 1 := Scalar.cmpi .ne v50 c0_i32_33
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== MixBackRefIdeal.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .f32⟩
  | .hbm, ⟨5, _⟩ => ⟨S4096x1024, .f32⟩
  | .hbm, ⟨6, _⟩ => ⟨S4096x2048, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x2048, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== GradIn.lean ====
abbrev S4096x1024 : Shape := ⟨2, ![4096, 1024]⟩
abbrev S1024x2048 : Shape := ⟨2, ![1024, 2048]⟩
abbrev S4096x2048 : Shape := ⟨2, ![4096, 2048]⟩
abbrev S8x1024x256 : Shape := ⟨3, ![8, 1024, 256]⟩
abbrev S2048x1024 : Shape := ⟨2, ![2048, 1024]⟩
abbrev S2048x2048 : Shape := ⟨2, ![2048, 2048]⟩
abbrev S1024x1024 : Shape := ⟨2, ![1024, 1024]⟩
abbrev S1024x256 : Shape := ⟨2, ![1024, 256]⟩
abbrev S1x1024x256 : Shape := ⟨3, ![1, 1024, 256]⟩
abbrev S1024x8x256 : Shape := ⟨3, ![1024, 8, 256]⟩

abbrev nBuf : Space → Nat
  | .hbm => 9
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x1024, .bf16⟩
  | .hbm, ⟨4, _⟩ => ⟨S4096x2048, .bf16⟩
  | .hbm, ⟨5, _⟩ => ⟨S8x1024x256, .bf16⟩
  | .hbm, ⟨6, _⟩ => ⟨S1024x8x256, .bf16⟩
  | .hbm, ⟨7, _⟩ => ⟨S1024x2048, .bf16⟩
  | .hbm, ⟨8, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S8x1024x256, .bf16⟩
  | .local _ .vmem, ⟨5, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def k0_cond5 (i : grid0.Coords) : BitVec 1 :=
  let arg0 : BitVec 32 := BitVec.ofNat 32 (i 0).val
  let c1_i32 : BitVec 32 := 1#32
  let v22 : BitVec 1 := Scalar.cmpi .eq arg0 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradInRefIdeal.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .f32⟩
  | .hbm, ⟨4, _⟩ => ⟨S2048x1024, .f32⟩
  | .hbm, ⟨5, _⟩ => ⟨S1024x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GradOut.lean ====
abbrev S4096x1024 : Shape := ⟨2, ![4096, 1024]⟩
abbrev S1024x1024 : Shape := ⟨2, ![1024, 1024]⟩
abbrev S1x1024x1024 : Shape := ⟨3, ![1, 1024, 1024]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1x1024x1024, .bf16⟩
  | .hbm, ⟨6, _⟩ => ⟨S1024x1024, .bf16⟩
  | .hbm, ⟨7, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradOutRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 15
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .bf16⟩
  | .hbm, ⟨9, _⟩ => ⟨S1024x1024, .bf16⟩
  | .hbm, ⟨10, _⟩ => ⟨S4096x1024, .bf16⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutProjRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== AdamIn.lean ====
abbrev S8x1024x256 : Shape := ⟨3, ![8, 1024, 256]⟩
abbrev S1024x256 : Shape := ⟨2, ![1024, 256]⟩
abbrev S1x1024x256 : Shape := ⟨3, ![1, 1024, 256]⟩

abbrev nBuf : Space → Nat
  | .hbm => 9
  | .vmem => 8
  | .smem => 0
  | _ => 0

abbrev bufTy : (tb : Table) → Fin (tcTables nBuf tb) → BufTy
  | .hbm, ⟨0, _⟩ => ⟨S8x1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .bf16⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S8x1024x256, .bf16⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamInIdeal.lean ====
abbrev S8x1024x256 : Shape := ⟨3, ![8, 1024, 256]⟩
abbrev S1024x256 : Shape := ⟨2, ![1024, 256]⟩
abbrev S1x1024x256 : Shape := ⟨3, ![1, 1024, 256]⟩

abbrev nBuf : Space → Nat
  | .hbm => 9
  | .vmem => 8
  | .smem => 0
  | _ => 0

abbrev bufTy : (tb : Table) → Fin (tcTables nBuf tb) → BufTy
  | .hbm, ⟨0, _⟩ => ⟨S8x1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .bf16⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S8x1024x256, .bf16⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamInRefIdeal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S_, .f32⟩
  | .hbm, ⟨7, _⟩ => ⟨S1024x256, .f32⟩
  | .hbm, ⟨8, _⟩ => ⟨S1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamGlu.lean ====
abbrev S8x64x512 : Shape := ⟨3, ![8, 64, 512]⟩
abbrev S64x512 : Shape := ⟨2, ![64, 512]⟩
abbrev S1x64x512 : Shape := ⟨3, ![1, 64, 512]⟩

abbrev nBuf : Space → Nat
  | .hbm => 9
  | .vmem => 8
  | .smem => 0
  | _ => 0

abbrev bufTy : (tb : Table) → Fin (tcTables nBuf tb) → BufTy
  | .hbm, ⟨0, _⟩ => ⟨S8x64x512, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S8x64x512, .bf16⟩
  | .hbm, ⟨5, _⟩ => ⟨S64x512, .f32⟩
  | .hbm, ⟨6, _⟩ => ⟨S64x512, .f32⟩
  | .hbm, ⟨7, _⟩ => ⟨S64x512, .f32⟩
  | .hbm, ⟨8, _⟩ => ⟨S64x512, .f32⟩
  | .local _ .vmem, ⟨0, _⟩ => ⟨S8x64x512, .bf16⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | _, _ => ⟨S8x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluIdeal.lean ====
abbrev S8x64x512 : Shape := ⟨3, ![8, 64, 512]⟩
abbrev S64x512 : Shape := ⟨2, ![64, 512]⟩
abbrev S1x64x512 : Shape := ⟨3, ![1, 64, 512]⟩

abbrev nBuf : Space → Nat
  | .hbm => 9
  | .vmem => 8
  | .smem => 0
  | _ => 0

abbrev bufTy : (tb : Table) → Fin (tcTables nBuf tb) → BufTy
  | .hbm, ⟨0, _⟩ => ⟨S8x64x512, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S8x64x512, .bf16⟩
  | .hbm, ⟨5, _⟩ => ⟨S64x512, .f32⟩
  | .hbm, ⟨6, _⟩ => ⟨S64x512, .f32⟩
  | .hbm, ⟨7, _⟩ => ⟨S64x512, .f32⟩
  | .hbm, ⟨8, _⟩ => ⟨S64x512, .f32⟩
  | .local _ .vmem, ⟨0, _⟩ => ⟨S8x64x512, .bf16⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | _, _ => ⟨S8x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluRefIdeal.lean ====
abbrev S8x64x512 : Shape := ⟨3, ![8, 64, 512]⟩
abbrev S64x512 : Shape := ⟨2, ![64, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x64x512, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S_, .f32⟩
  | .hbm, ⟨5, _⟩ => ⟨S64x512, .f32⟩
  | .hbm, ⟨6, _⟩ => ⟨S_, .f32⟩
  | .hbm, ⟨7, _⟩ => ⟨S64x512, .f32⟩
  | .hbm, ⟨8, _⟩ => ⟨S64x512, .f32⟩
  | .hbm, ⟨9, _⟩ => ⟨S_, .f32⟩
  | .hbm, ⟨10, _⟩ => ⟨S64x512, .f32⟩
  | .hbm, ⟨11, _⟩ => ⟨S64x512, .f32⟩
  | .hbm, ⟨12, _⟩ => ⟨S64x512, .f32⟩
  | .hbm, ⟨13, _⟩ => ⟨S_, .f32⟩
  | .hbm, ⟨14, _⟩ => ⟨S64x512, .f32⟩
  | .hbm, ⟨15, _⟩ => ⟨S64x512, .f32⟩
  | .hbm, ⟨16, _⟩ => ⟨S64x512, .f32⟩
  | .hbm, ⟨17, _⟩ => ⟨S_, .f32⟩
  | .hbm, ⟨18, _⟩ => ⟨S64x512, .f32⟩
  | .hbm, ⟨19, _⟩ => ⟨S64x512, .f32⟩
  | .hbm, ⟨20, _⟩ => ⟨S64x512, .f32⟩
  | .hbm, ⟨21, _⟩ => ⟨S_, .f32⟩
  | .hbm, ⟨22, _⟩ => ⟨S64x512, .f32⟩
  | .hbm, ⟨23, _⟩ => ⟨S64x512, .f32⟩
  | .hbm, ⟨24, _⟩ => ⟨S_, .f32⟩
  | .hbm, ⟨25, _⟩ => ⟨S64x512, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S_, .f32⟩
  | .hbm, ⟨33, _⟩ => ⟨S64x512, .f32⟩
  | .hbm, ⟨34, _⟩ => ⟨S64x512, .f32⟩
  | .hbm, ⟨35, _⟩ => ⟨S64x512, .f32⟩
  | .hbm, ⟨36, _⟩ => ⟨S_, .f32⟩
  | .hbm, ⟨37, _⟩ => ⟨S64x512, .f32⟩
  | .hbm, ⟨38, _⟩ => ⟨S64x512, .f32⟩
  | _, _ => ⟨S8x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDown.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .bf16⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConv.lean ====
abbrev S8x3x64 : Shape := ⟨3, ![8, 3, 64]⟩
abbrev S3x64 : Shape := ⟨2, ![3, 64]⟩
abbrev S1x3x64 : Shape := ⟨3, ![1, 3, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x3x64, .f32⟩
  | .hbm, ⟨1, _⟩ => ⟨S3x64, .f32⟩
  | .hbm, ⟨2, _⟩ => ⟨S3x64, .f32⟩
  | .hbm, ⟨3, _⟩ => ⟨S3x64, .f32⟩
  | .hbm, ⟨4, _⟩ => ⟨S3x64, .f32⟩
  | .hbm, ⟨5, _⟩ => ⟨S3x64, .f32⟩
  | .hbm, ⟨6, _⟩ => ⟨S3x64, .f32⟩
  | .hbm, ⟨7, _⟩ => ⟨S3x64, .f32⟩
  | .local _ .vmem, ⟨0, _⟩ => ⟨S8x3x64, .f32⟩
  | .local _ .vmem, ⟨1, _⟩ => ⟨S3x64, .f32⟩
  | .local _ .vmem, ⟨2, _⟩ => ⟨S3x64, .f32⟩
  | .local _ .vmem, ⟨3, _⟩ => ⟨S3x64, .f32⟩
  | .local _ .vmem, ⟨4, _⟩ => ⟨S3x64, .f32⟩
  | .local _ .vmem, ⟨5, _⟩ => ⟨S3x64, .f32⟩
  | .local _ .vmem, ⟨6, _⟩ => ⟨S3x64, .f32⟩
  | .local _ .vmem, ⟨7, _⟩ => ⟨S3x64, .f32⟩
  | _, _ => ⟨S8x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvIdeal.lean ====
abbrev S8x3x64 : Shape := ⟨3, ![8, 3, 64]⟩
abbrev S3x64 : Shape := ⟨2, ![3, 64]⟩
abbrev S1x3x64 : Shape := ⟨3, ![1, 3, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x3x64, .f32⟩
  | .hbm, ⟨1, _⟩ => ⟨S3x64, .f32⟩
  | .hbm, ⟨2, _⟩ => ⟨S3x64, .f32⟩
  | .hbm, ⟨3, _⟩ => ⟨S3x64, .f32⟩
  | .hbm, ⟨4, _⟩ => ⟨S3x64, .f32⟩
  | .hbm, ⟨5, _⟩ => ⟨S3x64, .f32⟩
  | .hbm, ⟨6, _⟩ => ⟨S3x64, .f32⟩
  | .hbm, ⟨7, _⟩ => ⟨S3x64, .f32⟩
  | .local _ .vmem, ⟨0, _⟩ => ⟨S8x3x64, .f32⟩
  | .local _ .vmem, ⟨1, _⟩ => ⟨S3x64, .f32⟩
  | .local _ .vmem, ⟨2, _⟩ => ⟨S3x64, .f32⟩
  | .local _ .vmem, ⟨3, _⟩ => ⟨S3x64, .f32⟩
  | .local _ .vmem, ⟨4, _⟩ => ⟨S3x64, .f32⟩
  | .local _ .vmem, ⟨5, _⟩ => ⟨S3x64, .f32⟩
  | .local _ .vmem, ⟨6, _⟩ => ⟨S3x64, .f32⟩
  | .local _ .vmem, ⟨7, _⟩ => ⟨S3x64, .f32⟩
  | _, _ => ⟨S8x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvRefIdeal.lean ====
abbrev S8x3x64 : Shape := ⟨3, ![8, 3, 64]⟩
abbrev S3x64 : Shape := ⟨2, ![3, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x64, .f32⟩
  | .hbm, ⟨1, _⟩ => ⟨S3x64, .f32⟩
  | .hbm, ⟨2, _⟩ => ⟨S3x64, .f32⟩
  | .hbm, ⟨3, _⟩ => ⟨S3x64, .f32⟩
  | .hbm, ⟨4, _⟩ => ⟨S_, .f32⟩
  | .hbm, ⟨5, _⟩ => ⟨S3x64, .f32⟩
  | .hbm, ⟨6, _⟩ => ⟨S_, .f32⟩
  | .hbm, ⟨7, _⟩ => ⟨S3x64, .f32⟩
  | .hbm, ⟨8, _⟩ => ⟨S3x64, .f32⟩
  | .hbm, ⟨9, _⟩ => ⟨S_, .f32⟩
  | .hbm, ⟨10, _⟩ => ⟨S3x64, .f32⟩
  | .hbm, ⟨11, _⟩ => ⟨S3x64, .f32⟩
  | .hbm, ⟨12, _⟩ => ⟨S3x64, .f32⟩
  | .hbm, ⟨13, _⟩ => ⟨S_, .f32⟩
  | .hbm, ⟨14, _⟩ => ⟨S3x64, .f32⟩
  | .hbm, ⟨15, _⟩ => ⟨S3x64, .f32⟩
  | .hbm, ⟨16, _⟩ => ⟨S3x64, .f32⟩
  | .hbm, ⟨17, _⟩ => ⟨S_, .f32⟩
  | .hbm, ⟨18, _⟩ => ⟨S3x64, .f32⟩
  | .hbm, ⟨19, _⟩ => ⟨S3x64, .f32⟩
  | .hbm, ⟨20, _⟩ => ⟨S3x64, .f32⟩
  | .hbm, ⟨21, _⟩ => ⟨S_, .f32⟩
  | .hbm, ⟨22, _⟩ => ⟨S3x64, .f32⟩
  | .hbm, ⟨23, _⟩ => ⟨S3x64, .f32⟩
  | .hbm, ⟨24, _⟩ => ⟨S_, .f32⟩
  | .hbm, ⟨25, _⟩ => ⟨S3x64, .f32⟩
  | .hbm, ⟨26, _⟩ => ⟨S3x64, .f32⟩
  | .hbm, ⟨27, _⟩ => ⟨S3x64, .f32⟩
  | .hbm, ⟨28, _⟩ => ⟨S_, .f32⟩
  | .hbm, ⟨29, _⟩ => ⟨S3x64, .f32⟩
  | .hbm, ⟨30, _⟩ => ⟨S3x64, .f32⟩
  | .hbm, ⟨31, _⟩ => ⟨S3x64, .f32⟩
  | .hbm, ⟨32, _⟩ => ⟨S_, .f32⟩
  | .hbm, ⟨33, _⟩ => ⟨S3x64, .f32⟩
  | .hbm, ⟨34, _⟩ => ⟨S3x64, .f32⟩
  | .hbm, ⟨35, _⟩ => ⟨S3x64, .f32⟩
  | .hbm, ⟨36, _⟩ => ⟨S_, .f32⟩
  | .hbm, ⟨37, _⟩ => ⟨S3x64, .f32⟩
  | .hbm, ⟨38, _⟩ => ⟨S3x64, .f32⟩
  | _, _ => ⟨S8x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamTaps.lean ====
abbrev S8x3x704 : Shape := ⟨3, ![8, 3, 704]⟩
abbrev S3x704 : Shape := ⟨2, ![3, 704]⟩
abbrev S1x3x704 : Shape := ⟨3, ![1, 3, 704]⟩

abbrev nBuf : Space → Nat
  | .hbm => 8
  | .vmem => 8
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S3x704, .f32⟩
  | .hbm, ⟨5, _⟩ => ⟨S3x704, .f32⟩
  | .hbm, ⟨6, _⟩ => ⟨S3x704, .f32⟩
  | .hbm, ⟨7, _⟩ => ⟨S3x704, .f32⟩
  | .local _ .vmem, ⟨0, _⟩ => ⟨S8x3x704, .f32⟩
  | .local _ .vmem, ⟨1, _⟩ => ⟨S3x704, .f32⟩
  | .local _ .vmem, ⟨2, _⟩ => ⟨S3x704, .f32⟩
  | .local _ .vmem, ⟨3, _⟩ => ⟨S3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | .local _ .vmem, ⟨7, _⟩ => ⟨S3x704, .f32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamTapsRefIdeal.lean ====
abbrev S8x3x704 : Shape := ⟨3, ![8, 3, 704]⟩
abbrev S3x704 : Shape := ⟨2, ![3, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S_, .f32⟩
  | .hbm, ⟨5, _⟩ => ⟨S3x704, .f32⟩
  | .hbm, ⟨6, _⟩ => ⟨S_, .f32⟩
  | .hbm, ⟨7, _⟩ => ⟨S3x704, .f32⟩
  | .hbm, ⟨8, _⟩ => ⟨S3x704, .f32⟩
  | .hbm, ⟨9, _⟩ => ⟨S_, .f32⟩
  | .hbm, ⟨10, _⟩ => ⟨S3x704, .f32⟩
  | .hbm, ⟨11, _⟩ => ⟨S3x704, .f32⟩
  | .hbm, ⟨12, _⟩ => ⟨S3x704, .f32⟩
  | .hbm, ⟨13, _⟩ => ⟨S_, .f32⟩
  | .hbm, ⟨14, _⟩ => ⟨S3x704, .f32⟩
  | .hbm, ⟨15, _⟩ => ⟨S3x704, .f32⟩
  | .hbm, ⟨16, _⟩ => ⟨S3x704, .f32⟩
  | .hbm, ⟨17, _⟩ => ⟨S_, .f32⟩
  | .hbm, ⟨18, _⟩ => ⟨S3x704, .f32⟩
  | .hbm, ⟨19, _⟩ => ⟨S3x704, .f32⟩
  | .hbm, ⟨20, _⟩ => ⟨S3x704, .f32⟩
  | .hbm, ⟨21, _⟩ => ⟨S_, .f32⟩
  | .hbm, ⟨22, _⟩ => ⟨S3x704, .f32⟩
  | .hbm, ⟨23, _⟩ => ⟨S3x704, .f32⟩
  | .hbm, ⟨24, _⟩ => ⟨S_, .f32⟩
  | .hbm, ⟨25, _⟩ => ⟨S3x704, .f32⟩
  | .hbm, ⟨26, _⟩ => ⟨S3x704, .f32⟩
  | .hbm, ⟨27, _⟩ => ⟨S3x704, .f32⟩
  | .hbm, ⟨28, _⟩ => ⟨S_, .f32⟩
  | .hbm, ⟨29, _⟩ => ⟨S3x704, .f32⟩
  | .hbm, ⟨30, _⟩ => ⟨S3x704, .f32⟩
  | .hbm, ⟨31, _⟩ => ⟨S3x704, .f32⟩
  | .hbm, ⟨32, _⟩ => ⟨S_, .f32⟩
  | .hbm, ⟨33, _⟩ => ⟨S3x704, .f32⟩
  | .hbm, ⟨34, _⟩ => ⟨S3x704, .f32⟩
  | .hbm, ⟨35, _⟩ => ⟨S3x704, .f32⟩
  | .hbm, ⟨36, _⟩ => ⟨S_, .f32⟩
  | .hbm, ⟨37, _⟩ => ⟨S3x704, .f32⟩
  | .hbm, ⟨38, _⟩ => ⟨S3x704, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamAda.lean ====
abbrev S1024x768 : Shape := ⟨2, ![1024, 768]⟩
abbrev S1x1024x768 : Shape := ⟨3, ![1, 1024, 768]⟩
abbrev S1x512x768 : Shape := ⟨3, ![1, 512, 768]⟩
abbrev S512x768 : Shape := ⟨2, ![512, 768]⟩

abbrev nBuf : Space → Nat
  | .hbm => 9
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1x1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .local _ .vmem, ⟨0, _⟩ => ⟨S1x512x768, .f32⟩
  | .local _ .vmem, ⟨1, _⟩ => ⟨S1x512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S8x1024x704 : Shape := ⟨3, ![8, 1024, 704]⟩
abbrev S1024x704 : Shape := ⟨2, ![1024, 704]⟩
abbrev S8x704x1024 : Shape := ⟨3, ![8, 704, 1024]⟩
abbrev S8x352x1024 : Shape := ⟨3, ![8, 352, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 19
  | .vmem => 18
  | .smem => 0
  | _ => 0

abbrev bufTy : (tb : Table) → Fin (tcTables nBuf tb) → BufTy
  | .hbm, ⟨0, _⟩ => ⟨S8x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x704x1024, .f32⟩
  | .hbm, ⟨5, _⟩ => ⟨S8x704x1024, .bf16⟩
  | .hbm, ⟨6, _⟩ => ⟨S8x352x1024, .bf16⟩
  | .hbm, ⟨7, _⟩ => ⟨S8x352x1024, .bf16⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S1024x704, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S_, .f32⟩
  | .hbm, ⟨7, _⟩ => ⟨S1024x704, .f32⟩
  | .hbm, ⟨8, _⟩ => ⟨S1024x704, .f32⟩
  | .hbm, ⟨9, _⟩ => ⟨S_, .f32⟩
  | .hbm, ⟨10, _⟩ => ⟨S1024x704, .f32⟩
  | .hbm, ⟨11, _⟩ => ⟨S1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S1024x704, .f32⟩
  | .hbm, ⟨21, _⟩ => ⟨S_, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S1024x704, .f32⟩
  | .hbm, ⟨36, _⟩ => ⟨S_, .f32⟩
  | .hbm, ⟨37, _⟩ => ⟨S1024x704, .f32⟩
  | .hbm, ⟨38, _⟩ => ⟨S1024x704, .f32⟩
  | _, _ => ⟨S8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== PreMix.lean ====
abbrev S4096x1024 : Shape := ⟨2, ![4096, 1024]⟩
abbrev S1x1024 : Shape := ⟨2, ![1, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S4096x2048 : Shape := ⟨2, ![4096, 2048]⟩
abbrev S1024x1024 : Shape := ⟨2, ![1024, 1024]⟩
abbrev S4x1024x256 : Shape := ⟨3, ![4, 1024, 256]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .f32⟩
  | .hbm, ⟨5, _⟩ => ⟨S1024x2048, .bf16⟩
  | .hbm, ⟨6, _⟩ => ⟨S1024x8x256, .bf16⟩
  | .hbm, ⟨7, _⟩ => ⟨S8x1024x256, .bf16⟩
  | .hbm, ⟨8, _⟩ => ⟨S4096x2048, .f32⟩
  | .hbm, ⟨9, _⟩ => ⟨S4096x1024, .bf16⟩
  | .hbm, ⟨10, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S4x1024x256, .bf16⟩
  | .local _ .vmem, ⟨6, _⟩ => ⟨S4x1024x256, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PreMixRefIdeal.lean ====
abbrev S4096x1024 : Shape := ⟨2, ![4096, 1024]⟩
abbrev S1x1024 : Shape := ⟨2, ![1, 1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== GradAda.lean ====
abbrev S8x1024 : Shape := ⟨2, ![8, 1024]⟩
abbrev S1024x768 : Shape := ⟨2, ![1024, 768]⟩
abbrev S8x768 : Shape := ⟨2, ![8, 768]⟩
abbrev S1024x8 : Shape := ⟨2, ![1024, 8]⟩

abbrev nBuf : Space → Nat
  | .hbm => 5
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S8x768, .f32⟩
  | .hbm, ⟨3, _⟩ => ⟨S1024x8, .f32⟩
  | .hbm, ⟨4, _⟩ => ⟨S1024x768, .f32⟩
  | .local _ .vmem, ⟨0, _⟩ => ⟨S1024x8, .f32⟩
  | .local _ .vmem, ⟨1, _⟩ => ⟨S8x768, .f32⟩
  | .local _ .vmem, ⟨2, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradAdaRefIdeal.lean ====
abbrev S8x1024 : Shape := ⟨2, ![8, 1024]⟩
abbrev S1024x768 : Shape := ⟨2, ![1024, 768]⟩
abbrev S8x768 : Shape := ⟨2, ![8, 768]⟩
abbrev S768x1024 : Shape := ⟨2, ![768, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S8x768, .f32⟩
  | .hbm, ⟨3, _⟩ => ⟨S8x768, .f32⟩
  | .hbm, ⟨4, _⟩ => ⟨S768x1024, .f32⟩
  | .hbm, ⟨5, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ModCols.lean ====
abbrev S8x1024 : Shape := ⟨2, ![8, 1024]⟩
abbrev S1024x768 : Shape := ⟨2, ![1024, 768]⟩
abbrev S1x768 : Shape := ⟨2, ![1, 768]⟩
abbrev S8x768 : Shape := ⟨2, ![8, 768]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x768, .f32⟩
  | .hbm, ⟨4, _⟩ => ⟨S8x1024, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x768, .f32⟩
  | .local _ .vmem, ⟨4, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ModColsRefIdeal.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩
abbrev S8x768 : Shape := ⟨2, ![8, 768]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S8x768, .f32⟩
  | .hbm, ⟨14, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proof.GatedDown.Block.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.GatedDown

open Idealize.ShloMosaic Idealize.ShloMosaic.TcCoe Idealize.SL.Sem
open Cert.KernelIdeal Cert.KernelIdeal.Gen

variable (m : (ℓ : Loc nD τ sig) → Buf (Elt Ideal) ℓ)

/-- The logistic function, `1 / (1 + exp (-x))`. -/
def gate (x : EReal) : EReal := Ideal.div 1 (1 + Ideal.exp (0 - x))

/-- The swish `x · gate x`. -/
def swish (x : EReal) : EReal := x * gate x

/-- The derivative of the swish in the kernel's form, `gate x · (1 + x · (1 - gate x))`. -/
def dswish (x : EReal) : EReal := gate x * (1 + x * (1 - gate x))

/-- The product of a cotangent block and a weight block, rows against rows. -/
def dact (d : Vec Ideal S1024x1024 .bf16) (w : Vec Ideal S1x704x1024 .bf16) (r : Fin 1024) (l : Fin 704) : EReal :=
  ∑ k : Fin 1024, d (ix2 r k) * w (ix3 0 l k)

/-- What one grid point adds to the weight gradient it accumulates. -/
def part (d : Vec Ideal S1024x1024 .bf16) (x : Vec Ideal S2x1x1024x704 .bf16) (l : Fin 704) (n : Fin 1024) : EReal :=
  ∑ k : Fin 1024, swish (x (ix4 0 0 k l)) * x (ix4 1 0 k l) * d (ix2 k n)

/-- The gradient block of the two halves of the activations. -/
def dhid (d : Vec Ideal S1024x1024 .bf16) (w : Vec Ideal S1x704x1024 .bf16) (x : Vec Ideal S2x1x1024x704 .bf16)
    (h : Fin 2) (r : Fin 1024) (l : Fin 704) : EReal :=
  if h = 0 then dact d w r l * x (ix4 1 0 r l) * dswish (x (ix4 0 0 r l)) else dact d w r l * swish (x (ix4 0 0 r l))

theorem pay2_apply (d : Vec Ideal S1024x1024 .bf16) (x : Vec Ideal S2x1x1024x704 .bf16) (l : Fin 704) (n : Fin 1024) :
   k0_pay2 (k0_pay6 d)
      (k0_pay10
        (View.ld x (Rect.unit ![0, 0, 0, 0] ![1, 1, 1024, 704] inb_S2x1x1024x704_S1x1x1024x704_0_0_0_0)))
      (k0_pay11
        (View.ld x (Rect.unit ![1, 0, 0, 0] ![1, 1, 1024, 704] inb_S2x1x1024x704_S1x1x1024x704_1_0_0_0)))
      (ix2 l n) = part d x l n := by
  unfold_payloads
  pointwise [part, swish, gate]

theorem scratch_first (c : Dev nD) (t : Fin cfg0.N) (h0 : t.val % 4 = 0) (j : S704x1024.Idx) :
    (outsAt0 m c t.val t.isLt).2.2 j = 0 + part (iblk m c 0 t) (iblk m c 2 t) (j 0) (j 1) := by
  rw [outsAt0_A m c t h0 (by omega) (by omega)]
  frame_out
  unfold k0_pay3
  rw [shapeCast_self]
  idx_vars j
  rw [pay2_apply, zero_add]

theorem scratch_next (c : Dev nD) (t : Fin cfg0.N) (h0 : ¬t.val % 4 = 0) (j : S704x1024.Idx) :
    (outsAt0 m c t.val t.isLt).2.2 j = (outsAt0 m c (t.val - 1) (Nat.lt_of_le_of_lt (Nat.sub_le _ _) t.isLt)).2.2 j
      + part (iblk m c 0 t) (iblk m c 2 t) (j 0) (j 1) := by
  by_cases h2 : t.val % 4 = 3
  · rw [outsAt0_C m c t h0 (by omega) h2]
    frame_out
    unfold k0_pay4
    rw [shapeCast_self]
    idx_vars j
    rw [addf_apply, pay2_apply, read_unread_whole]
    rfl
  · rw [outsAt0_B m c t h0 (by omega) h2]
    frame_out
    unfold k0_pay4
    rw [shapeCast_self]
    idx_vars j
    rw [addf_apply, pay2_apply, read_unread_whole]
    rfl

theorem weights_last (c : Dev nD) (t : Fin cfg0.N) (h2 : t.val % 4 = 3) (l : Fin 704) (n : Fin 1024) :
    (outsAt0 m c t.val t.isLt).2.1 (ix3 0 l n) = (outsAt0 m c t.val t.isLt).2.2 (ix2 l n) := by
  rw [outsAt0_C m c t (by omega) (by omega) h2]
  frame_out
  unfold k0_pay5
  pointwise

theorem block_canon (d : Vec Ideal S1024x1024 .bf16) (w : Vec Ideal S1x704x1024 .bf16) (x : Vec Ideal S2x1x1024x704 .bf16)
   (j : S2x1x1024x704.Idx) :
    View.canon (Val := Elt Ideal) (e := .bf16)
      [⟨Rect.unit ![1, 0, 0, 0] ![1, 1, 1024, 704] inb_S2x1x1024x704_S1x1x1024x704_1_0_0_0,
          k0_pay1
            (k0_pay13 d w
              (View.ld x
                (Rect.unit ![0, 0, 0, 0] ![1, 1, 1024, 704] inb_S2x1x1024x704_S1x1x1024x704_0_0_0_0)))⟩,
        ⟨Rect.unit ![0, 0, 0, 0] ![1, 1, 1024, 704] inb_S2x1x1024x704_S1x1x1024x704_0_0_0_0,
          k0_pay12 d w
            (View.ld x
              (Rect.unit ![0, 0, 0, 0] ![1, 1, 1024, 704] inb_S2x1x1024x704_S1x1x1024x704_0_0_0_0))
            (View.ld x
              (Rect.unit ![1, 0, 0, 0] ![1, 1, 1024, 704] inb_S2x1x1024x704_S1x1x1024x704_1_0_0_0))⟩]
      j = dhid d w x (j 0) (j 2) (j 3) := by
  idx_vars j
  canon_tiles y h
  · idx_vars y
    unfold_payloads
    pointwise [dhid, swish, gate, dact] at *
    obtain rfl : j0 = 1 := Fin.ext h0
    obtain rfl : j2 = y2 := Fin.ext h2
    obtain rfl : j3 = y3 := Fin.ext h3
    rfl
  · idx_vars y
    unfold_payloads
    pointwise [dhid, swish, gate, dact, dswish] at *
    obtain rfl : j0 = 0 := Fin.ext h0
    obtain rfl : j2 = y2 := Fin.ext h2
    obtain rfl : j3 = y3 := Fin.ext h3
    rfl

end Cert.Proof.GatedDown
-- ==== Proof.GatedDown.Arrays.lean ====
module

public import proofs.«01_k».proof.Proof.GatedDown.Block
public import Idealize.ShloMosaic.Lib.Claim

@[expose] public section

set_option maxRecDepth 16384

noncomputable section

namespace Cert.Proof.GatedDown

open Idealize.ShloMosaic Idealize.ShloMosaic.TcCoe Idealize.SL.Sem
open Cert.KernelIdeal Cert.KernelIdeal.Gen

/-- The gate's argument: the first half of the activations. -/
def pre (H : S4096x5632.Idx → EReal) (t : Fin 4096) (f : Fin 2816) : EReal := H (ix2 t ⟨f.val, by omega⟩)

/-- What is gated: the second half of the activations. -/
def val (H : S4096x5632.Idx → EReal) (t : Fin 4096) (f : Fin 2816) : EReal := H (ix2 t ⟨2816 + f.val, by omega⟩)

/-- The cotangent of the gated activations: the incoming cotangent against the rows of the weights. -/
def wide (W : S2816x1024.Idx → EReal) (D : S4096x1024.Idx → EReal) (t : Fin 4096) (f : Fin 2816) : EReal :=
  ∑ k : Fin 1024, D (ix2 t k) * W (ix2 f k)

/-- Column `l` of slab `j` of the hidden axis. -/
def col (j : Fin 4) (l : Fin 704) : Fin 2816 := ⟨j.val * 704 + l.val, by omega⟩

/-- Row `r` of tile `i` of the token axis. -/
def row (i : Fin 4) (r : Fin 1024) : Fin 4096 := ⟨i.val * 1024 + r.val, by omega⟩

/-- The gradient of the activations, laid out as the kernel writes it: half, slab, token, column. -/
def slabs (H : S4096x5632.Idx → EReal) (W : S2816x1024.Idx → EReal) (D : S4096x1024.Idx → EReal) (y : S2x4x4096x704.Idx) : EReal :=
  if (y 0).val = 0 then wide W D (y 2) (col (y 1) (y 3)) * val H (y 2) (col (y 1) (y 3)) * dswish (pre H (y 2) (col (y 1) (y 3)))
  else wide W D (y 2) (col (y 1) (y 3)) * swish (pre H (y 2) (col (y 1) (y 3)))

/-- The gradient of the weights, slab by slab. -/
def weights (H : S4096x5632.Idx → EReal) (D : S4096x1024.Idx → EReal) (f : Fin 2816) (n : Fin 1024) : EReal :=
  ∑ t : Fin 4096, swish (pre H t f) * val H t f * D (ix2 t n)

variable (m : (ℓ : Loc nD τ sig) → Buf (Elt Ideal) ℓ)

/-- The three arguments of the kernel on a device. -/
abbrev argH (c : Dev nD) : S4096x5632.Idx → EReal := m ((c : Thread nD τ).loc main_arg0)
abbrev argW (c : Dev nD) : S2816x1024.Idx → EReal := m ((c : Thread nD τ).loc main_arg1)
abbrev argD (c : Dev nD) : S4096x1024.Idx → EReal := m ((c : Thread nD τ).loc main_arg2)

/-- The slab and the tile of a grid point. -/
def slab (t : Fin cfg0.N) : Fin 4 := ⟨t.val / 4, by have := t.isLt; have : cfg0.N = 16 := N_0; omega⟩
def tile (t : Fin cfg0.N) : Fin 4 := ⟨t.val % 4, by omega⟩

theorem idx : ∀ t : Fin cfg0.N, win0_0.index t = ![t.val % 4, 0] ∧ win0_1.index t = ![t.val / 4, 0, 0]
    ∧ win0_2.index t = ![0, t.val / 4, t.val % 4, 0] ∧ win0_3.index t = ![0, t.val / 4, t.val % 4, 0]
    ∧ win0_4.index t = ![t.val / 4, 0, 0] := by
  decide +kernel

theorem iblk_ct (c : Dev nD) (t : Fin cfg0.N) (r n : Fin 1024) :
    (iblk m c 0 t : Vec Ideal S1024x1024 .bf16) (ix2 r n) = argD m c (ix2 (row (tile t) r) n) := by
  blk_ext [iblk, V, idx t, row, tile]

/-- The weights as the region finds them: slab, row of the slab, column. -/
theorem entry_w (c : Dev nD) (j : Fin 4) (l : Fin 704) (n : Fin 1024) :
    (V m c main_v4 : S4x704x1024.Idx → EReal) (ix3 j l n) = argW m c (ix2 (col j l) n) := by
  simp only [V, V0, List.flatten_cons, List.flatten_nil, List.append_nil, StableHlo.after_cons, StableHlo.after_nil]
  after_results_simp
  pointwise
  blk_ext [col]

/-- The activations as the region finds them: half, slab, token, column. -/
theorem entry_hid (c : Dev nD) (h : Fin 2) (j : Fin 4) (t : Fin 4096) (l : Fin 704) :
    (V m c main_v2 : S2x4x4096x704.Idx → EReal) (ix4 h j t l) = argH m c (ix2 t ⟨h.val * 2816 + (col j l).val, by omega⟩) := by
  simp only [V, V0, List.flatten_cons, List.flatten_nil, List.append_nil, StableHlo.after_cons, StableHlo.after_nil]
  after_results_simp
  pointwise
  blk_ext [col]

theorem iblk_w (c : Dev nD) (t : Fin cfg0.N) (l : Fin 704) (n : Fin 1024) :
    (iblk m c 1 t : Vec Ideal S1x704x1024 .bf16) (ix3 0 l n) = argW m c (ix2 (col (slab t) l) n) := by
  rw [← entry_w]
  blk_ext [iblk, idx t, slab]

theorem iblk_hid (c : Dev nD) (t : Fin cfg0.N) (h : Fin 2) (r : Fin 1024) (l : Fin 704) :
    (iblk m c 2 t : Vec Ideal S2x1x1024x704 .bf16) (ix4 h 0 r l) =
      argH m c (ix2 (row (tile t) r) ⟨h.val * 2816 + (col (slab t) l).val, by omega⟩) := by
  rw [← entry_hid]
  blk_ext [iblk, idx t, slab, row, tile]

/-- What a point writes to the gradient of the activations, whichever case of the accumulation it is. -/
theorem point_slabs (c : Dev nD) (t : Fin cfg0.N) (y : S2x1x1024x704.Idx) :
    (outsAt0 m c t.val t.isLt).1 y = dhid (iblk m c 0 t) (iblk m c 1 t) (iblk m c 2 t) (y 0) (y 2) (y 3) := by
  by_cases h0 : t.val % 4 = 0
  · rw [outsAt0_A m c t h0 (by omega) (by omega)]
    frame_out
    exact block_canon _ _ _ y
  · by_cases h2 : t.val % 4 = 3
    · rw [outsAt0_C m c t h0 (by omega) h2]
      frame_out
      exact block_canon _ _ _ y
    · rw [outsAt0_B m c t h0 (by omega) h2]
      frame_out
      exact block_canon _ _ _ y

theorem iblk_pre (c : Dev nD) (t : Fin cfg0.N) (r : Fin 1024) (l : Fin 704) :
    (iblk m c 2 t : Vec Ideal S2x1x1024x704 .bf16) (ix4 0 0 r l) = pre (argH m c) (row (tile t) r) (col (slab t) l) := by
  rw [iblk_hid]
  unfold pre
  blk_ext [col]

theorem iblk_val (c : Dev nD) (t : Fin cfg0.N) (r : Fin 1024) (l : Fin 704) :
    (iblk m c 2 t : Vec Ideal S2x1x1024x704 .bf16) (ix4 1 0 r l) = val (argH m c) (row (tile t) r) (col (slab t) l) := by
  rw [iblk_hid]
  unfold val
  blk_ext [col]

/-- What a point adds to the weight gradient, read in the arguments. -/
theorem part_args (c : Dev nD) (t : Fin cfg0.N) (l : Fin 704) (n : Fin 1024) :
    part (iblk m c 0 t) (iblk m c 2 t) l n = ∑ k : Fin 1024,
      swish (pre (argH m c) (row (tile t) k) (col (slab t) l)) * val (argH m c) (row (tile t) k) (col (slab t) l)
        * argD m c (ix2 (row (tile t) k) n) :=
  Finset.sum_congr rfl fun k _ => by rw [iblk_ct, iblk_pre, iblk_val]

/-- … read in the arguments. -/
theorem point_slabs_args (c : Dev nD) (t : Fin cfg0.N) (h : Fin 2) (r : Fin 1024) (l : Fin 704) :
    dhid (iblk m c 0 t) (iblk m c 1 t) (iblk m c 2 t) h r l
      = slabs (argH m c) (argW m c) (argD m c) (ix4 h (slab t) (row (tile t) r) l) := by
  have e : dact (iblk m c 0 t) (iblk m c 1 t) r l = wide (argW m c) (argD m c) (row (tile t) r) (col (slab t) l) :=
    Finset.sum_congr rfl fun k _ => by rw [iblk_ct, iblk_w]
  unfold dhid slabs
  rw [e, iblk_pre, iblk_val]
  refine if_congr ?_ rfl rfl
  exact Fin.ext_iff

/-- The gradient of the activations the kernel leaves. -/
theorem array_slabs (c : Dev nD) : (dats m 0 c).arrAt 3 cfg0.N = slabs (argH m c) (argW m c) (argD m c) := by
  refine (dats m 0 c).arrAt_eq_of_covers 3 _ (by decide +kernel) fun t hf y => ?_
  have e : ((cfg0.win 3).blk t).view.emb y = ix4 (y 0) (slab t) (row (tile t) (y 2)) (y 3) := by
    blk_ext [idx t, slab, row, tile]
  have h := (point_slabs m c t y).trans (point_slabs_args m c t (y 0) (y 2) (y 3))
  blk_simp
  rw [after0_3]
  exact h.trans (congrArg _ e.symm)

/-- What the last tile of a slab writes: the sum over all tokens. -/
theorem point_weights (c : Dev nD) (t : Fin cfg0.N) (h : t.val % 4 = 3) (l : Fin 704) (n : Fin 1024) :
    (outsAt0 m c t.val t.isLt).2.1 (ix3 0 l n) = weights (argH m c) (argD m c) (col (slab t) l) n := by
  rw [weights_last m c t h,
    Pipeline.eq_sum_fin_of_reset_step_apply_of_flush (fun n h => (outsAt0 m c n h).2.2) 4 (fun _ => (0 : EReal))
      (fun t j => part (iblk m c 0 t) (iblk m c 2 t) (j 0) (j 1)) (scratch_first m c) (scratch_next m c) t h]
  rw [zero_add]
  refine (Finset.sum_congr rfl fun s _ => part_args m c ⟨4 * (t.val / 4) + s.val, Pipeline.run_point_lt_of_flush t h s⟩ l n).trans ?_
  refine Fin.sum_mul_add_congr fun s k hl => ?_
  have e : row (tile ⟨4 * (t.val / 4) + s.val, Pipeline.run_point_lt_of_flush t h s⟩) k = ⟨s.val * 1024 + k.val, hl⟩ := by
    apply Fin.ext
    simp only [row, tile]
    omega
  have e' : slab ⟨4 * (t.val / 4) + s.val, Pipeline.run_point_lt_of_flush t h s⟩ = slab t := by
    apply Fin.ext
    simp only [slab]
    omega
  rw [e, e']

/-- The gradient of the weights the kernel leaves. -/
theorem array_weights (c : Dev nD) : (dats m 0 c).arrAt 4 cfg0.N
    = fun y : S4x704x1024.Idx => weights (argH m c) (argD m c) (col (y 0) (y 1)) (y 2) := by
  refine (dats m 0 c).arrAt_eq_of_covers 4 _ (by decide +kernel) fun t hf y => ?_
  have e : ((cfg0.win 4).blk t).view.emb y = ix3 (slab t) (y 1) (y 2) := by
    blk_ext [idx t, slab, row, tile]
  have ey : y = (ix3 0 (y 1) (y 2) : S1x704x1024.Idx) := by
    blk_ext []
  have h := point_weights m c t ((flush0_4 t).mp hf) (y 1) (y 2)
  rw [← ey] at h
  blk_simp
  rw [after0_4]
  refine h.trans ?_
  rw [e]
  rfl

end Cert.Proof.GatedDown
-- ==== Proof.GatedDown.Kernel.lean ====
module

public import proofs.«01_k».proof.Proof.GatedDown.Arrays

@[expose] public section

set_option maxRecDepth 16384

noncomputable section

namespace Cert.Proof.GatedDown

open Idealize.ShloMosaic Idealize.ShloMosaic.TcCoe Idealize.SL.Sem
open Cert.KernelIdeal Cert.KernelIdeal.Gen

/-- The gradient of the activations, token by column: the first half through the swish, the second half beside it. -/
def activations (H : S4096x5632.Idx → EReal) (W : S2816x1024.Idx → EReal) (D : S4096x1024.Idx → EReal) (t : Fin 4096) (c : Fin 5632) : EReal :=
  if h : c.val < 2816 then wide W D t ⟨c.val, h⟩ * val H t ⟨c.val, h⟩ * dswish (pre H t ⟨c.val, h⟩)
  else wide W D t ⟨c.val - 2816, by omega⟩ * swish (pre H t ⟨c.val - 2816, by omega⟩)

theorem slabs_eq (H : S4096x5632.Idx → EReal) (W : S2816x1024.Idx → EReal) (D : S4096x1024.Idx → EReal) (h : Fin 2) (j : Fin 4)
    (t : Fin 4096) (l : Fin 704) (c : Fin 5632) (hc : c.val = h.val * 2816 + (col j l).val) :
    slabs H W D (ix4 h j t l) = activations H W D t c := by
  show (if h.val = 0 then wide W D t (col j l) * val H t (col j l) * dswish (pre H t (col j l))
    else wide W D t (col j l) * swish (pre H t (col j l))) = _
  unfold activations
  have hl := (col j l).isLt
  rcases Nat.eq_zero_or_pos h.val with h0 | h0
  · rw [if_pos h0, dif_pos (by omega)]
    have e : col j l = ⟨c.val, by omega⟩ := Fin.ext (by show (col j l).val = c.val; omega)
    rw [e]
  · have h1 : h.val = 1 := by omega
    rw [if_neg (by omega), dif_neg (by omega)]
    have e : col j l = ⟨c.val - 2816, by omega⟩ := Fin.ext (by show (col j l).val = c.val - 2816; omega)
    rw [e]

variable (m : (ℓ : Loc nD τ sig) → Buf (Elt Ideal) ℓ)

/-- The windows' arrays are distinct buffers. -/
theorem arrays_distinct : Function.Injective (Pipeline.arrRef spec0) := by
  decide +kernel

theorem after_region_slabs (c : Dev nD) :
    Pipeline.withArrays (cfgs 0).spec c (V0 m c) (fun w => (dats m 0 c).arrAt w (cfgs 0).N) (Proc.tc.devRef main_v6_0)
      = slabs (argH m c) (argW m c) (argD m c) :=
  (Pipeline.withArrays_arr (cfgs 0).spec arrays_distinct c (V0 m c) (fun w => (dats m 0 c).arrAt w (cfgs 0).N) 3).trans (array_slabs m c)

theorem after_region_weights (c : Dev nD) :
    Pipeline.withArrays (cfgs 0).spec c (V0 m c) (fun w => (dats m 0 c).arrAt w (cfgs 0).N) (Proc.tc.devRef main_v6_1)
      = fun y : S4x704x1024.Idx => weights (argH m c) (argD m c) (col (y 0) (y 1)) (y 2) :=
  (Pipeline.withArrays_arr (cfgs 0).spec arrays_distinct c (V0 m c) (fun w => (dats m 0 c).arrAt w (cfgs 0).N) 4).trans (array_weights m c)

/-- The kernel's first result. -/
theorem tail_hid (c : Dev nD) :
    (Pipeline.afterTail₀ cfgs (dats m) 0 (V0 m) [hostOps1] c main_v9 : S4096x5632.Idx → EReal)
      = fun i => activations (argH m c) (argW m c) (argD m c) (i 0) (i 1) := by
  funext i
  idx_vars i
  unfold Pipeline.afterTail₀
  simp only [List.flatten_cons, List.flatten_nil, List.append_nil, StableHlo.after_cons, StableHlo.after_nil]
  after_results_simp
  rw [after_region_slabs]
  pointwise
  refine slabs_eq _ _ _ _ _ _ _ _ ?_
  simp only [col]
  omega

/-- The kernel's second result. -/
theorem tail_weights (c : Dev nD) :
    (Pipeline.afterTail₀ cfgs (dats m) 0 (V0 m) [hostOps1] c main_v11 : S2816x1024.Idx → EReal)
      = fun i => weights (argH m c) (argD m c) (i 0) (i 1) := by
  funext i
  idx_vars i
  unfold Pipeline.afterTail₀
  simp only [List.flatten_cons, List.flatten_nil, List.append_nil, StableHlo.after_cons, StableHlo.after_nil]
  after_results_simp
  rw [after_region_weights]
  pointwise
  congr 1
  apply Fin.ext
  simp only [col]
  omega

/-- The kernel's run: both gradients, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v9) = (fun i => activations (argH m c) (argW m c) (argD m c) (i 0) (i 1))
      ∧ r.2.mem ((c.tc : Thread nD τ).loc main_v11) = (fun i => weights (argH m c) (argD m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m g)
  refine ⟨?_, ?_, ?_, ?_, ?_⟩
  · exact ((h c).2 main_v9 (Pipeline.mem_restRefs_of main_v9 (by decide) (by decide))).trans (tail_hid m c)
  · exact ((h c).2 main_v11 (Pipeline.mem_restRefs_of main_v11 (by decide) (by decide))).trans (tail_weights m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.Proof.GatedDown
-- ==== Proof.GatedDown.Reals.lean ====
module

public import proofs.«01_k».proof.Proof.GatedDown.Block

@[expose] public section

noncomputable section

namespace Cert.Proof.GatedDown

open Idealize.ShloMosaic

/-- Subtracting from zero is negation, at the infinities too. -/
theorem gate_eq (x : EReal) : gate x = Ideal.div 1 (1 + Ideal.exp (-x)) := by
  unfold gate
  rw [zero_sub]

theorem gate_coe (r : ℝ) : gate (r : EReal) = (((1 + Real.exp (-r))⁻¹ : ℝ) : EReal) := by
  rw [gate_eq]
  exact Ideal.logistic_coe r

/-- An extended real whose absolute value is below infinity is a real number. -/
theorem real_of_abs_lt {x : EReal} (h : BitVec.ofBool (decide (FloatOps.absf (F := Ideal) (φ := .f32) x < Ideal.ofBits FTy.f32 0x7F800000#32)) = 1#1) :
    ∃ r : ℝ, x = r := by
  have htop : Ideal.ofBits .f32 0x7F800000#32 = ⊤ := by simp [Ideal.ofBits, Ideal.ieee]
  rw [htop] at h
  have hlt : max x (-x) < ⊤ := by
    by_contra hn
    have e : decide (FloatOps.absf (F := Ideal) (φ := .f32) x < (⊤ : EReal)) = false := decide_eq_false hn
    rw [e] at h
    exact absurd h (by decide)
  rw [max_lt_iff] at hlt
  refine ⟨x.toReal, (EReal.coe_toReal hlt.1.ne fun hb => ?_).symm⟩
  rw [hb] at hlt
  exact absurd hlt.2 (by simp)

/-- Every element of the array is a real number. -/
def RealArray {s : Shape} (X : s.Idx → EReal) : Prop := ∀ i, ∃ r : ℝ, X i = r

/-- Finite sums of products of real numbers are real. -/
theorem sum_real {n : Nat} (f g : Fin n → EReal) (hf : ∀ k, ∃ r : ℝ, f k = r) (hg : ∀ k, ∃ r : ℝ, g k = r) :
    ∃ r : ℝ, ∑ k, f k * g k = r := by
  choose p hp using hf
  choose q hq using hg
  refine ⟨∑ k, p k * q k, ?_⟩
  have coe_sum : ∀ t : Finset (Fin n), ((∑ k ∈ t, p k * q k : ℝ) : EReal) = ∑ k ∈ t, f k * g k := fun t => by
    induction t using Finset.cons_induction with
    | empty => rfl
    | cons k t hk ih => rw [Finset.sum_cons, Finset.sum_cons, EReal.coe_add, ih, hp, hq, EReal.coe_mul]
  exact (coe_sum Finset.univ).symm

/-- The product rule for the swish on real numbers: the derivative the kernel multiplies by is the sum the reference adds up. -/
theorem swish_rule (x a : EReal) (hx : ∃ r : ℝ, x = r) (ha : ∃ r : ℝ, a = r) :
    x * gate a + a * x * (gate a * (1 - gate a)) = x * dswish a := by
  obtain ⟨x, rfl⟩ := hx
  obtain ⟨a, rfl⟩ := ha
  unfold dswish
  rw [gate_coe]
  norm_cast
  ring

end Cert.Proof.GatedDown
-- ==== Proof.GatedDown.Reference.lean ====
module

public import proofs.«01_k».proof.Proof.GatedDown.Kernel
public import proofs.«01_k».proof.Proof.GatedDown.Reals
public import proofs.«01_k».proof.Proof.Gen.Pre_finite
public import proofs.«01_k».proof.Proof.Gen.ReferenceIdeal.Run
public import proofs.«01_k».proof.Proof.Gen.ReferenceIdeal.Read

@[expose] public section

set_option maxRecDepth 16384

noncomputable section

namespace Cert.Proof.GatedDown

open Idealize.ShloMosaic Idealize.ShloMosaic.TcCoe Idealize.SL.Sem
open Cert.ReferenceIdeal Cert.ReferenceIdeal.Gen Cert.ReferenceIdeal.Read

/-- The reference's gradient of the weights is the kernel's. -/
theorem ref_weights (H : S4096x5632.Idx → EReal) (D : S4096x1024.Idx → EReal) (f : Fin 2816) (n : Fin 1024) :
    val_main_v6 (F := Ideal) H D (ix2 f n) = weights H D f n := by
  unfold val_main_v6 val_main_v5 val_main_v3 val_main_v2_0 val_main_v2_2 val_main_call0_v4 val_main_call0_v3 val_main_call0_v2
    val_main_call0_v1 val_main_call0_v0 val_main_v0 val_main_v1 val_main_call0_cst val_main_call0_cst_0
  pointwise
  refine Finset.sum_congr rfl fun t _ => ?_
  rw [mul_comm]
  unfold swish
  rw [gate_eq]
  rfl

/-- The reference's gradient of the activations is the kernel's, on finite arguments. -/
theorem ref_hid (H : S4096x5632.Idx → EReal) (W : S2816x1024.Idx → EReal) (D : S4096x1024.Idx → EReal)
    (hH : RealArray H) (hW : RealArray W) (hD : RealArray D) (t : Fin 4096) (k : Fin 5632) :
    val_main_v11 (F := Ideal) H W D (ix2 t k) = activations H W D t k := by
  unfold val_main_v11 val_main_v10 val_main_call1_v2 val_main_call1_v1 val_main_call1_v0 val_main_v9 val_main_v8 val_main_v7
    val_main_v2_1 val_main_call0_v7 val_main_call0_v6 val_main_call0_cst_1 val_main_v2_0 val_main_v2_2 val_main_call0_v4
    val_main_call0_v3 val_main_call0_v2 val_main_call0_v1 val_main_call0_v0 val_main_v0 val_main_v1 val_main_call0_cst
    val_main_call0_cst_0
  pointwise
  simp only [← gate_eq]
  unfold activations
  split
  · rename_i h
    obtain ⟨w, hw⟩ := sum_real (fun x => D (ix2 t x)) (fun x => W (ix2 (⟨k.val, h⟩ : Fin 2816) x)) (fun x => hD _) (fun x => hW _)
    obtain ⟨v, hv⟩ := hH (ix2 t ⟨2816 + k.val, by omega⟩)
    exact swish_rule _ _ ⟨w * v, by rw [EReal.coe_mul, ← hw, ← hv]⟩ (hH _)
  · rw [mul_comm]
    rfl

/-- What the precondition says of the three arguments: they hold real numbers. -/
theorem finite_args (H : S4096x5632.Idx → EReal) (W : S2816x1024.Idx → EReal) (D : S4096x1024.Idx → EReal)
    (h : (Cert.Pre_finite.fn (F := Ideal) H W D).1 = (fun _ => 1#1) ∧ (Cert.Pre_finite.fn (F := Ideal) H W D).2.1 = (fun _ => 1#1)
      ∧ (Cert.Pre_finite.fn (F := Ideal) H W D).2.2 = (fun _ => 1#1)) :
    RealArray H ∧ RealArray W ∧ RealArray D := by
  refine ⟨fun i => ?_, fun i => ?_, fun i => ?_⟩
  · have e := congrFun h.1 i
    unfold Cert.Pre_finite.fn at e
    dsimp only at e
    pointwise at e
    exact real_of_abs_lt e
  · have e := congrFun h.2.1 i
    unfold Cert.Pre_finite.fn at e
    dsimp only at e
    pointwise at e
    exact real_of_abs_lt e
  · have e := congrFun h.2.2 i
    unfold Cert.Pre_finite.fn at e
    dsimp only at e
    pointwise at e
    exact real_of_abs_lt e

variable (m : (ℓ : Loc nD τ sig) → Buf (Elt Ideal) ℓ)

/-- The reference's run, in the kernel's formulas. -/
theorem reference_run (g : Dev nD → PrngReg)
    (hfin : ∀ c : Dev nD, RealArray (m ((c.tc : Thread nD τ).loc main_arg0) : S4096x5632.Idx → EReal)
      ∧ RealArray (m ((c.tc : Thread nD τ).loc main_arg1) : S2816x1024.Idx → EReal)
      ∧ RealArray (m ((c.tc : Thread nD τ).loc main_arg2) : S4096x1024.Idx → EReal)) :
    θ_run (defs (F := Ideal)) (onTc (τ := τ) (main (F := Ideal))) ⟨m, fun _ => 0, g⟩ (fun r => ∀ c : Dev nD,
      r.2.mem ((c.tc : Thread nD τ).loc main_v11) = (fun i => activations (m ((c.tc : Thread nD τ).loc main_arg0))
        (m ((c.tc : Thread nD τ).loc main_arg1)) (m ((c.tc : Thread nD τ).loc main_arg2)) (i 0) (i 1))
      ∧ r.2.mem ((c.tc : Thread nD τ).loc main_v6) = (fun i => weights (m ((c.tc : Thread nD τ).loc main_arg0))
        (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.ReferenceIdeal.Value.run m g)
  obtain ⟨h11, h6, ha⟩ := h c
  obtain ⟨hH, hW, hD⟩ := hfin c
  refine ⟨(h11.trans (val_main_v11_eq _ _ _)).trans (funext fun i => ?_), (h6.trans (val_main_v6_eq _ _)).trans (funext fun i => ?_), ha⟩
  · idx_vars i
    exact ref_hid _ _ _ hH hW hD _ _
  · idx_vars i
    exact ref_weights _ _ _ _

end Cert.Proof.GatedDown
-- ==== Proof.Conv.Block.lean ====
module

public import proofs.«01_k».proof.Proof.Gen.ConvIdeal.Frame
public import Idealize.ShloMosaic.Lib.Pipeline.ValueKit
public import Idealize.ShloMosaic.Lib.Pipeline.ReadBack
public import Idealize.ShloMosaic.Lib.Pointwise
public import Idealize.ShloMosaic.Lib.Claim

public import Idealize.ShloMosaic.Lib.WritesUnit
@[expose] public section

set_option maxRecDepth 16384

noncomputable section

namespace Cert.Proof.Conv

open Idealize.ShloMosaic Idealize.ShloMosaic.TcCoe Idealize.SL.Sem
open Cert.ConvIdeal Cert.ConvIdeal.Gen

variable (m : (ℓ : Loc nD τ sig) → Buf (Elt Ideal) ℓ)

/-- A block of rows shifted up by `d` rows, the first rows of the block after coming in at the bottom. -/
def ahead (d : ℕ) (hd : d ≤ 16) (x : Fin 1024 → EReal) (g : Fin 16 → EReal) (r : Fin 1024) : EReal :=
  if h : r.val + d < 1024 then x ⟨r.val + d, h⟩ else g ⟨r.val + d - 1024, by omega⟩

section Rows

variable (i : grid0.Coords) (x : Vec Ideal S1x1024x704 .bf16) (g : Vec Ideal S1x16x704 .bf16) (u : Vec Ideal S1x1024x704 .bf16)

/-- The rows after the block; zeros after the last tile. -/
def after (l : Fin 704) (q : Fin 16) : EReal :=
  Scalar.select (Scalar.cmpi .slt (BitVec.ofNat 32 (i 1).val) 3#32) (g (ix3 0 q l)) 0

theorem pay4_apply (r : Fin 1024) (l : Fin 704) :
    k0_pay4 i x g (ix2 r l) = ahead 1 (by omega) (fun q => x (ix3 0 q l)) (after i g l) r := by
  unfold_payloads
  pointwise [ahead, after]
  have e : (r.val + 1040 - 1039) % 1040 = r.val + 1 := by omega
  simp only [e]

theorem pay5_apply (r : Fin 1024) (l : Fin 704) :
    k0_pay5 i x g (ix2 r l) = ahead 2 (by omega) (fun q => x (ix3 0 q l)) (after i g l) r := by
  unfold_payloads
  pointwise [ahead, after]
  have e : (r.val + 1040 - 1038) % 1040 = r.val + 2 := by omega
  simp only [e]

theorem pay7_apply (w2 w1 w0 : Vec Ideal S1x1x704 .f32) (r : Fin 1024) (l : Fin 704) :
    k0_pay7 (k0_pay6 i x g w2 w1 w0) (ix3 0 r l) = w2 (ix3 0 0 l) * x (ix3 0 r l)
      + w1 (ix3 0 0 l) * ahead 1 (by omega) (fun q => x (ix3 0 q l)) (after i g l) r
      + w0 (ix3 0 0 l) * ahead 2 (by omega) (fun q => x (ix3 0 q l)) (after i g l) r := by
  unfold k0_pay7 k0_pay6 k0_pay2
  pointwise [pay4_apply, pay5_apply]

theorem pay9_apply (y : FVec Ideal S1024x704 .f32) (b : Vec Ideal S1x1x704 .f32) (l : Fin 704) :
    k0_pay9 y u b (ix3 0 0 l) = b (ix3 0 0 l) + ∑ r : Fin 1024, y (ix2 r l) * u (ix3 0 r l) := by
  unfold_payloads
  pointwise

theorem pay10_apply (y : FVec Ideal S1024x704 .f32) (b : Vec Ideal S1x1x704 .f32) (l : Fin 704) :
    k0_pay10 y u b (ix3 0 0 l) = b (ix3 0 0 l) + ∑ r : Fin 1024, y (ix2 r l) * u (ix3 0 r l) := by
  unfold_payloads
  pointwise

theorem pay11_apply (y : FVec Ideal S1024x704 .f32) (b : Vec Ideal S1x1x704 .f32) (l : Fin 704) :
    k0_pay11 y u b (ix3 0 0 l) = b (ix3 0 0 l) + ∑ r : Fin 1024, y (ix2 r l) * u (ix3 0 r l) := by
  unfold_payloads
  pointwise

/-- What a grid point adds to row `a` of its block of the taps' gradient. -/
def tap (a : Fin 8) (l : Fin 704) : EReal :=
  if a.val = 0 then ∑ r : Fin 1024, ahead 2 (by omega) (fun q => x (ix3 0 q l)) (after i g l) r * u (ix3 0 r l)
  else if a.val = 1 then ∑ r : Fin 1024, ahead 1 (by omega) (fun q => x (ix3 0 q l)) (after i g l) r * u (ix3 0 r l)
  else if a.val = 2 then ∑ r : Fin 1024, x (ix3 0 r l) * u (ix3 0 r l) else 0

/-- A block of the up projection's gradient: the convolution run against time. -/
def back (w : Vec Ideal S1x3x704 .f32) (r : Fin 1024) (l : Fin 704) : EReal :=
  w (ix3 0 2 l) * x (ix3 0 r l) + w (ix3 0 1 l) * ahead 1 (by omega) (fun q => x (ix3 0 q l)) (after i g l) r
    + w (ix3 0 0 l) * ahead 2 (by omega) (fun q => x (ix3 0 q l)) (after i g l) r

theorem rows0 (b : Vec Ideal S1x1x704 .f32) (l : Fin 704) : k0_pay9 (k0_pay5 i x g) u b (ix3 0 0 l) = b (ix3 0 0 l) + tap i x g u 0 l := by
  rw [pay9_apply]
  simp only [pay5_apply]
  rfl

theorem rows1 (b : Vec Ideal S1x1x704 .f32) (l : Fin 704) : k0_pay10 (k0_pay4 i x g) u b (ix3 0 0 l) = b (ix3 0 0 l) + tap i x g u 1 l := by
  rw [pay10_apply]
  simp only [pay4_apply]
  rfl

theorem rows2 (b : Vec Ideal S1x1x704 .f32) (l : Fin 704) : k0_pay11 (k0_pay2 x) u b (ix3 0 0 l) = b (ix3 0 0 l) + tap i x g u 2 l := by
  rw [pay11_apply]
  unfold k0_pay2
  pointwise
  rfl

end Rows

/-- Three rows stored one by one over earlier contents: each row reads its own store, every other row what was there. -/
theorem rows_over {sig : RefSig} {κ : Kind} {sp : Space} (v : View sig κ sp S1x8x704 .f32) (f : v.ty.Contents (Elt Ideal))
    (p0 p1 p2 : Vec Ideal S1x1x704 .f32) (L : List (View.Piece (Elt Ideal) S1x8x704 .f32)) (a : Fin 8) (l : Fin 704) :
    v.read (Elt Ideal) (v.writes (Elt Ideal) f
      (⟨Rect.unit ![0, 2, 0] ![1, 1, 704] inb_S1x8x704_S1x1x704_0_2_0, p2⟩
        :: ⟨Rect.unit ![0, 1, 0] ![1, 1, 704] inb_S1x8x704_S1x1x704_0_1_0, p1⟩
        :: ⟨Rect.unit ![0, 0, 0] ![1, 1, 704] inb_S1x8x704_S1x1x704_0_0_0, p0⟩ :: L)) (ix3 0 a l)
      = if a.val = 0 then p0 (ix3 0 0 l) else if a.val = 1 then p1 (ix3 0 0 l) else if a.val = 2 then p2 (ix3 0 0 l)
        else v.read (Elt Ideal) (v.writes (Elt Ideal) f L) (ix3 0 a l) := by
  have hin (o : ℕ) (h : a.val = o) : ∀ b : Fin 3, ((ix3 0 a l : S1x8x704.Idx) b).val = (![0, o, 0] : Fin 3 → ℕ) b + ((ix3 0 0 l : S1x1x704.Idx) b).val := by
    intro b
    fin_cases b
    · rfl
    · exact h
    · exact (Nat.zero_add _).symm
  have hout (o : ℕ) (h : a.val ≠ o) : ((ix3 0 a l : S1x8x704.Idx) 1).val < (![0, o, 0] : Fin 3 → ℕ) 1
      ∨ (![0, o, 0] : Fin 3 → ℕ) 1 + (![1, 1, 704] : Fin 3 → ℕ) 1 ≤ ((ix3 0 a l : S1x8x704.Idx) 1).val := by
    show a.val < o ∨ o + 1 ≤ a.val
    omega
  by_cases h2 : a.val = 2
  · rw [View.read_writes_cons_unit_of_mem (size := ![1, 1, 704]) v f _ _ _ _ (ix3 0 0 l : S1x1x704.Idx) rfl (hin 2 h2), if_neg (by omega), if_neg (by omega), if_pos h2]
  · rw [View.read_writes_cons_unit_of_not_mem (size := ![1, 1, 704]) v f _ _ _ _ rfl 1 (hout 2 h2)]
    by_cases h1 : a.val = 1
    · rw [View.read_writes_cons_unit_of_mem (size := ![1, 1, 704]) v f _ _ _ _ (ix3 0 0 l : S1x1x704.Idx) rfl (hin 1 h1), if_neg (by omega), if_pos h1]
    · rw [View.read_writes_cons_unit_of_not_mem (size := ![1, 1, 704]) v f _ _ _ _ rfl 1 (hout 1 h1)]
      by_cases h0 : a.val = 0
      · rw [View.read_writes_cons_unit_of_mem (size := ![1, 1, 704]) v f _ _ _ _ (ix3 0 0 l : S1x1x704.Idx) rfl (hin 0 h0), if_pos h0]
      · rw [View.read_writes_cons_unit_of_not_mem (size := ![1, 1, 704]) v f _ _ _ _ rfl 1 (hout 0 h0), if_neg h0, if_neg h1, if_neg h2]

/-- A load of one row of the taps' block. -/
theorem ld_row (o : ℕ) (ho : o < 8) (inb : ∀ a, (![0, o, 0] : Fin 3 → ℕ) a + (![1, 1, 704] : Fin 3 → ℕ) a ≤ S1x8x704.size a)
    (Z : Vec Ideal S1x8x704 .f32) (l : Fin 704) :
    View.ld Z (Rect.unit ![0, o, 0] ![1, 1, 704] inb) (ix3 0 0 l) = Z (ix3 0 ⟨o, ho⟩ l) := by
  refine congrArg Z (funext fun b => Fin.ext ?_)
  fin_cases b
  · rfl
  · show o + 1 * 0 = o
    omega
  · show 0 + 1 * l.val = l.val
    omega

/-- A load of one tap. -/
theorem ld_tap (o : ℕ) (ho : o < 3) (inb : ∀ a, (![0, o, 0] : Fin 3 → ℕ) a + (![1, 1, 704] : Fin 3 → ℕ) a ≤ S1x3x704.size a)
    (Z : Vec Ideal S1x3x704 .f32) (l : Fin 704) :
    View.ld Z (Rect.unit ![0, o, 0] ![1, 1, 704] inb) (ix3 0 0 l) = Z (ix3 0 ⟨o, ho⟩ l) := by
  refine congrArg Z (funext fun b => Fin.ext ?_)
  fin_cases b
  · rfl
  · show o + 1 * 0 = o
    omega
  · show 0 + 1 * l.val = l.val
    omega

theorem pay7_loads (i : grid0.Coords) (x : Vec Ideal S1x1024x704 .bf16) (g : Vec Ideal S1x16x704 .bf16) (w : Vec Ideal S1x3x704 .f32)
    (r : Fin 1024) (l : Fin 704) :
    k0_pay7 (k0_pay6 i x g (View.ld w (Rect.unit ![0, 2, 0] ![1, 1, 704] inb_S1x3x704_S1x1x704_0_2_0))
      (View.ld w (Rect.unit ![0, 1, 0] ![1, 1, 704] inb_S1x3x704_S1x1x704_0_1_0))
      (View.ld w (Rect.unit ![0, 0, 0] ![1, 1, 704] inb_S1x3x704_S1x1x704_0_0_0))) (ix3 0 r l) = back i x g w r l := by
  refine (pay7_apply i x g _ _ _ r l).trans ?_
  unfold back
  rw [ld_tap 2 (by decide), ld_tap 1 (by decide), ld_tap 0 (by decide)]
  rfl

theorem dup_block (c : Dev nD) (t : Fin cfg0.N) (r : Fin 1024) (l : Fin 704) :
    (outsAt0 m c t.val t.isLt).1 (ix3 0 r l) = back (grid0.coords t) (iblk m c 0 t) (iblk m c 1 t) (iblk m c 3 t) r l := by
  by_cases h0 : t.val % 4 = 0
  · rw [outsAt0_A m c t h0]
    frame_out
    exact pay7_loads _ _ _ _ _ _
  · rw [outsAt0_B m c t h0]
    frame_out
    exact pay7_loads _ _ _ _ _ _

theorem taps_first (c : Dev nD) (t : Fin cfg0.N) (h0 : t.val % 4 = 0) (j : S1x8x704.Idx) :
    (outsAt0 m c t.val t.isLt).2 j = 0 + tap (grid0.coords t) (iblk m c 0 t) (iblk m c 1 t) (iblk m c 2 t) (j 1) (j 2) := by
  rw [outsAt0_A m c t h0]
  frame_out
  idx_vars j
  obtain rfl : j0 = 0 := Fin.ext (by omega)
  simp (disch := decide) only [View.readCov_skip, View.readCov_fill]
  rw [← View.read_writes_junk_apply_eq_canon (ms0_5 t).view, rows_over, rows0, rows1, rows2]
  show _ = 0 + tap _ _ _ _ j1 j2
  have z (y : S1x8x704.Idx) : k0_pay1 (F := Ideal) y = 0 := by
    unfold_payloads
    pointwise
  split_ifs with h0 h1 h2
  · obtain rfl : j1 = 0 := Fin.ext h0
    exact congrArg (· + _) (z _)
  · obtain rfl : j1 = 1 := Fin.ext h1
    exact congrArg (· + _) (z _)
  · obtain rfl : j1 = 2 := Fin.ext h2
    exact congrArg (· + tap (grid0.coords t) (iblk m c 0 t) (iblk m c 1 t) (iblk m c 2 t) 2 j2) (z _)
  · unfold tap
    rw [if_neg h0, if_neg h1, if_neg h2, View.read_writes_junk_apply_eq_canon, View.canon_cons_unit_lit _ _ _ (by decide), z, add_zero]

theorem taps_next (c : Dev nD) (t : Fin cfg0.N) (h0 : ¬t.val % 4 = 0) (j : S1x8x704.Idx) :
    (outsAt0 m c t.val t.isLt).2 j = (outsAt0 m c (t.val - 1) (Nat.lt_of_le_of_lt (Nat.sub_le _ _) t.isLt)).2 j
      + tap (grid0.coords t) (iblk m c 0 t) (iblk m c 1 t) (iblk m c 2 t) (j 1) (j 2) := by
  rw [outsAt0_B m c t h0]
  frame_out
  idx_vars j
  obtain rfl : j0 = 0 := Fin.ext (by omega)
  rw [rows_over, rows0, rows1, rows2]
  show _ = _ + tap _ _ _ _ j1 j2
  split_ifs with h0 h1 h2
  · obtain rfl : j1 = 0 := Fin.ext h0
    exact congrArg (· + _) (ld_row 0 (by decide) _ _ _)
  · obtain rfl : j1 = 1 := Fin.ext h1
    exact congrArg (· + _) (ld_row 1 (by decide) _ _ _)
  · obtain rfl : j1 = 2 := Fin.ext h2
    exact congrArg (· + tap (grid0.coords t) (iblk m c 0 t) (iblk m c 1 t) (iblk m c 2 t) 2 j2) (ld_row 2 (by decide) _ _ _)
  · unfold tap
    rw [if_neg h0, if_neg h1, if_neg h2, View.writes_nil, Memref.IsWhole.read_unread, add_zero]

end Cert.Proof.Conv
-- ==== Proof.Conv.Kernel.lean ====
module

public import proofs.«01_k».proof.Proof.Conv.Block
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.Conv

open Idealize.ShloMosaic Idealize.ShloMosaic.TcCoe Idealize.SL.Sem
open Cert.ConvIdeal Cert.ConvIdeal.Gen

/-- The cotangent `d` tokens later; nothing after the last token. -/
def later (d : ℕ) (D : S4096x5632.Idx → EReal) (t : Fin 4096) (f : Fin 5632) : EReal :=
  if h : t.val + d < 4096 then D (ix2 ⟨t.val + d, h⟩ f) else 0

/-- The gradient of the convolution's argument: the taps run against time. -/
def dup (C : S3x5632.Idx → EReal) (D : S4096x5632.Idx → EReal) (t : Fin 4096) (f : Fin 5632) : EReal :=
  C (ix2 2 f) * D (ix2 t f) + C (ix2 1 f) * later 1 D t f + C (ix2 0 f) * later 2 D t f

/-- The gradient of tap `a`, on eight rows of which five stay empty. -/
def taps (U D : S4096x5632.Idx → EReal) (a : Fin 8) (f : Fin 5632) : EReal :=
  if a.val = 0 then ∑ t : Fin 4096, later 2 D t f * U (ix2 t f)
  else if a.val = 1 then ∑ t : Fin 4096, later 1 D t f * U (ix2 t f)
  else if a.val = 2 then ∑ t : Fin 4096, D (ix2 t f) * U (ix2 t f) else 0

/-- Column `l` of shard `j` of the hidden axis. -/
def col (j : Fin 8) (l : Fin 704) : Fin 5632 := ⟨j.val * 704 + l.val, by omega⟩

/-- Token `r` of tile `i`. -/
def token (i : Fin 4) (r : Fin 1024) : Fin 4096 := ⟨i.val * 1024 + r.val, by omega⟩

variable (m : (ℓ : Loc nD τ sig) → Buf (Elt Ideal) ℓ)

abbrev argU (c : Dev nD) : S4096x5632.Idx → EReal := m ((c : Thread nD τ).loc main_arg0)
abbrev argC (c : Dev nD) : S3x5632.Idx → EReal := m ((c : Thread nD τ).loc main_arg1)
abbrev argD (c : Dev nD) : S4096x5632.Idx → EReal := m ((c : Thread nD τ).loc main_arg2)

/-- The shard and the tile of tokens of a grid point. -/
def shard (t : Fin cfg0.N) : Fin 8 := ⟨t.val / 4, by have := lt_of_lt_of_eq t.isLt (show cfg0.N = 32 by decide); omega⟩
def tile (t : Fin cfg0.N) : Fin 4 := ⟨t.val % 4, by omega⟩

theorem idx : ∀ t : Fin cfg0.N, win0_0.index t = ![t.val / 4, t.val % 4, 0]
    ∧ win0_1.index t = ![t.val / 4, min ((t.val % 4 + 1) * 64) 255, 0]
    ∧ win0_2.index t = ![t.val / 4, t.val % 4, 0] ∧ win0_3.index t = ![t.val / 4, 0, 0]
    ∧ win0_4.index t = ![t.val / 4, t.val % 4, 0] ∧ win0_5.index t = ![t.val / 4, 0, 0] := by
  decide +kernel

theorem last : ∀ t : Fin cfg0.N,
    Scalar.cmpi .slt (BitVec.ofNat 32 (grid0.coords t 1).val) 3#32 = if t.val % 4 = 3 then 0#1 else 1#1 := by
  decide +kernel

theorem select_last (t : Fin cfg0.N) (a b : EReal) :
    Scalar.select (Scalar.cmpi .slt (BitVec.ofNat 32 (grid0.coords t 1).val) 3#32) a b = if t.val % 4 = 3 then b else a := by
  rw [last]
  split <;> rfl

/-- The arguments as the region finds them: shard, token or tap, column of the shard. -/
theorem entry_d (c : Dev nD) (j : Fin 8) (t : Fin 4096) (l : Fin 704) :
    (V m c main_v2 : S8x4096x704.Idx → EReal) (ix3 j t l) = argD m c (ix2 t (col j l)) := by
  simp only [V, V0, List.flatten_cons, List.flatten_nil, List.append_nil, StableHlo.after_cons, StableHlo.after_nil]
  after_results_simp
  pointwise
  blk_ext [col]

theorem entry_u (c : Dev nD) (j : Fin 8) (t : Fin 4096) (l : Fin 704) :
    (V m c main_v5 : S8x4096x704.Idx → EReal) (ix3 j t l) = argU m c (ix2 t (col j l)) := by
  simp only [V, V0, List.flatten_cons, List.flatten_nil, List.append_nil, StableHlo.after_cons, StableHlo.after_nil]
  after_results_simp
  pointwise
  blk_ext [col]

theorem entry_c (c : Dev nD) (j : Fin 8) (a : Fin 3) (l : Fin 704) :
    (V m c main_v7 : S8x3x704.Idx → EReal) (ix3 j a l) = argC m c (ix2 a (col j l)) := by
  simp only [V, V0, List.flatten_cons, List.flatten_nil, List.append_nil, StableHlo.after_cons, StableHlo.after_nil]
  after_results_simp
  pointwise
  blk_ext [col]

theorem iblk_d (c : Dev nD) (t : Fin cfg0.N) (r : Fin 1024) (l : Fin 704) :
    (iblk m c 0 t : Vec Ideal S1x1024x704 .bf16) (ix3 0 r l) = argD m c (ix2 (token (tile t) r) (col (shard t) l)) := by
  rw [← entry_d]
  blk_ext [iblk, idx t, token, tile, shard]

theorem iblk_g (c : Dev nD) (t : Fin cfg0.N) (h3 : t.val % 4 ≠ 3) (q : Fin 16) (l : Fin 704) :
    (iblk m c 1 t : Vec Ideal S1x16x704 .bf16) (ix3 0 q l)
      = argD m c (ix2 ⟨(t.val % 4 + 1) * 1024 + q.val, by omega⟩ (col (shard t) l)) := by
  rw [← entry_d]
  have h1 : min ((t.val % 4 + 1) * 64) 255 * 16 + q.val = (t.val % 4 + 1) * 1024 + q.val := by omega
  blk_ext [iblk, idx t, h1, shard]

theorem iblk_u (c : Dev nD) (t : Fin cfg0.N) (r : Fin 1024) (l : Fin 704) :
    (iblk m c 2 t : Vec Ideal S1x1024x704 .bf16) (ix3 0 r l) = argU m c (ix2 (token (tile t) r) (col (shard t) l)) := by
  rw [← entry_u]
  blk_ext [iblk, idx t, token, tile, shard]

theorem iblk_c (c : Dev nD) (t : Fin cfg0.N) (a : Fin 3) (l : Fin 704) :
    (iblk m c 3 t : Vec Ideal S1x3x704 .f32) (ix3 0 a l) = argC m c (ix2 a (col (shard t) l)) := by
  rw [← entry_c]
  blk_ext [iblk, idx t, shard]

theorem ahead_args (c : Dev nD) (t : Fin cfg0.N) (d : ℕ) (hd : d ≤ 16) (r : Fin 1024) (l : Fin 704) :
    ahead d hd (fun q => (iblk m c 0 t : Vec Ideal S1x1024x704 .bf16) (ix3 0 q l)) (after (grid0.coords t) (iblk m c 1 t) l) r
      = later d (argD m c) (token (tile t) r) (col (shard t) l) := by
  unfold ahead later after
  have ht : (tile t).val = t.val % 4 := rfl
  split
  · show (iblk m c 0 t : Vec Ideal S1x1024x704 .bf16) (ix3 0 _ l) = _
    rw [iblk_d, dif_pos]
    · congr 2
      apply Fin.ext
      simp only [token]
      omega
    · simp only [token]
      omega
  · rw [select_last]
    by_cases h3 : t.val % 4 = 3
    · rw [if_pos h3, dif_neg]
      simp only [token]
      omega
    · rw [if_neg h3, iblk_g m c t h3, dif_pos]
      · congr 2
        apply Fin.ext
        simp only [token]
        omega
      · simp only [token]
        omega

/-- The gradient as the kernel lays it out: shard, token, column of the shard. -/
def laid (f : Fin 4096 → Fin 5632 → EReal) (y : S8x4096x704.Idx) : EReal := f (y 1) (col (y 0) (y 2))

theorem point_dup (c : Dev nD) (t : Fin cfg0.N) (r : Fin 1024) (l : Fin 704) :
    (dats m 0 c).after 4 t (ix3 0 r l) = laid (dup (argC m c) (argD m c)) (ix3 (shard t) (token (tile t) r) l) := by
  rw [after0_4]
  refine (dup_block m c t r l).trans ?_
  show _ = dup _ _ (token (tile t) r) (col (shard t) l)
  unfold back dup
  rw [ahead_args, ahead_args, iblk_d, iblk_c, iblk_c, iblk_c]

theorem array_dup (c : Dev nD) : (dats m 0 c).arrAt 4 cfg0.N = laid (dup (argC m c) (argD m c)) := by
  refine (dats m 0 c).arrAt_eq_of_covers 4 _ (by decide +kernel) fun t hf y => ?_
  have e : ((cfg0.win 4).blk t).view.emb y = ix3 (shard t) (token (tile t) (y 1)) (y 2) := by
    blk_ext [idx t, shard, token, tile]
  have ey : y = (ix3 0 (y 1) (y 2) : S1x1024x704.Idx) := by
    blk_ext []
  have h := point_dup m c t (y 1) (y 2)
  rw [← ey] at h
  blk_simp
  exact h.trans (congrArg (laid (dup (argC m c) (argD m c))) e.symm)

/-- What a point adds to the taps' gradient, read in the arguments. -/
theorem tap_args (c : Dev nD) (t : Fin cfg0.N) (a : Fin 8) (l : Fin 704) :
    tap (grid0.coords t) (iblk m c 0 t) (iblk m c 1 t) (iblk m c 2 t) a l =
      if a.val = 0 then ∑ r : Fin 1024, later 2 (argD m c) (token (tile t) r) (col (shard t) l) * argU m c (ix2 (token (tile t) r) (col (shard t) l))
      else if a.val = 1 then ∑ r : Fin 1024, later 1 (argD m c) (token (tile t) r) (col (shard t) l) * argU m c (ix2 (token (tile t) r) (col (shard t) l))
      else if a.val = 2 then ∑ r : Fin 1024, argD m c (ix2 (token (tile t) r) (col (shard t) l)) * argU m c (ix2 (token (tile t) r) (col (shard t) l)) else 0 := by
  unfold tap
  simp only [ahead_args, iblk_u]
  simp only [iblk_d]

/-- A sum over the tokens, tile by tile. -/
theorem sum_tiles (t : Fin cfg0.N) (h : t.val % 4 = 3) (F : Fin 4096 → Fin 5632 → EReal) (l : Fin 704) :
    ∑ s : Fin 4, ∑ r : Fin 1024, F (token (tile ⟨4 * (t.val / 4) + s.val, Pipeline.run_point_lt_of_flush t h s⟩) r)
      (col (shard ⟨4 * (t.val / 4) + s.val, Pipeline.run_point_lt_of_flush t h s⟩) l) = ∑ n : Fin 4096, F n (col (shard t) l) := by
  refine Fin.sum_mul_add_congr fun s k hl => ?_
  have e : token (tile ⟨4 * (t.val / 4) + s.val, Pipeline.run_point_lt_of_flush t h s⟩) k = ⟨s.val * 1024 + k.val, hl⟩ := by
    apply Fin.ext
    simp only [token, tile]
    omega
  have e' : shard ⟨4 * (t.val / 4) + s.val, Pipeline.run_point_lt_of_flush t h s⟩ = shard t := by
    apply Fin.ext
    simp only [shard]
    omega
  rw [e, e']

/-- What the last tile of a shard leaves: the tiles' parts added up. -/
theorem taps_sum (c : Dev nD) (t : Fin cfg0.N) (h : t.val % 4 = 3) (a : Fin 8) (l : Fin 704) :
    (outsAt0 m c t.val t.isLt).2 (ix3 0 a l) = ∑ s : Fin 4, tap
      (grid0.coords ⟨4 * (t.val / 4) + s.val, Pipeline.run_point_lt_of_flush t h s⟩)
      (iblk m c 0 ⟨4 * (t.val / 4) + s.val, Pipeline.run_point_lt_of_flush t h s⟩)
      (iblk m c 1 ⟨4 * (t.val / 4) + s.val, Pipeline.run_point_lt_of_flush t h s⟩)
      (iblk m c 2 ⟨4 * (t.val / 4) + s.val, Pipeline.run_point_lt_of_flush t h s⟩) a l :=
  (Pipeline.eq_sum_fin_of_reset_step_apply_of_flush (fun n h => (outsAt0 m c n h).2) 4 (fun _ => (0 : EReal))
    (fun t j => tap (grid0.coords t) (iblk m c 0 t) (iblk m c 1 t) (iblk m c 2 t) (j 1) (j 2)) (taps_first m c) (taps_next m c) t h
    (ix3 0 a l)).trans (zero_add _)

/-- What the last tile of a shard leaves: the sums over all tokens. -/
theorem point_taps (c : Dev nD) (t : Fin cfg0.N) (h : t.val % 4 = 3) (a : Fin 8) (l : Fin 704) :
    (outsAt0 m c t.val t.isLt).2 (ix3 0 a l) = taps (argU m c) (argD m c) a (col (shard t) l) := by
  rw [taps_sum m c t h]
  refine (Finset.sum_congr rfl fun s _ => tap_args m c ⟨4 * (t.val / 4) + s.val, Pipeline.run_point_lt_of_flush t h s⟩ a l).trans ?_
  unfold taps
  split_ifs
  · exact sum_tiles t h (fun n f => later 2 (argD m c) n f * argU m c (ix2 n f)) l
  · exact sum_tiles t h (fun n f => later 1 (argD m c) n f * argU m c (ix2 n f)) l
  · exact sum_tiles t h (fun n f => argD m c (ix2 n f) * argU m c (ix2 n f)) l
  · exact Finset.sum_const_zero

/-- The taps' gradient as the kernel lays it out: shard, row, column of the shard. -/
def laidTaps (f : Fin 8 → Fin 5632 → EReal) (y : S8x8x704.Idx) : EReal := f (y 1) (col (y 0) (y 2))

theorem array_taps (c : Dev nD) : (dats m 0 c).arrAt 5 cfg0.N = laidTaps (taps (argU m c) (argD m c)) := by
  refine (dats m 0 c).arrAt_eq_of_covers 5 _ (by decide +kernel) fun t hf y => ?_
  have e : ((cfg0.win 5).blk t).view.emb y = ix3 (shard t) (y 1) (y 2) := by
    blk_ext [idx t, shard]
  have ey : y = (ix3 0 (y 1) (y 2) : S1x8x704.Idx) := by
    blk_ext []
  have h := point_taps m c t ((flush0_5 t).mp hf) (y 1) (y 2)
  rw [← ey] at h
  blk_simp
  rw [after0_5]
  exact h.trans (congrArg (laidTaps (taps (argU m c) (argD m c))) e.symm)

theorem after_region_dup (c : Dev nD) :
    Pipeline.withArrays (cfgs 0).spec c (V0 m c) (fun w => (dats m 0 c).arrAt w (cfgs 0).N) (Proc.tc.devRef main_v8_0)
      = laid (dup (argC m c) (argD m c)) :=
  ((dats m 0 c).withArrays_arrAt launch₀0.sharedIn (V0 m c) (A_eq m c) 4).trans (array_dup m c)

theorem after_region_taps (c : Dev nD) :
    Pipeline.withArrays (cfgs 0).spec c (V0 m c) (fun w => (dats m 0 c).arrAt w (cfgs 0).N) (Proc.tc.devRef main_v8_1)
      = laidTaps (taps (argU m c) (argD m c)) :=
  ((dats m 0 c).withArrays_arrAt launch₀0.sharedIn (V0 m c) (A_eq m c) 5).trans (array_taps m c)

theorem laid_eq (g : Fin 4096 → Fin 5632 → EReal) (j : Fin 8) (t : Fin 4096) (l : Fin 704) (f : Fin 5632)
    (hf : f.val = j.val * 704 + l.val) : laid g (ix3 j t l) = g t f := by
  show g t (col j l) = _
  congr 1
  exact Fin.ext hf.symm

theorem laidTaps_eq (g : Fin 8 → Fin 5632 → EReal) (j : Fin 8) (a a' : Fin 8) (l : Fin 704) (f : Fin 5632) (ha : a.val = a'.val)
    (hf : f.val = j.val * 704 + l.val) : laidTaps g (ix3 j a l) = g a' f := by
  show g a (col j l) = _
  rw [Fin.ext ha]
  congr 1
  exact Fin.ext hf.symm

/-- The kernel's results: the layout turned back to token and column. -/
theorem tail_dup (c : Dev nD) :
    (Pipeline.afterTail₀ cfgs (dats m) 0 (V0 m) [hostOps1] c main_v11 : S4096x5632.Idx → EReal)
      = fun i => dup (argC m c) (argD m c) (i 0) (i 1) := by
  funext i
  idx_vars i
  unfold Pipeline.afterTail₀
  simp only [List.flatten_cons, List.flatten_nil, List.append_nil, StableHlo.after_cons, StableHlo.after_nil]
  after_results_simp
  rw [after_region_dup]
  pointwise
  refine laid_eq _ _ _ _ _ ?_
  show i1.val = i1.val / 704 * 704 + i1.val % 704
  omega

theorem tail_taps (c : Dev nD) :
    (Pipeline.afterTail₀ cfgs (dats m) 0 (V0 m) [hostOps1] c main_v14 : S3x5632.Idx → EReal)
      = fun i => taps (argU m c) (argD m c) ⟨(i 0).val, by have : (i 0).val < 3 := (i 0).isLt; omega⟩ (i 1) := by
  funext i
  idx_vars i
  unfold Pipeline.afterTail₀
  simp only [List.flatten_cons, List.flatten_nil, List.append_nil, StableHlo.after_cons, StableHlo.after_nil]
  after_results_simp
  rw [after_region_taps]
  pointwise
  refine laidTaps_eq _ _ _ _ _ _ rfl ?_
  show i1.val = i1.val / 704 * 704 + i1.val % 704
  omega

/-- The kernel's run: both gradients, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v11) = (fun i => dup (argC m c) (argD m c) (i 0) (i 1))
      ∧ r.2.mem ((c.tc : Thread nD τ).loc main_v14)
        = (fun i => taps (argU m c) (argD m c) ⟨(i 0).val, by have : (i 0).val < 3 := (i 0).isLt; omega⟩ (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m g)
  refine ⟨?_, ?_, ?_, ?_, ?_⟩
  · exact ((h c).2 main_v11 (Pipeline.mem_restRefs_of main_v11 (by decide) (by decide))).trans (tail_dup m c)
  · exact ((h c).2 main_v14 (Pipeline.mem_restRefs_of main_v14 (by decide) (by decide))).trans (tail_taps m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.Proof.Conv
-- ==== Proof.Conv.Reference.lean ====
module

public import proofs.«01_k».proof.Proof.Conv.Kernel
public import proofs.«01_k».proof.Proof.Gen.ConvRefIdeal.Run
public import proofs.«01_k».proof.Proof.Gen.ConvRefIdeal.Read

@[expose] public section

set_option maxRecDepth 16384

noncomputable section

namespace Cert.Proof.Conv

open Idealize.ShloMosaic Idealize.ShloMosaic.TcCoe Idealize.SL.Sem
open Cert.ConvRefIdeal Cert.ConvRefIdeal.Gen Cert.ConvRefIdeal.Read

/-- The argument with two rows of zeros before it. -/
theorem ref_padded (U : S4096x5632.Idx → EReal) (t : Fin 4098) (f : Fin 5632) :
    val_main_v1 (F := Ideal) U (ix2 t f) = if h : t.val < 2 then 0 else U (ix2 ⟨t.val - 2, by omega⟩ f) := by
  unfold val_main_v1 val_main_v0 val_main_cst
  pointwise

theorem ref_dup (C : S3x5632.Idx → EReal) (D : S4096x5632.Idx → EReal) (t : Fin 4096) (f : Fin 5632) :
    val_main_v57 (F := Ideal) C D (ix2 t f) = dup C D t f := by
  unfold val_main_v57 val_main_v55 val_main_v54 val_main_v44 val_main_v43 val_main_v33 val_main_v49 val_main_v48
    val_main_v38 val_main_v37 val_main_v29 val_main_v28 val_main_v24 val_main_v23 val_main_v19 val_main_v18 val_main_v17
    val_main_v12 val_main_v11 val_main_v10 val_main_v6 val_main_v5 val_main_v4
  pointwise [dup, later, val_main_cst_8, val_main_cst_12]
  rw [mul_comm (D (ix2 t f))]
  refine congrArg₂ _ (congrArg₂ _ rfl ?_) ?_
  · by_cases h : t.val + 1 < 4096
    · rw [dif_pos (by omega), dif_pos h, mul_comm]
      refine congrArg (fun q => C (ix2 1 f) * D (ix2 q f)) (Fin.ext ?_)
      show 2 + t.val - 1 = t.val + 1
      omega
    · rw [dif_neg (by omega), dif_neg h, mul_zero]
  · by_cases h : t.val + 2 < 4096
    · rw [dif_pos (by omega), dif_pos h, mul_comm]
      exact congrArg (fun q => C (ix2 0 f) * D (ix2 q f)) (Fin.ext (Nat.add_comm _ _))
    · rw [dif_neg (by omega), dif_neg h, mul_zero]

/-- A sum against the cotangent one token later, over the tokens that have one. -/
theorem sum_later1 (U D : S4096x5632.Idx → EReal) (f : Fin 5632) :
    ∑ t : Fin 4096, later 1 D t f * U (ix2 t f) = ∑ x : Fin 4095, U (ix2 ⟨x.val, by omega⟩ f) * D (ix2 ⟨1 + x.val, by omega⟩ f) := by
  refine (Fin.sum_univ_add (a := 4095) (b := 1) (fun t : Fin 4096 => later 1 D t f * U (ix2 t f))).trans ?_
  refine (congrArg₂ _ (Finset.sum_congr rfl fun x _ => ?_) (Finset.sum_eq_zero fun x _ => ?_)).trans (add_zero _)
  · refine (congrArg (· * _) (dif_pos (show x.val + 1 < 4096 by omega))).trans ((mul_comm _ _).trans ?_)
    exact congrArg (fun q => U _ * D (ix2 q f)) (Fin.ext (Nat.add_comm _ _))
  · exact (congrArg (· * _) (dif_neg (show ¬4095 + x.val + 1 < 4096 by omega))).trans (zero_mul _)

/-- … two tokens later. -/
theorem sum_later2 (U D : S4096x5632.Idx → EReal) (f : Fin 5632) :
    ∑ t : Fin 4096, later 2 D t f * U (ix2 t f) = ∑ x : Fin 4094, U (ix2 ⟨x.val, by omega⟩ f) * D (ix2 ⟨2 + x.val, by omega⟩ f) := by
  refine (Fin.sum_univ_add (a := 4094) (b := 2) (fun t : Fin 4096 => later 2 D t f * U (ix2 t f))).trans ?_
  refine (congrArg₂ _ (Finset.sum_congr rfl fun x _ => ?_) (Finset.sum_eq_zero fun x _ => ?_)).trans (add_zero _)
  · refine (congrArg (· * _) (dif_pos (show x.val + 2 < 4096 by omega))).trans ((mul_comm _ _).trans ?_)
    exact congrArg (fun q => U _ * D (ix2 q f)) (Fin.ext (Nat.add_comm _ _))
  · exact (congrArg (· * _) (dif_neg (show ¬4094 + x.val + 2 < 4096 by omega))).trans (zero_mul _)

/-- The reference's sum of the argument one token earlier against the cotangent. -/
theorem sum_earlier1 (U D : S4096x5632.Idx → EReal) (f : Fin 5632) :
    (∑ x : Fin 4096, (if h : 1 + x.val < 2 then 0 else U (ix2 ⟨1 + x.val - 2, by omega⟩ f)) * D (ix2 x f))
      = ∑ x : Fin 4095, U (ix2 ⟨x.val, by omega⟩ f) * D (ix2 ⟨1 + x.val, by omega⟩ f) := by
  refine (Fin.sum_univ_add (a := 1) (b := 4095) (fun x : Fin 4096 =>
    (if h : 1 + x.val < 2 then 0 else U (ix2 ⟨1 + x.val - 2, by omega⟩ f)) * D (ix2 x f))).trans ?_
  refine (congrArg₂ _ (Finset.sum_eq_zero fun x _ => ?_) (Finset.sum_congr rfl fun x _ => ?_)).trans (zero_add _)
  · exact (congrArg (· * _) (dif_pos (show 1 + x.val < 2 by omega))).trans (zero_mul _)
  · refine (congrArg (· * _) (dif_neg (show ¬1 + (1 + x.val) < 2 by omega))).trans ?_
    refine congrArg (fun q => U (ix2 q f) * D _) (Fin.ext ?_)
    show 1 + (1 + x.val) - 2 = x.val
    omega

theorem ref_taps (U D : S4096x5632.Idx → EReal) (a : Fin 3) (f : Fin 5632) :
    val_main_v53 (F := Ideal) U D (ix2 a f) = taps U D ⟨a.val, by omega⟩ f := by
  unfold val_main_v53 val_main_v52 val_main_v51 val_main_v50 val_main_v47 val_main_v46 val_main_v45 val_main_v42
    val_main_v41 val_main_v40 val_main_v39 val_main_v36 val_main_v35 val_main_v34 val_main_v32 val_main_v31 val_main_v30 val_main_v27
    val_main_v26 val_main_v25 val_main_v24 val_main_v23 val_main_v16 val_main_v9 val_main_v3
  pointwise [ref_padded, val_main_cst_1, val_main_cst_2, val_main_cst_3, val_main_cst_5, val_main_cst_6, val_main_cst_7, val_main_cst_9,
    val_main_cst_10, val_main_cst_11]
  rw [sum_earlier1]
  unfold taps
  rw [sum_later1, sum_later2]
  show _ = if a.val = 0 then _ else if a.val = 1 then _ else if a.val = 2 then _ else _
  by_cases h0 : a.val = 0
  · rw [dif_neg (by omega), dif_neg (by omega), dif_pos (by omega), if_pos h0]
    simp only [zero_mul, Finset.sum_const_zero, zero_add, Finset.univ_unique, Finset.sum_singleton]
  · by_cases h1 : a.val = 1
    · rw [dif_neg (by omega), dif_pos (by omega), dif_neg (by omega), if_neg h0, if_pos h1]
      simp only [zero_add, add_zero, Finset.univ_unique, Finset.sum_singleton]
    · rw [dif_pos (by omega), dif_neg (by omega), dif_neg (by omega), if_neg h0, if_neg h1, if_pos (by omega)]
      simp only [zero_add, add_zero, Finset.univ_unique, Finset.sum_singleton, mul_comm (U _)]

variable (m : (ℓ : Loc nD τ sig) → Buf (Elt Ideal) ℓ)

/-- The reference's run, in the kernel's formulas. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v57) = (fun i => dup (m ((c.tc : Thread nD τ).loc main_arg1))
        (m ((c.tc : Thread nD τ).loc main_arg2)) (i 0) (i 1))
      ∧ r.2.mem ((c.tc : Thread nD τ).loc main_v53) = (fun i => taps (m ((c.tc : Thread nD τ).loc main_arg0))
        (m ((c.tc : Thread nD τ).loc main_arg2)) ⟨(i 0).val, by have : (i 0).val < 3 := (i 0).isLt; omega⟩ (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.ConvRefIdeal.Value.run m g)
  obtain ⟨h0, h1, ha⟩ := h c
  refine ⟨(h0.trans (val_main_v57_eq _ _)).trans (funext fun i => ?_), (h1.trans (val_main_v53_eq _ _)).trans (funext fun i => ?_), ha⟩
  · idx_vars i
    exact ref_dup _ _ _ _
  · idx_vars i
    exact ref_taps _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2.2, sem_eq_zero_of_no_sems (by decide) r.2⟩) (Cert.ConvRefIdeal.Value.run m g)

end Cert.Proof.Conv
-- ==== Proof.Up.Block.lean ====
module

public import proofs.«01_k».proof.Proof.Gen.UpIdeal.Frame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.Up

open Idealize.ShloMosaic Idealize.ShloMosaic.TcCoe Idealize.SL.Sem
open Cert.UpIdeal Cert.UpIdeal.Gen

variable (m : (ℓ : Loc nD τ sig) → Buf (Elt Ideal) ℓ)

/-- The product of a block's row with a row of the transposed weights, the two halves of the width apart. -/
def prod (h : Vec Ideal S1024x1024 .bf16) (wa wb : Vec Ideal S2x704x512 .bf16) (s : Fin 2) (r : Fin 1024) (l : Fin 704) : EReal :=
  (∑ k : Fin 512, h (ix2 r ⟨k.val, by omega⟩) * wa (ix3 s l k)) + ∑ k : Fin 512, h (ix2 r ⟨512 + k.val, by omega⟩) * wb (ix3 s l k)

/-- The same for the sixteen rows before the block. -/
def before (h : Vec Ideal S16x1024 .bf16) (wa wb : Vec Ideal S2x704x512 .bf16) (s : Fin 2) (r : Fin 16) (l : Fin 704) : EReal :=
  (∑ k : Fin 512, h (ix2 r ⟨k.val, by omega⟩) * wa (ix3 s l k)) + ∑ k : Fin 512, h (ix2 r ⟨512 + k.val, by omega⟩) * wb (ix3 s l k)

theorem up_block (i : grid0.Coords) (h : Vec Ideal S1024x1024 .bf16) (g : Vec Ideal S16x1024 .bf16)
    (wa wb : Vec Ideal S2x704x512 .bf16) (cw : Vec Ideal S2x3x704 .f32) (j : S2x1024x704.Idx) :
    out0_5 i h g wa wb cw j = prod h wa wb (j 0) (j 1) (j 2) := by
  unfold out0_5
  idx_vars j
  canon_tiles y h
  · idx_vars y
    unfold k0_pay14 k0_pay15
    unfold_payloads
    pointwise [prod] at *
    obtain rfl : j0 = 1 := Fin.ext h0
    obtain rfl : j1 = y1 := Fin.ext h1
    obtain rfl : j2 = y2 := Fin.ext h2
    rfl
  · idx_vars y
    unfold_payloads
    pointwise [prod] at *
    obtain rfl : j0 = 0 := Fin.ext h0
    obtain rfl : j1 = y1 := Fin.ext h1
    obtain rfl : j2 = y2 := Fin.ext h2
    rfl

/-- A block of rows shifted down by `d` rows, the last rows of the block before coming in at the top. -/
def shifted (d : ℕ) (g : Fin 16 → EReal) (x : Fin 1024 → EReal) (r : Fin 1024) : EReal :=
  if h : 16 + r.val - d < 16 then g ⟨16 + r.val - d, h⟩ else x ⟨16 + r.val - d - 16, by omega⟩

/-- The causal convolution of width three along the rows. -/
def conv (w : Fin 3 → EReal) (g : Fin 16 → EReal) (x : Fin 1024 → EReal) (r : Fin 1024) : EReal :=
  w 0 * shifted 2 g x r + w 1 * shifted 1 g x r + w 2 * x r

theorem turn (r : Fin 1024) (d : ℕ) (hd : d ≤ 16) : (16 + r.val + 1040 - d) % 1040 = 16 + r.val - d := by omega

theorem pay6_apply (x : FVec Ideal S1024x704 .f32) (b : BitVec 1) (g z : FVec Ideal S16x704 .f32)
    (w0 w1 w2 : Vec Ideal S1x704 .f32) (r : Fin 1024) (l : Fin 704) :
    k0_pay6 x b g z w0 w1 w2 (ix3 0 r l) = conv ![w0 (ix2 0 l), w1 (ix2 0 l), w2 (ix2 0 l)]
      (fun q => Scalar.select b (g (ix2 q l)) (z (ix2 q l))) (fun q => x (ix2 q l)) r := by
  unfold k0_pay6
  pointwise [conv, shifted]
  simp only [turn r 2 (by omega), turn r 1 (by omega)]

theorem pay1_apply (x x1 x2 : FVec Ideal S1024x704 .f32) (w0 w1 w2 : Vec Ideal S1x704 .f32) (r : Fin 1024) (l : Fin 704) :
    k0_pay1 x x1 x2 w0 w1 w2 (ix3 0 r l) = w0 (ix2 0 l) * x2 (ix2 r l) + w1 (ix2 0 l) * x1 (ix2 r l) + w2 (ix2 0 l) * x (ix2 r l) := by
  unfold k0_pay1
  pointwise

section Rows

variable (b : BitVec 32) (h0 : FVec Ideal S1024x512 .bf16) (w0 : FVec Ideal S704x512 .bf16) (h1 : Vec Ideal S1024x512 .bf16)
  (w1 : Vec Ideal S1x704x512 .bf16) (g0 : Vec Ideal S16x512 .bf16) (u0 : Vec Ideal S1x704x512 .bf16)
  (g1 : Vec Ideal S16x512 .bf16) (u1 : Vec Ideal S1x704x512 .bf16)

theorem pay11_apply (r : Fin 1040) (l : Fin 704) :
    k0_pay11 b h0 w0 h1 w1 g0 u0 g1 u1 (ix2 r l) = if h : r.val < 16
      then Scalar.select (Scalar.cmpi .sgt b 0#32) (k0_pay4 g0 u0 g1 u1 (ix2 ⟨r.val, h⟩ l)) 0
      else k0_pay9 h0 w0 h1 w1 (ix2 ⟨r.val - 16, by omega⟩ l) := by
  unfold k0_pay11 k0_pay4
  generalize k0_pay9 h0 w0 h1 w1 = x
  pointwise

theorem pay12_apply (r : Fin 1024) (l : Fin 704) :
    k0_pay12 b h0 w0 h1 w1 g0 u0 g1 u1 (ix2 r l) = shifted 1
      (fun q => Scalar.select (Scalar.cmpi .sgt b 0#32) (k0_pay4 g0 u0 g1 u1 (ix2 q l)) 0)
      (fun q => k0_pay9 h0 w0 h1 w1 (ix2 q l)) r := by
  unfold k0_pay12
  pointwise [pay11_apply, shifted]
  simp only [turn r 1 (by omega)]

theorem pay13_apply (r : Fin 1024) (l : Fin 704) :
    k0_pay13 b h0 w0 h1 w1 g0 u0 g1 u1 (ix2 r l) = shifted 2
      (fun q => Scalar.select (Scalar.cmpi .sgt b 0#32) (k0_pay4 g0 u0 g1 u1 (ix2 q l)) 0)
      (fun q => k0_pay9 h0 w0 h1 w1 (ix2 q l)) r := by
  unfold k0_pay13
  pointwise [pay11_apply, shifted]
  simp only [turn r 2 (by omega)]

end Rows

/-- The convolution of one half of the activations' columns at a grid point: the rows before the first tile are zeros. -/
def point (i : grid0.Coords) (h : Vec Ideal S1024x1024 .bf16) (g : Vec Ideal S16x1024 .bf16)
    (wa wb : Vec Ideal S2x704x512 .bf16) (cw : Vec Ideal S2x3x704 .f32) (s : Fin 2) (r : Fin 1024) (l : Fin 704) : EReal :=
  conv (fun a => cw (ix3 s a l)) (fun q => Scalar.select (Scalar.cmpi .sgt (BitVec.ofNat 32 (i 0).val) 0#32) (before g wa wb s q l) 0)
    (fun q => prod h wa wb s q l) r

theorem hid_block (i : grid0.Coords) (h : Vec Ideal S1024x1024 .bf16) (g : Vec Ideal S16x1024 .bf16)
    (wa wb : Vec Ideal S2x704x512 .bf16) (cw : Vec Ideal S2x3x704 .f32) (j : S2x1024x704.Idx) :
    out0_6 i h g wa wb cw j = point i h g wa wb cw (j 0) (j 1) (j 2) := by
  unfold out0_6
  idx_vars j
  canon_tiles y hy
  · idx_vars y
    pointwise at *
    obtain rfl : j0 = 1 := Fin.ext hy0
    obtain rfl : j1 = y1 := Fin.ext hy1
    obtain rfl : j2 = y2 := Fin.ext hy2
    obtain rfl : y0 = 0 := Fin.ext (by omega)
    rw [pay1_apply, pay12_apply, pay13_apply]
    unfold k0_pay14 k0_pay15 k0_pay9 k0_pay4 k0_pay7 k0_pay8
    pointwise [point, conv, prod, before]
  · idx_vars y
    pointwise at *
    obtain rfl : j0 = 0 := Fin.ext hy0
    obtain rfl : j1 = y1 := Fin.ext hy1
    obtain rfl : j2 = y2 := Fin.ext hy2
    obtain rfl : y0 = 0 := Fin.ext (by omega)
    rw [pay6_apply]
    unfold k0_pay2 k0_pay4 k0_pay5
    pointwise [point, conv, prod, before]

end Cert.Proof.Up
-- ==== Proof.Up.Kernel.lean ====
module

public import proofs.«01_k».proof.Proof.Up.Block
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.Up

open Idealize.ShloMosaic Idealize.ShloMosaic.TcCoe Idealize.SL.Sem
open Cert.UpIdeal Cert.UpIdeal.Gen

/-- The up projection: a row of the input against a column of the weights. -/
def up (H : S4096x1024.Idx → EReal) (W : S1024x5632.Idx → EReal) (t : Fin 4096) (f : Fin 5632) : EReal :=
  ∑ k : Fin 1024, H (ix2 t k) * W (ix2 k f)

/-- The projection `d` tokens earlier; nothing before the first token. -/
def lag (d : ℕ) (H : S4096x1024.Idx → EReal) (W : S1024x5632.Idx → EReal) (t : Fin 4096) (f : Fin 5632) : EReal :=
  if t.val < d then 0 else up H W ⟨t.val - d, by omega⟩ f

/-- The causal depthwise convolution of width three of the projection. -/
def hid (H : S4096x1024.Idx → EReal) (W : S1024x5632.Idx → EReal) (C : S3x5632.Idx → EReal) (t : Fin 4096) (f : Fin 5632) : EReal :=
  C (ix2 0 f) * lag 2 H W t f + C (ix2 1 f) * lag 1 H W t f + C (ix2 2 f) * up H W t f

/-- Column `l` of shard `j` of the hidden axis. -/
def col (j : Fin 8) (l : Fin 704) : Fin 5632 := ⟨j.val * 704 + l.val, by omega⟩

/-- Shard `s` of pair `p` of shards. -/
def shard (p : Fin 4) (s : Fin 2) : Fin 8 := ⟨p.val * 2 + s.val, by omega⟩

/-- Token `r` of tile `i`. -/
def token (i : Fin 4) (r : Fin 1024) : Fin 4096 := ⟨i.val * 1024 + r.val, by omega⟩

variable (m : (ℓ : Loc nD τ sig) → Buf (Elt Ideal) ℓ)

abbrev argH (c : Dev nD) : S4096x1024.Idx → EReal := m ((c : Thread nD τ).loc main_arg0)
abbrev argW (c : Dev nD) : S1024x5632.Idx → EReal := m ((c : Thread nD τ).loc main_arg1)
abbrev argC (c : Dev nD) : S3x5632.Idx → EReal := m ((c : Thread nD τ).loc main_arg2)

/-- The tile of tokens of a grid point. -/
def tile (t : Fin cfg0.N) : Fin 4 := ⟨t.val / 4, by have := lt_of_lt_of_eq t.isLt (show cfg0.N = 16 by decide); omega⟩

/-- The pair of shards of a grid point. -/
def pair (t : Fin cfg0.N) : Fin 4 := ⟨t.val % 4, by omega⟩

theorem idx : ∀ t : Fin cfg0.N, win0_0.index t = ![t.val / 4, 0] ∧ win0_1.index t = ![t.val / 4 * 64 - 1, 0]
    ∧ win0_2.index t = ![t.val % 4, 0, 0] ∧ win0_3.index t = ![t.val % 4, 0, 0] ∧ win0_4.index t = ![t.val % 4, 0, 0]
    ∧ win0_5.index t = ![t.val % 4, t.val / 4, 0] ∧ win0_6.index t = ![t.val % 4, t.val / 4, 0] := by
  decide +kernel

theorem first : ∀ t : Fin cfg0.N,
    Scalar.cmpi .sgt (BitVec.ofNat 32 (grid0.coords t 0).val) 0#32 = if t.val / 4 = 0 then 0#1 else 1#1 := by
  decide +kernel

theorem select_first (t : Fin cfg0.N) (a b : EReal) :
    Scalar.select (Scalar.cmpi .sgt (BitVec.ofNat 32 (grid0.coords t 0).val) 0#32) a b = if t.val / 4 = 0 then b else a := by
  rw [first]
  split <;> rfl

/-- The weights as the region finds them: shard, column of the shard, row; the first half of the rows. -/
theorem entry_wa (c : Dev nD) (j : Fin 8) (l : Fin 704) (k : Fin 512) :
    (V m c main_v4 : S8x704x512.Idx → EReal) (ix3 j l k) = argW m c (ix2 ⟨k.val, by omega⟩ (col j l)) := by
  simp only [V, V0, List.flatten_cons, List.flatten_nil, List.append_nil, StableHlo.after_cons, StableHlo.after_nil]
  after_results_simp
  pointwise
  blk_ext [col]

/-- The second half of the rows. -/
theorem entry_wb (c : Dev nD) (j : Fin 8) (l : Fin 704) (k : Fin 512) :
    (V m c main_v6 : S8x704x512.Idx → EReal) (ix3 j l k) = argW m c (ix2 ⟨512 + k.val, by omega⟩ (col j l)) := by
  simp only [V, V0, List.flatten_cons, List.flatten_nil, List.append_nil, StableHlo.after_cons, StableHlo.after_nil]
  after_results_simp
  pointwise
  blk_ext [col]

/-- The taps of the convolution. -/
theorem entry_c (c : Dev nD) (j : Fin 8) (a : Fin 3) (l : Fin 704) :
    (V m c main_v8 : S8x3x704.Idx → EReal) (ix3 j a l) = argC m c (ix2 a (col j l)) := by
  simp only [V, V0, List.flatten_cons, List.flatten_nil, List.append_nil, StableHlo.after_cons, StableHlo.after_nil]
  after_results_simp
  pointwise
  blk_ext [col]

theorem entry_h (c : Dev nD) (t : Fin 4096) (k : Fin 1024) :
    (V m c main_v2 : S4096x1024.Idx → EReal) (ix2 t k) = argH m c (ix2 t k) := by
  simp only [V, V0, List.flatten_cons, List.flatten_nil, List.append_nil, StableHlo.after_cons, StableHlo.after_nil]
  after_results_simp
  pointwise

theorem iblk_h (c : Dev nD) (t : Fin cfg0.N) (r : Fin 1024) (k : Fin 1024) :
    (iblk m c 0 t : Vec Ideal S1024x1024 .bf16) (ix2 r k) = argH m c (ix2 (token (tile t) r) k) := by
  rw [← entry_h]
  blk_ext [iblk, idx t, token, tile]

theorem iblk_g (c : Dev nD) (t : Fin cfg0.N) (h0 : t.val / 4 ≠ 0) (q : Fin 16) (k : Fin 1024) :
    (iblk m c 1 t : Vec Ideal S16x1024 .bf16) (ix2 q k)
      = argH m c (ix2 ⟨(tile t).val * 1024 + q.val - 16, by have := (tile t).isLt; omega⟩ k) := by
  rw [← entry_h]
  have h1 : (t.val / 4 * 64 - 1) * 16 + q.val = (tile t).val * 1024 + q.val - 16 := by
    simp only [tile]
    omega
  blk_ext [iblk, idx t, h1]

theorem iblk_wa (c : Dev nD) (t : Fin cfg0.N) (s : Fin 2) (l : Fin 704) (k : Fin 512) :
    (iblk m c 2 t : Vec Ideal S2x704x512 .bf16) (ix3 s l k) = argW m c (ix2 ⟨k.val, by omega⟩ (col (shard (pair t) s) l)) := by
  rw [← entry_wa]
  blk_ext [iblk, idx t, shard, pair]

theorem iblk_wb (c : Dev nD) (t : Fin cfg0.N) (s : Fin 2) (l : Fin 704) (k : Fin 512) :
    (iblk m c 3 t : Vec Ideal S2x704x512 .bf16) (ix3 s l k) = argW m c (ix2 ⟨512 + k.val, by omega⟩ (col (shard (pair t) s) l)) := by
  rw [← entry_wb]
  blk_ext [iblk, idx t, shard, pair]

theorem iblk_c (c : Dev nD) (t : Fin cfg0.N) (s : Fin 2) (a : Fin 3) (l : Fin 704) :
    (iblk m c 4 t : Vec Ideal S2x3x704 .f32) (ix3 s a l) = argC m c (ix2 a (col (shard (pair t) s) l)) := by
  rw [← entry_c]
  blk_ext [iblk, idx t, shard, pair]

/-- A sum over the width is the sum of the sums over its halves. -/
theorem sum_halves (f : Fin 1024 → EReal) :
    ∑ k : Fin 1024, f k = (∑ k : Fin 512, f ⟨k.val, by omega⟩) + ∑ k : Fin 512, f ⟨512 + k.val, by omega⟩ :=
  Fin.sum_univ_add (a := 512) (b := 512) f

theorem prod_args (c : Dev nD) (t : Fin cfg0.N) (s : Fin 2) (r : Fin 1024) (l : Fin 704) :
    prod (iblk m c 0 t) (iblk m c 2 t) (iblk m c 3 t) s r l
      = up (argH m c) (argW m c) (token (tile t) r) (col (shard (pair t) s) l) := by
  unfold prod up
  rw [sum_halves]
  simp only [iblk_h, iblk_wa, iblk_wb]

theorem before_args (c : Dev nD) (t : Fin cfg0.N) (h0 : t.val / 4 ≠ 0) (s : Fin 2) (q : Fin 16) (l : Fin 704) :
    before (iblk m c 1 t) (iblk m c 2 t) (iblk m c 3 t) s q l = up (argH m c) (argW m c)
      ⟨(tile t).val * 1024 + q.val - 16, by have := (tile t).isLt; omega⟩ (col (shard (pair t) s) l) := by
  unfold before up
  rw [sum_halves]
  simp only [iblk_g m c t h0, iblk_wa, iblk_wb]

theorem lag_args (c : Dev nD) (t : Fin cfg0.N) (s : Fin 2) (d : ℕ) (hd : d ≤ 2) (r : Fin 1024) (l : Fin 704) :
    shifted d (fun q => Scalar.select (Scalar.cmpi .sgt (BitVec.ofNat 32 (grid0.coords t 0).val) 0#32)
        (before (iblk m c 1 t) (iblk m c 2 t) (iblk m c 3 t) s q l) 0)
      (fun q => prod (iblk m c 0 t) (iblk m c 2 t) (iblk m c 3 t) s q l) r
      = lag d (argH m c) (argW m c) (token (tile t) r) (col (shard (pair t) s) l) := by
  unfold shifted lag
  have ht : (tile t).val = t.val / 4 := rfl
  split
  · show Scalar.select _ (before _ _ _ _ _ _) _ = _
    rw [select_first]
    by_cases h0 : t.val / 4 = 0
    · rw [if_pos h0, if_pos]
      simp only [token]
      omega
    · rw [if_neg h0, before_args m c t h0, if_neg]
      · congr 1
        apply Fin.ext
        simp only [token]
        omega
      · simp only [token]
        omega
  · show prod _ _ _ _ _ _ = _
    rw [prod_args, if_neg]
    · congr 1
      apply Fin.ext
      simp only [token]
      omega
    · simp only [token]
      omega

theorem point_args (c : Dev nD) (t : Fin cfg0.N) (s : Fin 2) (r : Fin 1024) (l : Fin 704) :
    point (grid0.coords t) (iblk m c 0 t) (iblk m c 1 t) (iblk m c 2 t) (iblk m c 3 t) (iblk m c 4 t) s r l
      = hid (argH m c) (argW m c) (argC m c) (token (tile t) r) (col (shard (pair t) s) l) := by
  unfold point conv hid
  rw [lag_args m c t s 2 (by omega), lag_args m c t s 1 (by omega)]
  simp only [prod_args, iblk_c]

/-- A result as the kernel lays it out: shard, token, column of the shard. -/
def laid (f : Fin 4096 → Fin 5632 → EReal) (y : S8x4096x704.Idx) : EReal := f (y 1) (col (y 0) (y 2))

theorem point_up (c : Dev nD) (t : Fin cfg0.N) (s : Fin 2) (r : Fin 1024) (l : Fin 704) :
    (dats m 0 c).after 5 t (ix3 s r l) = laid (up (argH m c) (argW m c)) (ix3 (shard (pair t) s) (token (tile t) r) l) := by
  rw [after0_5]
  exact (up_block _ _ _ _ _ _ _).trans (prod_args m c t s r l)

theorem point_hid (c : Dev nD) (t : Fin cfg0.N) (s : Fin 2) (r : Fin 1024) (l : Fin 704) :
    (dats m 0 c).after 6 t (ix3 s r l)
      = laid (hid (argH m c) (argW m c) (argC m c)) (ix3 (shard (pair t) s) (token (tile t) r) l) := by
  rw [after0_6]
  exact (hid_block _ _ _ _ _ _ _).trans (point_args m c t s r l)

theorem array_up (c : Dev nD) : (dats m 0 c).arrAt 5 cfg0.N = laid (up (argH m c) (argW m c)) := by
  refine (dats m 0 c).arrAt_eq_of_covers 5 _ (by decide +kernel) fun t hf y => ?_
  have e : ((cfg0.win 5).blk t).view.emb y = ix3 (shard (pair t) (y 0)) (token (tile t) (y 1)) (y 2) := by
    blk_ext [idx t, shard, pair, token, tile]
  have ey : y = (ix3 (y 0) (y 1) (y 2) : S2x1024x704.Idx) := by
    blk_ext []
  have h := point_up m c t (y 0) (y 1) (y 2)
  rw [← ey] at h
  blk_simp
  exact h.trans (congrArg (laid (up (argH m c) (argW m c))) e.symm)

theorem array_hid (c : Dev nD) : (dats m 0 c).arrAt 6 cfg0.N = laid (hid (argH m c) (argW m c) (argC m c)) := by
  refine (dats m 0 c).arrAt_eq_of_covers 6 _ (by decide +kernel) fun t hf y => ?_
  have e : ((cfg0.win 6).blk t).view.emb y = ix3 (shard (pair t) (y 0)) (token (tile t) (y 1)) (y 2) := by
    blk_ext [idx t, shard, pair, token, tile]
  have ey : y = (ix3 (y 0) (y 1) (y 2) : S2x1024x704.Idx) := by
    blk_ext []
  have h := point_hid m c t (y 0) (y 1) (y 2)
  rw [← ey] at h
  blk_simp
  exact h.trans (congrArg (laid (hid (argH m c) (argW m c) (argC m c))) e.symm)

theorem after_region_up (c : Dev nD) :
    Pipeline.withArrays (cfgs 0).spec c (V0 m c) (fun w => (dats m 0 c).arrAt w (cfgs 0).N) (Proc.tc.devRef main_v9_0)
      = laid (up (argH m c) (argW m c)) :=
  ((dats m 0 c).withArrays_arrAt launch₀0.sharedIn (V0 m c) (A_eq m c) 5).trans (array_up m c)

theorem after_region_hid (c : Dev nD) :
    Pipeline.withArrays (cfgs 0).spec c (V0 m c) (fun w => (dats m 0 c).arrAt w (cfgs 0).N) (Proc.tc.devRef main_v9_1)
      = laid (hid (argH m c) (argW m c) (argC m c)) :=
  ((dats m 0 c).withArrays_arrAt launch₀0.sharedIn (V0 m c) (A_eq m c) 6).trans (array_hid m c)

theorem laid_eq (g : Fin 4096 → Fin 5632 → EReal) (j : Fin 8) (t : Fin 4096) (l : Fin 704) (f : Fin 5632)
    (hf : f.val = j.val * 704 + l.val) : laid g (ix3 j t l) = g t f := by
  show g t (col j l) = _
  congr 1
  exact Fin.ext hf.symm

/-- The kernel's results: the layout turned back to token and column. -/
theorem tail_up (c : Dev nD) :
    (Pipeline.afterTail₀ cfgs (dats m) 0 (V0 m) [hostOps1] c main_v12 : S4096x5632.Idx → EReal)
      = fun i => up (argH m c) (argW m c) (i 0) (i 1) := by
  funext i
  idx_vars i
  unfold Pipeline.afterTail₀
  simp only [List.flatten_cons, List.flatten_nil, List.append_nil, StableHlo.after_cons, StableHlo.after_nil]
  after_results_simp
  rw [after_region_up]
  pointwise
  refine laid_eq _ _ _ _ _ ?_
  show i1.val = i1.val / 704 * 704 + i1.val % 704
  omega

theorem tail_hid (c : Dev nD) :
    (Pipeline.afterTail₀ cfgs (dats m) 0 (V0 m) [hostOps1] c main_v15 : S4096x5632.Idx → EReal)
      = fun i => hid (argH m c) (argW m c) (argC m c) (i 0) (i 1) := by
  funext i
  idx_vars i
  unfold Pipeline.afterTail₀
  simp only [List.flatten_cons, List.flatten_nil, List.append_nil, StableHlo.after_cons, StableHlo.after_nil]
  after_results_simp
  rw [after_region_hid]
  pointwise
  refine laid_eq _ _ _ _ _ ?_
  show i1.val = i1.val / 704 * 704 + i1.val % 704
  omega

/-- The kernel's run: the projection and its convolution, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v12) = (fun i => up (argH m c) (argW m c) (i 0) (i 1))
      ∧ r.2.mem ((c.tc : Thread nD τ).loc main_v15) = (fun i => hid (argH m c) (argW m c) (argC m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m g)
  refine ⟨?_, ?_, ?_, ?_, ?_⟩
  · exact ((h c).2 main_v12 (Pipeline.mem_restRefs_of main_v12 (by decide) (by decide))).trans (tail_up m c)
  · exact ((h c).2 main_v15 (Pipeline.mem_restRefs_of main_v15 (by decide) (by decide))).trans (tail_hid m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.Proof.Up
-- ==== Proof.Up.Reference.lean ====
module

public import proofs.«01_k».proof.Proof.Up.Kernel
public import proofs.«01_k».proof.Proof.Gen.UpRefIdeal.Run
public import proofs.«01_k».proof.Proof.Gen.UpRefIdeal.Read

@[expose] public section

set_option maxRecDepth 16384

noncomputable section

namespace Cert.Proof.Up

open Idealize.ShloMosaic Idealize.ShloMosaic.TcCoe Idealize.SL.Sem
open Cert.UpRefIdeal Cert.UpRefIdeal.Gen Cert.UpRefIdeal.Read

/-- The reference's projection is the kernel's. -/
theorem ref_up (H : S4096x1024.Idx → EReal) (W : S1024x5632.Idx → EReal) (t : Fin 4096) (f : Fin 5632) :
    val_main_v0 (F := Ideal) H W (ix2 t f) = up H W t f := by
  unfold val_main_v0
  pointwise [up]

/-- The projection with two rows of zeros before it. -/
theorem ref_padded (H : S4096x1024.Idx → EReal) (W : S1024x5632.Idx → EReal) (t : Fin 4098) (f : Fin 5632) :
    val_main_v2 (F := Ideal) H W (ix2 t f) = if h : t.val < 2 then 0 else up H W ⟨t.val - 2, by omega⟩ f := by
  unfold val_main_v2 val_main_v1 val_main_cst
  pointwise [ref_up]

/-- The reference's convolution is the kernel's. -/
theorem ref_hid (H : S4096x1024.Idx → EReal) (W : S1024x5632.Idx → EReal) (C : S3x5632.Idx → EReal) (t : Fin 4096) (f : Fin 5632) :
    val_main_v22 (F := Ideal) H W C (ix2 t f) = hid H W C t f := by
  unfold val_main_v22 val_main_v21 val_main_v20 val_main_v19 val_main_v18 val_main_v17 val_main_v16 val_main_v15 val_main_v14
    val_main_v13 val_main_v12 val_main_v11 val_main_v10 val_main_v9 val_main_v8 val_main_v7 val_main_v6 val_main_v5 val_main_v4
    val_main_v3
  pointwise [ref_padded, hid, lag]
  have e1 : (1 + t.val < 2) = (t.val < 1) := propext ⟨by omega, by omega⟩
  have e2 : 1 + t.val - 2 = t.val - 1 := by omega
  simp only [e1, e2]
  rw [mul_comm (C (ix2 0 f)), mul_comm (C (ix2 1 f)), mul_comm (C (ix2 2 f))]
  split_ifs <;> rfl

variable (m : (ℓ : Loc nD τ sig) → Buf (Elt Ideal) ℓ)

/-- The reference's run, in the kernel's formulas. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun i => up (m ((c.tc : Thread nD τ).loc main_arg0))
        (m ((c.tc : Thread nD τ).loc main_arg1)) (i 0) (i 1))
      ∧ r.2.mem ((c.tc : Thread nD τ).loc main_v22) = (fun i => hid (m ((c.tc : Thread nD τ).loc main_arg0))
        (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.UpRefIdeal.Value.run m g)
  obtain ⟨h0, h1, ha⟩ := h c
  refine ⟨(h0.trans (val_main_v0_eq _ _)).trans (funext fun i => ?_), (h1.trans (val_main_v22_eq _ _ _)).trans (funext fun i => ?_), ha⟩
  · idx_vars i
    exact ref_up _ _ _ _
  · idx_vars i
    exact ref_hid _ _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2.2, sem_eq_zero_of_no_sems (by decide) r.2⟩) (Cert.UpRefIdeal.Value.run m g)

end Cert.Proof.Up
-- ==== Proof.GradUp.Kernel.lean ====
module

public import proofs.«01_k».proof.Proof.Gen.GradUpIdeal.Frame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.GradUp

open Idealize.ShloMosaic Idealize.ShloMosaic.TcCoe Idealize.SL.Sem
open Cert.GradUpIdeal Cert.GradUpIdeal.Gen

/-- The gradient of the weights of a product: all tokens, a column of the input against a column of the cotangent. -/
def weights (H : S4096x1024.Idx → EReal) (D : S4096x5632.Idx → EReal) (n : Fin 1024) (f : Fin 5632) : EReal :=
  ∑ t : Fin 4096, D (ix2 t f) * H (ix2 t n)

/-- Column `l` of shard `j` of the hidden axis. -/
def col (j : Fin 8) (l : Fin 704) : Fin 5632 := ⟨j.val * 704 + l.val, by omega⟩

/-- Row `l` of half `p` of a shard. -/
def half (p : Fin 2) (l : Fin 352) : Fin 704 := ⟨p.val * 352 + l.val, by omega⟩

/-- The product one grid point computes. -/
def part (d : Vec Ideal S1x4096x704 .bf16) (h : Vec Ideal S4096x1024 .bf16) (l : Fin 704) (n : Fin 1024) : EReal :=
  ∑ k : Fin 4096, d (ix3 0 k l) * h (ix2 k n)

variable (m : (ℓ : Loc nD τ sig) → Buf (Elt Ideal) ℓ)

abbrev argH (c : Dev nD) : S4096x1024.Idx → EReal := m ((c : Thread nD τ).loc main_arg0)
abbrev argD (c : Dev nD) : S4096x5632.Idx → EReal := m ((c : Thread nD τ).loc main_arg2)

/-- The product, read at an index. -/
theorem pay2_apply (d : Vec Ideal S1x4096x704 .bf16) (h : Vec Ideal S4096x1024 .bf16) (l : Fin 704) (n : Fin 1024) :
    k0_pay2 d h (ix2 l n) = part d h l n := by
  unfold_payloads
  pointwise [part]

/-- The first half of a shard's rows. -/
theorem upper (c : Dev nD) (t : Fin cfg0.N) (l : Fin 352) (n : Fin 1024) :
    (outsAt0 m c t).1 (ix3 0 l n) = part (iblk m c 0 t) (iblk m c 1 t) (half 0 l) n := by
  unfold outsAt0
  frame_out
  rw [View.readCov_fill _ _ _ _ _ (by decide)]
  unfold k0_pay4
  pointwise
  refine (congrArg (k0_pay2 _ _) ?_).trans (pay2_apply _ _ _ _)
  blk_ext [half]

/-- The second half. -/
theorem lower (c : Dev nD) (t : Fin cfg0.N) (l : Fin 352) (n : Fin 1024) :
    (outsAt0 m c t).2 (ix3 0 l n) = part (iblk m c 0 t) (iblk m c 1 t) (half 1 l) n := by
  unfold outsAt0
  frame_out
  rw [View.readCov_fill _ _ _ _ _ (by decide)]
  unfold k0_pay5
  pointwise
  refine (congrArg (k0_pay2 _ _) ?_).trans (pay2_apply _ _ _ _)
  blk_ext [half]

theorem idx : ∀ t : Fin cfg0.N, win0_0.index t = ![t.val, 0, 0] ∧ win0_1.index t = ![0, 0]
    ∧ win0_2.index t = ![t.val, 0, 0] ∧ win0_3.index t = ![t.val, 0, 0] := by
  decide +kernel

/-- The cotangent as the region finds it: shard, token, column of the shard. -/
theorem entry_ct (c : Dev nD) (j : Fin 8) (t : Fin 4096) (l : Fin 704) :
    (V m c main_v2 : S8x4096x704.Idx → EReal) (ix3 j t l) = argD m c (ix2 t (col j l)) := by
  simp only [V, V0, List.flatten_cons, List.flatten_nil, List.append_nil, StableHlo.after_cons, StableHlo.after_nil]
  after_results_simp
  pointwise
  blk_ext [col]

/-- The shard a grid point works on. -/
def shard (t : Fin cfg0.N) : Fin 8 := ⟨t.val, lt_of_lt_of_eq t.isLt (by decide)⟩

theorem iblk_ct (c : Dev nD) (t : Fin cfg0.N) (k : Fin 4096) (l : Fin 704) :
    (iblk m c 0 t : Vec Ideal S1x4096x704 .bf16) (ix3 0 k l) = argD m c (ix2 k (col (shard t) l)) := by
  rw [← entry_ct]
  blk_ext [iblk, idx t, shard]

theorem iblk_h (c : Dev nD) (t : Fin cfg0.N) (k : Fin 4096) (n : Fin 1024) :
    (iblk m c 1 t : Vec Ideal S4096x1024 .bf16) (ix2 k n) = argH m c (ix2 k n) := by
  blk_ext [iblk, V, idx t]

/-- The product, read in the arguments. -/
theorem part_args (c : Dev nD) (t : Fin cfg0.N) (l : Fin 704) (n : Fin 1024) :
    part (iblk m c 0 t) (iblk m c 1 t) l n = weights (argH m c) (argD m c) n (col (shard t) l) :=
  Finset.sum_congr rfl fun k _ => by rw [iblk_ct, iblk_h]

/-- Half `p` of every shard's rows, as the kernel writes them. -/
def halves (H : S4096x1024.Idx → EReal) (D : S4096x5632.Idx → EReal) (p : Fin 2) (y : S8x352x1024.Idx) : EReal :=
  weights H D (y 2) (col (y 0) (half p (y 1)))

theorem point_upper (c : Dev nD) (t : Fin cfg0.N) (l : Fin 352) (n : Fin 1024) :
    (outsAt0 m c t).1 (ix3 0 l n) = halves (argH m c) (argD m c) 0 (ix3 (shard t) l n) :=
  (upper m c t l n).trans (part_args m c t _ _)

theorem point_lower (c : Dev nD) (t : Fin cfg0.N) (l : Fin 352) (n : Fin 1024) :
    (outsAt0 m c t).2 (ix3 0 l n) = halves (argH m c) (argD m c) 1 (ix3 (shard t) l n) :=
  (lower m c t l n).trans (part_args m c t _ _)

theorem array_upper (c : Dev nD) : (dats m 0 c).arrAt 2 cfg0.N = halves (argH m c) (argD m c) 0 := by
  refine (dats m 0 c).arrAt_eq_of_covers 2 _ (by decide +kernel) fun t hf y => ?_
  have e : ((cfg0.win 2).blk t).view.emb y = ix3 (shard t) (y 1) (y 2) := by
    blk_ext [idx t, shard]
  have ey : y = (ix3 0 (y 1) (y 2) : S1x352x1024.Idx) := by
    blk_ext []
  have h := point_upper m c t (y 1) (y 2)
  rw [← ey] at h
  blk_simp
  rw [after0_2]
  exact h.trans (congrArg (halves (argH m c) (argD m c) 0) e.symm)

theorem array_lower (c : Dev nD) : (dats m 0 c).arrAt 3 cfg0.N = halves (argH m c) (argD m c) 1 := by
  refine (dats m 0 c).arrAt_eq_of_covers 3 _ (by decide +kernel) fun t hf y => ?_
  have e : ((cfg0.win 3).blk t).view.emb y = ix3 (shard t) (y 1) (y 2) := by
    blk_ext [idx t, shard]
  have ey : y = (ix3 0 (y 1) (y 2) : S1x352x1024.Idx) := by
    blk_ext []
  have h := point_lower m c t (y 1) (y 2)
  rw [← ey] at h
  blk_simp
  rw [after0_3]
  exact h.trans (congrArg (halves (argH m c) (argD m c) 1) e.symm)

/-- The windows' arrays are distinct buffers. -/
theorem arrays_distinct : Function.Injective (Pipeline.arrRef spec0) := by
  decide +kernel

theorem halves_eq (H : S4096x1024.Idx → EReal) (D : S4096x5632.Idx → EReal) (p : Fin 2) (j : Fin 8) (l : Fin 352) (n : Fin 1024)
    (f : Fin 5632) (hf : f.val = j.val * 704 + p.val * 352 + l.val) : halves H D p (ix3 j l n) = weights H D n f := by
  show weights H D n (col j (half p l)) = _
  congr 1
  apply Fin.ext
  simp only [col, half]
  omega

theorem after_region_upper (c : Dev nD) :
    Pipeline.withArrays (cfgs 0).spec c (V0 m c) (fun w => (dats m 0 c).arrAt w (cfgs 0).N) (Proc.tc.devRef main_v4_0)
      = halves (argH m c) (argD m c) 0 :=
  (Pipeline.withArrays_arr (cfgs 0).spec arrays_distinct c (V0 m c) (fun w => (dats m 0 c).arrAt w (cfgs 0).N) 2).trans (array_upper m c)

theorem after_region_lower (c : Dev nD) :
    Pipeline.withArrays (cfgs 0).spec c (V0 m c) (fun w => (dats m 0 c).arrAt w (cfgs 0).N) (Proc.tc.devRef main_v4_1)
      = halves (argH m c) (argD m c) 1 :=
  (Pipeline.withArrays_arr (cfgs 0).spec arrays_distinct c (V0 m c) (fun w => (dats m 0 c).arrAt w (cfgs 0).N) 3).trans (array_lower m c)

/-- The kernel's result: the two halves of every shard joined, and the whole transposed. -/
theorem tail (c : Dev nD) :
    (Pipeline.afterTail₀ cfgs (dats m) 0 (V0 m) [hostOps1] c main_v8 : S1024x5632.Idx → EReal)
      = fun i => weights (argH m c) (argD m c) (i 0) (i 1) := by
  funext i
  idx_vars i
  unfold Pipeline.afterTail₀
  simp only [List.flatten_cons, List.flatten_nil, List.append_nil, StableHlo.after_cons, StableHlo.after_nil]
  after_results_simp
  rw [after_region_upper, after_region_lower]
  pointwise
  split
  · refine halves_eq _ _ _ _ _ _ _ ?_
    simp only [Fin.val_zero]
    omega
  · refine halves_eq _ _ _ _ _ _ _ ?_
    simp only [Fin.val_one]
    omega

/-- The kernel's run: the gradient of the weights, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v8) = (fun i => weights (argH m c) (argD m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m g)
  refine ⟨?_, ?_, ?_, ?_⟩
  · exact ((h c).2 main_v8 (Pipeline.mem_restRefs_of main_v8 (by decide) (by decide))).trans (tail m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.Proof.GradUp
-- ==== Proof.GradUp.Reference.lean ====
module

public import proofs.«01_k».proof.Proof.GradUp.Kernel
public import proofs.«01_k».proof.Proof.Gen.GradUpRefIdeal.Run
public import proofs.«01_k».proof.Proof.Gen.GradUpRefIdeal.Read

@[expose] public section

set_option maxRecDepth 16384

noncomputable section

namespace Cert.Proof.GradUp

open Idealize.ShloMosaic Idealize.ShloMosaic.TcCoe Idealize.SL.Sem
open Cert.GradUpRefIdeal Cert.GradUpRefIdeal.Gen Cert.GradUpRefIdeal.Read

/-- The reference's gradient of the weights is the kernel's. -/
theorem ref_weights (H : S4096x1024.Idx → EReal) (D : S4096x5632.Idx → EReal) (n : Fin 1024) (f : Fin 5632) :
    val_main_v2 (F := Ideal) H D (ix2 n f) = weights H D n f := by
  unfold val_main_v2 val_main_v1
  pointwise [weights]

variable (m : (ℓ : Loc nD τ sig) → Buf (Elt Ideal) ℓ)

/-- The reference's run, in the kernel's formula. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v2) = (fun i => weights (m ((c.tc : Thread nD τ).loc main_arg0))
        (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.GradUpRefIdeal.Value.run m g)
  obtain ⟨h2, ha⟩ := h c
  refine ⟨(h2.trans (val_main_v2_eq _ _)).trans (funext fun i => ?_), ha⟩
  idx_vars i
  exact ref_weights _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) r.2⟩) (Cert.GradUpRefIdeal.Value.run m g)

end Cert.Proof.GradUp
-- ==== Proof.Norm.Rows.lean ====
module

public import proofs.«01_k».proof.Proof.GatedDown.Reals

@[expose] public section

/-! The root-mean-square norm of a row of 1024 numbers and the gradient that passes back through it. -/

noncomputable section

namespace Cert.Proof.Norm

open Idealize.ShloMosaic

/-- The length of a row, as the programs write it. -/
def width : EReal := Ideal.ofBits FTy.f32 0x44800000#32

/-- The small number added to the mean square. -/
def eps : EReal := Ideal.ofBits FTy.f32 0x358637BD#32

/-- The mean square of a row, made positive. -/
def square (v : Fin 1024 → EReal) : EReal := Ideal.div (∑ k, v k * v k) width + eps

/-- The factor the norm multiplies a row by. -/
def factor (v : Fin 1024 → EReal) : EReal := Ideal.rsqrt (square v)

/-- The gradient at place `k` of the row `v` when `w` is the gradient of the normed row, in the closed form of the kernel. -/
def back (v w : Fin 1024 → EReal) (k : Fin 1024) : EReal :=
  factor v * w k - v k * (factor v * factor v * factor v) * Ideal.div (∑ n, w n * v n) width

/-- What the factor's own dependence on the row adds to the gradient, before it meets the row: the chain rule in the
    reference's form, through the reciprocal square root, whose derivative is `-1/2 · rsqrt q / q`. -/
def slope (v w : Fin 1024 → EReal) : EReal :=
  Ideal.div ((∑ n, v n * w n) * (Ideal.ofBits FTy.f32 0xBF000000#32 * Ideal.div (factor v) (square v))) width

/-- The row is made of real numbers. -/
def RealRow (v : Fin 1024 → EReal) : Prop := ∀ k, ∃ r : ℝ, v k = r

theorem width_coe : width = ((1024 : ℝ) : EReal) := by
  unfold width
  simp [Ideal.ofBits, Ideal.ieee, -EReal.coe_mul]
  norm_num

theorem half_coe : Ideal.ofBits FTy.f32 0xBF000000#32 = ((-(1 / 2) : ℝ) : EReal) := by
  simp [Ideal.ofBits, Ideal.ieee, -EReal.coe_mul, -EReal.coe_neg]
  norm_num

theorem eps_pos : ∃ e : ℝ, 0 < e ∧ eps = e := by
  refine ⟨_, ?_, (by unfold eps; simp [Ideal.ofBits, Ideal.ieee, -EReal.coe_mul]; rfl)⟩
  positivity

theorem mul_real {a b : EReal} (ha : ∃ r : ℝ, a = r) (hb : ∃ r : ℝ, b = r) : ∃ r : ℝ, a * b = r := by
  obtain ⟨a, rfl⟩ := ha
  obtain ⟨b, rfl⟩ := hb
  exact ⟨a * b, by norm_cast⟩

theorem add_real {a b : EReal} (ha : ∃ r : ℝ, a = r) (hb : ∃ r : ℝ, b = r) : ∃ r : ℝ, a + b = r := by
  obtain ⟨a, rfl⟩ := ha
  obtain ⟨b, rfl⟩ := hb
  exact ⟨a + b, by norm_cast⟩

theorem coe_sum {n : Nat} (f : Fin n → ℝ) : ((∑ k, f k : ℝ) : EReal) = ∑ k, (f k : EReal) := by
  have key : ∀ t : Finset (Fin n), ((∑ k ∈ t, f k : ℝ) : EReal) = ∑ k ∈ t, (f k : EReal) := fun t => by
    induction t using Finset.cons_induction with
    | empty => rfl
    | cons k t hk ih => rw [Finset.sum_cons, Finset.sum_cons, EReal.coe_add, ih]
  exact key Finset.univ

/-- A real row has a positive mean square `q`, and the factor is `1 / √q`. -/
theorem square_real (v : Fin 1024 → EReal) (hv : RealRow v) : ∃ q : ℝ, 0 < q ∧ square v = q ∧ factor v = ((Real.sqrt q)⁻¹ : ℝ) := by
  choose p hp using hv
  obtain ⟨e, he, hepsilon⟩ := eps_pos
  have hq : 0 < (∑ k, p k * p k) * (1 / 1024) + e := by
    have : 0 ≤ ∑ k, p k * p k := Finset.sum_nonneg fun k _ => mul_self_nonneg _
    positivity
  have hs : square v = (((∑ k, p k * p k) * (1 / 1024) + e : ℝ) : EReal) := by
    unfold square
    rw [width_coe, hepsilon, Ideal.div_coe (by norm_num), EReal.coe_add, EReal.coe_mul, coe_sum]
    simp only [hp, EReal.coe_mul]
  refine ⟨_, hq, hs, ?_⟩
  unfold factor
  rw [hs, Ideal.rsqrt_coe, if_neg (not_lt.mpr hq.le), if_neg hq.ne']

theorem factor_real (v : Fin 1024 → EReal) (hv : RealRow v) : ∃ r : ℝ, factor v = r :=
  let ⟨_, _, _, h⟩ := square_real v hv
  ⟨_, h⟩

/-- The closed form, and the chain rule's form, as one real number. -/
theorem back_coe (v w : Fin 1024 → EReal) (hv : RealRow v) (hw : RealRow w) (k : Fin 1024) :
    ∃ r : ℝ, back v w k = r ∧ w k * factor v + v k * slope v w + slope v w * v k = r := by
  obtain ⟨q, hq, hs, hi⟩ := square_real v hv
  choose p hp using hv
  choose d hd using hw
  have hsum : ∑ n, w n * v n = ((∑ n, d n * p n : ℝ) : EReal) := by
    rw [coe_sum]
    exact Finset.sum_congr rfl fun n _ => by rw [hp, hd, EReal.coe_mul]
  have hsum' : ∑ n, v n * w n = ((∑ n, d n * p n : ℝ) : EReal) := by
    rw [← hsum]
    exact Finset.sum_congr rfl fun n _ => mul_comm _ _
  have hi2 : (Real.sqrt q)⁻¹ * (Real.sqrt q)⁻¹ = 1 / q := by
    rw [← mul_inv, Real.mul_self_sqrt hq.le, one_div]
  unfold back slope
  rw [hsum, hsum', hs, hi, hp, hd, width_coe, half_coe, Ideal.div_coe (by norm_num), Ideal.div_coe hq.ne', Ideal.div_coe (by norm_num)]
  refine ⟨(Real.sqrt q)⁻¹ * d k - p k * ((Real.sqrt q)⁻¹ * (Real.sqrt q)⁻¹ * (Real.sqrt q)⁻¹) * ((∑ n, d n * p n) * (1 / 1024)), by norm_cast, ?_⟩
  norm_cast
  rw [← hi2]
  ring

/-- The chain rule's gradient is the kernel's closed form. -/
theorem back_eq (v w : Fin 1024 → EReal) (hv : RealRow v) (hw : RealRow w) (k : Fin 1024) :
    w k * factor v + v k * slope v w + slope v w * v k = back v w k :=
  let ⟨_, h, h'⟩ := back_coe v w hv hw k
  h'.trans h.symm

theorem back_real (v w : Fin 1024 → EReal) (hv : RealRow v) (hw : RealRow w) (k : Fin 1024) : ∃ r : ℝ, back v w k = r :=
  let ⟨r, h, _⟩ := back_coe v w hv hw k
  ⟨r, h⟩

end Cert.Proof.Norm
-- ==== Proof.InBack.Block.lean ====
module

public import proofs.«01_k».proof.Proof.Gen.InBackIdeal.Frame
public import proofs.«01_k».proof.Proof.Norm.Rows
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.InBack

open Idealize.ShloMosaic Idealize.ShloMosaic.TcCoe Idealize.SL.Sem
open Cert.InBackIdeal Cert.InBackIdeal.Gen

open Cert.Proof.Norm

/-- A product of one slab of the cotangent and one slab of half the weights. -/
def term (d : Vec Ideal S8x512x704 .bf16) (w : Vec Ideal S8x704x512 .bf16) (s : Fin 8) (r : Fin 512) (k : Fin 512) : EReal :=
  ∑ l : Fin 704, d (ix3 s r l) * w (ix3 s l k)

/-- The gradient of the modulated norm on one tile of tokens: the cotangent against the transposed weights, slab by
    slab, the two halves of the channels from the two halves of the weights. -/
def gradient (d : Vec Ideal S8x512x704 .bf16) (wa wb : Vec Ideal S8x704x512 .bf16) : Vec Ideal S512x1024 .f32 := fun j =>
  if h : (j 1).val < 512 then ∑ s, term d wa s (j 0) ⟨(j 1).val, h⟩
  else ∑ s, term d wb s (j 0) ⟨(j 1).val - 512, by have : (j 1).val < 1024 := (j 1).isLt; omega⟩

/-- The two halves the kernel stores are the gradient block it reads back. -/
theorem stored {κ : Kind} {sp : Space} (v : View sig κ sp S512x1024 .f32) (d : Vec Ideal S8x512x704 .bf16) (wa wb : Vec Ideal S8x704x512 .bf16) :
    v.readCov (Val := Elt Ideal)
      [⟨Rect.unit ![0, 512] ![512, 512] inb_S512x1024_S512x512_0_512,
        k0_pay1
          (k0_pay26
            (k0_pay25
              (View.ld d (Rect.unit ![0, 0, 0] ![1, 512, 704] inb_S8x512x704_S1x512x704_0_0_0))
              (View.ld wb (Rect.unit ![0, 0, 0] ![1, 704, 512] inb_S8x704x512_S1x704x512_0_0_0)))
            (View.ld d (Rect.unit ![1, 0, 0] ![1, 512, 704] inb_S8x512x704_S1x512x704_1_0_0))
            (View.ld wb (Rect.unit ![1, 0, 0] ![1, 704, 512] inb_S8x704x512_S1x704x512_1_0_0))
            (View.ld d (Rect.unit ![2, 0, 0] ![1, 512, 704] inb_S8x512x704_S1x512x704_2_0_0))
            (View.ld wb (Rect.unit ![2, 0, 0] ![1, 704, 512] inb_S8x704x512_S1x704x512_2_0_0))
            (View.ld d (Rect.unit ![3, 0, 0] ![1, 512, 704] inb_S8x512x704_S1x512x704_3_0_0))
            (View.ld wb (Rect.unit ![3, 0, 0] ![1, 704, 512] inb_S8x704x512_S1x704x512_3_0_0))
            (View.ld d (Rect.unit ![4, 0, 0] ![1, 512, 704] inb_S8x512x704_S1x512x704_4_0_0))
            (View.ld wb (Rect.unit ![4, 0, 0] ![1, 704, 512] inb_S8x704x512_S1x704x512_4_0_0)))
          (k0_pay27
            (View.ld d (Rect.unit ![5, 0, 0] ![1, 512, 704] inb_S8x512x704_S1x512x704_5_0_0)))
          (k0_pay28
            (View.ld wb (Rect.unit ![5, 0, 0] ![1, 704, 512] inb_S8x704x512_S1x704x512_5_0_0)))
          (constant S512x512 FTy.f32 0#32)
          (View.ld d (Rect.unit ![6, 0, 0] ![1, 512, 704] inb_S8x512x704_S1x512x704_6_0_0))
          (View.ld wb (Rect.unit ![6, 0, 0] ![1, 704, 512] inb_S8x704x512_S1x704x512_6_0_0))
          (View.ld d (Rect.unit ![7, 0, 0] ![1, 512, 704] inb_S8x512x704_S1x512x704_7_0_0))
          (View.ld wb (Rect.unit ![7, 0, 0] ![1, 704, 512] inb_S8x704x512_S1x704x512_7_0_0))⟩,
        ⟨Rect.unit ![0, 0] ![512, 512] inb_S512x1024_S512x512_0_0,
        k0_pay24
          (k0_pay22
            (View.ld d (Rect.unit ![0, 0, 0] ![1, 512, 704] inb_S8x512x704_S1x512x704_0_0_0))
            (View.ld wa (Rect.unit ![0, 0, 0] ![1, 704, 512] inb_S8x704x512_S1x704x512_0_0_0))
            (View.ld d (Rect.unit ![1, 0, 0] ![1, 512, 704] inb_S8x512x704_S1x512x704_1_0_0))
            (View.ld wa (Rect.unit ![1, 0, 0] ![1, 704, 512] inb_S8x704x512_S1x704x512_1_0_0))
            (View.ld d (Rect.unit ![2, 0, 0] ![1, 512, 704] inb_S8x512x704_S1x512x704_2_0_0))
            (View.ld wa (Rect.unit ![2, 0, 0] ![1, 704, 512] inb_S8x704x512_S1x704x512_2_0_0))
            (View.ld d (Rect.unit ![3, 0, 0] ![1, 512, 704] inb_S8x512x704_S1x512x704_3_0_0))
            (View.ld wa (Rect.unit ![3, 0, 0] ![1, 704, 512] inb_S8x704x512_S1x704x512_3_0_0)))
          (k0_pay23
            (View.ld d (Rect.unit ![4, 0, 0] ![1, 512, 704] inb_S8x512x704_S1x512x704_4_0_0)))
          (View.ld wa (Rect.unit ![4, 0, 0] ![1, 704, 512] inb_S8x704x512_S1x704x512_4_0_0))
          (View.ld d (Rect.unit ![5, 0, 0] ![1, 512, 704] inb_S8x512x704_S1x512x704_5_0_0))
          (View.ld wa (Rect.unit ![5, 0, 0] ![1, 704, 512] inb_S8x704x512_S1x704x512_5_0_0))
          (View.ld d (Rect.unit ![6, 0, 0] ![1, 512, 704] inb_S8x512x704_S1x512x704_6_0_0))
          (View.ld wa (Rect.unit ![6, 0, 0] ![1, 704, 512] inb_S8x704x512_S1x704x512_6_0_0))
          (View.ld d (Rect.unit ![7, 0, 0] ![1, 512, 704] inb_S8x512x704_S1x512x704_7_0_0))
          (View.ld wa (Rect.unit ![7, 0, 0] ![1, 704, 512] inb_S8x704x512_S1x704x512_7_0_0))⟩]
      (Rect.unit ![0, 0] ![512, 1024] inb_S512x1024_S512x1024_0_0).toLoadRect = gradient d wa wb := by
  refine (View.readCov_eq_canon' _ _ _).trans ((View.ld_unit_lit inb_S512x1024_S512x1024_0_0 (View.canon _) (by decide)).trans (funext fun j => ?_))
  idx_vars j
  canon_tiles y hy
  · idx_vars y
    unfold_payloads
    pointwise [gradient, term] at *
    obtain rfl : j0 = y0 := Fin.ext hy0
    have e : ∀ h, (⟨j1.val - 512, h⟩ : Fin 512) = y1 := fun h => Fin.ext (by show j1.val - 512 = y1.val; omega)
    rw [dif_neg (by omega), Fin.sum_univ_eight]
    simp only [e]
  · idx_vars y
    unfold_payloads
    pointwise [gradient, term] at *
    obtain rfl : j0 = y0 := Fin.ext hy0
    have e : ∀ h, (⟨j1.val, h⟩ : Fin 512) = y1 := fun h => Fin.ext hy1
    rw [dif_pos (by omega), Fin.sum_univ_eight]
    simp only [e]

/-- Row `r` of a tile. -/
def row (x : S512x1024.Idx → EReal) (r : Fin 512) : Fin 1024 → EReal := fun k => x (ix2 r k)

theorem pay10_apply (x : Vec Ideal S512x1024 .f32) (r : Fin 512) (z : Fin 1) : k0_pay10 x (ix2 r z) = factor (row x r) := by
  unfold_payloads
  pointwise [factor, square, width, eps, row]

theorem pay17_apply (x : Vec Ideal S512x1024 .bf16) (r : Fin 512) (z : Fin 1) : k0_pay17 x (ix2 r z) = factor (row x r) := by
  unfold_payloads
  pointwise [factor, square, width, eps, row]

/-- What a tile adds to the gradient of the shift: the sum of its rows. -/
def shiftPart (b : Vec Ideal S512x1024 .f32) (k : Fin 1024) : EReal := ∑ r : Fin 512, b (ix2 r k)

/-- What a tile adds to the gradient of the scale. -/
def scalePart (b x : Vec Ideal S512x1024 .f32) (g : Vec Ideal S1x1024 .f32) (k : Fin 1024) : EReal :=
  ∑ r : Fin 512, b (ix2 r k) * (x (ix2 r k) * factor (row x r) * g (ix2 0 k))

/-- The gradient of the norm itself: the gradient of the modulated norm times `1 + scale`. -/
def unscaled (b : Vec Ideal S512x1024 .f32) (sc : Vec Ideal S1x1024 .f32) (r : Fin 512) (k : Fin 1024) : EReal :=
  b (ix2 r k) * (1 + sc (ix2 0 k))

/-- What a tile adds to the gradient of the norm's gain. -/
def gainPart (b x : Vec Ideal S512x1024 .f32) (sc : Vec Ideal S1x1024 .f32) (k : Fin 1024) : EReal :=
  ∑ r : Fin 512, unscaled b sc r k * x (ix2 r k) * factor (row x r)

/-- What a tile adds to the gradient of the gate on the branch below. -/
def gatePart (y o : S512x1024.Idx → EReal) (g : Vec Ideal S1x1024 .f32) (k : Fin 1024) : EReal :=
  ∑ r : Fin 512, y (ix2 r k) * (o (ix2 r k) * factor (row o r) * g (ix2 0 k))

/-- What a tile adds to the gradient of the gain of the norm on the branch below. -/
def postPart (y o : S512x1024.Idx → EReal) (gt : Vec Ideal S1x1024 .f32) (k : Fin 1024) : EReal :=
  ∑ r : Fin 512, y (ix2 r k) * gt (ix2 0 k) * o (ix2 r k) * factor (row o r)

/-- The gradient of the branch below: what passes back through its gate and its norm. -/
def passed (y o : S512x1024.Idx → EReal) (g gt : Vec Ideal S1x1024 .f32) (r : Fin 512) (k : Fin 1024) : EReal :=
  back (row o r) (fun n => g (ix2 0 n) * (y (ix2 r n) * gt (ix2 0 n))) k

theorem pay11_apply (b : Vec Ideal S512x1024 .f32) (a : Vec Ideal S1x1024 .f32) (z : Fin 1) (k : Fin 1024) :
   k0_pay11 b a (ix2 z k) = a (ix2 z k) + shiftPart b k := by
  unfold_payloads
  pointwise [shiftPart]

theorem pay12_apply (b x : Vec Ideal S512x1024 .f32) (g a : Vec Ideal S1x1024 .f32) (z : Fin 1) (k : Fin 1024) :
   k0_pay12 b x g a (ix2 z k) = a (ix2 z k) + scalePart b x g k := by
  unfold k0_pay12 k0_pay9
  pointwise [pay10_apply, scalePart]

theorem pay13_apply (b : Vec Ideal S512x1024 .f32) (sc : Vec Ideal S1x1024 .f32) (r : Fin 512) (k : Fin 1024) :
   k0_pay13 b sc (ix2 r k) = unscaled b sc r k := by
  unfold_payloads
  pointwise [unscaled]

theorem pay14_apply (b x : Vec Ideal S512x1024 .f32) (sc a : Vec Ideal S1x1024 .f32) (z : Fin 1) (k : Fin 1024) :
   k0_pay14 x (k0_pay10 x) (k0_pay13 b sc) a (ix2 z k)
      = a (ix2 z k) + gainPart b x sc k := by
  unfold k0_pay14
  pointwise [pay10_apply, pay13_apply, gainPart]

theorem pay15_apply (b x ct : Vec Ideal S512x1024 .f32) (g sc : Vec Ideal S1x1024 .f32) (r : Fin 512) (k : Fin 1024) :
   k0_pay15 x g (k0_pay10 x) (k0_pay13 b sc) ct (ix2 r k)
      = ct (ix2 r k) + back (row x r) (fun n => g (ix2 0 n) * unscaled b sc r n) k := by
  unfold k0_pay15
  pointwise [pay10_apply, pay13_apply, back, row, width]

theorem pay18_apply (y : Vec Ideal S512x1024 .f32) (o : Vec Ideal S512x1024 .bf16) (g a : Vec Ideal S1x1024 .f32) (z : Fin 1) (k : Fin 1024) :
   k0_pay18 y (k0_pay16 o) g (k0_pay17 o) a (ix2 z k)
      = a (ix2 z k) + gatePart y o g k := by
  unfold k0_pay18 k0_pay16
  pointwise [pay17_apply, gatePart]

theorem pay20_apply (y : Vec Ideal S512x1024 .f32) (o : Vec Ideal S512x1024 .bf16) (gt a : Vec Ideal S1x1024 .f32) (z : Fin 1) (k : Fin 1024) :
   k0_pay20 y (k0_pay16 o) (k0_pay17 o) gt a (ix2 z k)
      = a (ix2 z k) + postPart y o gt k := by
  unfold k0_pay20 k0_pay19 k0_pay16
  pointwise [pay17_apply, postPart]

theorem pay21_apply (y : Vec Ideal S512x1024 .f32) (o : Vec Ideal S512x1024 .bf16) (g gt : Vec Ideal S1x1024 .f32) (r : Fin 512) (k : Fin 1024) :
   k0_pay21 y (k0_pay16 o) g (k0_pay17 o) gt (ix2 r k) = passed y o g gt r k := by
  unfold k0_pay21 k0_pay19 k0_pay16
  pointwise [pay17_apply, passed, back, row, width]

/-- The gradient of the lower residual stream: the cotangent that comes straight down, plus what passes back through the norm. -/
def stream (b x ct : Vec Ideal S512x1024 .f32) (g sc : Vec Ideal S1x1024 .f32) : Vec Ideal S512x1024 .f32 := fun j =>
  ct j + back (row x (j 0)) (fun n => g (ix2 0 n) * unscaled b sc (j 0) n) (j 1)

theorem pay15_eq (b x ct : Vec Ideal S512x1024 .f32) (g sc : Vec Ideal S1x1024 .f32) :
    k0_pay15 x g (k0_pay10 x) (k0_pay13 b sc) ct = stream b x ct g sc := by
  funext j
  idx_vars j
  exact pay15_apply b x ct g sc j0 j1

variable (m : (ℓ : Loc nD τ sig) → Buf (Elt Ideal) ℓ)

/-- The two gradient blocks of a grid point, of the blocks it is handed. -/
def point (c : Dev nD) (t : Fin cfg0.N) : Vec Ideal S512x1024 .f32 := gradient (iblk m c 0 t) (iblk m c 1 t) (iblk m c 2 t)
def residual (c : Dev nD) (t : Fin cfg0.N) : Vec Ideal S512x1024 .f32 :=
  stream (point m c t) (iblk m c 3 t) (iblk m c 4 t) (iblk m c 6 t) (iblk m c 5 t)

theorem dx_point (c : Dev nD) (t : Fin cfg0.N) : (outsAt0 m c t.val t.isLt).1 = residual m c t := by
  by_cases h0 : t.val % 8 = 0
  · rw [outsAt0_A m c t h0]
    funext j
    frame_out
    rw [stored]
    exact congrFun (pay15_eq _ _ _ _ _) j
  · rw [outsAt0_B m c t h0]
    funext j
    frame_out
    rw [stored]
    exact congrFun (pay15_eq _ _ _ _ _) j

theorem do_point (c : Dev nD) (t : Fin cfg0.N) (j : S512x1024.Idx) :
    (outsAt0 m c t.val t.isLt).2.2.2.2.1 j = passed (residual m c t) (iblk m c 7 t) (iblk m c 9 t) (iblk m c 8 t) (j 0) (j 1) := by
  idx_vars j
  by_cases h0 : t.val % 8 = 0
  · rw [outsAt0_A m c t h0]
    frame_out
    rw [stored, pay15_eq]
    exact pay21_apply _ _ _ _ j0 j1
  · rw [outsAt0_B m c t h0]
    frame_out
    rw [stored, pay15_eq]
    exact pay21_apply _ _ _ _ j0 j1

theorem dshift_first (c : Dev nD) (t : Fin cfg0.N) (h0 : t.val % 8 = 0) (j : S1x1024.Idx) :
    (outsAt0 m c t.val t.isLt).2.1 j
      = 0 + shiftPart (point m c t) (j 1) := by
  idx_vars j
  rw [outsAt0_A m c t h0]
  frame_out
  rw [stored]
  refine (pay11_apply _ (k0_pay2 (F := Ideal)) j0 j1).trans ?_
  unfold k0_pay2
  pointwise
  rfl

theorem dshift_next (c : Dev nD) (t : Fin cfg0.N) (h0 : ¬t.val % 8 = 0) (j : S1x1024.Idx) :
    (outsAt0 m c t.val t.isLt).2.1 j
      = (outsAt0 m c (t.val - 1) (Nat.lt_of_le_of_lt (Nat.sub_le _ _) t.isLt)).2.1 j + shiftPart (point m c t) (j 1) := by
  idx_vars j
  rw [outsAt0_B m c t h0]
  frame_out
  rw [stored]
  exact pay11_apply _ _ j0 j1

theorem dscale_first (c : Dev nD) (t : Fin cfg0.N) (h0 : t.val % 8 = 0) (j : S1x1024.Idx) :
    (outsAt0 m c t.val t.isLt).2.2.1 j
      = 0 + scalePart (point m c t) (iblk m c 3 t) (iblk m c 6 t) (j 1) := by
  idx_vars j
  rw [outsAt0_A m c t h0]
  frame_out
  rw [stored]
  refine (pay12_apply _ _ _ (k0_pay3 (F := Ideal)) j0 j1).trans ?_
  unfold k0_pay3
  pointwise
  rfl

theorem dscale_next (c : Dev nD) (t : Fin cfg0.N) (h0 : ¬t.val % 8 = 0) (j : S1x1024.Idx) :
    (outsAt0 m c t.val t.isLt).2.2.1 j
      = (outsAt0 m c (t.val - 1) (Nat.lt_of_le_of_lt (Nat.sub_le _ _) t.isLt)).2.2.1 j + scalePart (point m c t) (iblk m c 3 t) (iblk m c 6 t) (j 1) := by
  idx_vars j
  rw [outsAt0_B m c t h0]
  frame_out
  rw [stored]
  exact pay12_apply _ _ _ _ j0 j1

theorem dgain_first (c : Dev nD) (t : Fin cfg0.N) (h0 : t.val % 8 = 0) (j : S1x1024.Idx) :
    (outsAt0 m c t.val t.isLt).2.2.2.1 j
      = 0 + gainPart (point m c t) (iblk m c 3 t) (iblk m c 5 t) (j 1) := by
  idx_vars j
  rw [outsAt0_A m c t h0]
  frame_out
  rw [stored]
  refine (pay14_apply _ _ _ (k0_pay4 (F := Ideal)) j0 j1).trans ?_
  unfold k0_pay4
  pointwise
  rfl

theorem dgain_next (c : Dev nD) (t : Fin cfg0.N) (h0 : ¬t.val % 8 = 0) (j : S1x1024.Idx) :
    (outsAt0 m c t.val t.isLt).2.2.2.1 j
      = (outsAt0 m c (t.val - 1) (Nat.lt_of_le_of_lt (Nat.sub_le _ _) t.isLt)).2.2.2.1 j + gainPart (point m c t) (iblk m c 3 t) (iblk m c 5 t) (j 1) := by
  idx_vars j
  rw [outsAt0_B m c t h0]
  frame_out
  rw [stored]
  exact pay14_apply _ _ _ _ j0 j1

theorem dgate_first (c : Dev nD) (t : Fin cfg0.N) (h0 : t.val % 8 = 0) (j : S1x1024.Idx) :
    (outsAt0 m c t.val t.isLt).2.2.2.2.2.1 j
      = 0 + gatePart (residual m c t) (iblk m c 7 t) (iblk m c 9 t) (j 1) := by
  idx_vars j
  rw [outsAt0_A m c t h0]
  frame_out
  rw [stored, pay15_eq]
  refine (pay18_apply _ _ _ (k0_pay5 (F := Ideal)) j0 j1).trans ?_
  unfold k0_pay5
  pointwise
  rfl

theorem dgate_next (c : Dev nD) (t : Fin cfg0.N) (h0 : ¬t.val % 8 = 0) (j : S1x1024.Idx) :
    (outsAt0 m c t.val t.isLt).2.2.2.2.2.1 j
      = (outsAt0 m c (t.val - 1) (Nat.lt_of_le_of_lt (Nat.sub_le _ _) t.isLt)).2.2.2.2.2.1 j + gatePart (residual m c t) (iblk m c 7 t) (iblk m c 9 t) (j 1) := by
  idx_vars j
  rw [outsAt0_B m c t h0]
  frame_out
  rw [stored, pay15_eq]
  exact pay18_apply _ _ _ _ j0 j1

theorem dpost_first (c : Dev nD) (t : Fin cfg0.N) (h0 : t.val % 8 = 0) (j : S1x1024.Idx) :
    (outsAt0 m c t.val t.isLt).2.2.2.2.2.2 j
      = 0 + postPart (residual m c t) (iblk m c 7 t) (iblk m c 8 t) (j 1) := by
  idx_vars j
  rw [outsAt0_A m c t h0]
  frame_out
  rw [stored, pay15_eq]
  refine (pay20_apply _ _ _ (k0_pay6 (F := Ideal)) j0 j1).trans ?_
  unfold k0_pay6
  pointwise
  rfl

theorem dpost_next (c : Dev nD) (t : Fin cfg0.N) (h0 : ¬t.val % 8 = 0) (j : S1x1024.Idx) :
    (outsAt0 m c t.val t.isLt).2.2.2.2.2.2 j
      = (outsAt0 m c (t.val - 1) (Nat.lt_of_le_of_lt (Nat.sub_le _ _) t.isLt)).2.2.2.2.2.2 j + postPart (residual m c t) (iblk m c 7 t) (iblk m c 8 t) (j 1) := by
  idx_vars j
  rw [outsAt0_B m c t h0]
  frame_out
  rw [stored, pay15_eq]
  exact pay20_apply _ _ _ _ j0 j1

end Cert.Proof.InBack
-- ==== Proof.InBack.Arrays.lean ====
module

public import proofs.«01_k».proof.Proof.InBack.Block
public import Idealize.ShloMosaic.Lib.Claim

@[expose] public section

set_option maxRecDepth 16384

noncomputable section

namespace Cert.Proof.InBack

open Idealize.ShloMosaic Idealize.ShloMosaic.TcCoe Idealize.SL.Sem
open Cert.InBackIdeal Cert.InBackIdeal.Gen
open Cert.Proof.Norm

/-- Row `t` of a token array. -/
def line (X : S4096x1024.Idx → EReal) (t : Fin 4096) : Fin 1024 → EReal := fun k => X (ix2 t k)

/-- The gradient of the modulated norm: the cotangent against the rows of the weights. -/
def wide (W : S1024x5632.Idx → EReal) (U : S4096x5632.Idx → EReal) (t : Fin 4096) (k : Fin 1024) : EReal :=
  ∑ f : Fin 5632, U (ix2 t f) * W (ix2 k f)

/-- The gradient of the norm with its gain, before the modulation. -/
def bare (W : S1024x5632.Idx → EReal) (U : S4096x5632.Idx → EReal) (C : S1x1024.Idx → EReal) (t : Fin 4096) (k : Fin 1024) : EReal :=
  wide W U t k * (1 + C (ix2 0 k))

/-- The gradient of the residual stream. -/
def dStream (X : S4096x1024.Idx → EReal) (C G : S1x1024.Idx → EReal) (W : S1024x5632.Idx → EReal) (D : S4096x1024.Idx → EReal)
    (U : S4096x5632.Idx → EReal) (t : Fin 4096) (k : Fin 1024) : EReal :=
  D (ix2 t k) + back (line X t) (fun n => G (ix2 0 n) * bare W U C t n) k

/-- The gradients of the shift, the scale and the gain of the norm: sums over all tokens. -/
def dShift (W : S1024x5632.Idx → EReal) (U : S4096x5632.Idx → EReal) (k : Fin 1024) : EReal := ∑ t : Fin 4096, wide W U t k

def dScale (X : S4096x1024.Idx → EReal) (G : S1x1024.Idx → EReal) (W : S1024x5632.Idx → EReal) (U : S4096x5632.Idx → EReal) (k : Fin 1024) : EReal :=
  ∑ t : Fin 4096, wide W U t k * (X (ix2 t k) * factor (line X t) * G (ix2 0 k))

def dGain (X : S4096x1024.Idx → EReal) (C : S1x1024.Idx → EReal) (W : S1024x5632.Idx → EReal) (U : S4096x5632.Idx → EReal) (k : Fin 1024) : EReal :=
  ∑ t : Fin 4096, bare W U C t k * X (ix2 t k) * factor (line X t)

/-- Of the branch below, whose gradient is `Y`: the gradients of its values, its gate and the gain of its norm. -/
def dBranch (Y : Fin 4096 → Fin 1024 → EReal) (O : S4096x1024.Idx → EReal) (G T : S1x1024.Idx → EReal) (t : Fin 4096) (k : Fin 1024) : EReal :=
  back (line O t) (fun n => G (ix2 0 n) * (Y t n * T (ix2 0 n))) k

def dGate (Y : Fin 4096 → Fin 1024 → EReal) (O : S4096x1024.Idx → EReal) (G : S1x1024.Idx → EReal) (k : Fin 1024) : EReal :=
  ∑ t : Fin 4096, Y t k * (O (ix2 t k) * factor (line O t) * G (ix2 0 k))

def dPost (Y : Fin 4096 → Fin 1024 → EReal) (O : S4096x1024.Idx → EReal) (T : S1x1024.Idx → EReal) (k : Fin 1024) : EReal :=
  ∑ t : Fin 4096, Y t k * T (ix2 0 k) * O (ix2 t k) * factor (line O t)

theorem times {a b a' b' : EReal} (h : a = a') (h' : b = b') : a * b = a' * b' := congrArg₂ _ h h'

/-- Column `l` of shard `j` of the hidden axis. -/
def col (j : Fin 8) (l : Fin 704) : Fin 5632 := ⟨j.val * 704 + l.val, by omega⟩

variable (m : (ℓ : Loc nD τ sig) → Buf (Elt Ideal) ℓ)

abbrev argO (c : Dev nD) : S4096x1024.Idx → EReal := m ((c : Thread nD τ).loc main_arg0)
abbrev argT (c : Dev nD) : S1x1024.Idx → EReal := m ((c : Thread nD τ).loc main_arg1)
abbrev argP (c : Dev nD) : S1x1024.Idx → EReal := m ((c : Thread nD τ).loc main_arg2)
abbrev argX (c : Dev nD) : S4096x1024.Idx → EReal := m ((c : Thread nD τ).loc main_arg3)
abbrev argC (c : Dev nD) : S1x1024.Idx → EReal := m ((c : Thread nD τ).loc main_arg4)
abbrev argG (c : Dev nD) : S1x1024.Idx → EReal := m ((c : Thread nD τ).loc main_arg6)
abbrev argW (c : Dev nD) : S1024x5632.Idx → EReal := m ((c : Thread nD τ).loc main_arg7)
abbrev argD (c : Dev nD) : S4096x1024.Idx → EReal := m ((c : Thread nD τ).loc main_arg8)
abbrev argU (c : Dev nD) : S4096x5632.Idx → EReal := m ((c : Thread nD τ).loc main_arg9)

/-- The residual stream's gradient, of the arguments of a device. -/
abbrev down (c : Dev nD) : Fin 4096 → Fin 1024 → EReal := dStream (argX m c) (argC m c) (argG m c) (argW m c) (argD m c) (argU m c)

theorem points : cfg0.N = 8 := by decide

/-- Token `r` of the tile of a grid point. -/
def token (t : Fin cfg0.N) (r : Fin 512) : Fin 4096 := ⟨t.val * 512 + r.val, by have := lt_of_lt_of_eq t.isLt points; omega⟩

theorem idx : ∀ t : Fin cfg0.N, win0_0.index t = ![0, t.val, 0] ∧ win0_1.index t = ![0, 0, 0] ∧ win0_2.index t = ![0, 0, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] ∧ win0_9.index t = ![0, 0] ∧ win0_10.index t = ![t.val, 0]
    ∧ win0_14.index t = ![t.val, 0] := by
  decide +kernel

theorem idx_acc : ∀ t : Fin cfg0.N, win0_11.index t = ![0, 0] ∧ win0_12.index t = ![0, 0] ∧ win0_13.index t = ![0, 0]
    ∧ win0_15.index t = ![0, 0] ∧ win0_16.index t = ![0, 0] := by
  decide +kernel

/-- The cotangent as the region finds it: shard, token, column of the shard. -/
theorem entry_ct (c : Dev nD) (j : Fin 8) (t : Fin 4096) (l : Fin 704) :
    (V m c main_v8 : S8x4096x704.Idx → EReal) (ix3 j t l) = argU m c (ix2 t (col j l)) := by
  simp only [V, V0, List.flatten_cons, List.flatten_nil, List.append_nil, StableHlo.after_cons, StableHlo.after_nil]
  after_results_simp
  pointwise
  blk_ext [col]

/-- The weights as the region finds them: shard, column of the shard, row; the first half of the rows. -/
theorem entry_wa (c : Dev nD) (j : Fin 8) (l : Fin 704) (k : Fin 512) :
    (V m c main_v3 : S8x704x512.Idx → EReal) (ix3 j l k) = argW m c (ix2 ⟨k.val, by omega⟩ (col j l)) := by
  simp only [V, V0, List.flatten_cons, List.flatten_nil, List.append_nil, StableHlo.after_cons, StableHlo.after_nil]
  after_results_simp
  pointwise
  blk_ext [col]

/-- The second half of the rows. -/
theorem entry_wb (c : Dev nD) (j : Fin 8) (l : Fin 704) (k : Fin 512) :
    (V m c main_v5 : S8x704x512.Idx → EReal) (ix3 j l k) = argW m c (ix2 ⟨512 + k.val, by omega⟩ (col j l)) := by
  simp only [V, V0, List.flatten_cons, List.flatten_nil, List.append_nil, StableHlo.after_cons, StableHlo.after_nil]
  after_results_simp
  pointwise
  blk_ext [col]

theorem entry_o (c : Dev nD) (t : Fin 4096) (k : Fin 1024) :
    (V m c main_v9 : S4096x1024.Idx → EReal) (ix2 t k) = argO m c (ix2 t k) := by
  simp only [V, V0, List.flatten_cons, List.flatten_nil, List.append_nil, StableHlo.after_cons, StableHlo.after_nil]
  after_results_simp
  pointwise

theorem iblk_ct (c : Dev nD) (t : Fin cfg0.N) (s : Fin 8) (r : Fin 512) (l : Fin 704) :
    (iblk m c 0 t : Vec Ideal S8x512x704 .bf16) (ix3 s r l) = argU m c (ix2 (token t r) (col s l)) := by
  rw [← entry_ct]
  blk_ext [iblk, idx t, token]

theorem iblk_wa (c : Dev nD) (t : Fin cfg0.N) (s : Fin 8) (l : Fin 704) (k : Fin 512) :
    (iblk m c 1 t : Vec Ideal S8x704x512 .bf16) (ix3 s l k) = argW m c (ix2 ⟨k.val, by omega⟩ (col s l)) := by
  rw [← entry_wa]
  blk_ext [iblk, idx t]

theorem iblk_wb (c : Dev nD) (t : Fin cfg0.N) (s : Fin 8) (l : Fin 704) (k : Fin 512) :
    (iblk m c 2 t : Vec Ideal S8x704x512 .bf16) (ix3 s l k) = argW m c (ix2 ⟨512 + k.val, by omega⟩ (col s l)) := by
  rw [← entry_wb]
  blk_ext [iblk, idx t]

theorem iblk_x (c : Dev nD) (t : Fin cfg0.N) (r : Fin 512) (k : Fin 1024) :
    (iblk m c 3 t : Vec Ideal S512x1024 .f32) (ix2 r k) = argX m c (ix2 (token t r) k) := by
  blk_ext [iblk, V, idx t, token]

theorem iblk_d (c : Dev nD) (t : Fin cfg0.N) (r : Fin 512) (k : Fin 1024) :
    (iblk m c 4 t : Vec Ideal S512x1024 .f32) (ix2 r k) = argD m c (ix2 (token t r) k) := by
  blk_ext [iblk, V, idx t, token]

theorem iblk_c (c : Dev nD) (t : Fin cfg0.N) (k : Fin 1024) :
    (iblk m c 5 t : Vec Ideal S1x1024 .f32) (ix2 0 k) = argC m c (ix2 0 k) := by
  blk_ext [iblk, V, idx t]

theorem iblk_g (c : Dev nD) (t : Fin cfg0.N) (k : Fin 1024) :
    (iblk m c 6 t : Vec Ideal S1x1024 .f32) (ix2 0 k) = argG m c (ix2 0 k) := by
  blk_ext [iblk, V, idx t]

theorem iblk_o (c : Dev nD) (t : Fin cfg0.N) (r : Fin 512) (k : Fin 1024) :
    (iblk m c 7 t : Vec Ideal S512x1024 .bf16) (ix2 r k) = argO m c (ix2 (token t r) k) := by
  rw [← entry_o]
  blk_ext [iblk, idx t, token]

theorem iblk_t (c : Dev nD) (t : Fin cfg0.N) (k : Fin 1024) :
    (iblk m c 8 t : Vec Ideal S1x1024 .f32) (ix2 0 k) = argT m c (ix2 0 k) := by
  blk_ext [iblk, V, idx t]

theorem iblk_p (c : Dev nD) (t : Fin cfg0.N) (k : Fin 1024) :
    (iblk m c 9 t : Vec Ideal S1x1024 .f32) (ix2 0 k) = argP m c (ix2 0 k) := by
  blk_ext [iblk, V, idx t]

theorem row_x (c : Dev nD) (t : Fin cfg0.N) (r : Fin 512) : row (iblk m c 3 t) r = line (argX m c) (token t r) :=
  funext fun k => iblk_x m c t r k

theorem row_o (c : Dev nD) (t : Fin cfg0.N) (r : Fin 512) : row (iblk m c 7 t) r = line (argO m c) (token t r) :=
  funext fun k => iblk_o m c t r k

/-- The gradient block, read in the arguments: slab by slab of the hidden axis is the whole axis. -/
theorem point_args (c : Dev nD) (t : Fin cfg0.N) (r : Fin 512) (k : Fin 1024) :
    point m c t (ix2 r k) = wide (argW m c) (argU m c) (token t r) k := by
  show gradient (iblk m c 0 t) (iblk m c 1 t) (iblk m c 2 t) (ix2 r k) = _
  by_cases h : k.val < 512
  · refine (dif_pos (show ((ix2 r k : S512x1024.Idx) 1).val < 512 from h)).trans (Fin.sum_mul_add_congr fun s l hl => ?_)
    exact congrArg₂ (· * ·) (iblk_ct m c t s r l) (iblk_wa m c t s l _)
  · refine (dif_neg (show ¬((ix2 r k : S512x1024.Idx) 1).val < 512 from h)).trans (Fin.sum_mul_add_congr fun s l hl => ?_)
    refine congrArg₂ (· * ·) (iblk_ct m c t s r l) ((iblk_wb m c t s l _).trans (congrArg (fun q => argW m c (ix2 q (col s l))) (Fin.ext ?_)))
    show 512 + (k.val - 512) = k.val
    omega

theorem unscaled_args (c : Dev nD) (t : Fin cfg0.N) (r : Fin 512) (k : Fin 1024) :
    unscaled (point m c t) (iblk m c 5 t) r k = bare (argW m c) (argU m c) (argC m c) (token t r) k := by
  unfold unscaled bare
  rw [point_args, iblk_c]

theorem residual_args (c : Dev nD) (t : Fin cfg0.N) (r : Fin 512) (k : Fin 1024) :
    residual m c t (ix2 r k) = down m c (token t r) k := by
  exact congrArg₂ (· + ·) (iblk_d m c t r k)
    (congrFun (congrArg₂ back (row_x m c t r) (funext fun n => times (iblk_g m c t n) (unscaled_args m c t r n))) k)

theorem passed_args (c : Dev nD) (t : Fin cfg0.N) (r : Fin 512) (k : Fin 1024) :
    passed (residual m c t) (iblk m c 7 t) (iblk m c 9 t) (iblk m c 8 t) r k
      = dBranch (down m c) (argO m c) (argP m c) (argT m c) (token t r) k := by
  exact congrFun (congrArg₂ back (row_o m c t r)
    (funext fun n => times (iblk_p m c t n) (times (residual_args m c t r n) (iblk_t m c t n)))) k

theorem shift_args (c : Dev nD) (t : Fin cfg0.N) (k : Fin 1024) :
    shiftPart (point m c t) k = ∑ r : Fin 512, wide (argW m c) (argU m c) (token t r) k :=
  Finset.sum_congr rfl fun r _ => point_args m c t r k

theorem scale_args (c : Dev nD) (t : Fin cfg0.N) (k : Fin 1024) :
    scalePart (point m c t) (iblk m c 3 t) (iblk m c 6 t) k = ∑ r : Fin 512, wide (argW m c) (argU m c) (token t r) k
      * (argX m c (ix2 (token t r) k) * factor (line (argX m c) (token t r)) * argG m c (ix2 0 k)) :=
  Finset.sum_congr rfl fun r _ => by rw [point_args, row_x, iblk_x, iblk_g]

theorem gain_args (c : Dev nD) (t : Fin cfg0.N) (k : Fin 1024) :
    gainPart (point m c t) (iblk m c 3 t) (iblk m c 5 t) k = ∑ r : Fin 512, bare (argW m c) (argU m c) (argC m c) (token t r) k
      * argX m c (ix2 (token t r) k) * factor (line (argX m c) (token t r)) :=
  Finset.sum_congr rfl fun r _ => by rw [unscaled_args, row_x, iblk_x]

theorem gate_args (c : Dev nD) (t : Fin cfg0.N) (k : Fin 1024) :
    gatePart (residual m c t) (iblk m c 7 t) (iblk m c 9 t) k = ∑ r : Fin 512, down m c (token t r) k
      * (argO m c (ix2 (token t r) k) * factor (line (argO m c) (token t r)) * argP m c (ix2 0 k)) :=
  Finset.sum_congr rfl fun r _ =>
    times (residual_args m c t r k) (times (times (iblk_o m c t r k) (congrArg factor (row_o m c t r))) (iblk_p m c t k))

theorem post_args (c : Dev nD) (t : Fin cfg0.N) (k : Fin 1024) :
    postPart (residual m c t) (iblk m c 7 t) (iblk m c 8 t) k = ∑ r : Fin 512, down m c (token t r) k * argT m c (ix2 0 k)
      * argO m c (ix2 (token t r) k) * factor (line (argO m c) (token t r)) :=
  Finset.sum_congr rfl fun r _ =>
    times (times (times (residual_args m c t r k) (iblk_t m c t k)) (iblk_o m c t r k)) (congrArg factor (row_o m c t r))

/-- A running sum over the tiles, each tile a sum over its tokens, is at its last tile the sum over all tokens. -/
theorem total (out : (n : Nat) → n < cfg0.N → S1x1024.Idx → EReal) (part : Fin cfg0.N → Fin 1024 → EReal) (F : Fin 4096 → Fin 1024 → EReal)
    (first : ∀ (t : Fin cfg0.N) (_ : t.val % 8 = 0) (j : S1x1024.Idx), out t.val t.isLt j = 0 + part t (j 1))
    (next : ∀ (t : Fin cfg0.N) (_ : ¬t.val % 8 = 0) (j : S1x1024.Idx),
      out t.val t.isLt j = out (t.val - 1) (Nat.lt_of_le_of_lt (Nat.sub_le _ _) t.isLt) j + part t (j 1))
    (parts : ∀ t k, part t k = ∑ r : Fin 512, F (token t r) k) (t : Fin cfg0.N) (h : t.val % 8 = 7) (j : S1x1024.Idx) :
    out t.val t.isLt j = ∑ t : Fin 4096, F t (j 1) := by
  refine (Pipeline.eq_sum_fin_of_reset_step_apply_of_flush out 8 (fun _ => (0 : EReal)) (fun t j => part t (j 1)) first next t h j).trans ?_
  refine (zero_add _).trans ((Finset.sum_congr rfl fun s _ => parts ⟨8 * (t.val / 8) + s.val, Pipeline.run_point_lt_of_flush t h s⟩ (j 1)).trans ?_)
  refine Fin.sum_mul_add_congr fun s k hl => congrArg (fun q => F q (j 1)) (Fin.ext ?_)
  have := lt_of_lt_of_eq t.isLt points
  show (8 * (t.val / 8) + s.val) * 512 + k.val = s.val * 512 + k.val
  omega

end Cert.Proof.InBack
-- ==== Proof.InBack.Kernel.lean ====
module

public import proofs.«01_k».proof.Proof.InBack.Arrays

@[expose] public section

set_option maxRecDepth 16384

noncomputable section

namespace Cert.Proof.InBack

open Idealize.ShloMosaic Idealize.ShloMosaic.TcCoe Idealize.SL.Sem
open Cert.InBackIdeal Cert.InBackIdeal.Gen
open Cert.Proof.Norm

variable (m : (ℓ : Loc nD τ sig) → Buf (Elt Ideal) ℓ)

theorem array_stream (c : Dev nD) : (dats m 0 c).arrAt 10 cfg0.N = fun y : S4096x1024.Idx => down m c (y 0) (y 1) := by
  refine (dats m 0 c).arrAt_eq_of_covers 10 _ (by decide +kernel) fun t hf y => ?_
  have e : ((cfg0.win 10).blk t).view.emb y = ix2 (token t (y 0)) (y 1) := by
    blk_ext [idx t, token]
  have ey : y = (ix2 (y 0) (y 1) : S512x1024.Idx) := by
    blk_ext []
  have h : (outsAt0 m c t.val t.isLt).1 y = down m c (token t (y 0)) (y 1) := (congrFun (dx_point m c t) y).trans ((congrArg (residual m c t) ey).trans (residual_args m c t (y 0) (y 1)))
  blk_simp
  rw [after0_10]
  refine h.trans ?_
  rw [e]
  rfl

theorem array_branch (c : Dev nD) : (dats m 0 c).arrAt 14 cfg0.N = fun y : S4096x1024.Idx => dBranch (down m c) (argO m c) (argP m c) (argT m c) (y 0) (y 1) := by
  refine (dats m 0 c).arrAt_eq_of_covers 14 _ (by decide +kernel) fun t hf y => ?_
  have e : ((cfg0.win 14).blk t).view.emb y = ix2 (token t (y 0)) (y 1) := by
    blk_ext [idx t, token]
  have ey : y = (ix2 (y 0) (y 1) : S512x1024.Idx) := by
    blk_ext []
  have h : (outsAt0 m c t.val t.isLt).2.2.2.2.1 y = dBranch (down m c) (argO m c) (argP m c) (argT m c) (token t (y 0)) (y 1) := (do_point m c t y).trans (passed_args m c t (y 0) (y 1))
  blk_simp
  rw [after0_14]
  refine h.trans ?_
  rw [e]
  rfl

theorem array_shift (c : Dev nD) : (dats m 0 c).arrAt 11 cfg0.N = fun y : S1x1024.Idx => dShift (argW m c) (argU m c) (y 1) := by
  refine (dats m 0 c).arrAt_eq_of_covers 11 _ (by decide +kernel) fun t hf y => ?_
  have e : ((cfg0.win 11).blk t).view.emb y = (y : S1x1024.Idx) := by
    blk_ext [idx_acc t]
  have h := total (fun n h => (outsAt0 m c n h).2.1) (fun t => shiftPart (point m c t))
    (fun t k => wide (argW m c) (argU m c) t k) (dshift_first m c) (dshift_next m c) (shift_args m c) t ((flush0_11 t).mp hf) y
  blk_simp
  rw [after0_11]
  exact h.trans (congrArg (fun y : S1x1024.Idx => dShift (argW m c) (argU m c) (y 1)) e.symm)

theorem array_scale (c : Dev nD) : (dats m 0 c).arrAt 12 cfg0.N = fun y : S1x1024.Idx => dScale (argX m c) (argG m c) (argW m c) (argU m c) (y 1) := by
  refine (dats m 0 c).arrAt_eq_of_covers 12 _ (by decide +kernel) fun t hf y => ?_
  have e : ((cfg0.win 12).blk t).view.emb y = (y : S1x1024.Idx) := by
    blk_ext [idx_acc t]
  have h := total (fun n h => (outsAt0 m c n h).2.2.1) (fun t => scalePart (point m c t) (iblk m c 3 t) (iblk m c 6 t))
    (fun t k => wide (argW m c) (argU m c) t k * (argX m c (ix2 t k) * factor (line (argX m c) t) * argG m c (ix2 0 k))) (dscale_first m c) (dscale_next m c) (scale_args m c) t ((flush0_12 t).mp hf) y
  blk_simp
  rw [after0_12]
  exact h.trans (congrArg (fun y : S1x1024.Idx => dScale (argX m c) (argG m c) (argW m c) (argU m c) (y 1)) e.symm)

theorem array_gain (c : Dev nD) : (dats m 0 c).arrAt 13 cfg0.N = fun y : S1x1024.Idx => dGain (argX m c) (argC m c) (argW m c) (argU m c) (y 1) := by
  refine (dats m 0 c).arrAt_eq_of_covers 13 _ (by decide +kernel) fun t hf y => ?_
  have e : ((cfg0.win 13).blk t).view.emb y = (y : S1x1024.Idx) := by
    blk_ext [idx_acc t]
  have h := total (fun n h => (outsAt0 m c n h).2.2.2.1) (fun t => gainPart (point m c t) (iblk m c 3 t) (iblk m c 5 t))
    (fun t k => bare (argW m c) (argU m c) (argC m c) t k * argX m c (ix2 t k) * factor (line (argX m c) t)) (dgain_first m c) (dgain_next m c) (gain_args m c) t ((flush0_13 t).mp hf) y
  blk_simp
  rw [after0_13]
  exact h.trans (congrArg (fun y : S1x1024.Idx => dGain (argX m c) (argC m c) (argW m c) (argU m c) (y 1)) e.symm)

theorem array_gate (c : Dev nD) : (dats m 0 c).arrAt 15 cfg0.N = fun y : S1x1024.Idx => dGate (down m c) (argO m c) (argP m c) (y 1) := by
  refine (dats m 0 c).arrAt_eq_of_covers 15 _ (by decide +kernel) fun t hf y => ?_
  have e : ((cfg0.win 15).blk t).view.emb y = (y : S1x1024.Idx) := by
    blk_ext [idx_acc t]
  have h := total (fun n h => (outsAt0 m c n h).2.2.2.2.2.1) (fun t => gatePart (residual m c t) (iblk m c 7 t) (iblk m c 9 t))
    (fun t k => down m c t k * (argO m c (ix2 t k) * factor (line (argO m c) t) * argP m c (ix2 0 k))) (dgate_first m c) (dgate_next m c) (gate_args m c) t ((flush0_15 t).mp hf) y
  blk_simp
  rw [after0_15]
  exact h.trans (congrArg (fun y : S1x1024.Idx => dGate (down m c) (argO m c) (argP m c) (y 1)) e.symm)

theorem array_post (c : Dev nD) : (dats m 0 c).arrAt 16 cfg0.N = fun y : S1x1024.Idx => dPost (down m c) (argO m c) (argT m c) (y 1) := by
  refine (dats m 0 c).arrAt_eq_of_covers 16 _ (by decide +kernel) fun t hf y => ?_
  have e : ((cfg0.win 16).blk t).view.emb y = (y : S1x1024.Idx) := by
    blk_ext [idx_acc t]
  have h := total (fun n h => (outsAt0 m c n h).2.2.2.2.2.2) (fun t => postPart (residual m c t) (iblk m c 7 t) (iblk m c 8 t))
    (fun t k => down m c t k * argT m c (ix2 0 k) * argO m c (ix2 t k) * factor (line (argO m c) t)) (dpost_first m c) (dpost_next m c) (post_args m c) t ((flush0_16 t).mp hf) y
  blk_simp
  rw [after0_16]
  exact h.trans (congrArg (fun y : S1x1024.Idx => dPost (down m c) (argO m c) (argT m c) (y 1)) e.symm)

/-- The windows' arrays are distinct buffers. -/
theorem arrays_distinct : Function.Injective (Pipeline.arrRef spec0) := by
  decide +kernel

/-- The branch's gradient as the kernel returns it. -/
theorem tail (c : Dev nD) :
    (Pipeline.afterTail₀ cfgs (dats m) 0 (V0 m) [hostOps1] c main_v11 : S4096x1024.Idx → EReal)
      = fun i => dBranch (down m c) (argO m c) (argP m c) (argT m c) (i 0) (i 1) := by
  have h : Pipeline.withArrays (cfgs 0).spec c (V0 m c) (fun w => (dats m 0 c).arrAt w (cfgs 0).N) (Proc.tc.devRef main_v10_4)
      = fun i : S4096x1024.Idx => dBranch (down m c) (argO m c) (argP m c) (argT m c) (i 0) (i 1) :=
    (Pipeline.withArrays_arr (cfgs 0).spec arrays_distinct c (V0 m c) (fun w => (dats m 0 c).arrAt w (cfgs 0).N) 14).trans (array_branch m c)
  funext i
  idx_vars i
  unfold Pipeline.afterTail₀
  simp only [List.flatten_cons, List.flatten_nil, List.append_nil, StableHlo.after_cons, StableHlo.after_nil]
  after_results_simp
  rw [h]
  pointwise

/-- The kernel's run: the seven gradients, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v10_0) = (fun i : S4096x1024.Idx => down m c (i 0) (i 1))
      ∧ r.2.mem ((c.tc : Thread nD τ).loc main_v10_1) = (fun i : S1x1024.Idx => dShift (argW m c) (argU m c) (i 1))
      ∧ r.2.mem ((c.tc : Thread nD τ).loc main_v10_2) = (fun i : S1x1024.Idx => dScale (argX m c) (argG m c) (argW m c) (argU m c) (i 1))
      ∧ r.2.mem ((c.tc : Thread nD τ).loc main_v10_3) = (fun i : S1x1024.Idx => dGain (argX m c) (argC m c) (argW m c) (argU m c) (i 1))
      ∧ r.2.mem ((c.tc : Thread nD τ).loc main_v11) = (fun i : S4096x1024.Idx => dBranch (down m c) (argO m c) (argP m c) (argT m c) (i 0) (i 1))
      ∧ r.2.mem ((c.tc : Thread nD τ).loc main_v10_5) = (fun i : S1x1024.Idx => dGate (down m c) (argO m c) (argP m c) (i 1))
      ∧ r.2.mem ((c.tc : Thread nD τ).loc main_v10_6) = (fun i : S1x1024.Idx => dPost (down m c) (argO m c) (argT m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (θ_run_and (unchanged m g) (run_main m g))
  exact ⟨((h.2 c).1 10).trans (array_stream m c),
    ((h.2 c).1 11).trans (array_shift m c),
    ((h.2 c).1 12).trans (array_scale m c),
    ((h.2 c).1 13).trans (array_gain m c),
    ((h.2 c).2 main_v11 (Pipeline.mem_restRefs_of main_v11 (by decide) (by decide))).trans (tail m c),
    ((h.2 c).1 15).trans (array_gate m c),
    ((h.2 c).1 16).trans (array_post m c), h.1 c⟩

end Cert.Proof.InBack
-- ==== Proof.InBack.Reference.lean ====
module

public import proofs.«01_k».proof.Proof.InBack.Kernel
public import proofs.«01_k».proof.Proof.Gen.InBackRefIdeal.Run
public import proofs.«01_k».proof.Proof.Gen.InBackRefIdeal.Read
public import proofs.«01_k».proof.Proof.Gen.Pre_finite_in

@[expose] public section

set_option maxRecDepth 16384

noncomputable section

namespace Cert.Proof.InBack

open Idealize.ShloMosaic Idealize.ShloMosaic.TcCoe Idealize.SL.Sem
open Cert.InBackRefIdeal Cert.InBackRefIdeal.Gen Cert.InBackRefIdeal.Read
open Cert.Proof.Norm Cert.Proof.GatedDown

/-- The gradient of the modulated norm is the kernel's. -/
theorem ref_wide (W : S1024x5632.Idx → EReal) (U : S4096x5632.Idx → EReal) (t : Fin 4096) (k : Fin 1024) :
    val_main_v22 (F := Ideal) W U (ix2 t k) = wide W U t k := by
  unfold val_main_v22
  pointwise [wide]

theorem ref_square (X : S4096x1024.Idx → EReal) (t : Fin 4096) (z : Fin 1) :
    val_main_v6 (F := Ideal) X (ix2 t z) = square (line X t) := by
  unfold val_main_v6 val_main_v5 val_main_v4 val_main_v3 val_main_v2 val_main_v1 val_main_v0
  pointwise [val_main_cst, val_main_cst_0, val_main_cst_1, square, line, width, eps]

theorem ref_factor (X : S4096x1024.Idx → EReal) (t : Fin 4096) (z : Fin 1) :
    val_main_v7 (F := Ideal) X (ix2 t z) = factor (line X t) := by
  unfold val_main_v7
  pointwise [ref_square, factor]

theorem ref_normed (X : S4096x1024.Idx → EReal) (t : Fin 4096) (k : Fin 1024) :
    val_main_v12 (F := Ideal) X (ix2 t k) = X (ix2 t k) * factor (line X t) := by
  unfold val_main_v12 val_main_v11
  pointwise [ref_factor]

theorem ref_bare (C : S1x1024.Idx → EReal) (W : S1024x5632.Idx → EReal) (U : S4096x5632.Idx → EReal) (t : Fin 4096) (k : Fin 1024) :
    val_main_v29 (F := Ideal) C W U (ix2 t k) = bare W U C t k := by
  unfold val_main_v29 val_main_v28 val_main_v16 val_main_v15
  pointwise [ref_wide, bare, val_main_cst_3]

theorem ref_shift (W : S1024x5632.Idx → EReal) (U : S4096x5632.Idx → EReal) (z : Fin 1) (k : Fin 1024) :
    val_main_v24 (F := Ideal) W U (ix2 z k) = dShift W U k := by
  unfold val_main_v24 val_main_v23
  pointwise [ref_wide, val_main_cst_4, dShift]

theorem ref_scale (X : S4096x1024.Idx → EReal) (G : S1x1024.Idx → EReal) (W : S1024x5632.Idx → EReal) (U : S4096x5632.Idx → EReal)
    (z : Fin 1) (k : Fin 1024) : val_main_v27 (F := Ideal) X G W U (ix2 z k) = dScale X G W U k := by
  unfold val_main_v27 val_main_v26 val_main_v25 val_main_v14 val_main_v13
  pointwise [ref_wide, ref_normed, val_main_cst_5, dScale]
  exact Finset.sum_congr rfl fun t _ => mul_comm _ _

theorem ref_gain (X : S4096x1024.Idx → EReal) (C : S1x1024.Idx → EReal) (W : S1024x5632.Idx → EReal) (U : S4096x5632.Idx → EReal)
    (z : Fin 1) (k : Fin 1024) : val_main_v32 (F := Ideal) X C W U (ix2 z k) = dGain X C W U k := by
  unfold val_main_v32 val_main_v31 val_main_v30
  pointwise [ref_bare, ref_normed, val_main_cst_6, dGain]
  exact Finset.sum_congr rfl fun t _ => by rw [mul_comm, mul_assoc]

theorem wide_real (W : S1024x5632.Idx → EReal) (U : S4096x5632.Idx → EReal) (hW : RealArray W) (hU : RealArray U) (t : Fin 4096)
    (k : Fin 1024) : ∃ r : ℝ, wide W U t k = r :=
  sum_real (fun f => U (ix2 t f)) (fun f => W (ix2 k f)) (fun _ => hU _) (fun _ => hW _)

theorem bare_real (W : S1024x5632.Idx → EReal) (U : S4096x5632.Idx → EReal) (C : S1x1024.Idx → EReal) (hW : RealArray W) (hU : RealArray U)
    (hC : RealArray C) (t : Fin 4096) (k : Fin 1024) : ∃ r : ℝ, bare W U C t k = r :=
  mul_real (wide_real W U hW hU t k) (add_real ⟨1, by norm_cast⟩ (hC _))

/-- The gradient of the residual stream, by the chain rule, is the kernel's closed form. -/
theorem ref_stream (X : S4096x1024.Idx → EReal) (C G : S1x1024.Idx → EReal) (W : S1024x5632.Idx → EReal) (D : S4096x1024.Idx → EReal)
    (U : S4096x5632.Idx → EReal) (hX : RealArray X) (hC : RealArray C) (hG : RealArray G) (hW : RealArray W) (hU : RealArray U)
    (t : Fin 4096) (k : Fin 1024) : val_main_v49 (F := Ideal) X C G W D U (ix2 t k) = dStream X C G W D U t k := by
  have e := back_eq (line X t) (fun n => G (ix2 0 n) * bare W U C t n) (fun n => hX _)
    (fun n => mul_real (hG _) (bare_real W U C hW hU hC t n)) k
  unfold val_main_v49 val_main_v48 val_main_v47 val_main_v46 val_main_v45 val_main_v44 val_main_v43 val_main_v42 val_main_v41
    val_main_v40 val_main_v39 val_main_v38 val_main_v37 val_main_v36 val_main_v35 val_main_v34 val_main_v33 val_main_v10 val_main_v9
    val_main_v8
  pointwise [ref_factor, ref_square, ref_bare, val_main_cst_9, val_main_cst_8, val_main_cst_7, val_main_cst_2]
  unfold dStream
  rw [← e, add_assoc, add_assoc, ← add_assoc (_ * factor _)]
  unfold Norm.slope width line
  simp only [mul_comm (bare _ _ _ _ _), Finset.sum_const, Finset.card_univ, Fintype.card_fin, one_smul]

theorem ref_below (O : S4096x1024.Idx → EReal) (t : Fin 4096) (z : Fin 1) :
    val_main_v56 (F := Ideal) O (ix2 t z) = square (line O t) := by
  unfold val_main_v56 val_main_v55 val_main_v54 val_main_v53 val_main_v52 val_main_v51 val_main_v50
  pointwise [val_main_cst_10, val_main_cst_11, val_main_cst_12, square, line, width, eps]

theorem ref_below_factor (O : S4096x1024.Idx → EReal) (t : Fin 4096) (z : Fin 1) :
    val_main_v57 (F := Ideal) O (ix2 t z) = factor (line O t) := by
  unfold val_main_v57
  pointwise [ref_below, factor]

theorem ref_below_normed (O : S4096x1024.Idx → EReal) (t : Fin 4096) (k : Fin 1024) :
    val_main_v62 (F := Ideal) O (ix2 t k) = O (ix2 t k) * factor (line O t) := by
  unfold val_main_v62 val_main_v61
  pointwise [ref_below_factor]

section Below

variable (O : S4096x1024.Idx → EReal) (T P : S1x1024.Idx → EReal) (X : S4096x1024.Idx → EReal) (C G : S1x1024.Idx → EReal)
  (W : S1024x5632.Idx → EReal) (D : S4096x1024.Idx → EReal) (U : S4096x5632.Idx → EReal)

/-- The gradient that enters the branch below. -/
def entering (t : Fin 4096) (k : Fin 1024) : EReal := val_main_v49 (F := Ideal) X C G W D U (ix2 t k)

theorem ref_gate (z : Fin 1) (k : Fin 1024) :
    val_main_v71 (F := Ideal) O P X C G W D U (ix2 z k) = dGate (entering X C G W D U) O P k := by
  unfold val_main_v71 val_main_v70 val_main_v69 val_main_v64 val_main_v63
  pointwise [ref_below_normed, val_main_cst_14, dGate, entering]

theorem ref_post (z : Fin 1) (k : Fin 1024) :
    val_main_v74 (F := Ideal) O T X C G W D U (ix2 z k) = dPost (entering X C G W D U) O T k := by
  unfold val_main_v74 val_main_v73 val_main_v72 val_main_v68 val_main_v67
  pointwise [ref_below_normed, val_main_cst_15, dPost, entering]
  exact Finset.sum_congr rfl fun t _ => by rw [mul_comm, mul_comm (T _), mul_assoc (_ * T _)]

theorem ref_branch (hO : RealArray O) (hT : RealArray T) (hP : RealArray P) (hY : ∀ t k, ∃ r : ℝ, entering X C G W D U t k = r)
    (t : Fin 4096) (k : Fin 1024) :
    val_main_v90 (F := Ideal) O T P X C G W D U (ix2 t k) = dBranch (entering X C G W D U) O P T t k := by
  have e := back_eq (line O t) (fun n => P (ix2 0 n) * (entering X C G W D U t n * T (ix2 0 n))) (fun n => hO _)
    (fun n => mul_real (hP _) (mul_real (hY t n) (hT _))) k
  unfold val_main_v90 val_main_v89 val_main_v88 val_main_v87 val_main_v86 val_main_v85 val_main_v84 val_main_v83 val_main_v82
    val_main_v81 val_main_v80 val_main_v79 val_main_v78 val_main_v77 val_main_v76 val_main_v75 val_main_v68 val_main_v67 val_main_v60
    val_main_v59 val_main_v58
  pointwise [ref_below_factor, ref_below, val_main_cst_18, val_main_cst_17, val_main_cst_16, val_main_cst_13]
  unfold dBranch
  rw [← e]
  unfold Norm.slope width line entering
  simp only [mul_comm (P _), mul_comm (T _), Finset.sum_const, Finset.card_univ, Fintype.card_fin, one_smul]

end Below

theorem stream_real (X : S4096x1024.Idx → EReal) (C G : S1x1024.Idx → EReal) (W : S1024x5632.Idx → EReal) (D : S4096x1024.Idx → EReal)
    (U : S4096x5632.Idx → EReal) (hX : RealArray X) (hC : RealArray C) (hG : RealArray G) (hW : RealArray W) (hD : RealArray D)
    (hU : RealArray U) (t : Fin 4096) (k : Fin 1024) : ∃ r : ℝ, dStream X C G W D U t k = r :=
  add_real (hD _) (back_real _ _ (fun _ => hX _) (fun n => mul_real (hG _) (bare_real W U C hW hU hC t n)) k)

/-- The arguments the results depend on hold real numbers. -/
def Finite (O : S4096x1024.Idx → EReal) (T : S1x1024.Idx → EReal) (P : S1x1024.Idx → EReal) (X : S4096x1024.Idx → EReal) (C : S1x1024.Idx → EReal) (G : S1x1024.Idx → EReal) (W : S1024x5632.Idx → EReal) (D : S4096x1024.Idx → EReal) (U : S4096x5632.Idx → EReal) : Prop :=
  RealArray O ∧ RealArray T ∧ RealArray P ∧ RealArray X ∧ RealArray C ∧ RealArray G ∧ RealArray W ∧ RealArray D ∧ RealArray U

theorem finite_args (O : S4096x1024.Idx → EReal) (T : S1x1024.Idx → EReal) (P : S1x1024.Idx → EReal) (X : S4096x1024.Idx → EReal) (C : S1x1024.Idx → EReal) (S : S1x1024.Idx → EReal) (G : S1x1024.Idx → EReal) (W : S1024x5632.Idx → EReal) (D : S4096x1024.Idx → EReal) (U : S4096x5632.Idx → EReal)
    (h : (Cert.Pre_finite_in.fn (F := Ideal) O T P X C S G W D U).1 = (fun _ => 1#1)
      ∧ (Cert.Pre_finite_in.fn (F := Ideal) O T P X C S G W D U).2.1 = (fun _ => 1#1)
      ∧ (Cert.Pre_finite_in.fn (F := Ideal) O T P X C S G W D U).2.2.1 = (fun _ => 1#1)
      ∧ (Cert.Pre_finite_in.fn (F := Ideal) O T P X C S G W D U).2.2.2.1 = (fun _ => 1#1)
      ∧ (Cert.Pre_finite_in.fn (F := Ideal) O T P X C S G W D U).2.2.2.2.1 = (fun _ => 1#1)
      ∧ (Cert.Pre_finite_in.fn (F := Ideal) O T P X C S G W D U).2.2.2.2.2.1 = (fun _ => 1#1)
      ∧ (Cert.Pre_finite_in.fn (F := Ideal) O T P X C S G W D U).2.2.2.2.2.2.1 = (fun _ => 1#1)
      ∧ (Cert.Pre_finite_in.fn (F := Ideal) O T P X C S G W D U).2.2.2.2.2.2.2.1 = (fun _ => 1#1)
      ∧ (Cert.Pre_finite_in.fn (F := Ideal) O T P X C S G W D U).2.2.2.2.2.2.2.2 = (fun _ => 1#1)) :
    Finite O T P X C G W D U := by
  have from_bit : ∀ {ι : Type} {p : ι → BitVec 1} {x : ι → EReal}, p = (fun _ => 1#1) → (∀ i, p i = 1#1 → ∃ r : ℝ, x i = r) →
      ∀ i, ∃ r : ℝ, x i = r := fun e f i => f i (congrFun e i)
  refine ⟨from_bit h.1 fun i e => ?_, from_bit h.2.1 fun i e => ?_, from_bit h.2.2.1 fun i e => ?_, from_bit h.2.2.2.1 fun i e => ?_, from_bit h.2.2.2.2.1 fun i e => ?_, from_bit h.2.2.2.2.2.1 fun i e => ?_, from_bit h.2.2.2.2.2.2.1 fun i e => ?_, from_bit h.2.2.2.2.2.2.2.1 fun i e => ?_, from_bit h.2.2.2.2.2.2.2.2 fun i e => ?_⟩
  all_goals
    unfold Cert.Pre_finite_in.fn Cert.Pre_finite_in.fn_part1 at e
    dsimp only at e
    pointwise at e
    exact real_of_abs_lt e

theorem Finite.congr {O O' : S4096x1024.Idx → EReal} {T T' : S1x1024.Idx → EReal} {P P' : S1x1024.Idx → EReal} {X X' : S4096x1024.Idx → EReal} {C C' : S1x1024.Idx → EReal} {G G' : S1x1024.Idx → EReal} {W W' : S1024x5632.Idx → EReal} {D D' : S4096x1024.Idx → EReal} {U U' : S4096x5632.Idx → EReal}
    (hO : O = O') (hT : T = T') (hP : P = P') (hX : X = X') (hC : C = C') (hG : G = G') (hW : W = W') (hD : D = D') (hU : U = U')
    (h : Finite O' T' P' X' C' G' W' D' U') : Finite O T P X C G W D U := by
  subst hO hT hP hX hC hG hW hD hU
  exact h

variable (m : (ℓ : Loc nD τ sig) → Buf (Elt Ideal) ℓ)

/-- The reference's run, in the kernel's formulas. -/
theorem reference_run (g : Dev nD → PrngReg)
    (hfin : ∀ c : Dev nD, Finite (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9))) :
    θ_run (defs (F := Ideal)) (onTc (τ := τ) (main (F := Ideal))) ⟨m, fun _ => 0, g⟩ (fun r => ∀ c : Dev nD,
      r.2.mem ((c.tc : Thread nD τ).loc main_v49) = (fun i : S4096x1024.Idx => dStream (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (i 0) (i 1))
      ∧ r.2.mem ((c.tc : Thread nD τ).loc main_v24) = (fun i : S1x1024.Idx => dShift (m ((c.tc : Thread nD τ).loc main_arg7)) (m ((c.tc : Thread nD τ).loc main_arg9)) (i 1))
      ∧ r.2.mem ((c.tc : Thread nD τ).loc main_v27) = (fun i : S1x1024.Idx => dScale (m ((c.tc : Thread nD τ).loc main_arg3)) (m ((c.tc : Thread nD τ).loc main_arg6)) (m ((c.tc : Thread nD τ).loc main_arg7)) (m ((c.tc : Thread nD τ).loc main_arg9)) (i 1))
      ∧ r.2.mem ((c.tc : Thread nD τ).loc main_v32) = (fun i : S1x1024.Idx => dGain (m ((c.tc : Thread nD τ).loc main_arg3)) (m ((c.tc : Thread nD τ).loc main_arg4)) (m ((c.tc : Thread nD τ).loc main_arg7)) (m ((c.tc : Thread nD τ).loc main_arg9)) (i 1))
      ∧ r.2.mem ((c.tc : Thread nD τ).loc main_v90) = (fun i : S4096x1024.Idx => dBranch (dStream (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg0)) (m ((c.tc : Thread nD τ).loc main_arg2)) (m ((c.tc : Thread nD τ).loc main_arg1)) (i 0) (i 1))
      ∧ r.2.mem ((c.tc : Thread nD τ).loc main_v71) = (fun i : S1x1024.Idx => dGate (dStream (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg0)) (m ((c.tc : Thread nD τ).loc main_arg2)) (i 1))
      ∧ r.2.mem ((c.tc : Thread nD τ).loc main_v74) = (fun i : S1x1024.Idx => dPost (dStream (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg0)) (m ((c.tc : Thread nD τ).loc main_arg1)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (Cert.InBackRefIdeal.Value.run m g)
  obtain ⟨h0, h1, h2, h3, h4, h5, h6, ha⟩ := h c
  obtain ⟨hO, hT, hP, hX, hC, hG, hW, hD, hU⟩ := hfin c
  have e : entering (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) = dStream (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) := funext fun t => funext fun k => ref_stream _ _ _ _ _ _ hX hC hG hW hU t k
  have hY : ∀ t k, ∃ r : ℝ, entering (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) t k = r := fun t k => by
    rw [e]
    exact stream_real _ _ _ _ _ _ hX hC hG hW hD hU t k
  refine ⟨(h0.trans (val_main_v49_eq m c)).trans (funext fun i => ?_), (h1.trans (val_main_v24_eq _ _)).trans (funext fun i => ?_), (h2.trans (val_main_v27_eq _ _ _ _)).trans (funext fun i => ?_), (h3.trans (val_main_v32_eq _ _ _ _)).trans (funext fun i => ?_), (h4.trans (val_main_v90_eq m c)).trans (funext fun i => ?_), (h5.trans (val_main_v71_eq m c)).trans (funext fun i => ?_), (h6.trans (val_main_v74_eq m c)).trans (funext fun i => ?_), ha⟩
  · idx_vars i
    exact ref_stream _ _ _ _ _ _ hX hC hG hW hU _ _
  · idx_vars i
    exact ref_shift _ _ _ _
  · idx_vars i
    exact ref_scale _ _ _ _ _ _
  · idx_vars i
    exact ref_gain _ _ _ _ _ _
  · idx_vars i
    exact (ref_branch _ _ _ _ _ _ _ _ _ hO hT hP hY _ _).trans (congrArg (fun y => dBranch y _ _ _ _ _) e)
  · idx_vars i
    exact (ref_gate _ _ _ _ _ _ _ _ _ _).trans (congrArg (fun y => dGate y _ _ _) e)
  · idx_vars i
    exact (ref_post _ _ _ _ _ _ _ _ _ _).trans (congrArg (fun y => dPost y _ _ _) e)

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r h => ⟨fun c => (h c).2.2.2.2.2.2.2, sem_eq_zero_of_no_sems (by decide) r.2⟩) (Cert.InBackRefIdeal.Value.run m g)

end Cert.Proof.InBack
-- ==== Proof.Head.Block.lean ====
module

public import proofs.«01_k».proof.Proof.Gen.HeadIdeal.Frame
public import proofs.«01_k».proof.Proof.Norm.Rows
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Head

open Idealize.ShloMosaic Idealize.ShloMosaic.TcCoe Idealize.SL.Sem
open Cert.HeadIdeal Cert.HeadIdeal.Gen
open Cert.Proof.Norm

/-- Hidden entry `l` of shard `s` for row `r`: silu of the gate half times the value half. -/
def act (h : Vec Ideal S2x4x512x704 .bf16) (s : Fin 4) (r : Fin 512) (l : Fin 704) : EReal :=
  h (ix4 0 s r l) * GatedDown.gate (h (ix4 0 s r l)) * h (ix4 1 s r l)

/-- The down projection of a tile: activation times weights, slab by slab of the hidden axis. -/
def product (h : Vec Ideal S2x4x512x704 .bf16) (w : Vec Ideal S4x704x1024 .bf16) : Vec Ideal S512x1024 .f32 := fun j =>
  ∑ s : Fin 4, ∑ l : Fin 704, act h s (j 0) l * w (ix3 s l (j 1))

/-- The block the kernel keeps is that product. -/
theorem kept (h : Vec Ideal S2x4x512x704 .bf16) (w : Vec Ideal S4x704x1024 .bf16) :
    k0_pay4
        (k0_pay18
          (k0_pay15
            (View.ld h (Rect.unit ![0, 0, 0, 0] ![1, 1, 512, 704] inb_S2x4x512x704_S1x1x512x704_0_0_0_0))
            (View.ld h (Rect.unit ![1, 0, 0, 0] ![1, 1, 512, 704] inb_S2x4x512x704_S1x1x512x704_1_0_0_0))
            (View.ld w (Rect.unit ![0, 0, 0] ![1, 704, 1024] inb_S4x704x1024_S1x704x1024_0_0_0)))
          (k0_pay16
            (View.ld h (Rect.unit ![0, 1, 0, 0] ![1, 1, 512, 704] inb_S2x4x512x704_S1x1x512x704_0_1_0_0)))
          (k0_pay17
            (View.ld h (Rect.unit ![1, 1, 0, 0] ![1, 1, 512, 704] inb_S2x4x512x704_S1x1x512x704_1_1_0_0)))
          (View.ld w (Rect.unit ![1, 0, 0] ![1, 704, 1024] inb_S4x704x1024_S1x704x1024_1_0_0))
          (View.ld h (Rect.unit ![0, 2, 0, 0] ![1, 1, 512, 704] inb_S2x4x512x704_S1x1x512x704_0_2_0_0))
          (View.ld h (Rect.unit ![1, 2, 0, 0] ![1, 1, 512, 704] inb_S2x4x512x704_S1x1x512x704_1_2_0_0))
          (View.ld w (Rect.unit ![2, 0, 0] ![1, 704, 1024] inb_S4x704x1024_S1x704x1024_2_0_0)))
        (k0_pay19
          (View.ld h (Rect.unit ![0, 3, 0, 0] ![1, 1, 512, 704] inb_S2x4x512x704_S1x1x512x704_0_3_0_0)))
        (k0_pay20
          (View.ld h (Rect.unit ![0, 3, 0, 0] ![1, 1, 512, 704] inb_S2x4x512x704_S1x1x512x704_0_3_0_0)))
        (View.ld h (Rect.unit ![1, 3, 0, 0] ![1, 1, 512, 704] inb_S2x4x512x704_S1x1x512x704_1_3_0_0))
        (View.ld w (Rect.unit ![3, 0, 0] ![1, 704, 1024] inb_S4x704x1024_S1x704x1024_3_0_0)) = product h w := by
  funext j
  idx_vars j
  unfold_payloads
  pointwise
  unfold product
  rw [Fin.sum_univ_four]
  pointwise [act, GatedDown.gate]

/-- Row `r` of a tile. -/
def row (x : S512x1024.Idx → EReal) (r : Fin 512) : Fin 1024 → EReal := fun k => x (ix2 r k)

/-- The error of a prediction: the stream plus the gated norm of the branch `d`, minus the target. -/
def error (d : S512x1024.Idx → EReal) (g t : Vec Ideal S1x1024 .f32) (x l : Vec Ideal S512x1024 .f32) (r : Fin 512) (k : Fin 1024) : EReal :=
  x (ix2 r k) + t (ix2 0 k) * (d (ix2 r k) * factor (row d r) * g (ix2 0 k)) - l (ix2 r k)

/-- The reciprocal of the width, and half of it, as the kernel writes them. -/
def share : EReal := Ideal.ofBits FTy.f32 0x3A800000#32
def halfShare : EReal := Ideal.ofBits FTy.f32 0x3A000000#32

/-- The gradient of the prediction. -/
def slant (d : S512x1024.Idx → EReal) (g t : Vec Ideal S1x1024 .f32) (x l : Vec Ideal S512x1024 .f32) : Vec Ideal S512x1024 .f32 :=
  fun j => error d g t x l (j 0) (j 1) * share

/-- The loss of a tile. -/
def tileLoss (d : S512x1024.Idx → EReal) (g t : Vec Ideal S1x1024 .f32) (x l : Vec Ideal S512x1024 .f32) : EReal :=
  (∑ r : Fin 512, ∑ k : Fin 1024, error d g t x l r k * error d g t x l r k) * halfShare

/-- What a tile adds to the gradient of the gate, and of the norm's gain. -/
def gatePart (y d : S512x1024.Idx → EReal) (g : Vec Ideal S1x1024 .f32) (k : Fin 1024) : EReal :=
  ∑ r : Fin 512, y (ix2 r k) * (d (ix2 r k) * factor (row d r) * g (ix2 0 k))

def postPart (y d : S512x1024.Idx → EReal) (t : Vec Ideal S1x1024 .f32) (k : Fin 1024) : EReal :=
  ∑ r : Fin 512, y (ix2 r k) * t (ix2 0 k) * d (ix2 r k) * factor (row d r)

/-- The gradient of the branch: what passes back through its gate and its norm. -/
def passed (y d : S512x1024.Idx → EReal) (g t : Vec Ideal S1x1024 .f32) (r : Fin 512) (k : Fin 1024) : EReal :=
  back (row d r) (fun n => g (ix2 0 n) * (y (ix2 r n) * t (ix2 0 n))) k

theorem pay10_apply (d : Vec Ideal S512x1024 .f32) (r : Fin 512) (z : Fin 1) : k0_pay10 d (ix2 r z) = factor (row d r) := by
  unfold_payloads
  pointwise [factor, square, width, eps, row]

theorem pay11_apply (d : Vec Ideal S512x1024 .f32) (g : Vec Ideal S1x1024 .f32) (r : Fin 512) (k : Fin 1024) :
    k0_pay11 d g (ix2 r k) = d (ix2 r k) * factor (row d r) * g (ix2 0 k) := by
  unfold k0_pay11
  pointwise [pay10_apply]

theorem pay12_apply (d : Vec Ideal S512x1024 .f32) (g t : Vec Ideal S1x1024 .f32) (x l : Vec Ideal S512x1024 .f32) (r : Fin 512) (k : Fin 1024) :
    k0_pay12 d g t x l (ix2 r k) = error d g t x l r k := by
  unfold k0_pay12
  pointwise [pay11_apply, error]

theorem pay13_eq (d : Vec Ideal S512x1024 .f32) (g t : Vec Ideal S1x1024 .f32) (x l : Vec Ideal S512x1024 .f32) :
    k0_pay13 d g t x l = slant d g t x l := by
  funext j
  idx_vars j
  unfold k0_pay13
  pointwise [pay12_apply, slant, share]

theorem pay14_apply (d : Vec Ideal S512x1024 .f32) (g t : Vec Ideal S1x1024 .f32) (x l : Vec Ideal S512x1024 .f32) (z : Fin 1) (a : Fin 8) (b : Fin 128) :
    k0_pay14 d g t x l (ix3 z a b) = tileLoss d g t x l := by
  unfold k0_pay14
  pointwise [pay12_apply, tileLoss, halfShare]

theorem pay6_apply (d y : Vec Ideal S512x1024 .f32) (g a : Vec Ideal S1x1024 .f32) (z : Fin 1) (k : Fin 1024) :
    k0_pay6 (k0_pay11 d g) y a (ix2 z k) = a (ix2 z k) + gatePart y d g k := by
  unfold k0_pay6
  pointwise [pay11_apply, gatePart]

theorem pay8_apply (d y : Vec Ideal S512x1024 .f32) (t a : Vec Ideal S1x1024 .f32) (z : Fin 1) (k : Fin 1024) :
    k0_pay8 d t (k0_pay10 d) y a (ix2 z k) = a (ix2 z k) + postPart y d t k := by
  unfold k0_pay8 k0_pay7
  pointwise [pay10_apply, postPart]

theorem pay9_apply (d y : Vec Ideal S512x1024 .f32) (g t : Vec Ideal S1x1024 .f32) (r : Fin 512) (k : Fin 1024) :
    k0_pay9 d g t (k0_pay10 d) y (ix2 r k) = passed y d g t r k := by
  unfold k0_pay9 k0_pay7
  pointwise [pay10_apply, passed, back, row, width]

variable (m : (ℓ : Loc nD τ sig) → Buf (Elt Ideal) ℓ)

/-- The branch and the gradient of the prediction at a grid point, of the blocks it is handed. -/
def branch (c : Dev nD) (t : Fin cfg0.N) : Vec Ideal S512x1024 .f32 := product (iblk m c 0 t) (iblk m c 1 t)
def residual (c : Dev nD) (t : Fin cfg0.N) : Vec Ideal S512x1024 .f32 :=
  slant (branch m c t) (iblk m c 5 t) (iblk m c 4 t) (iblk m c 2 t) (iblk m c 3 t)

theorem dbranch_point (c : Dev nD) (t : Fin cfg0.N) (j : S512x1024.Idx) :
    (outsAt0 m c t.val t.isLt).1 j = passed (residual m c t) (branch m c t) (iblk m c 5 t) (iblk m c 4 t) (j 0) (j 1) := by
  idx_vars j
  by_cases h0 : t.val % 8 = 0
  · rw [outsAt0_A m c t h0]
    frame_out
    rw [kept, pay13_eq]
    exact pay9_apply _ _ _ _ j0 j1
  · rw [outsAt0_B m c t h0]
    frame_out
    rw [kept, pay13_eq]
    exact pay9_apply _ _ _ _ j0 j1

theorem dstream_point (c : Dev nD) (t : Fin cfg0.N) (j : S512x1024.Idx) :
    (outsAt0 m c t.val t.isLt).2.1 j = residual m c t j := by
  idx_vars j
  by_cases h0 : t.val % 8 = 0
  · rw [outsAt0_A m c t h0]
    frame_out
    rw [kept, pay13_eq]
    rfl
  · rw [outsAt0_B m c t h0]
    frame_out
    rw [kept, pay13_eq]
    rfl

theorem loss_point (c : Dev nD) (t : Fin cfg0.N) (j : S1x8x128.Idx) :
    (outsAt0 m c t.val t.isLt).2.2.1 j = tileLoss (branch m c t) (iblk m c 5 t) (iblk m c 4 t) (iblk m c 2 t) (iblk m c 3 t) := by
  idx_vars j
  by_cases h0 : t.val % 8 = 0
  · rw [outsAt0_A m c t h0]
    frame_out
    rw [kept]
    exact pay14_apply _ _ _ _ _ j0 j1 j2
  · rw [outsAt0_B m c t h0]
    frame_out
    rw [kept]
    exact pay14_apply _ _ _ _ _ j0 j1 j2

theorem dgate_first (c : Dev nD) (t : Fin cfg0.N) (h0 : t.val % 8 = 0) (j : S1x1024.Idx) :
    (outsAt0 m c t.val t.isLt).2.2.2.1 j = 0 + gatePart (residual m c t) (branch m c t) (iblk m c 5 t) (j 1) := by
  idx_vars j
  rw [outsAt0_A m c t h0]
  frame_out
  rw [kept, pay13_eq]
  refine (pay6_apply _ _ _ (k0_pay2 (F := Ideal)) j0 j1).trans ?_
  unfold k0_pay2
  pointwise
  rfl

theorem dgate_next (c : Dev nD) (t : Fin cfg0.N) (h0 : ¬t.val % 8 = 0) (j : S1x1024.Idx) :
    (outsAt0 m c t.val t.isLt).2.2.2.1 j
      = (outsAt0 m c (t.val - 1) (Nat.lt_of_le_of_lt (Nat.sub_le _ _) t.isLt)).2.2.2.1 j + gatePart (residual m c t) (branch m c t) (iblk m c 5 t) (j 1) := by
  idx_vars j
  rw [outsAt0_B m c t h0]
  frame_out
  rw [kept, pay13_eq]
  exact pay6_apply _ _ _ _ j0 j1

theorem dpost_first (c : Dev nD) (t : Fin cfg0.N) (h0 : t.val % 8 = 0) (j : S1x1024.Idx) :
    (outsAt0 m c t.val t.isLt).2.2.2.2 j = 0 + postPart (residual m c t) (branch m c t) (iblk m c 4 t) (j 1) := by
  idx_vars j
  rw [outsAt0_A m c t h0]
  frame_out
  rw [kept, pay13_eq]
  refine (pay8_apply _ _ _ (k0_pay3 (F := Ideal)) j0 j1).trans ?_
  unfold k0_pay3
  pointwise
  rfl

theorem dpost_next (c : Dev nD) (t : Fin cfg0.N) (h0 : ¬t.val % 8 = 0) (j : S1x1024.Idx) :
    (outsAt0 m c t.val t.isLt).2.2.2.2 j
      = (outsAt0 m c (t.val - 1) (Nat.lt_of_le_of_lt (Nat.sub_le _ _) t.isLt)).2.2.2.2 j + postPart (residual m c t) (branch m c t) (iblk m c 4 t) (j 1) := by
  idx_vars j
  rw [outsAt0_B m c t h0]
  frame_out
  rw [kept, pay13_eq]
  exact pay8_apply _ _ _ _ j0 j1

end Cert.Proof.Head
-- ==== Proof.Head.Arrays.lean ====
module

public import proofs.«01_k».proof.Proof.Head.Block
public import Idealize.ShloMosaic.Lib.Claim

@[expose] public section

set_option maxRecDepth 16384

noncomputable section

namespace Cert.Proof.Head

open Idealize.ShloMosaic Idealize.ShloMosaic.TcCoe Idealize.SL.Sem
open Cert.HeadIdeal Cert.HeadIdeal.Gen
open Cert.Proof.Norm

/-- Column `f` of the gate half of the hidden array (`p = 0`), or of the value half (`p = 1`). -/
def part (p : Fin 2) (f : Fin 2816) : Fin 5632 := ⟨p.val * 2816 + f.val, by omega⟩

/-- The gated activation. -/
def hidden (H : S4096x5632.Idx → EReal) (t : Fin 4096) (f : Fin 2816) : EReal :=
  H (ix2 t (part 0 f)) * GatedDown.gate (H (ix2 t (part 0 f))) * H (ix2 t (part 1 f))

/-- The branch: the gated activation through the down projection. -/
def lower (H : S4096x5632.Idx → EReal) (W : S2816x1024.Idx → EReal) (t : Fin 4096) (k : Fin 1024) : EReal :=
  ∑ f : Fin 2816, hidden H t f * W (ix2 f k)

/-- The error of the prediction, for a branch `Z`, a stream `X`, a target `L`, a gate `T` and a gain `G`. -/
def miss (Z : Fin 4096 → Fin 1024 → EReal) (X L : S4096x1024.Idx → EReal) (T G : S1x1024.Idx → EReal) (t : Fin 4096) (k : Fin 1024) : EReal :=
  X (ix2 t k) + T (ix2 0 k) * (Z t k * factor (Z t) * G (ix2 0 k)) - L (ix2 t k)

/-- The gradient of the stream. -/
def dStream (Z : Fin 4096 → Fin 1024 → EReal) (X L : S4096x1024.Idx → EReal) (T G : S1x1024.Idx → EReal) (t : Fin 4096) (k : Fin 1024) : EReal :=
  miss Z X L T G t k * share

/-- Token `r` of tile `b`. -/
def tok (b : Fin 8) (r : Fin 512) : Fin 4096 := ⟨b.val * 512 + r.val, by omega⟩

/-- The loss of tile `b`, and the whole loss. -/
def lossTile (Z : Fin 4096 → Fin 1024 → EReal) (X L : S4096x1024.Idx → EReal) (T G : S1x1024.Idx → EReal) (b : Fin 8) : EReal :=
  (∑ r : Fin 512, ∑ k : Fin 1024, miss Z X L T G (tok b r) k * miss Z X L T G (tok b r) k) * halfShare

def loss (Z : Fin 4096 → Fin 1024 → EReal) (X L : S4096x1024.Idx → EReal) (T G : S1x1024.Idx → EReal) : EReal :=
  ∑ b : Fin 8, lossTile Z X L T G b

/-- For a gradient `Y` of the prediction: the gradients of the branch, of its gate and of its norm's gain. -/
def dBranch (Y Z : Fin 4096 → Fin 1024 → EReal) (T G : S1x1024.Idx → EReal) (t : Fin 4096) (k : Fin 1024) : EReal :=
  back (Z t) (fun n => G (ix2 0 n) * (Y t n * T (ix2 0 n))) k

def dGate (Y Z : Fin 4096 → Fin 1024 → EReal) (G : S1x1024.Idx → EReal) (k : Fin 1024) : EReal :=
  ∑ t : Fin 4096, Y t k * (Z t k * factor (Z t) * G (ix2 0 k))

def dPost (Y Z : Fin 4096 → Fin 1024 → EReal) (T : S1x1024.Idx → EReal) (k : Fin 1024) : EReal :=
  ∑ t : Fin 4096, Y t k * T (ix2 0 k) * Z t k * factor (Z t)

theorem times {a b a' b' : EReal} (h : a = a') (h' : b = b') : a * b = a' * b' := congrArg₂ _ h h'

variable (m : (ℓ : Loc nD τ sig) → Buf (Elt Ideal) ℓ)

abbrev argH (c : Dev nD) : S4096x5632.Idx → EReal := m ((c : Thread nD τ).loc main_arg0)
abbrev argW (c : Dev nD) : S2816x1024.Idx → EReal := m ((c : Thread nD τ).loc main_arg1)
abbrev argX (c : Dev nD) : S4096x1024.Idx → EReal := m ((c : Thread nD τ).loc main_arg2)
abbrev argL (c : Dev nD) : S4096x1024.Idx → EReal := m ((c : Thread nD τ).loc main_arg3)
abbrev argT (c : Dev nD) : S1x1024.Idx → EReal := m ((c : Thread nD τ).loc main_arg4)
abbrev argG (c : Dev nD) : S1x1024.Idx → EReal := m ((c : Thread nD τ).loc main_arg5)

/-- The branch and the gradient of the prediction, of the arguments of a device. -/
abbrev under (c : Dev nD) : Fin 4096 → Fin 1024 → EReal := lower (argH m c) (argW m c)
abbrev down (c : Dev nD) : Fin 4096 → Fin 1024 → EReal := dStream (under m c) (argX m c) (argL m c) (argT m c) (argG m c)

theorem points : cfg0.N = 8 := by decide

/-- The tile of a grid point. -/
def tile (t : Fin cfg0.N) : Fin 8 := ⟨t.val, lt_of_lt_of_eq t.isLt points⟩

theorem idx : ∀ t : Fin cfg0.N, win0_0.index t = ![0, 0, t.val, 0] ∧ win0_1.index t = ![0, 0, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0, 0] ∧ win0_9.index t = ![0, 0] ∧ win0_10.index t = ![0, 0] := by
  decide +kernel

/-- Column `l` of shard `s` of half the hidden axis. -/
def slot (s : Fin 4) (l : Fin 704) : Fin 2816 := ⟨s.val * 704 + l.val, by omega⟩

/-- The hidden array as the region finds it: half, shard, token, column of the shard. -/
theorem entry_h (c : Dev nD) (p : Fin 2) (s : Fin 4) (t : Fin 4096) (l : Fin 704) :
    (V m c main_v2 : S2x4x4096x704.Idx → EReal) (ix4 p s t l) = argH m c (ix2 t (part p (slot s l))) := by
  simp only [V, V0, List.flatten_cons, List.flatten_nil, List.append_nil, StableHlo.after_cons, StableHlo.after_nil]
  after_results_simp
  pointwise
  blk_ext [part, slot]

/-- The weights as the region finds them: shard, row of the shard, column. -/
theorem entry_w (c : Dev nD) (s : Fin 4) (l : Fin 704) (k : Fin 1024) :
    (V m c main_v4 : S4x704x1024.Idx → EReal) (ix3 s l k) = argW m c (ix2 (slot s l) k) := by
  simp only [V, V0, List.flatten_cons, List.flatten_nil, List.append_nil, StableHlo.after_cons, StableHlo.after_nil]
  after_results_simp
  pointwise
  blk_ext [slot]

theorem iblk_h (c : Dev nD) (t : Fin cfg0.N) (p : Fin 2) (s : Fin 4) (r : Fin 512) (l : Fin 704) :
    (iblk m c 0 t : Vec Ideal S2x4x512x704 .bf16) (ix4 p s r l) = argH m c (ix2 (tok (tile t) r) (part p (slot s l))) := by
  rw [← entry_h]
  blk_ext [iblk, idx t, tok, tile]

theorem iblk_w (c : Dev nD) (t : Fin cfg0.N) (s : Fin 4) (l : Fin 704) (k : Fin 1024) :
    (iblk m c 1 t : Vec Ideal S4x704x1024 .bf16) (ix3 s l k) = argW m c (ix2 (slot s l) k) := by
  rw [← entry_w]
  blk_ext [iblk, idx t]

theorem iblk_x (c : Dev nD) (t : Fin cfg0.N) (r : Fin 512) (k : Fin 1024) :
    (iblk m c 2 t : Vec Ideal S512x1024 .f32) (ix2 r k) = argX m c (ix2 (tok (tile t) r) k) := by
  blk_ext [iblk, V, idx t, tok, tile]

theorem iblk_target (c : Dev nD) (t : Fin cfg0.N) (r : Fin 512) (k : Fin 1024) :
    (iblk m c 3 t : Vec Ideal S512x1024 .f32) (ix2 r k) = argL m c (ix2 (tok (tile t) r) k) := by
  blk_ext [iblk, V, idx t, tok, tile]

theorem iblk_t (c : Dev nD) (t : Fin cfg0.N) (k : Fin 1024) :
    (iblk m c 4 t : Vec Ideal S1x1024 .f32) (ix2 0 k) = argT m c (ix2 0 k) := by
  blk_ext [iblk, V, idx t]

theorem iblk_g (c : Dev nD) (t : Fin cfg0.N) (k : Fin 1024) :
    (iblk m c 5 t : Vec Ideal S1x1024 .f32) (ix2 0 k) = argG m c (ix2 0 k) := by
  blk_ext [iblk, V, idx t]

theorem act_args (c : Dev nD) (t : Fin cfg0.N) (s : Fin 4) (r : Fin 512) (l : Fin 704) :
    act (iblk m c 0 t) s r l = hidden (argH m c) (tok (tile t) r) (slot s l) :=
  times (times (iblk_h m c t 0 s r l) (congrArg GatedDown.gate (iblk_h m c t 0 s r l))) (iblk_h m c t 1 s r l)

/-- The branch of a tile, read in the arguments: slab by slab of the hidden axis is the whole axis. -/
theorem branch_args (c : Dev nD) (t : Fin cfg0.N) (r : Fin 512) (k : Fin 1024) :
    branch m c t (ix2 r k) = under m c (tok (tile t) r) k :=
  Fin.sum_mul_add_congr fun s l hl => times (act_args m c t s r l) (iblk_w m c t s l k)

theorem row_branch (c : Dev nD) (t : Fin cfg0.N) (r : Fin 512) : row (branch m c t) r = under m c (tok (tile t) r) :=
  funext fun k => branch_args m c t r k

theorem normed_args (c : Dev nD) (t : Fin cfg0.N) (r : Fin 512) (k : Fin 1024) :
    branch m c t (ix2 r k) * factor (row (branch m c t) r) * (iblk m c 5 t : Vec Ideal S1x1024 .f32) (ix2 0 k)
      = under m c (tok (tile t) r) k * factor (under m c (tok (tile t) r)) * argG m c (ix2 0 k) :=
  times (times (branch_args m c t r k) (congrArg factor (row_branch m c t r))) (iblk_g m c t k)

theorem error_args (c : Dev nD) (t : Fin cfg0.N) (r : Fin 512) (k : Fin 1024) :
    error (branch m c t) (iblk m c 5 t) (iblk m c 4 t) (iblk m c 2 t) (iblk m c 3 t) r k
      = miss (under m c) (argX m c) (argL m c) (argT m c) (argG m c) (tok (tile t) r) k :=
  congrArg₂ (fun a b : EReal => a - b)
    (congrArg₂ (fun a b : EReal => a + b) (iblk_x m c t r k) (times (iblk_t m c t k) (normed_args m c t r k))) (iblk_target m c t r k)

theorem residual_args (c : Dev nD) (t : Fin cfg0.N) (r : Fin 512) (k : Fin 1024) :
    residual m c t (ix2 r k) = down m c (tok (tile t) r) k :=
  congrArg (fun a : EReal => a * share) (error_args m c t r k)

theorem loss_args (c : Dev nD) (t : Fin cfg0.N) :
    tileLoss (branch m c t) (iblk m c 5 t) (iblk m c 4 t) (iblk m c 2 t) (iblk m c 3 t)
      = lossTile (under m c) (argX m c) (argL m c) (argT m c) (argG m c) (tile t) :=
  congrArg (fun a : EReal => a * halfShare) (Finset.sum_congr rfl fun r _ => Finset.sum_congr rfl fun k _ =>
    times (error_args m c t r k) (error_args m c t r k))

theorem passed_args (c : Dev nD) (t : Fin cfg0.N) (r : Fin 512) (k : Fin 1024) :
    passed (residual m c t) (branch m c t) (iblk m c 5 t) (iblk m c 4 t) r k
      = dBranch (down m c) (under m c) (argT m c) (argG m c) (tok (tile t) r) k :=
  congrFun (congrArg₂ back (row_branch m c t r)
    (funext fun n => times (iblk_g m c t n) (times (residual_args m c t r n) (iblk_t m c t n)))) k

theorem gate_args (c : Dev nD) (t : Fin cfg0.N) (k : Fin 1024) :
    gatePart (residual m c t) (branch m c t) (iblk m c 5 t) k = ∑ r : Fin 512, down m c (tok (tile t) r) k
      * (under m c (tok (tile t) r) k * factor (under m c (tok (tile t) r)) * argG m c (ix2 0 k)) :=
  Finset.sum_congr rfl fun r _ => times (residual_args m c t r k) (normed_args m c t r k)

theorem post_args (c : Dev nD) (t : Fin cfg0.N) (k : Fin 1024) :
    postPart (residual m c t) (branch m c t) (iblk m c 4 t) k = ∑ r : Fin 512, down m c (tok (tile t) r) k * argT m c (ix2 0 k)
      * under m c (tok (tile t) r) k * factor (under m c (tok (tile t) r)) :=
  Finset.sum_congr rfl fun r _ =>
    times (times (times (residual_args m c t r k) (iblk_t m c t k)) (branch_args m c t r k)) (congrArg factor (row_branch m c t r))

/-- A running sum over the tiles, each tile a sum over its tokens, is at its last tile the sum over all tokens. -/
theorem total (out : (n : Nat) → n < cfg0.N → S1x1024.Idx → EReal) (part : Fin cfg0.N → Fin 1024 → EReal) (F : Fin 4096 → Fin 1024 → EReal)
    (first : ∀ (t : Fin cfg0.N) (_ : t.val % 8 = 0) (j : S1x1024.Idx), out t.val t.isLt j = 0 + part t (j 1))
    (next : ∀ (t : Fin cfg0.N) (_ : ¬t.val % 8 = 0) (j : S1x1024.Idx),
      out t.val t.isLt j = out (t.val - 1) (Nat.lt_of_le_of_lt (Nat.sub_le _ _) t.isLt) j + part t (j 1))
    (parts : ∀ t k, part t k = ∑ r : Fin 512, F (tok (tile t) r) k) (t : Fin cfg0.N) (h : t.val % 8 = 7) (j : S1x1024.Idx) :
    out t.val t.isLt j = ∑ t : Fin 4096, F t (j 1) := by
  refine (Pipeline.eq_sum_fin_of_reset_step_apply_of_flush out 8 (fun _ => (0 : EReal)) (fun t j => part t (j 1)) first next t h j).trans ?_
  refine (zero_add _).trans ((Finset.sum_congr rfl fun s _ => parts ⟨8 * (t.val / 8) + s.val, Pipeline.run_point_lt_of_flush t h s⟩ (j 1)).trans ?_)
  refine Fin.sum_mul_add_congr fun s k hl => congrArg (fun q => F q (j 1)) (Fin.ext ?_)
  have := lt_of_lt_of_eq t.isLt points
  show (8 * (t.val / 8) + s.val) * 512 + k.val = s.val * 512 + k.val
  omega

end Cert.Proof.Head
-- ==== Proof.Head.Kernel.lean ====
module

public import proofs.«01_k».proof.Proof.Head.Arrays
public import Idealize.ShloMosaic.Lib.Claim

@[expose] public section

set_option maxRecDepth 16384

noncomputable section

namespace Cert.Proof.Head

open Idealize.ShloMosaic Idealize.ShloMosaic.TcCoe Idealize.SL.Sem
open Cert.HeadIdeal Cert.HeadIdeal.Gen
open Cert.Proof.Norm

variable (m : (ℓ : Loc nD τ sig) → Buf (Elt Ideal) ℓ)

theorem array_branch (c : Dev nD) : (dats m 0 c).arrAt 6 cfg0.N = fun y : S4096x1024.Idx => dBranch (down m c) (under m c) (argT m c) (argG m c) (y 0) (y 1) := by
  refine (dats m 0 c).arrAt_eq_of_covers 6 _ (by decide +kernel) fun t hf y => ?_
  have e : ((cfg0.win 6).blk t).view.emb y = ix2 (tok (tile t) (y 0)) (y 1) := by
    blk_ext [idx t, tok, tile]
  have ey : y = (ix2 (y 0) (y 1) : S512x1024.Idx) := by
    blk_ext []
  have h : (outsAt0 m c t.val t.isLt).1 y = dBranch (down m c) (under m c) (argT m c) (argG m c) (tok (tile t) (y 0)) (y 1) := (dbranch_point m c t y).trans (passed_args m c t (y 0) (y 1))
  blk_simp
  rw [after0_6]
  refine h.trans ?_
  rw [e]
  rfl

theorem array_stream (c : Dev nD) : (dats m 0 c).arrAt 7 cfg0.N = fun y : S4096x1024.Idx => down m c (y 0) (y 1) := by
  refine (dats m 0 c).arrAt_eq_of_covers 7 _ (by decide +kernel) fun t hf y => ?_
  have e : ((cfg0.win 7).blk t).view.emb y = ix2 (tok (tile t) (y 0)) (y 1) := by
    blk_ext [idx t, tok, tile]
  have ey : y = (ix2 (y 0) (y 1) : S512x1024.Idx) := by
    blk_ext []
  have h : (outsAt0 m c t.val t.isLt).2.1 y = down m c (tok (tile t) (y 0)) (y 1) := (dstream_point m c t y).trans ((congrArg (residual m c t) ey).trans (residual_args m c t (y 0) (y 1)))
  blk_simp
  rw [after0_7]
  refine h.trans ?_
  rw [e]
  rfl

theorem array_loss (c : Dev nD) : (dats m 0 c).arrAt 8 cfg0.N = fun y : S8x8x128.Idx => lossTile (under m c) (argX m c) (argL m c) (argT m c) (argG m c) (y 0) := by
  refine (dats m 0 c).arrAt_eq_of_covers 8 _ (by decide +kernel) fun t hf y => ?_
  have e : ((cfg0.win 8).blk t).view.emb y = ix3 (tile t) (y 1) (y 2) := by
    blk_ext [idx t, tile]
  have h : (outsAt0 m c t.val t.isLt).2.2.1 y = lossTile (under m c) (argX m c) (argL m c) (argT m c) (argG m c) (tile t) := (loss_point m c t y).trans (loss_args m c t)
  blk_simp
  rw [after0_8]
  refine h.trans ?_
  rw [e]
  rfl

theorem array_gate (c : Dev nD) : (dats m 0 c).arrAt 9 cfg0.N = fun y : S1x1024.Idx => dGate (down m c) (under m c) (argG m c) (y 1) := by
  refine (dats m 0 c).arrAt_eq_of_covers 9 _ (by decide +kernel) fun t hf y => ?_
  have e : ((cfg0.win 9).blk t).view.emb y = (y : S1x1024.Idx) := by
    blk_ext [idx t]
  have h := total (fun n h => (outsAt0 m c n h).2.2.2.1) (fun t => gatePart (residual m c t) (branch m c t) (iblk m c 5 t))
    (fun t k => down m c t k * (under m c t k * factor (under m c t) * argG m c (ix2 0 k))) (dgate_first m c) (dgate_next m c) (gate_args m c) t ((flush0_9 t).mp hf) y
  blk_simp
  rw [after0_9]
  refine h.trans ?_
  rw [e]
  rfl

theorem array_post (c : Dev nD) : (dats m 0 c).arrAt 10 cfg0.N = fun y : S1x1024.Idx => dPost (down m c) (under m c) (argT m c) (y 1) := by
  refine (dats m 0 c).arrAt_eq_of_covers 10 _ (by decide +kernel) fun t hf y => ?_
  have e : ((cfg0.win 10).blk t).view.emb y = (y : S1x1024.Idx) := by
    blk_ext [idx t]
  have h := total (fun n h => (outsAt0 m c n h).2.2.2.2) (fun t => postPart (residual m c t) (branch m c t) (iblk m c 4 t))
    (fun t k => down m c t k * argT m c (ix2 0 k) * under m c t k * factor (under m c t)) (dpost_first m c) (dpost_next m c) (post_args m c) t ((flush0_10 t).mp hf) y
  blk_simp
  rw [after0_10]
  refine h.trans ?_
  rw [e]
  rfl

/-- The windows' arrays are distinct buffers. -/
theorem arrays_distinct : Function.Injective (Pipeline.arrRef spec0) := by
  decide +kernel

/-- The branch's gradient as the kernel returns it. -/
theorem tail_branch (c : Dev nD) :
    (Pipeline.afterTail₀ cfgs (dats m) 0 (V0 m) [hostOps1] c main_v9 : S4096x1024.Idx → EReal)
      = fun i => dBranch (down m c) (under m c) (argT m c) (argG m c) (i 0) (i 1) := by
  have h : Pipeline.withArrays (cfgs 0).spec c (V0 m c) (fun w => (dats m 0 c).arrAt w (cfgs 0).N) (Proc.tc.devRef main_v5_0)
      = fun i : S4096x1024.Idx => dBranch (down m c) (under m c) (argT m c) (argG m c) (i 0) (i 1) :=
    (Pipeline.withArrays_arr (cfgs 0).spec arrays_distinct c (V0 m c) (fun w => (dats m 0 c).arrAt w (cfgs 0).N) 6).trans (array_branch m c)
  funext i
  idx_vars i
  unfold Pipeline.afterTail₀
  simp only [List.flatten_cons, List.flatten_nil, List.append_nil, StableHlo.after_cons, StableHlo.after_nil]
  after_results_simp
  rw [h]
  pointwise

/-- The loss as the kernel returns it: the sum of the tiles' losses. -/
theorem tail_loss (c : Dev nD) :
    (Pipeline.afterTail₀ cfgs (dats m) 0 (V0 m) [hostOps1] c main_v8 : S_.Idx → EReal) = fun _ => loss (under m c) (argX m c) (argL m c) (argT m c) (argG m c) := by
  have h : Pipeline.withArrays (cfgs 0).spec c (V0 m c) (fun w => (dats m 0 c).arrAt w (cfgs 0).N) (Proc.tc.devRef main_v5_2)
      = fun y : S8x8x128.Idx => lossTile (under m c) (argX m c) (argL m c) (argT m c) (argG m c) (y 0) :=
    (Pipeline.withArrays_arr (cfgs 0).spec arrays_distinct c (V0 m c) (fun w => (dats m 0 c).arrAt w (cfgs 0).N) 8).trans (array_loss m c)
  funext i
  unfold Pipeline.afterTail₀
  simp only [List.flatten_cons, List.flatten_nil, List.append_nil, StableHlo.after_cons, StableHlo.after_nil]
  after_results_simp
  rw [h]
  pointwise [loss]

/-- The kernel's run: the loss, the four gradients, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v8) = (fun _ : S_.Idx => loss (under m c) (argX m c) (argL m c) (argT m c) (argG m c))
      ∧ r.2.mem ((c.tc : Thread nD τ).loc main_v9) = (fun i : S4096x1024.Idx => dBranch (down m c) (under m c) (argT m c) (argG m c) (i 0) (i 1))
      ∧ r.2.mem ((c.tc : Thread nD τ).loc main_v5_1) = (fun i : S4096x1024.Idx => down m c (i 0) (i 1))
      ∧ r.2.mem ((c.tc : Thread nD τ).loc main_v5_3) = (fun i : S1x1024.Idx => dGate (down m c) (under m c) (argG m c) (i 1))
      ∧ r.2.mem ((c.tc : Thread nD τ).loc main_v5_4) = (fun i : S1x1024.Idx => dPost (down m c) (under m c) (argT m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (unchanged m g) (run_main m g))
  exact ⟨((h.2 c).2 main_v8 (Pipeline.mem_restRefs_of main_v8 (by decide) (by decide))).trans (tail_loss m c),
    ((h.2 c).2 main_v9 (Pipeline.mem_restRefs_of main_v9 (by decide) (by decide))).trans (tail_branch m c),
    ((h.2 c).1 7).trans (array_stream m c),
    ((h.2 c).1 9).trans (array_gate m c),
    ((h.2 c).1 10).trans (array_post m c), h.1 c⟩

end Cert.Proof.Head
-- ==== Proof.Head.Reference.lean ====
module

public import proofs.«01_k».proof.Proof.Head.Kernel
public import proofs.«01_k».proof.Proof.Gen.HeadRefIdeal.Run
public import proofs.«01_k».proof.Proof.Gen.HeadRefIdeal.Read
public import proofs.«01_k».proof.Proof.Gen.Pre_finite_down

@[expose] public section

set_option maxRecDepth 16384

noncomputable section

namespace Cert.Proof.Head

open Idealize.ShloMosaic Idealize.ShloMosaic.TcCoe Idealize.SL.Sem
open Cert.HeadRefIdeal Cert.HeadRefIdeal.Gen Cert.HeadRefIdeal.Read
open Cert.Proof.Norm Cert.Proof.GatedDown

section Numbers

theorem share_coe : share = ((1 / 1024 : ℝ) : EReal) := by
  unfold share
  simp [Ideal.ofBits, Ideal.ieee, -EReal.coe_mul]
  norm_num

theorem halfShare_coe : halfShare = ((1 / 2048 : ℝ) : EReal) := by
  unfold halfShare
  simp [Ideal.ofBits, Ideal.ieee, -EReal.coe_mul]
  norm_num

theorem two_coe : Ideal.ofBits FTy.f32 0x40000000#32 = ((2 : ℝ) : EReal) := by
  simp [Ideal.ofBits, Ideal.ieee, -EReal.coe_mul]
  norm_num

theorem half_coe' : Ideal.ofBits FTy.f32 0x3F000000#32 = ((1 / 2 : ℝ) : EReal) := by
  simp [Ideal.ofBits, Ideal.ieee, -EReal.coe_mul]
  norm_num

/-- The derivative of half the mean of the squares is the error divided by the width. -/
theorem mean_slope (e : EReal) :
    Ideal.div (Ideal.ofBits FTy.f32 0x3F000000#32) width * (Ideal.ofBits FTy.f32 0x40000000#32 * e) = e * share := by
  rw [half_coe', two_coe, width_coe, share_coe, Ideal.div_coe (by norm_num), ← mul_assoc, mul_comm e]
  norm_cast
  norm_num

theorem sub_real {a b : EReal} (ha : ∃ r : ℝ, a = r) (hb : ∃ r : ℝ, b = r) : ∃ r : ℝ, a - b = r := by
  obtain ⟨a, rfl⟩ := ha
  obtain ⟨b, rfl⟩ := hb
  exact ⟨a - b, by norm_cast⟩

theorem gate_real {a : EReal} (ha : ∃ r : ℝ, a = r) : ∃ r : ℝ, gate a = r := by
  obtain ⟨a, rfl⟩ := ha
  exact ⟨_, gate_coe a⟩

/-- Half the sum over tokens of a mean is the sum over tiles of half the tile's mean. -/
theorem halves (S : Fin 4096 → EReal) (hS : ∀ t, ∃ r : ℝ, S t = r) :
    Ideal.ofBits FTy.f32 0x3F000000#32 * ∑ t : Fin 4096, Ideal.div (S t) width
      = ∑ b : Fin 8, (∑ r : Fin 512, S (tok b r)) * halfShare := by
  choose s hs using hS
  have e : ∀ b : Fin 8, (∑ r : Fin 512, S (tok b r)) * halfShare = (((∑ r : Fin 512, s (tok b r)) * (1 / 2048) : ℝ) : EReal) := fun b => by
    rw [halfShare_coe, EReal.coe_mul, coe_sum]
    exact congrArg (fun a : EReal => a * ((1 / 2048 : ℝ) : EReal)) (Finset.sum_congr rfl fun r _ => hs _)
  have e' : ∀ t, Ideal.div (S t) width = ((s t * (1 / 1024) : ℝ) : EReal) := fun t => by
    rw [hs, width_coe, Ideal.div_coe (by norm_num), EReal.coe_mul]
  have split : ∑ b : Fin 8, ∑ r : Fin 512, s (tok b r) = ∑ t : Fin 4096, s t :=
    Fin.sum_mul_add_congr fun b r hl => congrArg s (Fin.ext rfl)
  simp only [e, e']
  rw [half_coe', ← coe_sum, ← coe_sum, ← EReal.coe_mul, ← Finset.sum_mul, ← Finset.sum_mul, split]
  congr 1
  ring

end Numbers

theorem ref_hidden (H : S4096x5632.Idx → EReal) (t : Fin 4096) (f : Fin 2816) :
    val_main_v3 (F := Ideal) H (ix2 t f) = hidden H t f := by
  have e0 : ∀ h, (⟨f.val, h⟩ : Fin 5632) = part 0 f := fun h => Fin.ext (by show f.val = 0 * 2816 + f.val; omega)
  have e1 : ∀ h, (⟨2816 + f.val, h⟩ : Fin 5632) = part 1 f := fun h => Fin.ext (by show 2816 + f.val = 1 * 2816 + f.val; omega)
  unfold val_main_v3 val_main_v2 val_main_call0_v5 val_main_call0_v4 val_main_call0_v3 val_main_call0_v2 val_main_call0_v1
    val_main_call0_v0 val_main_call0_cst val_main_call0_cst_0 val_main_v0 val_main_v1
  pointwise [hidden, gate_eq]
  simp only [e0, e1]

theorem ref_lower (H : S4096x5632.Idx → EReal) (W : S2816x1024.Idx → EReal) (t : Fin 4096) (k : Fin 1024) :
    val_main_v4 (F := Ideal) H W (ix2 t k) = lower H W t k := by
  unfold val_main_v4
  pointwise [ref_hidden, lower]

theorem ref_square (H : S4096x5632.Idx → EReal) (W : S2816x1024.Idx → EReal) (t : Fin 4096) (z : Fin 1) :
    val_main_v11 (F := Ideal) H W (ix2 t z) = square (lower H W t) := by
  unfold val_main_v11 val_main_v10 val_main_v9 val_main_v8 val_main_v7 val_main_v6 val_main_v5
  pointwise [ref_lower, val_main_cst, val_main_cst_0, val_main_cst_1, square, width, eps]

theorem ref_factor (H : S4096x5632.Idx → EReal) (W : S2816x1024.Idx → EReal) (t : Fin 4096) (z : Fin 1) :
    val_main_v12 (F := Ideal) H W (ix2 t z) = factor (lower H W t) := by
  unfold val_main_v12
  pointwise [ref_square, factor]

theorem ref_scaled (H : S4096x5632.Idx → EReal) (W : S2816x1024.Idx → EReal) (t : Fin 4096) (k : Fin 1024) :
    val_main_v17 (F := Ideal) H W (ix2 t k) = lower H W t k * factor (lower H W t) := by
  unfold val_main_v17 val_main_v16
  pointwise [ref_lower, ref_factor]

theorem ref_normed (H : S4096x5632.Idx → EReal) (W : S2816x1024.Idx → EReal) (G : S1x1024.Idx → EReal) (t : Fin 4096) (k : Fin 1024) :
    val_main_v19 (F := Ideal) H W G (ix2 t k) = lower H W t k * factor (lower H W t) * G (ix2 0 k) := by
  unfold val_main_v19 val_main_v18
  pointwise [ref_scaled]

section Whole

variable (H : S4096x5632.Idx → EReal) (W : S2816x1024.Idx → EReal) (X : S4096x1024.Idx → EReal) (L : S4096x1024.Idx → EReal) (T : S1x1024.Idx → EReal) (G : S1x1024.Idx → EReal)

theorem ref_miss (t : Fin 4096) (k : Fin 1024) :
    val_main_v23 (F := Ideal) H W X L T G (ix2 t k) = miss (lower H W) X L T G t k := by
  unfold val_main_v23 val_main_v22 val_main_v21 val_main_v20
  pointwise [ref_normed, miss]

theorem ref_stream (t : Fin 4096) (k : Fin 1024) :
    val_main_v37 (F := Ideal) H W X L T G (ix2 t k) = dStream (lower H W) X L T G t k := by
  unfold val_main_v37 val_main_v36 val_main_v35 val_main_v34 val_main_v33 val_main_v32 val_main_v26 val_main_v25
  pointwise [ref_miss, val_main_cst_3, val_main_cst_8, val_main_cst_9, val_main_cst_10]
  exact mean_slope _

theorem ref_gate (z : Fin 1) (k : Fin 1024) :
    val_main_v42 (F := Ideal) H W X L T G (ix2 z k) = dGate (dStream (lower H W) X L T G) (lower H W) G k := by
  unfold val_main_v42 val_main_v41 val_main_v40
  pointwise [ref_stream, ref_normed, val_main_cst_11, dGate]

theorem ref_post (z : Fin 1) (k : Fin 1024) :
    val_main_v45 (F := Ideal) H W X L T G (ix2 z k) = dPost (dStream (lower H W) X L T G) (lower H W) T k := by
  unfold val_main_v45 val_main_v44 val_main_v43 val_main_v39 val_main_v38
  pointwise [ref_stream, ref_scaled, val_main_cst_12, dPost]
  exact Finset.sum_congr rfl fun t _ => by rw [mul_comm, mul_comm (T _), mul_assoc (_ * T _)]

/-- The arguments hold real numbers. -/
def Finite : Prop := RealArray H ∧ RealArray W ∧ RealArray X ∧ RealArray L ∧ RealArray T ∧ RealArray G

variable {H W X L T G}

theorem lower_real (h : Finite H W X L T G) (t : Fin 4096) (k : Fin 1024) : ∃ r : ℝ, lower H W t k = r :=
  sum_real _ _ (fun _ => mul_real (mul_real (h.1 _) (gate_real (h.1 _))) (h.1 _)) (fun _ => h.2.1 _)

theorem miss_real (h : Finite H W X L T G) (t : Fin 4096) (k : Fin 1024) : ∃ r : ℝ, miss (lower H W) X L T G t k = r :=
  sub_real (add_real (h.2.2.1 _) (mul_real (h.2.2.2.2.1 _)
    (mul_real (mul_real (lower_real h t k) (factor_real _ fun n => lower_real h t n)) (h.2.2.2.2.2 _)))) (h.2.2.2.1 _)

theorem stream_real (h : Finite H W X L T G) (t : Fin 4096) (k : Fin 1024) : ∃ r : ℝ, dStream (lower H W) X L T G t k = r :=
  mul_real (miss_real h t k) ⟨_, share_coe⟩

theorem ref_loss (h : Finite H W X L T G) (i : S_.Idx) :
    val_main_v31 (F := Ideal) H W X L T G i = loss (lower H W) X L T G := by
  unfold val_main_v31 val_main_v30 val_main_v29 val_main_v28 val_main_v27 val_main_v24
  pointwise [ref_miss, val_main_cst_4, val_main_cst_5, val_main_cst_6, val_main_cst_7]
  exact halves (fun t => ∑ k : Fin 1024, miss (lower H W) X L T G t k * miss (lower H W) X L T G t k)
    fun t => sum_real _ _ (fun k => miss_real h t k) (fun k => miss_real h t k)

theorem ref_branch (h : Finite H W X L T G) (t : Fin 4096) (k : Fin 1024) :
    val_main_v61 (F := Ideal) H W X L T G (ix2 t k) = dBranch (dStream (lower H W) X L T G) (lower H W) T G t k := by
  have e := back_eq (lower H W t) (fun n => G (ix2 0 n) * (dStream (lower H W) X L T G t n * T (ix2 0 n))) (fun n => lower_real h t n)
    (fun n => mul_real (h.2.2.2.2.2 _) (mul_real (stream_real h t n) (h.2.2.2.2.1 _))) k
  unfold val_main_v61 val_main_v60 val_main_v59 val_main_v58 val_main_v57 val_main_v56 val_main_v55 val_main_v54 val_main_v53 val_main_v52
    val_main_v51 val_main_v50 val_main_v49 val_main_v48 val_main_v47 val_main_v46 val_main_v39 val_main_v38 val_main_v15 val_main_v14 val_main_v13
  pointwise [ref_stream, ref_lower, ref_square, ref_factor, val_main_cst_2, val_main_cst_13, val_main_cst_14, val_main_cst_15]
  unfold dBranch
  rw [← e]
  unfold Norm.slope width
  simp only [mul_comm (G _), mul_comm (T _), Finset.sum_const, Finset.card_univ, Fintype.card_fin, one_smul]

end Whole

theorem finite_args (H : S4096x5632.Idx → EReal) (W : S2816x1024.Idx → EReal) (X : S4096x1024.Idx → EReal) (L : S4096x1024.Idx → EReal) (T : S1x1024.Idx → EReal) (G : S1x1024.Idx → EReal)
    (h : (Cert.Pre_finite_down.fn (F := Ideal) H W X L T G).1 = (fun _ => 1#1)
      ∧ (Cert.Pre_finite_down.fn (F := Ideal) H W X L T G).2.1 = (fun _ => 1#1)
      ∧ (Cert.Pre_finite_down.fn (F := Ideal) H W X L T G).2.2.1 = (fun _ => 1#1)
      ∧ (Cert.Pre_finite_down.fn (F := Ideal) H W X L T G).2.2.2.1 = (fun _ => 1#1)
      ∧ (Cert.Pre_finite_down.fn (F := Ideal) H W X L T G).2.2.2.2.1 = (fun _ => 1#1)
      ∧ (Cert.Pre_finite_down.fn (F := Ideal) H W X L T G).2.2.2.2.2 = (fun _ => 1#1)) :
    Finite H W X L T G := by
  have from_bit : ∀ {ι : Type} {p : ι → BitVec 1} {x : ι → EReal}, p = (fun _ => 1#1) → (∀ i, p i = 1#1 → ∃ r : ℝ, x i = r) →
      ∀ i, ∃ r : ℝ, x i = r := fun e f i => f i (congrFun e i)
  refine ⟨from_bit h.1 fun i e => ?_, from_bit h.2.1 fun i e => ?_, from_bit h.2.2.1 fun i e => ?_, from_bit h.2.2.2.1 fun i e => ?_, from_bit h.2.2.2.2.1 fun i e => ?_, from_bit h.2.2.2.2.2 fun i e => ?_⟩
  all_goals
    unfold Cert.Pre_finite_down.fn at e
    dsimp only at e
    pointwise at e
    exact real_of_abs_lt e

theorem Finite.congr {H H' : S4096x5632.Idx → EReal} {W W' : S2816x1024.Idx → EReal} {X X' : S4096x1024.Idx → EReal} {L L' : S4096x1024.Idx → EReal} {T T' : S1x1024.Idx → EReal} {G G' : S1x1024.Idx → EReal}
    (hH : H = H') (hW : W = W') (hX : X = X') (hL : L = L') (hT : T = T') (hG : G = G')
    (h : Finite H' W' X' L' T' G') : Finite H W X L T G := by
  subst hH hW hX hL hT hG
  exact h

variable (m : (ℓ : Loc nD τ sig) → Buf (Elt Ideal) ℓ)

/-- The reference's run, in the kernel's formulas. -/
theorem reference_run (g : Dev nD → PrngReg)
    (hfin : ∀ c : Dev nD, Finite (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :
    θ_run (defs (F := Ideal)) (onTc (τ := τ) (main (F := Ideal))) ⟨m, fun _ => 0, g⟩ (fun r => ∀ c : Dev nD,
      r.2.mem ((c.tc : Thread nD τ).loc main_v31) = (fun _ : S_.Idx => loss (lower (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v61) = (fun i : S4096x1024.Idx => dBranch (dStream (lower (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5))) (lower (m ((c.tc : Thread nD τ).loc main_arg0)) (m ((c.tc : Thread nD τ).loc main_arg1))) (m ((c.tc : Thread nD τ).loc main_arg4)) (m ((c.tc : Thread nD τ).loc main_arg5)) (i 0) (i 1))
      ∧ r.2.mem ((c.tc : Thread nD τ).loc main_v37) = (fun i : S4096x1024.Idx => dStream (lower (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (i 0) (i 1))
      ∧ r.2.mem ((c.tc : Thread nD τ).loc main_v42) = (fun i : S1x1024.Idx => dGate (dStream (lower (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5))) (lower (m ((c.tc : Thread nD τ).loc main_arg0)) (m ((c.tc : Thread nD τ).loc main_arg1))) (m ((c.tc : Thread nD τ).loc main_arg5)) (i 1))
      ∧ r.2.mem ((c.tc : Thread nD τ).loc main_v45) = (fun i : S1x1024.Idx => dPost (dStream (lower (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5))) (lower (m ((c.tc : Thread nD τ).loc main_arg0)) (m ((c.tc : Thread nD τ).loc main_arg1))) (m ((c.tc : Thread nD τ).loc main_arg4)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (Cert.HeadRefIdeal.Value.run m g)
  obtain ⟨h0, h1, h2, h3, h4, ha⟩ := h c
  refine ⟨(h0.trans (val_main_v31_eq m c)).trans (funext fun i => ?_), (h1.trans (val_main_v61_eq m c)).trans (funext fun i => ?_), (h2.trans (val_main_v37_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))).trans (funext fun i => ?_), (h3.trans (val_main_v42_eq m c)).trans (funext fun i => ?_), (h4.trans (val_main_v45_eq m c)).trans (funext fun i => ?_), ha⟩
  · exact ref_loss (hfin c) i
  · idx_vars i
    exact ref_branch (hfin c) i0 i1
  · idx_vars i
    exact ref_stream _ _ _ _ _ _ i0 i1
  · idx_vars i
    exact ref_gate _ _ _ _ _ _ i0 i1
  · idx_vars i
    exact ref_post _ _ _ _ _ _ i0 i1

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => (h c).2.2.2.2.2, sem_eq_zero_of_no_sems (by decide) r.2⟩) (Cert.HeadRefIdeal.Value.run m g)

end Cert.Proof.Head
-- ==== Proof.OutProj.Kernel.lean ====
module

public import proofs.«01_k».proof.Proof.Gen.OutProjIdeal.Frame
public import proofs.«01_k».proof.Proof.Norm.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.OutProj

open Idealize.ShloMosaic Idealize.ShloMosaic.TcCoe Idealize.SL.Sem
open Cert.OutProjIdeal Cert.OutProjIdeal.Gen
open Cert.Proof.Norm

/-- One row of a product with the weights. -/
def times (y : Fin 1024 → EReal) (W : S1024x1024.Idx → EReal) (k : Fin 1024) : EReal := ∑ n : Fin 1024, y n * W (ix2 n k)

/-- A row of the residual stream, and what the branch's row `o` adds to it: its norm with a gain, gated. -/
def joined (x o : Fin 1024 → EReal) (T P : S1x1024.Idx → EReal) (k : Fin 1024) : EReal :=
  x k + T (ix2 0 k) * (o k * factor o * P (ix2 0 k))

/-- The norm of a row with a gain, scaled and shifted. -/
def modulated (v : Fin 1024 → EReal) (G C S : S1x1024.Idx → EReal) (k : Fin 1024) : EReal :=
  v k * factor v * G (ix2 0 k) * (1 + C (ix2 0 k)) + S (ix2 0 k)

/-- Row `r` of a tile. -/
def row (x : S1024x1024.Idx → EReal) (r : Fin 1024) : Fin 1024 → EReal := fun k => x (ix2 r k)

section Block

variable (y w : Vec Ideal S1024x1024 .bf16) (x : Vec Ideal S1024x1024 .f32) (T P G C S : Vec Ideal S1x1024 .f32)

theorem pay2_apply (r k : Fin 1024) : k0_pay2 y w (ix2 r k) = times (row y r) w k := by
  unfold_payloads
  pointwise [times, row]

theorem pay4_apply (r k : Fin 1024) : k0_pay4 y w x T P (ix2 r k) = joined (row x r) (times (row y r) w) T P k := by
  unfold k0_pay4
  pointwise [pay2_apply, joined, factor, square, width, eps, row]

theorem pay5_apply (r k : Fin 1024) : k0_pay5 y w x T P (ix2 r k) = joined (row x r) (times (row y r) w) T P k
    * factor (joined (row x r) (times (row y r) w) T P) := by
  unfold k0_pay5
  pointwise [pay4_apply, factor, square, width, eps]

/-- The region of a whole tile, and of a whole row, reads it as it is. -/
theorem whole {e : EltTy} (v : Vec Ideal S1024x1024 e) : View.ld v r0_0 = v := by
  funext i
  idx_vars i
  pointwise

theorem whole_row (v : Vec Ideal S1x1024 .f32) : View.ld v r0_1 = v := by
  funext i
  idx_vars i
  obtain rfl : i0 = 0 := Subsingleton.elim _ _
  pointwise

theorem out_block (r k : Fin 1024) : out0_8 y w x T P G C S (ix2 r k) = times (row y r) w k := by
  unfold out0_8 k0_pay3
  rw [View.canon_cons_unit_lit _ _ _ (by decide)]
  pointwise [pay2_apply]
  rw [whole, whole]

theorem joined_block (r k : Fin 1024) : out0_9 y w x T P G C S (ix2 r k) = joined (row x r) (times (row y r) w) T P k := by
  unfold out0_9
  rw [View.canon_cons_unit_lit _ _ _ (by decide)]
  pointwise [pay4_apply]
  rw [whole, whole, whole, whole_row, whole_row]

theorem modulated_block (r k : Fin 1024) :
    out0_10 y w x T P G C S (ix2 r k) = modulated (joined (row x r) (times (row y r) w) T P) G C S k := by
  unfold out0_10 k0_pay1
  rw [View.canon_cons_unit_lit _ _ _ (by decide)]
  pointwise [pay5_apply, modulated]
  rw [whole, whole, whole, whole_row, whole_row]

end Block

variable (m : (ℓ : Loc nD τ sig) → Buf (Elt Ideal) ℓ)

abbrev argY (c : Dev nD) : S4096x1024.Idx → EReal := m ((c : Thread nD τ).loc main_arg0)
abbrev argW (c : Dev nD) : S1024x1024.Idx → EReal := m ((c : Thread nD τ).loc main_arg1)
abbrev argX (c : Dev nD) : S4096x1024.Idx → EReal := m ((c : Thread nD τ).loc main_arg2)
abbrev argT (c : Dev nD) : S1x1024.Idx → EReal := m ((c : Thread nD τ).loc main_arg3)
abbrev argP (c : Dev nD) : S1x1024.Idx → EReal := m ((c : Thread nD τ).loc main_arg4)
abbrev argG (c : Dev nD) : S1x1024.Idx → EReal := m ((c : Thread nD τ).loc main_arg5)
abbrev argC (c : Dev nD) : S1x1024.Idx → EReal := m ((c : Thread nD τ).loc main_arg6)
abbrev argS (c : Dev nD) : S1x1024.Idx → EReal := m ((c : Thread nD τ).loc main_arg7)

/-- Row `t` of a token array. -/
def line (X : S4096x1024.Idx → EReal) (t : Fin 4096) : Fin 1024 → EReal := fun k => X (ix2 t k)

/-- The branch, the residual stream and its modulated norm, of whole arrays. -/
def branch (Y : S4096x1024.Idx → EReal) (W : S1024x1024.Idx → EReal) (t : Fin 4096) : Fin 1024 → EReal := times (line Y t) W

def stream (Y : S4096x1024.Idx → EReal) (W : S1024x1024.Idx → EReal) (X : S4096x1024.Idx → EReal) (T P : S1x1024.Idx → EReal)
    (t : Fin 4096) : Fin 1024 → EReal :=
  joined (line X t) (branch Y W t) T P

def normed (Y : S4096x1024.Idx → EReal) (W : S1024x1024.Idx → EReal) (X : S4096x1024.Idx → EReal) (T P G C S : S1x1024.Idx → EReal)
    (t : Fin 4096) : Fin 1024 → EReal :=
  modulated (stream Y W X T P t) G C S

theorem points : cfg0.N = 4 := by decide

/-- Token `r` of the tile of a grid point. -/
def token (t : Fin cfg0.N) (r : Fin 1024) : Fin 4096 := ⟨t.val * 1024 + r.val, by have := lt_of_lt_of_eq t.isLt points; omega⟩

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0] := by
  decide +kernel

theorem entry_y (c : Dev nD) : (V m c main_v0 : S4096x1024.Idx → EReal) = argY m c := by
  funext i
  simp only [V, V0, List.flatten_cons, List.flatten_nil, List.append_nil, StableHlo.after_cons, StableHlo.after_nil]
  after_results_simp
  pointwise

theorem entry_w (c : Dev nD) : (V m c main_v1 : S1024x1024.Idx → EReal) = argW m c := by
  funext i
  simp only [V, V0, List.flatten_cons, List.flatten_nil, List.append_nil, StableHlo.after_cons, StableHlo.after_nil]
  after_results_simp
  pointwise

theorem row_y (c : Dev nD) (t : Fin cfg0.N) (r : Fin 1024) : row (iblk m c 0 t) r = line (argY m c) (token t r) := by
  rw [← entry_y]
  funext k
  unfold row line
  blk_ext [iblk, idx t, token]

theorem row_x (c : Dev nD) (t : Fin cfg0.N) (r : Fin 1024) : row (iblk m c 2 t) r = line (argX m c) (token t r) := by
  funext k
  unfold row line
  blk_ext [iblk, V, idx t, token]

theorem iblk_w (c : Dev nD) (t : Fin cfg0.N) : (iblk m c 1 t : Vec Ideal S1024x1024 .bf16) = argW m c := by
  rw [← entry_w]
  funext i
  blk_ext [iblk, idx t]

theorem iblk_t (c : Dev nD) (t : Fin cfg0.N) : (iblk m c 3 t : Vec Ideal S1x1024 .f32) = argT m c := by
  funext i
  blk_ext [iblk, V, idx t]

theorem iblk_p (c : Dev nD) (t : Fin cfg0.N) : (iblk m c 4 t : Vec Ideal S1x1024 .f32) = argP m c := by
  funext i
  blk_ext [iblk, V, idx t]

theorem iblk_g (c : Dev nD) (t : Fin cfg0.N) : (iblk m c 5 t : Vec Ideal S1x1024 .f32) = argG m c := by
  funext i
  blk_ext [iblk, V, idx t]

theorem iblk_c (c : Dev nD) (t : Fin cfg0.N) : (iblk m c 6 t : Vec Ideal S1x1024 .f32) = argC m c := by
  funext i
  blk_ext [iblk, V, idx t]

theorem iblk_s (c : Dev nD) (t : Fin cfg0.N) : (iblk m c 7 t : Vec Ideal S1x1024 .f32) = argS m c := by
  funext i
  blk_ext [iblk, V, idx t]

theorem branch_at (c : Dev nD) (t : Fin cfg0.N) (j : S1024x1024.Idx) :
    out0_8 (iblk m c 0 t) (iblk m c 1 t) (iblk m c 2 t) (iblk m c 3 t) (iblk m c 4 t) (iblk m c 5 t) (iblk m c 6 t) (iblk m c 7 t) j
      = branch (argY m c) (argW m c) (token t (j 0)) (j 1) := by
  idx_vars j
  rw [out_block, row_y, iblk_w]
  rfl

theorem array_branch (c : Dev nD) : (dats m 0 c).arrAt 8 cfg0.N = fun y : S4096x1024.Idx => branch (argY m c) (argW m c) (y 0) (y 1) := by
  refine (dats m 0 c).arrAt_eq_of_covers 8 _ (by decide +kernel) fun t hf y => ?_
  have e : ((cfg0.win 8).blk t).view.emb y = ix2 (token t (y 0)) (y 1) := by
    blk_ext [idx t, token]
  have h := branch_at m c t y
  blk_simp
  rw [after0_8]
  refine h.trans ?_
  rw [e]
  rfl

theorem stream_at (c : Dev nD) (t : Fin cfg0.N) (j : S1024x1024.Idx) :
    out0_9 (iblk m c 0 t) (iblk m c 1 t) (iblk m c 2 t) (iblk m c 3 t) (iblk m c 4 t) (iblk m c 5 t) (iblk m c 6 t) (iblk m c 7 t) j
      = stream (argY m c) (argW m c) (argX m c) (argT m c) (argP m c) (token t (j 0)) (j 1) := by
  idx_vars j
  rw [joined_block, row_y, row_x, iblk_w, iblk_t, iblk_p]
  rfl

theorem array_stream (c : Dev nD) : (dats m 0 c).arrAt 9 cfg0.N
    = fun y : S4096x1024.Idx => stream (argY m c) (argW m c) (argX m c) (argT m c) (argP m c) (y 0) (y 1) := by
  refine (dats m 0 c).arrAt_eq_of_covers 9 _ (by decide +kernel) fun t hf y => ?_
  have e : ((cfg0.win 9).blk t).view.emb y = ix2 (token t (y 0)) (y 1) := by
    blk_ext [idx t, token]
  have h := stream_at m c t y
  blk_simp
  rw [after0_9]
  refine h.trans ?_
  rw [e]
  rfl

theorem normed_at (c : Dev nD) (t : Fin cfg0.N) (j : S1024x1024.Idx) :
    out0_10 (iblk m c 0 t) (iblk m c 1 t) (iblk m c 2 t) (iblk m c 3 t) (iblk m c 4 t) (iblk m c 5 t) (iblk m c 6 t) (iblk m c 7 t) j
      = normed (argY m c) (argW m c) (argX m c) (argT m c) (argP m c) (argG m c) (argC m c) (argS m c) (token t (j 0)) (j 1) := by
  idx_vars j
  rw [modulated_block, row_y, row_x, iblk_w, iblk_t, iblk_p, iblk_g, iblk_c, iblk_s]
  rfl

theorem array_normed (c : Dev nD) : (dats m 0 c).arrAt 10 cfg0.N
    = fun y : S4096x1024.Idx => normed (argY m c) (argW m c) (argX m c) (argT m c) (argP m c) (argG m c) (argC m c) (argS m c) (y 0) (y 1) := by
  refine (dats m 0 c).arrAt_eq_of_covers 10 _ (by decide +kernel) fun t hf y => ?_
  have e : ((cfg0.win 10).blk t).view.emb y = ix2 (token t (y 0)) (y 1) := by
    blk_ext [idx t, token]
  have h := normed_at m c t y
  blk_simp
  rw [after0_10]
  refine h.trans ?_
  rw [e]
  rfl

/-- The windows' arrays are distinct buffers. -/
theorem arrays_distinct : Function.Injective (Pipeline.arrRef spec0) := by
  decide +kernel

/-- The branch as the kernel returns it. -/
theorem tail_branch (c : Dev nD) :
    (Pipeline.afterTail₀ cfgs (dats m) 0 (V0 m) [hostOps1] c main_v3 : S4096x1024.Idx → EReal)
      = fun i => branch (argY m c) (argW m c) (i 0) (i 1) := by
  have h : Pipeline.withArrays (cfgs 0).spec c (V0 m c) (fun w => (dats m 0 c).arrAt w (cfgs 0).N) (Proc.tc.devRef main_v2_0)
      = fun i : S4096x1024.Idx => branch (argY m c) (argW m c) (i 0) (i 1) :=
    (Pipeline.withArrays_arr (cfgs 0).spec arrays_distinct c (V0 m c) (fun w => (dats m 0 c).arrAt w (cfgs 0).N) 8).trans (array_branch m c)
  funext i
  idx_vars i
  unfold Pipeline.afterTail₀
  simp only [List.flatten_cons, List.flatten_nil, List.append_nil, StableHlo.after_cons, StableHlo.after_nil]
  after_results_simp
  rw [h]
  pointwise

/-- The modulated norm as the kernel returns it. -/
theorem tail_normed (c : Dev nD) :
    (Pipeline.afterTail₀ cfgs (dats m) 0 (V0 m) [hostOps1] c main_v4 : S4096x1024.Idx → EReal)
      = fun i => normed (argY m c) (argW m c) (argX m c) (argT m c) (argP m c) (argG m c) (argC m c) (argS m c) (i 0) (i 1) := by
  have h : Pipeline.withArrays (cfgs 0).spec c (V0 m c) (fun w => (dats m 0 c).arrAt w (cfgs 0).N) (Proc.tc.devRef main_v2_2)
      = fun i : S4096x1024.Idx => normed (argY m c) (argW m c) (argX m c) (argT m c) (argP m c) (argG m c) (argC m c) (argS m c) (i 0) (i 1) :=
    (Pipeline.withArrays_arr (cfgs 0).spec arrays_distinct c (V0 m c) (fun w => (dats m 0 c).arrAt w (cfgs 0).N) 10).trans (array_normed m c)
  funext i
  idx_vars i
  unfold Pipeline.afterTail₀
  simp only [List.flatten_cons, List.flatten_nil, List.append_nil, StableHlo.after_cons, StableHlo.after_nil]
  after_results_simp
  rw [h]
  pointwise

/-- The kernel's run: the branch, the residual stream and its modulated norm, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v3) = (fun i : S4096x1024.Idx => branch (argY m c) (argW m c) (i 0) (i 1))
      ∧ r.2.mem ((c.tc : Thread nD τ).loc main_v2_1)
        = (fun i : S4096x1024.Idx => stream (argY m c) (argW m c) (argX m c) (argT m c) (argP m c) (i 0) (i 1))
      ∧ r.2.mem ((c.tc : Thread nD τ).loc main_v4) = (fun i : S4096x1024.Idx =>
        normed (argY m c) (argW m c) (argX m c) (argT m c) (argP m c) (argG m c) (argC m c) (argS m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (θ_run_and (unchanged m g) (run_main m g))
  exact ⟨((h.2 c).2 main_v3 (Pipeline.mem_restRefs_of main_v3 (by decide) (by decide))).trans (tail_branch m c),
    ((h.2 c).1 9).trans (array_stream m c),
    ((h.2 c).2 main_v4 (Pipeline.mem_restRefs_of main_v4 (by decide) (by decide))).trans (tail_normed m c), h.1 c⟩

end Cert.Proof.OutProj
-- ==== Proof.OutProj.Reference.lean ====
module

public import proofs.«01_k».proof.Proof.OutProj.Kernel
public import proofs.«01_k».proof.Proof.Gen.OutProjRefIdeal.Run
public import proofs.«01_k».proof.Proof.Gen.OutProjRefIdeal.Read

@[expose] public section

set_option maxRecDepth 16384

noncomputable section

namespace Cert.Proof.OutProj

open Idealize.ShloMosaic Idealize.ShloMosaic.TcCoe Idealize.SL.Sem
open Cert.OutProjRefIdeal Cert.OutProjRefIdeal.Gen Cert.OutProjRefIdeal.Read
open Cert.Proof.Norm

section Formulas

variable (Y : S4096x1024.Idx → EReal) (W : S1024x1024.Idx → EReal) (X : S4096x1024.Idx → EReal) (T P G C S : S1x1024.Idx → EReal)

/-- The reference's product is the kernel's. -/
theorem ref_branch (t : Fin 4096) (k : Fin 1024) : val_main_v0 (F := Ideal) Y W (ix2 t k) = branch Y W t k := by
  unfold val_main_v0
  pointwise [branch, times, line]

/-- The factor of the norm of the product's row. -/
theorem ref_branch_factor (t : Fin 4096) (z : Fin 1) : val_main_v8 (F := Ideal) Y W (ix2 t z) = factor (branch Y W t) := by
  unfold val_main_v8 val_main_v7 val_main_v6 val_main_v5 val_main_v4 val_main_v3 val_main_v2 val_main_v1
  pointwise [ref_branch, factor, square, width, eps, val_main_cst_apply, val_main_cst_0_apply, val_main_cst_1_apply]

/-- The reference's residual stream is the kernel's. -/
theorem ref_stream (t : Fin 4096) (k : Fin 1024) : val_main_v15 (F := Ideal) Y W X T P (ix2 t k) = stream Y W X T P t k := by
  unfold val_main_v15 val_main_v14 val_main_v13 val_main_v12 val_main_v11 val_main_v10 val_main_v9
  pointwise [ref_branch, ref_branch_factor, stream, joined, line]

/-- The factor of the norm of its row. -/
theorem ref_stream_factor (t : Fin 4096) (z : Fin 1) : val_main_v23 (F := Ideal) Y W X T P (ix2 t z) = factor (stream Y W X T P t) := by
  unfold val_main_v23 val_main_v22 val_main_v21 val_main_v20 val_main_v19 val_main_v18 val_main_v17 val_main_v16
  pointwise [ref_stream, factor, square, width, eps, val_main_cst_2_apply, val_main_cst_3_apply, val_main_cst_4_apply]

/-- The reference's modulated norm is the kernel's. -/
theorem ref_normed (t : Fin 4096) (k : Fin 1024) :
    val_main_v33 (F := Ideal) Y W X T P G C S (ix2 t k) = normed Y W X T P G C S t k := by
  unfold val_main_v33 val_main_v32 val_main_v31 val_main_v30 val_main_v29 val_main_v28 val_main_v27 val_main_v26 val_main_v25 val_main_v24
  pointwise [ref_stream, ref_stream_factor, normed, modulated, val_main_cst_5_apply]

end Formulas

variable (m : (ℓ : Loc nD τ sig) → Buf (Elt Ideal) ℓ)

/-- The reference's run, in the kernel's formulas. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun i => branch (m ((c.tc : Thread nD τ).loc main_arg0)) (m ((c.tc : Thread nD τ).loc main_arg1)) (i 0) (i 1))
      ∧ r.2.mem ((c.tc : Thread nD τ).loc main_v15) = (fun i => stream (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (i 0) (i 1))
      ∧ r.2.mem ((c.tc : Thread nD τ).loc main_v33) = (fun i => normed (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (Cert.OutProjRefIdeal.Value.run m g)
  obtain ⟨h0, h1, h2, ha⟩ := h c
  refine ⟨(h0.trans (val_main_v0_eq _ _)).trans (funext fun i => ?_), (h1.trans (val_main_v15_eq _ _ _ _ _)).trans (funext fun i => ?_),
    (h2.trans (val_main_v33_eq m c)).trans (funext fun i => ?_), ha⟩
  · idx_vars i
    exact ref_branch _ _ _ _
  · idx_vars i
    exact ref_stream _ _ _ _ _ _ _
  · idx_vars i
    exact ref_normed _ _ _ _ _ _ _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => (h c).2.2.2, sem_eq_zero_of_no_sems (by decide) r.2⟩) (Cert.OutProjRefIdeal.Value.run m g)

end Cert.Proof.OutProj
-- ==== Proof.PreMix.Body.lean ====
module

public import proofs.«01_k».proof.Proof.Gen.PreMixIdeal.Frame
public import Idealize.ShloMosaic.Lib.Claim

@[expose] public section

set_option maxRecDepth 16384

noncomputable section

namespace Cert.Proof.PreMix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PreMixIdeal Cert.PreMixIdeal.Gen

variable {F : FTy → Type} [FloatOps F]

/-- The resources the body's triple speaks of. -/
abbrev Res (F : FTy → Type) := MT nD τ sig Unit (Elt F) ℕ (UR sig nD τ) ℕ

/-! ## What the body reads and writes -/

abbrev whole : Rect S1024x1024 := Rect.unit (s := S1024x1024) ![0, 0] S1024x1024.size inb_S1024x1024_S1024x1024_0_0
abbrev row : Rect S1x1024 := Rect.unit (s := S1x1024) ![0, 0] S1x1024.size inb_S1x1024_S1x1024_0_0
abbrev slab0 : Rect S4x1024x256 := Rect.unit (s := S4x1024x256) ![0, 0, 0] S1x1024x256.size inb_S4x1024x256_S1x1024x256_0_0_0
abbrev slab1 : Rect S4x1024x256 := Rect.unit (s := S4x1024x256) ![1, 0, 0] S1x1024x256.size inb_S4x1024x256_S1x1024x256_1_0_0
abbrev slab2 : Rect S4x1024x256 := Rect.unit (s := S4x1024x256) ![2, 0, 0] S1x1024x256.size inb_S4x1024x256_S1x1024x256_2_0_0
abbrev slab3 : Rect S4x1024x256 := Rect.unit (s := S4x1024x256) ![3, 0, 0] S1x1024x256.size inb_S4x1024x256_S1x1024x256_3_0_0
abbrev part0 : Rect S1024x1024 := Rect.unit (s := S1024x1024) ![0, 0] S1024x256.size inb_S1024x1024_S1024x256_0_0
abbrev part1 : Rect S1024x1024 := Rect.unit (s := S1024x1024) ![0, 256] S1024x256.size inb_S1024x1024_S1024x256_0_256
abbrev part2 : Rect S1024x1024 := Rect.unit (s := S1024x1024) ![0, 512] S1024x256.size inb_S1024x1024_S1024x256_0_512
abbrev part3 : Rect S1024x1024 := Rect.unit (s := S1024x1024) ![0, 768] S1024x256.size inb_S1024x1024_S1024x256_0_768

/-- The modulated norm of a tile of rows. -/
def modulated (x : Vec F S1024x1024 .f32) (g sc sh : Vec F S1x1024 .f32) : FVec F S1024x1024 .bf16 :=
  truncf .bf16 (addf (mulf (mulf (mulf x (broadcastTo S1024x1024 (rsqrt (addf (divf
      (shapeCast S1024x1 (multiReduction .add [1] S1024 (mulf x x) 0x00000000#32 reduces_S1024x1024_S1024 (.inl rfl) rfl) shapeCasts_S1024_S1024x1)
      (broadcast S1024x1 (Scalar.ofBits .f32 0x44800000#32))) (broadcast S1024x1 (Scalar.ofBits .f32 0x358637BD#32)))) broadcasts_S1024x1_S1024x1024))
    (broadcastTo S1024x1024 g broadcasts_S1x1024_S1024x1024))
    (broadcastTo S1024x1024 (addf (broadcast S1x1024 (Scalar.ofBits .f32 0x3F800000#32)) sc) broadcasts_S1x1024_S1024x1024))
    (broadcastTo S1024x1024 sh broadcasts_S1x1024_S1024x1024)) bitsLt_bf16_f32

/-- A tile of rows times one slab of the weights. -/
def times (h : Vec F S1024x1024 .bf16) (w : Vec F S1x1024x256 .bf16) : FVec F S1024x256 .f32 :=
  matmul dot_S1024x1024_S1024x256_S1024x256_1_0_0_1_n_n none (shapeCast S1024x1024 h shapeCasts_S1024x1024_S1024x1024)
    (shapeCast S1024x256 w shapeCasts_S1x1024x256_S1024x256) (constant S1024x256 .f32 0x00000000#32)

/-- What the body leaves of the norm, when it writes it. -/
def normOut (x0 : Vec F S1024x1024 .f32) (x1 x2 x3 : Vec F S1x1024 .f32) : Vec F S1024x1024 .bf16 :=
  View.canon [⟨whole, modulated (View.ld x0 whole) (View.ld x3 row) (View.ld x1 row) (View.ld x2 row)⟩]

/-- What the body leaves of the product, from the norm it finds or has just written. -/
def productOut (h : Vec F S1024x1024 .bf16) (x4 : Vec F S4x1024x256 .bf16) : Vec F S1024x1024 .f32 :=
  View.canon [⟨part3, times (View.ld h whole) (View.ld x4 slab3)⟩, ⟨part2, times (View.ld h whole) (View.ld x4 slab2)⟩,
    ⟨part1, times (View.ld h whole) (View.ld x4 slab1)⟩, ⟨part0, times (View.ld h whole) (View.ld x4 slab0)⟩]

theorem norm_cover (p : Vec F S1024x1024 .bf16) (y : S1024x1024.Idx) :
    ∃ pc ∈ ([⟨whole, p⟩] : List (View.Piece (Elt F) S1024x1024 .bf16)), y ∈ pc.1.set :=
  View.cover_of_tiled [⟨whole, p⟩] S1024x1024.size (by rfl) y

theorem product_cover (p0 p1 p2 p3 : Vec F S1024x256 .f32) (y : S1024x1024.Idx) :
    ∃ pc ∈ ([⟨part3, p3⟩, ⟨part2, p2⟩, ⟨part1, p1⟩, ⟨part0, p0⟩] : List (View.Piece (Elt F) S1024x1024 .f32)), y ∈ pc.1.set :=
  View.cover_of_tiled [⟨part3, p3⟩, ⟨part2, p2⟩, ⟨part1, p1⟩, ⟨part0, p0⟩] S1024x256.size (by rfl) y

/-! ## The body's triple -/

section Triple

variable (c : Dev nD) (E : Set ℕ) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S4x1024x256 .bf16) (harg6 : arg6.IsWhole) (arg7 : Memref sig .tc .vmem S1024x1024 .f32) (harg7 : arg7.IsWhole) (arg8 : Memref sig .tc .vmem S1024x1024 .bf16) (harg8 : arg8.IsWhole)
  (x0 : Vec F S1024x1024 .f32) (x1 x2 x3 : Vec F S1x1024 .f32) (x4 : Vec F S4x1024x256 .bf16) (h : Vec F S1024x1024 .bf16) (K : PUnit → sProp (Res F))

set_option maxHeartbeats 1000000 in
/-- At the first column step of a tile the body writes the norm and its product. -/
theorem sound_first (hc : k0_cond1 i = 1#1) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (productOut (normOut x0 x1 x2 x3) x4) ∗ owns (c : Thread nD τ) arg8 fullShare (normOut x0 x1 x2 x3)) -∗ K ⟨⟩))
      ⊢ wp frame (wpE (defs₀ (F := F)) Variants.none c none) E (cc0_pre_mix i arg2 harg2 arg3 harg3 arg4 harg4 arg5 harg5 arg6 harg6 arg7 harg7 arg8 harg8) K := by
  unfold cc0_pre_mix k0_part1
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (product_cover _ _ _ _)).trans ?_
    have e : sound_first.sl.v3 c arg2 arg3 arg4 arg5 arg8 f0 f1 f2 f3 = View.ld (normOut (View.read (Elt F) arg2.view f0) (View.read (Elt F) arg3.view f1) (View.read (Elt F) arg4.view f2)
        (View.read (Elt F) arg5.view f3)) whole := by
      unfold sound_first.sl.v3
      exact View.readCov_eq_canon_ld _ _ _ fun y => norm_cover _ y
    have p0 : sound_first.sl.v7 c arg2 arg3 arg4 arg5 arg6 arg8 f0 f1 f2 f3 f4 = times (View.ld (normOut (View.read (Elt F) arg2.view f0) (View.read (Elt F) arg3.view f1)
        (View.read (Elt F) arg4.view f2) (View.read (Elt F) arg5.view f3)) whole) (View.ld (View.read (Elt F) arg6.view f4) slab0) := by
      unfold times
      rw [← e]
      rfl
    have p1 : sound_first.sl.v13 c arg2 arg3 arg4 arg5 arg6 arg8 f0 f1 f2 f3 f4 = times (View.ld (normOut (View.read (Elt F) arg2.view f0) (View.read (Elt F) arg3.view f1)
        (View.read (Elt F) arg4.view f2) (View.read (Elt F) arg5.view f3)) whole) (View.ld (View.read (Elt F) arg6.view f4) slab1) := by
      unfold times
      rw [← e]
      rfl
    have p2 : sound_first.sl.v19 c arg2 arg3 arg4 arg5 arg6 arg8 f0 f1 f2 f3 f4 = times (View.ld (normOut (View.read (Elt F) arg2.view f0) (View.read (Elt F) arg3.view f1)
        (View.read (Elt F) arg4.view f2) (View.read (Elt F) arg5.view f3)) whole) (View.ld (View.read (Elt F) arg6.view f4) slab2) := by
      unfold times
      rw [← e]
      rfl
    have p3 : sound_first.sl.v25 c arg2 arg3 arg4 arg5 arg6 arg8 f0 f1 f2 f3 f4 = times (View.ld (normOut (View.read (Elt F) arg2.view f0) (View.read (Elt F) arg3.view f1)
        (View.read (Elt F) arg4.view f2) (View.read (Elt F) arg5.view f3)) whole) (View.ld (View.read (Elt F) arg6.view f4) slab3) := by
      unfold times
      rw [← e]
      rfl
    rw [p0, p1, p2, p3]
    rfl
  iexists _; isplitr
  swap; · iexact H6
  ipureintro
  exact View.read_writes_eq_canon _ _ _ (norm_cover _)

set_option maxHeartbeats 1000000 in
/-- At the other one it finds the norm and writes the product only. -/
theorem sound_next (hc : ¬k0_cond1 i = 1#1) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (productOut h x4) ∗ owns (c : Thread nD τ) arg8 fullShare h) -∗ K ⟨⟩))
      ⊢ wp frame (wpE (defs₀ (F := F)) Variants.none c none) E (cc0_pre_mix i arg2 harg2 arg3 harg3 arg4 harg4 arg5 harg5 arg6 harg6 arg7 harg7 arg8 harg8) K := by
  unfold cc0_pre_mix k0_part1
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (product_cover _ _ _ _)
  iexists f6; isplitr; · ipureintro; rfl
  iexact H6

end Triple

end Cert.Proof.PreMix
-- ==== Proof.PreMix.Run.lean ====
module

public import proofs.«01_k».proof.Proof.PreMix.Body
public import Idealize.ShloMosaic.Lib.Claim

@[expose] public section

set_option maxRecDepth 16384

noncomputable section

namespace Cert.Proof.PreMix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PreMixIdeal Cert.PreMixIdeal.Gen

variable {F : FTy → Type} [FloatOps F]

variable (m : (ℓ : Loc nD τ sig) → Buf (Elt F) ℓ) (ρ : Dev nD → PrngReg)

/-! ## The grid: tiles of rows outside, two groups of columns inside -/

/-- The point at which a point's tile of rows was first met. -/
def start (t : Fin cfg0.N) : Fin cfg0.N := ⟨t.val / 2 * 2, by have := t.isLt; omega⟩

theorem first_iff : ∀ t : Fin cfg0.N, k0_cond1 (grid0.coords t) = 1#1 ↔ t.val % 2 = 0 := by
  decide +kernel

theorem live (t : Fin cfg0.N) (h : t.val % 2 = 0) : cfg0.idle 6 (cfg0.grid.coords t) = false := by
  have := (first_iff t).2 h
  show (!(k0_cond1 (grid0.coords t) == 1#1)) = false
  rw [this]
  rfl

theorem idle (t : Fin cfg0.N) (h : t.val % 2 = 1) : cfg0.idle 6 (cfg0.grid.coords t) = true := by
  have : ¬k0_cond1 (grid0.coords t) = 1#1 := fun e => by have := (first_iff t).1 e; omega
  show (!(k0_cond1 (grid0.coords t) == 1#1)) = true
  rw [beq_eq_false_iff_ne.2 this]
  rfl

/-! ## What each window's buffer holds after each point -/

/-- The norm of a point's tile of rows. -/
def norm (c : Dev nD) (t : Fin cfg0.N) : Vec F S1024x1024 .bf16 :=
  normOut (iblk m c 0 (start t)) (iblk m c 1 (start t)) (iblk m c 2 (start t)) (iblk m c 3 (start t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => productOut (norm m c t) (iblk m c 4 t)
    | ⟨6, _⟩ => norm m c t
  Φ _ := Pipeline.ΦA spec0 c
  q _ := fullShare
  owed _ := 0

theorem arrays (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = productOut (norm m c t) (iblk m c 4 t) := by dsimp only [dats]
theorem after6 (c : Dev nD) (t : Fin cfg0.N) : (dats m 0 c).after 6 t = norm m c t := by dsimp only [dats]

theorem before0 (c : Dev nD) (t : Fin cfg0.N) (d) : (dats m 0 c).before 0 t d = iblk m c 0 t :=
  before0_0_of m (dats m 0 c) (arrays m c 0) (after0 m c) t d
theorem before1 (c : Dev nD) (t : Fin cfg0.N) (d) : (dats m 0 c).before 1 t d = iblk m c 1 t :=
  before0_1_of m (dats m 0 c) (arrays m c 1) (after1 m c) t d
theorem before2 (c : Dev nD) (t : Fin cfg0.N) (d) : (dats m 0 c).before 2 t d = iblk m c 2 t :=
  before0_2_of m (dats m 0 c) (arrays m c 2) (after2 m c) t d
theorem before3 (c : Dev nD) (t : Fin cfg0.N) (d) : (dats m 0 c).before 3 t d = iblk m c 3 t :=
  before0_3_of m (dats m 0 c) (arrays m c 3) (after3 m c) t d
theorem before4 (c : Dev nD) (t : Fin cfg0.N) (d) : (dats m 0 c).before 4 t d = iblk m c 4 t :=
  before0_4_of m (dats m 0 c) (arrays m c 4) (after4 m c) t d

/-- At the second column group the buffer still holds the norm the first one left there. -/
theorem before6 (c : Dev nD) (t : Fin cfg0.N) (h : t.val % 2 = 1) (d) : (dats m 0 c).before 6 t d = norm m c t := by
  have hp : (⟨t.val - 1, Nat.lt_of_le_of_lt (Nat.sub_le _ _) t.isLt⟩ : Fin cfg0.N).val % 2 = 0 := by
    show (t.val - 1) % 2 = 0
    omega
  rw [(dats m 0 c).before_of_pos 6 t (by omega) ((cfg0.win 6).fetch_out rfl t), if_neg (by
    intro hf
    have := (flush0_6 _).1 hf
    omega)]
  unfold Dat.left
  rw [live _ hp]
  show (dats m 0 c).kept 6 _ d = _
  unfold Dat.kept
  rw [Pipeline.fill_of_clip_none (cfg := cfg0) 6 _ (fun _ => rfl) d ((dats m 0 c).after 6 _), Window.fill_cut, after6]
  unfold norm
  have e : start ⟨t.val - 1, Nat.lt_of_le_of_lt (Nat.sub_le _ _) t.isLt⟩ = start t := Fin.ext (by
    show (t.val - 1) / 2 * 2 = t.val / 2 * 2
    omega)
  rw [e]

/-! ## The body at every point -/

/-- What the body is called with at a point, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- Either way the last window's buffer is left at the norm. -/
theorem leaves6 (c : Dev nD) (t : Fin cfg0.N) :
    (dats m 0 c).leavesExact 6 t = owns (c : Thread nD τ) (st0_6 t) fullShare (norm m c t) := by
  rcases Nat.mod_two_eq_zero_or_one t.val with h | h
  · unfold Dat.leavesExact
    rw [live t h, after6]
  · unfold Dat.leavesExact
    rw [idle t h, (flush0_6 t).2 h, after6]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, leaves6]
  rcases Nat.mod_two_eq_zero_or_one t.val with h | h
  · have e : norm m c t = normOut (iblk m c 0 t) (iblk m c 1 t) (iblk m c 2 t) (iblk m c 3 t) := by
      have e : start t = t := Fin.ext (by
        show t.val / 2 * 2 = t.val
        omega)
      unfold norm
      rw [e]
    rw [e]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_first c Set.univ (grid0.coords t) _ _ _ _ _ _ _ _ _ _ _ _ _ _ (iblk m c 0 t) (iblk m c 1 t) (iblk m c 2 t) (iblk m c 3 t) (iblk m c 4 t) _ ((first_iff t).2 h))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before6 m c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_next c Set.univ (grid0.coords t) _ _ _ _ _ _ _ _ _ _ _ _ _ _ (iblk m c 0 t) (iblk m c 1 t) (iblk m c 2 t) (iblk m c 3 t) (iblk m c 4 t) (norm m c t) _
      (fun e => by have := (first_iff t).1 e; omega))
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_row (t : Fin cfg0.N) :
    defs₀ (F := F) .tc cfg0.body (cfg0.bodyArgs t (cfg0.slots t)) = bodyAt0 t := by
  unfold defs₀
  rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
set_option maxHeartbeats 800000 in
/-- Every run ends with each window's array at what the points leave, and every counter at zero. -/
theorem run_counters : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arrays m) (hΦ := fun _ _ => rfl)

theorem run_arrays : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_counters m ρ)

/-- The arguments are left as they were. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (arrays m) (run_arrays m ρ)

/-- The arguments are left as they were, and every counter ends at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (kept m ρ) ((θ_run defs _ _).mono (fun _ h => h.2) (run_counters m ρ))

end Cert.Proof.PreMix
-- ==== Proof.PreMix.Kernel.lean ====
module

public import proofs.«01_k».proof.Proof.PreMix.Run
public import proofs.«01_k».proof.Proof.Norm.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.PreMix

open Idealize.ShloMosaic Idealize.ShloMosaic.TcCoe Idealize.SL.Sem
open Cert.PreMixIdeal Cert.PreMixIdeal.Gen
open Cert.Proof.Norm

/-- The norm of a row with a gain, scaled and shifted. -/
def scaled (v : Fin 1024 → EReal) (G C S : S1x1024.Idx → EReal) (k : Fin 1024) : EReal :=
  v k * factor v * G (ix2 0 k) * (1 + C (ix2 0 k)) + S (ix2 0 k)

/-- Row `r` of a tile. -/
def tileRow (x : S1024x1024.Idx → EReal) (r : Fin 1024) : Fin 1024 → EReal := fun k => x (ix2 r k)

section Block

variable (x : Vec Ideal S1024x1024 .f32) (C S G : Vec Ideal S1x1024 .f32) (h : Vec Ideal S1024x1024 .bf16) (w : Vec Ideal S4x1024x256 .bf16)

/-- The region of a whole tile, and of a whole row, reads it as it is. -/
theorem whole_tile {e : EltTy} (v : Vec Ideal S1024x1024 e) : View.ld v whole = v := by
  funext i
  idx_vars i
  pointwise

theorem whole_row (v : Vec Ideal S1x1024 .f32) : View.ld v row = v := by
  funext i
  idx_vars i
  obtain rfl : i0 = 0 := Subsingleton.elim _ _
  pointwise

theorem modulated_apply (r k : Fin 1024) : modulated x G C S (ix2 r k) = scaled (tileRow x r) G C S k := by
  unfold modulated
  pointwise [scaled, factor, square, width, eps, tileRow]

theorem norm_block (r k : Fin 1024) : normOut x C S G (ix2 r k) = scaled (tileRow x r) G C S k := by
  unfold normOut
  rw [View.canon_cons_unit_lit _ _ _ (by decide), whole_tile, whole_row, whole_row, whole_row]
  exact modulated_apply x C S G r k

/-- One entry of the product of a tile with the slabs of the weights. -/
def entry (h : S1024x1024.Idx → EReal) (w : S4x1024x256.Idx → EReal) (r : Fin 1024) (s : Fin 4) (l : Fin 256) : EReal :=
  ∑ n : Fin 1024, h (ix2 r n) * w (ix3 s n l)

theorem times_apply (u : Vec Ideal S1x1024x256 .bf16) (r : Fin 1024) (l : Fin 256) :
    times h u (ix2 r l) = ∑ n : Fin 1024, h (ix2 r n) * u (ix3 0 n l) := by
  unfold times
  pointwise

/-- Slab and place of a column of a tile. -/
def slabOf (k : Fin 1024) : Fin 4 := ⟨k.val / 256, by omega⟩

def placeOf (k : Fin 1024) : Fin 256 := ⟨k.val % 256, by omega⟩

theorem slab0_apply (n : Fin 1024) (l : Fin 256) : View.ld w slab0 (ix3 0 n l) = w (ix3 0 n l) := by
  pointwise

theorem slab1_apply (n : Fin 1024) (l : Fin 256) : View.ld w slab1 (ix3 0 n l) = w (ix3 1 n l) := by
  pointwise

theorem slab2_apply (n : Fin 1024) (l : Fin 256) : View.ld w slab2 (ix3 0 n l) = w (ix3 2 n l) := by
  pointwise

theorem slab3_apply (n : Fin 1024) (l : Fin 256) : View.ld w slab3 (ix3 0 n l) = w (ix3 3 n l) := by
  pointwise

/-- A column lies in the slab and at the place its number says. -/
theorem column_at {k : Fin 1024} {s : Fin 4} {l : Fin 256} (e : k.val = s.val * 256 + l.val) : slabOf k = s ∧ placeOf k = l :=
  ⟨Fin.ext (by show k.val / 256 = s.val; omega), Fin.ext (by show k.val % 256 = l.val; omega)⟩

theorem product_block (r k : Fin 1024) : productOut h w (ix2 r k) = entry h w r (slabOf k) (placeOf k) := by
  unfold productOut
  rw [whole_tile]
  canon_tiles y hy
  · idx_vars y
    pointwise at *
    obtain rfl : r = y0 := Fin.ext hy0
    rw [times_apply, (column_at (s := 3) (by rw [hy1]; rfl)).1, (column_at (s := 3) (by rw [hy1]; rfl)).2]
    exact Finset.sum_congr rfl fun n _ => congrArg (h (ix2 r n) * ·) (slab3_apply w n y1)
  · idx_vars y
    pointwise at *
    obtain rfl : r = y0 := Fin.ext hy0
    rw [times_apply, (column_at (s := 2) (by rw [hy1]; rfl)).1, (column_at (s := 2) (by rw [hy1]; rfl)).2]
    exact Finset.sum_congr rfl fun n _ => congrArg (h (ix2 r n) * ·) (slab2_apply w n y1)
  · idx_vars y
    pointwise at *
    obtain rfl : r = y0 := Fin.ext hy0
    rw [times_apply, (column_at (s := 1) (by rw [hy1]; rfl)).1, (column_at (s := 1) (by rw [hy1]; rfl)).2]
    exact Finset.sum_congr rfl fun n _ => congrArg (h (ix2 r n) * ·) (slab1_apply w n y1)
  · idx_vars y
    pointwise at *
    obtain rfl : r = y0 := Fin.ext hy0
    have e : k.val = (0 : Fin 4).val * 256 + y1.val := by rw [hy1]; simp
    rw [times_apply, (column_at e).1, (column_at e).2]
    exact Finset.sum_congr rfl fun n _ => congrArg (h (ix2 r n) * ·) (slab0_apply w n y1)

end Block

variable (m : (ℓ : Loc nD τ sig) → Buf (Elt Ideal) ℓ)

abbrev argX (c : Dev nD) : S4096x1024.Idx → EReal := m ((c : Thread nD τ).loc main_arg0)
abbrev argC (c : Dev nD) : S1x1024.Idx → EReal := m ((c : Thread nD τ).loc main_arg1)
abbrev argS (c : Dev nD) : S1x1024.Idx → EReal := m ((c : Thread nD τ).loc main_arg2)
abbrev argG (c : Dev nD) : S1x1024.Idx → EReal := m ((c : Thread nD τ).loc main_arg3)
abbrev argW (c : Dev nD) : S1024x2048.Idx → EReal := m ((c : Thread nD τ).loc main_arg4)

/-- Row `t` of the token array. -/
def line (X : S4096x1024.Idx → EReal) (t : Fin 4096) : Fin 1024 → EReal := fun k => X (ix2 t k)

/-- The modulated norm of the whole array, -/
def normed (X : S4096x1024.Idx → EReal) (C S G : S1x1024.Idx → EReal) (t : Fin 4096) : Fin 1024 → EReal := scaled (line X t) G C S

/-- and its product with the weights. -/
def projected (X : S4096x1024.Idx → EReal) (C S G : S1x1024.Idx → EReal) (W : S1024x2048.Idx → EReal) (t : Fin 4096) (q : Fin 2048) : EReal :=
  ∑ n : Fin 1024, normed X C S G t n * W (ix2 n q)

theorem points : cfg0.N = 8 := by decide

/-- Token `r` of the tile of a grid point, and column `k` of its group of columns. -/
def token (t : Fin cfg0.N) (r : Fin 1024) : Fin 4096 := ⟨t.val / 2 * 1024 + r.val, by have := lt_of_lt_of_eq t.isLt points; omega⟩

def column (t : Fin cfg0.N) (k : Fin 1024) : Fin 2048 := ⟨t.val % 2 * 1024 + k.val, by omega⟩

theorem idx : ∀ t : Fin cfg0.N, win0_0.index t = ![t.val / 2, 0] ∧ win0_1.index t = ![0, 0] ∧ win0_2.index t = ![0, 0]
    ∧ win0_3.index t = ![0, 0] ∧ win0_4.index t = ![t.val % 2, 0, 0] ∧ win0_5.index t = ![t.val / 2, t.val % 2]
    ∧ win0_6.index t = ![t.val / 2, 0] := by
  decide +kernel

/-- The weights as the region finds them: slab, row, column of the slab. -/
theorem entry_w (c : Dev nD) (s : Fin 8) (n : Fin 1024) (l : Fin 256) :
    (V m c main_v2 : S8x1024x256.Idx → EReal) (ix3 s n l) = argW m c (ix2 n ⟨s.val * 256 + l.val, by omega⟩) := by
  simp only [V, V0, List.flatten_cons, List.flatten_nil, List.append_nil, StableHlo.after_cons, StableHlo.after_nil]
  after_results_simp
  pointwise
  blk_ext []

theorem row_x (c : Dev nD) (t : Fin cfg0.N) (r : Fin 1024) : tileRow (iblk m c 0 t) r = line (argX m c) (token t r) := by
  funext k
  unfold tileRow line
  blk_ext [iblk, V, idx t, token]

theorem iblk_c (c : Dev nD) (t : Fin cfg0.N) : (iblk m c 1 t : Vec Ideal S1x1024 .f32) = argC m c := by
  funext i
  blk_ext [iblk, V, idx t]

theorem iblk_s (c : Dev nD) (t : Fin cfg0.N) : (iblk m c 2 t : Vec Ideal S1x1024 .f32) = argS m c := by
  funext i
  blk_ext [iblk, V, idx t]

theorem iblk_g (c : Dev nD) (t : Fin cfg0.N) : (iblk m c 3 t : Vec Ideal S1x1024 .f32) = argG m c := by
  funext i
  blk_ext [iblk, V, idx t]

theorem iblk_w (c : Dev nD) (t : Fin cfg0.N) (s : Fin 4) (n : Fin 1024) (l : Fin 256) :
    (iblk m c 4 t : Vec Ideal S4x1024x256 .bf16) (ix3 s n l) = argW m c (ix2 n ⟨(t.val % 2 * 4 + s.val) * 256 + l.val, by omega⟩) := by
  rw [← entry_w m c ⟨t.val % 2 * 4 + s.val, by omega⟩]
  blk_ext [iblk, idx t]

theorem token_start (t : Fin cfg0.N) (r : Fin 1024) : token (start t) r = token t r :=
  Fin.ext (by
    show t.val / 2 * 2 / 2 * 1024 + r.val = t.val / 2 * 1024 + r.val
    omega)

theorem norm_at (c : Dev nD) (t : Fin cfg0.N) (r k : Fin 1024) :
    norm m c t (ix2 r k) = normed (argX m c) (argC m c) (argS m c) (argG m c) (token t r) k := by
  unfold norm
  rw [norm_block, row_x, iblk_c, iblk_s, iblk_g, token_start]
  rfl

theorem product_at (c : Dev nD) (t : Fin cfg0.N) (r k : Fin 1024) : productOut (norm m c t) (iblk m c 4 t) (ix2 r k)
    = projected (argX m c) (argC m c) (argS m c) (argG m c) (argW m c) (token t r) (column t k) := by
  rw [product_block]
  unfold entry projected
  refine Finset.sum_congr rfl fun n _ => ?_
  rw [norm_at, iblk_w]
  congr 3
  exact Fin.ext (by
    show (t.val % 2 * 4 + k.val / 256) * 256 + k.val % 256 = t.val % 2 * 1024 + k.val
    omega)

theorem array_product (c : Dev nD) : (dats m 0 c).arrAt 5 cfg0.N = fun y : S4096x2048.Idx =>
    projected (argX m c) (argC m c) (argS m c) (argG m c) (argW m c) (y 0) (y 1) := by
  refine (dats m 0 c).arrAt_eq_of_covers 5 _ (by decide +kernel) fun t hf y => ?_
  have at_tile : ∀ j : S1024x1024.Idx, productOut (norm m c t) (iblk m c 4 t) j
      = projected (argX m c) (argC m c) (argS m c) (argG m c) (argW m c) (token t (j 0)) (column t (j 1)) := fun j => by
    idx_vars j
    exact product_at m c t _ _
  have h := at_tile y
  have e : ((cfg0.win 5).blk t).view.emb y = ix2 (token t (y 0)) (column t (y 1)) := by
    blk_ext [idx t, token, column]
  blk_simp
  rw [after5]
  refine h.trans ?_
  rw [e]
  rfl

theorem array_norm (c : Dev nD) : (dats m 0 c).arrAt 6 cfg0.N = fun y : S4096x1024.Idx =>
    normed (argX m c) (argC m c) (argS m c) (argG m c) (y 0) (y 1) := by
  refine (dats m 0 c).arrAt_eq_of_covers 6 _ (by decide +kernel) fun t hf y => ?_
  have at_tile : ∀ j : S1024x1024.Idx, norm m c t j
      = normed (argX m c) (argC m c) (argS m c) (argG m c) (token t (j 0)) (j 1) := fun j => by
    idx_vars j
    exact norm_at m c t _ _
  have h := at_tile y
  have e : ((cfg0.win 6).blk t).view.emb y = ix2 (token t (y 0)) (y 1) := by
    blk_ext [idx t, token]
  blk_simp
  rw [after6]
  refine h.trans ?_
  rw [e]
  rfl

/-- The windows' arrays are distinct buffers. -/
theorem arrays_distinct : Function.Injective (Pipeline.arrRef spec0) := by
  decide +kernel

/-- The norm as the kernel returns it. -/
theorem tail_norm (c : Dev nD) :
    (Pipeline.afterTail₀ cfgs (dats m) 0 (V0 m) [hostOps1] c main_v4 : S4096x1024.Idx → EReal)
      = fun i => normed (argX m c) (argC m c) (argS m c) (argG m c) (i 0) (i 1) := by
  have h : Pipeline.withArrays (cfgs 0).spec c (V0 m c) (fun w => (dats m 0 c).arrAt w (cfgs 0).N) (Proc.tc.devRef main_v3_1)
      = fun i : S4096x1024.Idx => normed (argX m c) (argC m c) (argS m c) (argG m c) (i 0) (i 1) :=
    (Pipeline.withArrays_arr (cfgs 0).spec arrays_distinct c (V0 m c) (fun w => (dats m 0 c).arrAt w (cfgs 0).N) 6).trans (array_norm m c)
  funext i
  idx_vars i
  unfold Pipeline.afterTail₀
  simp only [List.flatten_cons, List.flatten_nil, List.append_nil, StableHlo.after_cons, StableHlo.after_nil]
  after_results_simp
  rw [h]
  pointwise

/-- The kernel's run: the projection and the modulated norm, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v3_0)
        = (fun i : S4096x2048.Idx => projected (argX m c) (argC m c) (argS m c) (argG m c) (argW m c) (i 0) (i 1))
      ∧ r.2.mem ((c.tc : Thread nD τ).loc main_v4)
        = (fun i : S4096x1024.Idx => normed (argX m c) (argC m c) (argS m c) (argG m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (kept m g) (run_arrays m g))
  exact ⟨((h.2 c).1 5).trans (array_product m c),
    ((h.2 c).2 main_v4 (Pipeline.mem_restRefs_of main_v4 (by decide) (by decide))).trans (tail_norm m c), h.1 c⟩

end Cert.Proof.PreMix
-- ==== Proof.PreMix.Reference.lean ====
module

public import proofs.«01_k».proof.Proof.PreMix.Kernel
public import proofs.«01_k».proof.Proof.Gen.PreMixRefIdeal.Run
public import proofs.«01_k».proof.Proof.Gen.PreMixRefIdeal.Read

@[expose] public section

set_option maxRecDepth 16384

noncomputable section

namespace Cert.Proof.PreMix

open Idealize.ShloMosaic Idealize.ShloMosaic.TcCoe Idealize.SL.Sem
open Cert.PreMixRefIdeal Cert.PreMixRefIdeal.Gen Cert.PreMixRefIdeal.Read
open Cert.Proof.Norm

section Formulas

variable (X : S4096x1024.Idx → EReal) (C S G : S1x1024.Idx → EReal) (W : S1024x2048.Idx → EReal)

/-- The factor of the norm of a row. -/
theorem ref_factor (t : Fin 4096) (z : Fin 1) : val_main_v7 (F := Ideal) X (ix2 t z) = factor (line X t) := by
  unfold val_main_v7 val_main_v6 val_main_v5 val_main_v4 val_main_v3 val_main_v2 val_main_v1 val_main_v0
  pointwise [factor, square, width, eps, line, val_main_cst_apply, val_main_cst_0_apply, val_main_cst_1_apply]

/-- The reference's modulated norm is the kernel's. -/
theorem ref_normed (t : Fin 4096) (k : Fin 1024) : val_main_v17 (F := Ideal) X C S G (ix2 t k) = normed X C S G t k := by
  unfold val_main_v17 val_main_v16 val_main_v15 val_main_v14 val_main_v13 val_main_v12 val_main_v11 val_main_v10 val_main_v9 val_main_v8
  pointwise [ref_factor, normed, scaled, line, val_main_cst_2_apply]

/-- So is its product with the weights. -/
theorem ref_projected (t : Fin 4096) (q : Fin 2048) : val_main_v18 (F := Ideal) X C S G W (ix2 t q) = projected X C S G W t q := by
  unfold val_main_v18
  pointwise [ref_normed, projected]

end Formulas

variable (m : (ℓ : Loc nD τ sig) → Buf (Elt Ideal) ℓ)

/-- The reference's run, in the kernel's formulas. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v18) = (fun i => projected (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (i 0) (i 1))
      ∧ r.2.mem ((c.tc : Thread nD τ).loc main_v17) = (fun i => normed (m ((c.tc : Thread nD τ).loc main_arg0)) (m ((c.tc : Thread nD τ).loc main_arg1)) (m ((c.tc : Thread nD τ).loc main_arg2))
        (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.PreMixRefIdeal.Value.run m g)
  obtain ⟨h0, h1, ha⟩ := h c
  refine ⟨(h0.trans (val_main_v18_eq _ _ _ _ _)).trans (funext fun i => ?_), (h1.trans (val_main_v17_eq _ _ _ _)).trans (funext fun i => ?_), ha⟩
  · idx_vars i
    exact ref_projected _ _ _ _ _ _ _
  · idx_vars i
    exact ref_normed _ _ _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h c).2.2, sem_eq_zero_of_no_sems (by decide) r.2⟩) (Cert.PreMixRefIdeal.Value.run m g)

end Cert.Proof.PreMix
-- ==== Proof.GradAda.Kernel.lean ====
module

public import proofs.«01_k».proof.Proof.Gen.GradAdaIdeal.Frame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.GradAda

open Idealize.ShloMosaic Idealize.ShloMosaic.TcCoe Idealize.SL.Sem
open Cert.GradAdaIdeal Cert.GradAdaIdeal.Gen

/-- One entry of the gradient of the modulation's weights: the sequences' contributions, summed. -/
def grad (A : S8x1024.Idx → EReal) (T : S8x768.Idx → EReal) (r : Fin 1024) (k : Fin 768) : EReal := ∑ d : Fin 8, A (ix2 d r) * T (ix2 d k)

section Block

variable (x : Vec Ideal S1024x8 .f32) (y : Vec Ideal S8x768 .f32)

theorem whole_left : View.ld x r0_0 = x := by
  funext i
  idx_vars i
  pointwise

theorem whole_right : View.ld y r0_1 = y := by
  funext i
  idx_vars i
  pointwise

theorem block (r : Fin 1024) (k : Fin 768) : out0_2 x y (ix2 r k) = ∑ d : Fin 8, x (ix2 r d) * y (ix2 d k) := by
  unfold out0_2
  rw [View.canon_cons_unit_lit _ _ _ (by decide), whole_left, whole_right]
  unfold k0_pay1
  pointwise

end Block

variable (m : (ℓ : Loc nD τ sig) → Buf (Elt Ideal) ℓ)

abbrev argA (c : Dev nD) : S8x1024.Idx → EReal := m ((c : Thread nD τ).loc main_arg0)
abbrev argT (c : Dev nD) : S8x768.Idx → EReal := m ((c : Thread nD τ).loc main_arg2)

theorem idx : ∀ t : Fin cfg0.N, win0_0.index t = ![0, 0] ∧ win0_1.index t = ![0, 0] ∧ win0_2.index t = ![0, 0] := by
  decide +kernel

theorem entry (c : Dev nD) (r : Fin 1024) (d : Fin 8) : (V m c main_v0 : S1024x8.Idx → EReal) (ix2 r d) = argA m c (ix2 d r) := by
  simp only [V, List.flatten_cons, List.flatten_nil, List.append_nil, StableHlo.after_cons, StableHlo.after_nil]
  after_results_simp
  pointwise

theorem left_at (c : Dev nD) (t : Fin cfg0.N) (r : Fin 1024) (d : Fin 8) :
    (iblk m c 0 t : Vec Ideal S1024x8 .f32) (ix2 r d) = argA m c (ix2 d r) := by
  rw [← entry]
  blk_ext [iblk, idx t]

theorem right_at (c : Dev nD) (t : Fin cfg0.N) (d : Fin 8) (k : Fin 768) :
    (iblk m c 1 t : Vec Ideal S8x768 .f32) (ix2 d k) = argT m c (ix2 d k) := by
  blk_ext [iblk, V, idx t]

theorem array_grad (c : Dev nD) : (dats m 0 c).arrAt 2 cfg0.N = fun y : S1024x768.Idx => grad (argA m c) (argT m c) (y 0) (y 1) := by
  refine (dats m 0 c).arrAt_eq_of_covers 2 _ (by decide +kernel) fun t hf y => ?_
  have at_tile : ∀ j : S1024x768.Idx, out0_2 (iblk m c 0 t) (iblk m c 1 t) j = grad (argA m c) (argT m c) (j 0) (j 1) := fun j => by
    idx_vars j
    rw [block]
    simp only [left_at, right_at]
    rfl
  have h := at_tile y
  have e : ((cfg0.win 2).blk t).view.emb y = ix2 (y 0) (y 1) := by
    blk_ext [idx t]
  blk_simp
  rw [after0_2]
  refine h.trans ?_
  rw [e]
  rfl

/-- The kernel's run: the gradient, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v1) = (fun i : S1024x768.Idx => grad (argA m c) (argT m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (unchanged m g) (run_main m g))
  exact ⟨((h.2 c).1 2).trans (array_grad m c), h.1 c⟩

end Cert.Proof.GradAda
-- ==== Proof.GradAda.Reference.lean ====
module

public import proofs.«01_k».proof.Proof.GradAda.Kernel
public import proofs.«01_k».proof.Proof.Gen.GradAdaRefIdeal.Run
public import proofs.«01_k».proof.Proof.Gen.GradAdaRefIdeal.Read

@[expose] public section

set_option maxRecDepth 16384

noncomputable section

namespace Cert.Proof.GradAda

open Idealize.ShloMosaic Idealize.ShloMosaic.TcCoe Idealize.SL.Sem
open Cert.GradAdaRefIdeal Cert.GradAdaRefIdeal.Gen Cert.GradAdaRefIdeal.Read

/-- The reference's gradient is the kernel's, the factors the other way round. -/
theorem ref_grad (A : S8x1024.Idx → EReal) (T : S8x768.Idx → EReal) (r : Fin 1024) (k : Fin 768) :
    val_main_v2 (F := Ideal) A T (ix2 r k) = grad A T r k := by
  unfold val_main_v2 val_main_v1
  pointwise [grad]
  exact Finset.sum_congr rfl fun d _ => mul_comm _ _

variable (m : (ℓ : Loc nD τ sig) → Buf (Elt Ideal) ℓ)

/-- The reference's run, in the kernel's formula. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v2) = (fun i => grad (m ((c.tc : Thread nD τ).loc main_arg0)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.GradAdaRefIdeal.Value.run m g)
  obtain ⟨h0, ha⟩ := h c
  refine ⟨(h0.trans (val_main_v2_eq _ _)).trans (funext fun i => ?_), ha⟩
  idx_vars i
  exact ref_grad _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) r.2⟩) (Cert.GradAdaRefIdeal.Value.run m g)

end Cert.Proof.GradAda
-- ==== Proof.ModCols.Kernel.lean ====
module

public import proofs.«01_k».proof.Proof.Gen.ModColsIdeal.Frame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.ModCols

open Idealize.ShloMosaic Idealize.ShloMosaic.TcCoe Idealize.SL.Sem
open Cert.ModColsIdeal Cert.ModColsIdeal.Gen

/-- The conditioning's activation `v / (1 + exp (-v))`, as a product. -/
def silu (v : EReal) : EReal := v * Ideal.div 1 (1 + Ideal.exp (-v))

/-- The activation's product with the modulation's weights, and the bias. -/
def mods (C : S8x1024.Idx → EReal) (W : S1024x768.Idx → EReal) (B : S1x768.Idx → EReal) (d : Fin 8) (k : Fin 768) : EReal :=
  (∑ n : Fin 1024, silu (C (ix2 d n)) * W (ix2 n k)) + B (ix2 0 k)

section Block

variable (x : Vec Ideal S8x1024 .f32) (w : Vec Ideal S1024x768 .f32) (b : Vec Ideal S1x768 .f32)

theorem whole_left : View.ld x r0_0 = x := by
  funext i
  idx_vars i
  pointwise

theorem whole_right : View.ld w r0_1 = w := by
  funext i
  idx_vars i
  pointwise

theorem whole_bias : View.ld b r0_2 = b := by
  funext i
  idx_vars i
  obtain rfl : i0 = 0 := Subsingleton.elim _ _
  pointwise

theorem act_value (d : Fin 8) (n : Fin 1024) : k0_pay1 x (ix2 d n) = silu (x (ix2 d n)) := by
  unfold k0_pay1
  pointwise [silu]
  rw [zero_sub]

theorem act_block (d : Fin 8) (n : Fin 1024) : out0_4 x w b (ix2 d n) = silu (x (ix2 d n)) := by
  unfold out0_4
  rw [View.canon_cons_unit_lit _ _ _ (by decide), whole_left]
  exact act_value x d n

theorem mods_block (d : Fin 8) (k : Fin 768) : out0_3 x w b (ix2 d k) = mods x w b d k := by
  unfold out0_3
  rw [View.canon_cons_unit_lit _ _ _ (by decide), whole_left, whole_right, whole_bias]
  unfold k0_pay2
  pointwise [act_value, mods]

end Block

variable (m : (ℓ : Loc nD τ sig) → Buf (Elt Ideal) ℓ)

abbrev argC (c : Dev nD) : S8x1024.Idx → EReal := m ((c : Thread nD τ).loc main_arg0)
abbrev argW (c : Dev nD) : S1024x768.Idx → EReal := m ((c : Thread nD τ).loc main_arg1)
abbrev argB (c : Dev nD) : S1x768.Idx → EReal := m ((c : Thread nD τ).loc main_arg2)

theorem idx : ∀ t : Fin cfg0.N, win0_0.index t = ![0, 0] ∧ win0_1.index t = ![0, 0] ∧ win0_2.index t = ![0, 0]
    ∧ win0_3.index t = ![0, 0] ∧ win0_4.index t = ![0, 0] := by
  decide +kernel

theorem iblk_c (c : Dev nD) (t : Fin cfg0.N) : (iblk m c 0 t : Vec Ideal S8x1024 .f32) = argC m c := by
  funext i
  blk_ext [iblk, idx t]

theorem iblk_w (c : Dev nD) (t : Fin cfg0.N) : (iblk m c 1 t : Vec Ideal S1024x768 .f32) = argW m c := by
  funext i
  blk_ext [iblk, idx t]

theorem iblk_b (c : Dev nD) (t : Fin cfg0.N) : (iblk m c 2 t : Vec Ideal S1x768 .f32) = argB m c := by
  funext i
  blk_ext [iblk, idx t]

theorem array_mods (c : Dev nD) : (dats m 0 c).arrAt 3 cfg0.N
    = fun y : S8x768.Idx => mods (argC m c) (argW m c) (argB m c) (y 0) (y 1) := by
  refine (dats m 0 c).arrAt_eq_of_covers 3 _ (by decide +kernel) fun t hf y => ?_
  have at_tile : ∀ j : S8x768.Idx, out0_3 (iblk m c 0 t) (iblk m c 1 t) (iblk m c 2 t) j
      = mods (argC m c) (argW m c) (argB m c) (j 0) (j 1) := fun j => by
    idx_vars j
    rw [mods_block, iblk_c, iblk_w, iblk_b]
  have h := at_tile y
  have e : ((cfg0.win 3).blk t).view.emb y = ix2 (y 0) (y 1) := by
    blk_ext [idx t]
  blk_simp
  rw [after0_3]
  refine h.trans ?_
  rw [e]
  rfl

theorem array_act (c : Dev nD) : (dats m 0 c).arrAt 4 cfg0.N = fun y : S8x1024.Idx => silu (argC m c (ix2 (y 0) (y 1))) := by
  refine (dats m 0 c).arrAt_eq_of_covers 4 _ (by decide +kernel) fun t hf y => ?_
  have at_tile : ∀ j : S8x1024.Idx, out0_4 (iblk m c 0 t) (iblk m c 1 t) (iblk m c 2 t) j
      = silu (argC m c (ix2 (j 0) (j 1))) := fun j => by
    idx_vars j
    rw [act_block, iblk_c]
  have h := at_tile y
  have e : ((cfg0.win 4).blk t).view.emb y = ix2 (y 0) (y 1) := by
    blk_ext [idx t]
  blk_simp
  rw [after0_4]
  refine h.trans ?_
  rw [e]
  rfl

/-- The kernel's run: the modulations and the activation, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = (fun i : S8x768.Idx => mods (argC m c) (argW m c) (argB m c) (i 0) (i 1))
      ∧ r.2.mem ((c.tc : Thread nD τ).loc main_v0_1) = (fun i : S8x1024.Idx => silu (argC m c (ix2 (i 0) (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (unchanged m g) (run_main m g))
  exact ⟨((h.2 c).1 3).trans (array_mods m c), ((h.2 c).1 4).trans (array_act m c), h.1 c⟩

end Cert.Proof.ModCols
-- ==== Proof.ModCols.Reference.lean ====
module

public import proofs.«01_k».proof.Proof.ModCols.Kernel
public import proofs.«01_k».proof.Proof.Gen.ModColsRefIdeal.Run
public import proofs.«01_k».proof.Proof.Gen.ModColsRefIdeal.Read

@[expose] public section

set_option maxRecDepth 16384

noncomputable section

namespace Cert.Proof.ModCols

open Idealize.ShloMosaic Idealize.ShloMosaic.TcCoe Idealize.SL.Sem
open Cert.ModColsRefIdeal Cert.ModColsRefIdeal.Gen Cert.ModColsRefIdeal.Read

section Formulas

variable (C : S8x1024.Idx → EReal) (W : S1024x768.Idx → EReal) (B : S1x768.Idx → EReal)

/-- The reference's activation is the kernel's. -/
theorem ref_act (d : Fin 8) (n : Fin 1024) : val_main_v0 (F := Ideal) C (ix2 d n) = silu (C (ix2 d n)) := by
  unfold val_main_v0 val_main_call0_v5 val_main_call0_v4 val_main_call0_v3 val_main_call0_v2 val_main_call0_v1 val_main_call0_v0
  pointwise [silu, val_main_call0_cst_apply, val_main_call0_cst_0_apply]

/-- So are its modulations. -/
theorem ref_mods (d : Fin 8) (k : Fin 768) : val_main_v3 (F := Ideal) C W B (ix2 d k) = mods C W B d k := by
  unfold val_main_v3 val_main_v2 val_main_v1
  pointwise [ref_act, mods]

end Formulas

variable (m : (ℓ : Loc nD τ sig) → Buf (Elt Ideal) ℓ)

/-- The reference's run, in the kernel's formulas. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v3) = (fun i => mods (m ((c.tc : Thread nD τ).loc main_arg0)) (m ((c.tc : Thread nD τ).loc main_arg1)) (m ((c.tc : Thread nD τ).loc main_arg2)) (i 0) (i 1))
      ∧ r.2.mem ((c.tc : Thread nD τ).loc main_v0) = (fun i => silu ((m ((c.tc : Thread nD τ).loc main_arg0) : S8x1024.Idx → EReal) (ix2 (i 0) (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.ModColsRefIdeal.Value.run m g)
  obtain ⟨h0, h1, ha⟩ := h c
  refine ⟨(h0.trans (val_main_v3_eq _ _ _)).trans (funext fun i => ?_), (h1.trans (val_main_v0_eq _)).trans (funext fun i => ?_), ha⟩
  · idx_vars i
    exact ref_mods _ _ _ _ _
  · idx_vars i
    exact ref_act _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2.2, sem_eq_zero_of_no_sems (by decide) r.2⟩) (Cert.ModColsRefIdeal.Value.run m g)

end Cert.Proof.ModCols
-- ==== Proof.GradOut.Kernel.lean ====
module

public import proofs.«01_k».proof.Proof.Gen.GradOutIdeal.Frame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.GradOut

open Idealize.ShloMosaic Idealize.ShloMosaic.TcCoe Idealize.SL.Sem
open Cert.GradOutIdeal Cert.GradOutIdeal.Gen

/-- The gradient of the weights of a product: all tokens, a column of the input against a column of the cotangent. -/
def weights (Y D : S4096x1024.Idx → EReal) (n f : Fin 1024) : EReal := ∑ t : Fin 4096, Y (ix2 t n) * D (ix2 t f)

/-- What one tile of tokens adds to it. -/
def part (y d : Vec Ideal S2048x1024 .bf16) (n f : Fin 1024) : EReal := ∑ k : Fin 2048, y (ix2 k n) * d (ix2 k f)

/-- Token `k` of tile `p`. -/
def token (p : Fin 2) (k : Fin 2048) : Fin 4096 := ⟨p.val * 2048 + k.val, by omega⟩

theorem pay1_apply (y d : Vec Ideal S2048x1024 .bf16) (n f : Fin 1024) : k0_pay1 y d (ix2 n f) = part y d n f := by
  unfold_payloads
  pointwise [part]

variable (m : (ℓ : Loc nD τ sig) → Buf (Elt Ideal) ℓ)

abbrev argY (c : Dev nD) : S4096x1024.Idx → EReal := m ((c : Thread nD τ).loc main_arg0)
abbrev argD (c : Dev nD) : S4096x1024.Idx → EReal := m ((c : Thread nD τ).loc main_arg2)

/-- The accumulator after the first tile. -/
theorem first (c : Dev nD) (t : Fin cfg0.N) (h : t.val % 2 = 0) (n f : Fin 1024) :
    (outsAt0 m c t.val t.isLt).2 (ix2 n f) = part (iblk m c 0 t) (iblk m c 1 t) n f := by
  rw [outsAt0_A m c t h (by omega) (by omega)]
  frame_out
  unfold k0_pay2
  pointwise [pay1_apply]

/-- The block of the result after the second tile. -/
theorem second (c : Dev nD) (t : Fin cfg0.N) (h : t.val % 2 = 1) (n f : Fin 1024) :
    (outsAt0 m c t.val t.isLt).1 (ix3 0 n f) = (outsAt0 m c (t.val - 1) (Nat.lt_of_le_of_lt (Nat.sub_le _ _) t.isLt)).2 (ix2 n f)
      + part (iblk m c 0 t) (iblk m c 1 t) n f := by
  rw [outsAt0_B m c t (by omega) h h]
  frame_out
  unfold k0_pay4 k0_pay3
  pointwise [pay1_apply]
  rw [read_unread_whole]

theorem points : cfg0.N = 2 := by decide

/-- The tile of a grid point. -/
def tile (t : Fin cfg0.N) : Fin 2 := ⟨t.val, lt_of_lt_of_eq t.isLt points⟩

theorem idx : ∀ t : Fin cfg0.N, win0_0.index t = ![t.val, 0] ∧ win0_1.index t = ![t.val, 0] ∧ win0_2.index t = ![0, 0, 0] := by
  decide +kernel

theorem entry_y (c : Dev nD) (t : Fin 4096) (n : Fin 1024) : (V m c main_v0 : S4096x1024.Idx → EReal) (ix2 t n) = argY m c (ix2 t n) := by
  simp only [V, V0, List.flatten_cons, List.flatten_nil, List.append_nil, StableHlo.after_cons, StableHlo.after_nil]
  after_results_simp
  pointwise

theorem entry_d (c : Dev nD) (t : Fin 4096) (n : Fin 1024) : (V m c main_v1 : S4096x1024.Idx → EReal) (ix2 t n) = argD m c (ix2 t n) := by
  simp only [V, V0, List.flatten_cons, List.flatten_nil, List.append_nil, StableHlo.after_cons, StableHlo.after_nil]
  after_results_simp
  pointwise

theorem iblk_y (c : Dev nD) (t : Fin cfg0.N) (k : Fin 2048) (n : Fin 1024) :
    (iblk m c 0 t : Vec Ideal S2048x1024 .bf16) (ix2 k n) = argY m c (ix2 (token (tile t) k) n) := by
  rw [← entry_y]
  blk_ext [iblk, idx t, token, tile]

theorem iblk_d (c : Dev nD) (t : Fin cfg0.N) (k : Fin 2048) (n : Fin 1024) :
    (iblk m c 1 t : Vec Ideal S2048x1024 .bf16) (ix2 k n) = argD m c (ix2 (token (tile t) k) n) := by
  rw [← entry_d]
  blk_ext [iblk, idx t, token, tile]

/-- A tile's product, read in the arguments. -/
theorem part_args (c : Dev nD) (t : Fin cfg0.N) (n f : Fin 1024) :
    part (iblk m c 0 t) (iblk m c 1 t) n f = ∑ k : Fin 2048, argY m c (ix2 (token (tile t) k) n) * argD m c (ix2 (token (tile t) k) f) :=
  Finset.sum_congr rfl fun k _ => by rw [iblk_y, iblk_d]

/-- The two tiles together are all tokens. -/
theorem result_point (c : Dev nD) (t : Fin cfg0.N) (h : t.val % 2 = 1) (n f : Fin 1024) :
    (outsAt0 m c t.val t.isLt).1 (ix3 0 n f) = weights (argY m c) (argD m c) n f := by
  have ht : t.val = 1 := by have := lt_of_lt_of_eq t.isLt points; omega
  have h0 := (first m c ⟨t.val - 1, Nat.lt_of_le_of_lt (Nat.sub_le _ _) t.isLt⟩ (by show (t.val - 1) % 2 = 0; omega) n f).trans (part_args m c _ n f)
  refine (second m c t h n f).trans ((congrArg₂ (· + ·) h0 (part_args m c t n f)).trans ?_)
  rw [show tile ⟨t.val - 1, _⟩ = 0 from Fin.ext (by show t.val - 1 = 0; omega), show tile t = 1 from Fin.ext ht]
  refine (Fin.sum_univ_two (fun p : Fin 2 => ∑ k : Fin 2048, argY m c (ix2 (token p k) n) * argD m c (ix2 (token p k) f))).symm.trans ?_
  exact Fin.sum_mul_add_congr fun p k hl => rfl

theorem array (c : Dev nD) : (dats m 0 c).arrAt 2 cfg0.N = fun y : S1x1024x1024.Idx => weights (argY m c) (argD m c) (y 1) (y 2) := by
  refine (dats m 0 c).arrAt_eq_of_covers 2 _ (by decide +kernel) fun t hf y => ?_
  have e : ((cfg0.win 2).blk t).view.emb y = (y : S1x1024x1024.Idx) := by
    blk_ext [idx t]
  have ey : y = (ix3 0 (y 1) (y 2) : S1x1024x1024.Idx) := by
    blk_ext []
  have h := result_point m c t ((flush0_2 t).mp hf) (y 1) (y 2)
  rw [← ey] at h
  blk_simp
  rw [after0_2]
  exact h.trans (congrArg (fun y : S1x1024x1024.Idx => weights (argY m c) (argD m c) (y 1) (y 2)) e.symm)

/-- The windows' arrays are distinct buffers. -/
theorem arrays_distinct : Function.Injective (Pipeline.arrRef spec0) := by
  decide +kernel

/-- The kernel's result: the one block, without its leading axis. -/
theorem tail (c : Dev nD) :
    (Pipeline.afterTail₀ cfgs (dats m) 0 (V0 m) [hostOps1] c main_v4 : S1024x1024.Idx → EReal)
      = fun i => weights (argY m c) (argD m c) (i 0) (i 1) := by
  have h : Pipeline.withArrays (cfgs 0).spec c (V0 m c) (fun w => (dats m 0 c).arrAt w (cfgs 0).N) (Proc.tc.devRef main_v2)
      = fun y : S1x1024x1024.Idx => weights (argY m c) (argD m c) (y 1) (y 2) :=
    (Pipeline.withArrays_arr (cfgs 0).spec arrays_distinct c (V0 m c) (fun w => (dats m 0 c).arrAt w (cfgs 0).N) 2).trans (array m c)
  funext i
  idx_vars i
  unfold Pipeline.afterTail₀
  simp only [List.flatten_cons, List.flatten_nil, List.append_nil, StableHlo.after_cons, StableHlo.after_nil]
  after_results_simp
  rw [h]
  pointwise

/-- The kernel's run: the gradient of the weights, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v4) = (fun i => weights (argY m c) (argD m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (unchanged m g) (run_main m g))
  exact ⟨((h.2 c).2 main_v4 (Pipeline.mem_restRefs_of main_v4 (by decide) (by decide))).trans (tail m c), h.1 c⟩

end Cert.Proof.GradOut
-- ==== Proof.GradOut.Reference.lean ====
module

public import proofs.«01_k».proof.Proof.GradOut.Kernel
public import proofs.«01_k».proof.Proof.Gen.GradOutRefIdeal.Run
public import proofs.«01_k».proof.Proof.Gen.GradOutRefIdeal.Read

@[expose] public section

set_option maxRecDepth 16384

noncomputable section

namespace Cert.Proof.GradOut

open Idealize.ShloMosaic Idealize.ShloMosaic.TcCoe Idealize.SL.Sem
open Cert.GradOutRefIdeal Cert.GradOutRefIdeal.Gen Cert.GradOutRefIdeal.Read

/-- The reference's gradient of the weights is the kernel's. -/
theorem ref_weights (Y D : S4096x1024.Idx → EReal) (n f : Fin 1024) :
    val_main_v2 (F := Ideal) Y D (ix2 n f) = weights Y D n f := by
  unfold val_main_v2 val_main_v1
  pointwise [weights]
  exact Finset.sum_congr rfl fun t _ => mul_comm _ _

variable (m : (ℓ : Loc nD τ sig) → Buf (Elt Ideal) ℓ)

/-- The reference's run, in the kernel's formula. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v2) = (fun i => weights (m ((c.tc : Thread nD τ).loc main_arg0))
        (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.GradOutRefIdeal.Value.run m g)
  obtain ⟨h2, ha⟩ := h c
  refine ⟨(h2.trans (val_main_v2_eq _ _)).trans (funext fun i => ?_), ha⟩
  idx_vars i
  exact ref_weights _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) r.2⟩) (Cert.GradOutRefIdeal.Value.run m g)

end Cert.Proof.GradOut
-- ==== Proof.GradIn.Kernel.lean ====
module

public import proofs.«01_k».proof.Proof.Gen.GradInIdeal.Frame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.GradIn

open Idealize.ShloMosaic Idealize.ShloMosaic.TcCoe Idealize.SL.Sem
open Cert.GradInIdeal Cert.GradInIdeal.Gen

/-- The gradient of the weights of a product: all tokens, a column of the input against a column of the cotangent. -/
def weights (H : S4096x1024.Idx → EReal) (D : S4096x2048.Idx → EReal) (n : Fin 1024) (f : Fin 2048) : EReal :=
  ∑ t : Fin 4096, H (ix2 t n) * D (ix2 t f)

/-- What one tile of tokens adds to it. -/
def part (h : Vec Ideal S2048x1024 .bf16) (d : Vec Ideal S2048x2048 .bf16) (n : Fin 1024) (f : Fin 2048) : EReal :=
  ∑ k : Fin 2048, h (ix2 k n) * d (ix2 k f)

/-- Column `l` of shard `j`. -/
def col (j : Fin 8) (l : Fin 256) : Fin 2048 := ⟨j.val * 256 + l.val, by omega⟩

/-- Token `k` of tile `p`. -/
def token (p : Fin 2) (k : Fin 2048) : Fin 4096 := ⟨p.val * 2048 + k.val, by omega⟩

/-- The accumulator, its two halves of columns written one after the other on the first tile. -/
theorem acc_first (h : Vec Ideal S2048x1024 .bf16) (d : Vec Ideal S2048x2048 .bf16) (j : S1024x2048.Idx) :
    View.canon (Val := Elt Ideal) (e := .f32)
      [⟨Rect.unit ![0, 1024] ![1024, 1024] inb_S1024x2048_S1024x1024_0_1024,
          k0_pay5 h (View.ld d (Rect.unit ![0, 1024] ![2048, 1024] inb_S2048x2048_S2048x1024_0_1024))⟩,
        ⟨Rect.unit ![0, 0] ![1024, 1024] inb_S1024x2048_S1024x1024_0_0,
          k0_pay2 h (View.ld d (Rect.unit ![0, 0] ![2048, 1024] inb_S2048x2048_S2048x1024_0_0))⟩]
      j = part h d (j 0) (j 1) := by
  idx_vars j
  canon_tiles y hy
  all_goals
    idx_vars y
    unfold_payloads
    pointwise [part] at *
    obtain rfl : j0 = y0 := Fin.ext hy0
    simp only [← hy1, Fin.eta]

/-- The same on the second tile, each half added to what it held. -/
theorem acc_next (h : Vec Ideal S2048x1024 .bf16) (d : Vec Ideal S2048x2048 .bf16) (a : Vec Ideal S1024x2048 .f32) (j : S1024x2048.Idx) :
    View.canon (Val := Elt Ideal) (e := .f32)
      [⟨Rect.unit ![0, 1024] ![1024, 1024] inb_S1024x2048_S1024x1024_0_1024,
          k0_pay6 h (View.ld d (Rect.unit ![0, 1024] ![2048, 1024] inb_S2048x2048_S2048x1024_0_1024))
            (View.ld a (Rect.unit ![0, 1024] ![1024, 1024] inb_S1024x2048_S1024x1024_0_1024))⟩,
        ⟨Rect.unit ![0, 0] ![1024, 1024] inb_S1024x2048_S1024x1024_0_0,
          k0_pay3 h (View.ld d (Rect.unit ![0, 0] ![2048, 1024] inb_S2048x2048_S2048x1024_0_0))
            (View.ld a (Rect.unit ![0, 0] ![1024, 1024] inb_S1024x2048_S1024x1024_0_0))⟩]
      j = a j + part h d (j 0) (j 1) := by
  idx_vars j
  canon_tiles y hy
  all_goals
    idx_vars y
    unfold_payloads
    pointwise [part] at *
    obtain rfl : j0 = y0 := Fin.ext hy0
    simp only [← hy1, Fin.eta]

theorem at_col (A : S1024x2048.Idx → EReal) (P : Fin 1024 → Fin 2048 → EReal) {n n' : Fin 1024} {j : Fin 8} {l : Fin 256} {q : Fin 2048}
    (hn : n.val = n'.val) (hq : q.val = j.val * 256 + l.val) : A (ix2 n' q) + P n' q = A (ix2 n (col j l)) + P n (col j l) := by
  obtain rfl : n = n' := Fin.ext hn
  obtain rfl : q = col j l := Fin.ext hq
  rfl

variable (m : (ℓ : Loc nD τ sig) → Buf (Elt Ideal) ℓ)

abbrev argH (c : Dev nD) : S4096x1024.Idx → EReal := m ((c : Thread nD τ).loc main_arg0)
abbrev argD (c : Dev nD) : S4096x2048.Idx → EReal := m ((c : Thread nD τ).loc main_arg2)

/-- The accumulator after the first tile. -/
theorem first (c : Dev nD) (t : Fin cfg0.N) (h : t.val % 2 = 0) (n : Fin 1024) (f : Fin 2048) :
    (outsAt0 m c t.val t.isLt).2 (ix2 n f) = part (iblk m c 0 t) (iblk m c 1 t) n f := by
  rw [outsAt0_A m c t h (by omega) h (by omega) (by omega)]
  frame_out
  exact acc_first _ _ _

/-- The block of the result after the second tile. -/
theorem second (c : Dev nD) (t : Fin cfg0.N) (h : t.val % 2 = 1) (j : Fin 8) (n : Fin 1024) (l : Fin 256) :
    (outsAt0 m c t.val t.isLt).1 (ix3 j n l)
      = (outsAt0 m c (t.val - 1) (Nat.lt_of_le_of_lt (Nat.sub_le _ _) t.isLt)).2 (ix2 n (col j l))
        + part (iblk m c 0 t) (iblk m c 1 t) n (col j l) := by
  rw [outsAt0_B m c t (by omega) h (by omega) h h]
  frame_out
  simp only [View.readCov_eq_canon', read_unread_whole, acc_next]
  canon_tiles y hy
  all_goals
    idx_vars y
    unfold_payloads
    pointwise at *
    refine at_col _ (part (iblk m c 0 t) (iblk m c 1 t)) hy1 ?_
    dsimp only
    omega

theorem points : cfg0.N = 2 := by decide

/-- The tile of a grid point. -/
def tile (t : Fin cfg0.N) : Fin 2 := ⟨t.val, lt_of_lt_of_eq t.isLt points⟩

theorem idx : ∀ t : Fin cfg0.N, win0_0.index t = ![t.val, 0] ∧ win0_1.index t = ![t.val, 0] ∧ win0_2.index t = ![0, 0, 0] := by
  decide +kernel

theorem entry_h (c : Dev nD) (t : Fin 4096) (n : Fin 1024) : (V m c main_v0 : S4096x1024.Idx → EReal) (ix2 t n) = argH m c (ix2 t n) := by
  simp only [V, V0, List.flatten_cons, List.flatten_nil, List.append_nil, StableHlo.after_cons, StableHlo.after_nil]
  after_results_simp
  pointwise

theorem entry_d (c : Dev nD) (t : Fin 4096) (n : Fin 2048) : (V m c main_v1 : S4096x2048.Idx → EReal) (ix2 t n) = argD m c (ix2 t n) := by
  simp only [V, V0, List.flatten_cons, List.flatten_nil, List.append_nil, StableHlo.after_cons, StableHlo.after_nil]
  after_results_simp
  pointwise

theorem iblk_h (c : Dev nD) (t : Fin cfg0.N) (k : Fin 2048) (n : Fin 1024) :
    (iblk m c 0 t : Vec Ideal S2048x1024 .bf16) (ix2 k n) = argH m c (ix2 (token (tile t) k) n) := by
  rw [← entry_h]
  blk_ext [iblk, idx t, token, tile]

theorem iblk_d (c : Dev nD) (t : Fin cfg0.N) (k n : Fin 2048) :
    (iblk m c 1 t : Vec Ideal S2048x2048 .bf16) (ix2 k n) = argD m c (ix2 (token (tile t) k) n) := by
  rw [← entry_d]
  blk_ext [iblk, idx t, token, tile]

/-- A tile's product, read in the arguments. -/
theorem part_args (c : Dev nD) (t : Fin cfg0.N) (n : Fin 1024) (f : Fin 2048) :
    part (iblk m c 0 t) (iblk m c 1 t) n f = ∑ k : Fin 2048, argH m c (ix2 (token (tile t) k) n) * argD m c (ix2 (token (tile t) k) f) :=
  Finset.sum_congr rfl fun k _ => by rw [iblk_h, iblk_d]

/-- The two tiles together are all tokens. -/
theorem result_point (c : Dev nD) (t : Fin cfg0.N) (h : t.val % 2 = 1) (j : Fin 8) (n : Fin 1024) (l : Fin 256) :
    (outsAt0 m c t.val t.isLt).1 (ix3 j n l) = weights (argH m c) (argD m c) n (col j l) := by
  have ht : t.val = 1 := by have := lt_of_lt_of_eq t.isLt points; omega
  have h0 := (first m c ⟨t.val - 1, Nat.lt_of_le_of_lt (Nat.sub_le _ _) t.isLt⟩ (by show (t.val - 1) % 2 = 0; omega) n (col j l)).trans (part_args m c _ n (col j l))
  refine (second m c t h j n l).trans ((congrArg₂ (· + ·) h0 (part_args m c t n (col j l))).trans ?_)
  rw [show tile ⟨t.val - 1, _⟩ = 0 from Fin.ext (by show t.val - 1 = 0; omega), show tile t = 1 from Fin.ext ht]
  refine (Fin.sum_univ_two (fun p : Fin 2 => ∑ k : Fin 2048, argH m c (ix2 (token p k) n) * argD m c (ix2 (token p k) (col j l)))).symm.trans ?_
  exact Fin.sum_mul_add_congr fun p k hl => rfl

theorem array (c : Dev nD) : (dats m 0 c).arrAt 2 cfg0.N = fun y : S8x1024x256.Idx => weights (argH m c) (argD m c) (y 1) (col (y 0) (y 2)) := by
  refine (dats m 0 c).arrAt_eq_of_covers 2 _ (by decide +kernel) fun t hf y => ?_
  have e : ((cfg0.win 2).blk t).view.emb y = (y : S8x1024x256.Idx) := by
    blk_ext [idx t]
  have ey : y = (ix3 (y 0) (y 1) (y 2) : S8x1024x256.Idx) := by
    blk_ext []
  have h := result_point m c t ((flush0_2 t).mp hf) (y 0) (y 1) (y 2)
  rw [← ey] at h
  blk_simp
  rw [after0_2]
  exact h.trans (congrArg (fun y : S8x1024x256.Idx => weights (argH m c) (argD m c) (y 1) (col (y 0) (y 2))) e.symm)

/-- The windows' arrays are distinct buffers. -/
theorem arrays_distinct : Function.Injective (Pipeline.arrRef spec0) := by
  decide +kernel

/-- The kernel's result: the shards side by side. -/
theorem tail (c : Dev nD) :
    (Pipeline.afterTail₀ cfgs (dats m) 0 (V0 m) [hostOps1] c main_v5 : S1024x2048.Idx → EReal)
      = fun i => weights (argH m c) (argD m c) (i 0) (i 1) := by
  have h : Pipeline.withArrays (cfgs 0).spec c (V0 m c) (fun w => (dats m 0 c).arrAt w (cfgs 0).N) (Proc.tc.devRef main_v2)
      = fun y : S8x1024x256.Idx => weights (argH m c) (argD m c) (y 1) (col (y 0) (y 2)) :=
    (Pipeline.withArrays_arr (cfgs 0).spec arrays_distinct c (V0 m c) (fun w => (dats m 0 c).arrAt w (cfgs 0).N) 2).trans (array m c)
  funext i
  idx_vars i
  unfold Pipeline.afterTail₀
  simp only [List.flatten_cons, List.flatten_nil, List.append_nil, StableHlo.after_cons, StableHlo.after_nil]
  after_results_simp
  rw [h]
  pointwise
  refine congrArg (weights _ _ _) (Fin.ext ?_)
  simp only [col]
  omega

/-- The kernel's run: the gradient of the weights, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v5) = (fun i => weights (argH m c) (argD m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (unchanged m g) (run_main m g))
  exact ⟨((h.2 c).2 main_v5 (Pipeline.mem_restRefs_of main_v5 (by decide) (by decide))).trans (tail m c), h.1 c⟩

end Cert.Proof.GradIn
-- ==== Proof.GradIn.Reference.lean ====
module

public import proofs.«01_k».proof.Proof.GradIn.Kernel
public import proofs.«01_k».proof.Proof.Gen.GradInRefIdeal.Run
public import proofs.«01_k».proof.Proof.Gen.GradInRefIdeal.Read

@[expose] public section

set_option maxRecDepth 16384

noncomputable section

namespace Cert.Proof.GradIn

open Idealize.ShloMosaic Idealize.ShloMosaic.TcCoe Idealize.SL.Sem
open Cert.GradInRefIdeal Cert.GradInRefIdeal.Gen Cert.GradInRefIdeal.Read

/-- The reference's gradient of the weights is the kernel's. -/
theorem ref_weights (H : S4096x1024.Idx → EReal) (D : S4096x2048.Idx → EReal) (n : Fin 1024) (f : Fin 2048) :
    val_main_v2 (F := Ideal) H D (ix2 n f) = weights H D n f := by
  unfold val_main_v2 val_main_v1
  pointwise [weights]
  exact Finset.sum_congr rfl fun t _ => mul_comm _ _

variable (m : (ℓ : Loc nD τ sig) → Buf (Elt Ideal) ℓ)

/-- The reference's run, in the kernel's formula. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v2) = (fun i => weights (m ((c.tc : Thread nD τ).loc main_arg0))
        (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.GradInRefIdeal.Value.run m g)
  obtain ⟨h2, ha⟩ := h c
  refine ⟨(h2.trans (val_main_v2_eq _ _)).trans (funext fun i => ?_), ha⟩
  idx_vars i
  exact ref_weights _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) r.2⟩) (Cert.GradInRefIdeal.Value.run m g)

end Cert.Proof.GradIn
-- ==== Proof.MixBack.Block.lean ====
module

public import proofs.«01_k».proof.Proof.Gen.MixBackIdeal.Frame
public import proofs.«01_k».proof.Proof.Norm.Rows
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.MixBack

open Idealize.ShloMosaic Idealize.ShloMosaic.TcCoe Idealize.SL.Sem
open Cert.MixBackIdeal Cert.MixBackIdeal.Gen
open Cert.Proof.Norm

/-- Row `r` of a tile. -/
def row (x : S512x1024.Idx → EReal) (r : Fin 512) : Fin 1024 → EReal := fun k => x (ix2 r k)

theorem pay4_apply (x : Vec Ideal S512x1024 .f32) (r : Fin 512) (z : Fin 1) : k0_pay4 x (ix2 r z) = factor (row x r) := by
  unfold_payloads
  pointwise [factor, square, width, eps, row]

/-- What a tile adds to the gradient of the shift: the sum of its rows. -/
def shiftPart (b : Vec Ideal S512x1024 .f32) (k : Fin 1024) : EReal := ∑ r : Fin 512, b (ix2 r k)

/-- What a tile adds to the gradient of the scale. -/
def scalePart (b x : Vec Ideal S512x1024 .f32) (g : Vec Ideal S1x1024 .f32) (k : Fin 1024) : EReal :=
  ∑ r : Fin 512, b (ix2 r k) * (x (ix2 r k) * factor (row x r) * g (ix2 0 k))

/-- The gradient of the norm itself: the gradient of the modulated norm times `1 + scale`. -/
def unscaled (b : Vec Ideal S512x1024 .f32) (sc : Vec Ideal S1x1024 .f32) (r : Fin 512) (k : Fin 1024) : EReal :=
  b (ix2 r k) * (1 + sc (ix2 0 k))

/-- What a tile adds to the gradient of the norm's gain. -/
def gainPart (b x : Vec Ideal S512x1024 .f32) (sc : Vec Ideal S1x1024 .f32) (k : Fin 1024) : EReal :=
  ∑ r : Fin 512, unscaled b sc r k * x (ix2 r k) * factor (row x r)

theorem pay5_apply (b : Vec Ideal S512x1024 .f32) (a : Vec Ideal S1x1024 .f32) (z : Fin 1) (k : Fin 1024) :
   k0_pay5 b a (ix2 z k) = a (ix2 z k) + shiftPart b k := by
  unfold_payloads
  pointwise [shiftPart]

theorem pay6_apply (b x : Vec Ideal S512x1024 .f32) (g a : Vec Ideal S1x1024 .f32) (z : Fin 1) (k : Fin 1024) :
   k0_pay6 b x g a (ix2 z k) = a (ix2 z k) + scalePart b x g k := by
  unfold k0_pay6 k0_pay3
  pointwise [pay4_apply, scalePart]

theorem pay7_apply (b : Vec Ideal S512x1024 .f32) (sc : Vec Ideal S1x1024 .f32) (r : Fin 512) (k : Fin 1024) :
   k0_pay7 b sc (ix2 r k) = unscaled b sc r k := by
  unfold_payloads
  pointwise [unscaled]

theorem pay1_apply (b x : Vec Ideal S512x1024 .f32) (sc a : Vec Ideal S1x1024 .f32) (z : Fin 1) (k : Fin 1024) :
   k0_pay1 x (k0_pay4 x) (k0_pay7 b sc) a (ix2 z k) = a (ix2 z k) + gainPart b x sc k := by
  unfold k0_pay1
  pointwise [pay4_apply, pay7_apply, gainPart]

/-- The gradient of the stream: the cotangent that comes straight down, plus what passes back through the norm. -/
def stream (b x ct : Vec Ideal S512x1024 .f32) (g sc : Vec Ideal S1x1024 .f32) (r : Fin 512) (k : Fin 1024) : EReal :=
  ct (ix2 r k) + back (row x r) (fun n => g (ix2 0 n) * unscaled b sc r n) k

theorem pay2_apply (b x ct : Vec Ideal S512x1024 .f32) (g sc : Vec Ideal S1x1024 .f32) (r : Fin 512) (k : Fin 1024) :
   k0_pay2 x g (k0_pay4 x) (k0_pay7 b sc) ct (ix2 r k) = stream b x ct g sc r k := by
  unfold k0_pay2
  pointwise [pay4_apply, pay7_apply, stream, back, row, width]

/-- The gradient of the modulated norm on one tile of tokens, as the program adds it up: one shard of the weights after the other. -/
def gathered (d : Vec Ideal S512x2048 .bf16) (w : Vec Ideal S8x1024x256 .bf16) : Vec Ideal S512x1024 .f32 :=
  k0_pay10
    (k0_pay8
      (View.ld d (Rect.unit ![0, 0] ![512, 256] inb_S512x2048_S512x256_0_0))
      (View.ld w (Rect.unit ![0, 0, 0] ![1, 1024, 256] inb_S8x1024x256_S1x1024x256_0_0_0))
      (View.ld d (Rect.unit ![0, 256] ![512, 256] inb_S512x2048_S512x256_0_256))
      (View.ld w (Rect.unit ![1, 0, 0] ![1, 1024, 256] inb_S8x1024x256_S1x1024x256_1_0_0))
      (View.ld d (Rect.unit ![0, 512] ![512, 256] inb_S512x2048_S512x256_0_512))
      (View.ld w (Rect.unit ![2, 0, 0] ![1, 1024, 256] inb_S8x1024x256_S1x1024x256_2_0_0))
      (View.ld d (Rect.unit ![0, 768] ![512, 256] inb_S512x2048_S512x256_0_768))
      (View.ld w (Rect.unit ![3, 0, 0] ![1, 1024, 256] inb_S8x1024x256_S1x1024x256_3_0_0)))
    (k0_pay9
      (View.ld d (Rect.unit ![0, 1024] ![512, 256] inb_S512x2048_S512x256_0_1024))
      (View.ld w (Rect.unit ![4, 0, 0] ![1, 1024, 256] inb_S8x1024x256_S1x1024x256_4_0_0)))
    (View.ld d (Rect.unit ![0, 1280] ![512, 256] inb_S512x2048_S512x256_0_1280))
    (View.ld w (Rect.unit ![5, 0, 0] ![1, 1024, 256] inb_S8x1024x256_S1x1024x256_5_0_0))
    (View.ld d (Rect.unit ![0, 1536] ![512, 256] inb_S512x2048_S512x256_0_1536))
    (View.ld w (Rect.unit ![6, 0, 0] ![1, 1024, 256] inb_S8x1024x256_S1x1024x256_6_0_0))
    (View.ld d (Rect.unit ![0, 1792] ![512, 256] inb_S512x2048_S512x256_0_1792))
    (View.ld w (Rect.unit ![7, 0, 0] ![1, 1024, 256] inb_S8x1024x256_S1x1024x256_7_0_0))

/-- Column `l` of shard `s` of the projected axis. -/
def col (s : Fin 8) (l : Fin 256) : Fin 2048 := ⟨s.val * 256 + l.val, by omega⟩

theorem gathered_apply (d : Vec Ideal S512x2048 .bf16) (w : Vec Ideal S8x1024x256 .bf16) (r : Fin 512) (k : Fin 1024) :
    gathered d w (ix2 r k) = ∑ s : Fin 8, ∑ l : Fin 256, d (ix2 r (col s l)) * w (ix3 s k l) := by
  have e : ∀ (l : Fin 256) (h : l.val < 2048), (⟨l.val, h⟩ : Fin 2048) = col 0 l :=
    fun l h => Fin.ext (by show l.val = 0 * 256 + l.val; omega)
  rw [Fin.sum_univ_eight]
  unfold gathered
  unfold_payloads
  pointwise
  simp only [e]
  rfl

variable (m : (ℓ : Loc nD τ sig) → Buf (Elt Ideal) ℓ)

/-- The gradient block of a grid point, of the blocks it is handed. -/
def point (c : Dev nD) (t : Fin cfg0.N) : Vec Ideal S512x1024 .f32 := gathered (iblk m c 0 t) (iblk m c 1 t)

theorem dx_point (c : Dev nD) (t : Fin cfg0.N) (j : S512x1024.Idx) :
    (outsAt0 m c t.val t.isLt).1 j = stream (point m c t) (iblk m c 2 t) (iblk m c 3 t) (iblk m c 5 t) (iblk m c 4 t) (j 0) (j 1) := by
  idx_vars j
  by_cases h0 : t.val % 8 = 0
  · rw [outsAt0_A m c t h0]
    frame_out
    exact pay2_apply (point m c t) _ _ _ _ j0 j1
  · rw [outsAt0_B m c t h0]
    frame_out
    exact pay2_apply (point m c t) _ _ _ _ j0 j1

theorem dshift_first (c : Dev nD) (t : Fin cfg0.N) (h0 : t.val % 8 = 0) (j : S1x1024.Idx) :
    (outsAt0 m c t.val t.isLt).2.1 j = 0 + shiftPart (point m c t) (j 1) := by
  idx_vars j
  rw [outsAt0_A m c t h0]
  frame_out
  refine (pay5_apply (point m c t) (k0_pay11 (F := Ideal)) j0 j1).trans ?_
  unfold k0_pay11
  pointwise

theorem dshift_next (c : Dev nD) (t : Fin cfg0.N) (h0 : ¬t.val % 8 = 0) (j : S1x1024.Idx) :
    (outsAt0 m c t.val t.isLt).2.1 j
      = (outsAt0 m c (t.val - 1) (Nat.lt_of_le_of_lt (Nat.sub_le _ _) t.isLt)).2.1 j + shiftPart (point m c t) (j 1) := by
  idx_vars j
  rw [outsAt0_B m c t h0]
  frame_out
  exact pay5_apply (point m c t) _ j0 j1

theorem dscale_first (c : Dev nD) (t : Fin cfg0.N) (h0 : t.val % 8 = 0) (j : S1x1024.Idx) :
    (outsAt0 m c t.val t.isLt).2.2.1 j = 0 + scalePart (point m c t) (iblk m c 2 t) (iblk m c 5 t) (j 1) := by
  idx_vars j
  rw [outsAt0_A m c t h0]
  frame_out
  refine (pay6_apply (point m c t) _ _ (k0_pay12 (F := Ideal)) j0 j1).trans ?_
  unfold k0_pay12
  pointwise

theorem dscale_next (c : Dev nD) (t : Fin cfg0.N) (h0 : ¬t.val % 8 = 0) (j : S1x1024.Idx) :
    (outsAt0 m c t.val t.isLt).2.2.1 j
      = (outsAt0 m c (t.val - 1) (Nat.lt_of_le_of_lt (Nat.sub_le _ _) t.isLt)).2.2.1 j + scalePart (point m c t) (iblk m c 2 t) (iblk m c 5 t) (j 1) := by
  idx_vars j
  rw [outsAt0_B m c t h0]
  frame_out
  exact pay6_apply (point m c t) _ _ _ j0 j1

theorem dgain_first (c : Dev nD) (t : Fin cfg0.N) (h0 : t.val % 8 = 0) (j : S1x1024.Idx) :
    (outsAt0 m c t.val t.isLt).2.2.2 j = 0 + gainPart (point m c t) (iblk m c 2 t) (iblk m c 4 t) (j 1) := by
  idx_vars j
  rw [outsAt0_A m c t h0]
  frame_out
  refine (pay1_apply (point m c t) _ _ (k0_pay13 (F := Ideal)) j0 j1).trans ?_
  unfold k0_pay13
  pointwise

theorem dgain_next (c : Dev nD) (t : Fin cfg0.N) (h0 : ¬t.val % 8 = 0) (j : S1x1024.Idx) :
    (outsAt0 m c t.val t.isLt).2.2.2 j
      = (outsAt0 m c (t.val - 1) (Nat.lt_of_le_of_lt (Nat.sub_le _ _) t.isLt)).2.2.2 j + gainPart (point m c t) (iblk m c 2 t) (iblk m c 4 t) (j 1) := by
  idx_vars j
  rw [outsAt0_B m c t h0]
  frame_out
  exact pay1_apply (point m c t) _ _ _ j0 j1

end Cert.Proof.MixBack
-- ==== Proof.MixBack.Arrays.lean ====
module

public import proofs.«01_k».proof.Proof.MixBack.Block
public import Idealize.ShloMosaic.Lib.Claim

@[expose] public section

set_option maxRecDepth 16384

noncomputable section

namespace Cert.Proof.MixBack

open Idealize.ShloMosaic Idealize.ShloMosaic.TcCoe Idealize.SL.Sem
open Cert.MixBackIdeal Cert.MixBackIdeal.Gen
open Cert.Proof.Norm

/-- Row `t` of a token array. -/
def line (X : S4096x1024.Idx → EReal) (t : Fin 4096) : Fin 1024 → EReal := fun k => X (ix2 t k)

/-- The gradient of the modulated norm: the cotangent against the rows of the weights. -/
def wide (W : S1024x2048.Idx → EReal) (U : S4096x2048.Idx → EReal) (t : Fin 4096) (k : Fin 1024) : EReal :=
  ∑ f : Fin 2048, U (ix2 t f) * W (ix2 k f)

/-- The gradient of the norm with its gain, before the modulation. -/
def bare (W : S1024x2048.Idx → EReal) (U : S4096x2048.Idx → EReal) (C : S1x1024.Idx → EReal) (t : Fin 4096) (k : Fin 1024) : EReal :=
  wide W U t k * (1 + C (ix2 0 k))

/-- The gradient of the residual stream. -/
def dStream (X : S4096x1024.Idx → EReal) (C G : S1x1024.Idx → EReal) (W : S1024x2048.Idx → EReal) (D : S4096x1024.Idx → EReal)
    (U : S4096x2048.Idx → EReal) (t : Fin 4096) (k : Fin 1024) : EReal :=
  D (ix2 t k) + back (line X t) (fun n => G (ix2 0 n) * bare W U C t n) k

/-- The gradients of the shift, the scale and the gain of the norm: sums over all tokens. -/
def dShift (W : S1024x2048.Idx → EReal) (U : S4096x2048.Idx → EReal) (k : Fin 1024) : EReal := ∑ t : Fin 4096, wide W U t k

def dScale (X : S4096x1024.Idx → EReal) (G : S1x1024.Idx → EReal) (W : S1024x2048.Idx → EReal) (U : S4096x2048.Idx → EReal) (k : Fin 1024) : EReal :=
  ∑ t : Fin 4096, wide W U t k * (X (ix2 t k) * factor (line X t) * G (ix2 0 k))

def dGain (X : S4096x1024.Idx → EReal) (C : S1x1024.Idx → EReal) (W : S1024x2048.Idx → EReal) (U : S4096x2048.Idx → EReal) (k : Fin 1024) : EReal :=
  ∑ t : Fin 4096, bare W U C t k * X (ix2 t k) * factor (line X t)

theorem times {a b a' b' : EReal} (h : a = a') (h' : b = b') : a * b = a' * b' := congrArg₂ _ h h'

variable (m : (ℓ : Loc nD τ sig) → Buf (Elt Ideal) ℓ)

abbrev argX (c : Dev nD) : S4096x1024.Idx → EReal := m ((c : Thread nD τ).loc main_arg0)
abbrev argC (c : Dev nD) : S1x1024.Idx → EReal := m ((c : Thread nD τ).loc main_arg1)
abbrev argG (c : Dev nD) : S1x1024.Idx → EReal := m ((c : Thread nD τ).loc main_arg3)
abbrev argW (c : Dev nD) : S1024x2048.Idx → EReal := m ((c : Thread nD τ).loc main_arg4)
abbrev argD (c : Dev nD) : S4096x1024.Idx → EReal := m ((c : Thread nD τ).loc main_arg5)
abbrev argU (c : Dev nD) : S4096x2048.Idx → EReal := m ((c : Thread nD τ).loc main_arg6)

/-- The residual stream's gradient, of the arguments of a device. -/
abbrev down (c : Dev nD) : Fin 4096 → Fin 1024 → EReal := dStream (argX m c) (argC m c) (argG m c) (argW m c) (argD m c) (argU m c)

theorem points : cfg0.N = 8 := by decide

/-- Token `r` of the tile of a grid point. -/
def token (t : Fin cfg0.N) (r : Fin 512) : Fin 4096 := ⟨t.val * 512 + r.val, by have := lt_of_lt_of_eq t.isLt points; omega⟩

theorem idx : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_5.index t = ![0, 0] ∧ win0_6.index t = ![t.val, 0] := by
  decide +kernel

theorem idx_acc : ∀ t : Fin cfg0.N, win0_7.index t = ![0, 0] ∧ win0_8.index t = ![0, 0] ∧ win0_9.index t = ![0, 0] := by
  decide +kernel

/-- The cotangent as the region finds it. -/
theorem entry_ct (c : Dev nD) (t : Fin 4096) (l : Fin 2048) :
    (V m c main_v3 : S4096x2048.Idx → EReal) (ix2 t l) = argU m c (ix2 t l) := by
  simp only [V, List.flatten_cons, List.flatten_nil, List.append_nil, StableHlo.after_cons, StableHlo.after_nil]
  after_results_simp
  pointwise

/-- The weights as the region finds them: shard, row, column of the shard. -/
theorem entry_w (c : Dev nD) (j : Fin 8) (k : Fin 1024) (l : Fin 256) :
    (V m c main_v2 : S8x1024x256.Idx → EReal) (ix3 j k l) = argW m c (ix2 k (col j l)) := by
  simp only [V, List.flatten_cons, List.flatten_nil, List.append_nil, StableHlo.after_cons, StableHlo.after_nil]
  after_results_simp
  pointwise
  blk_ext [col]

theorem iblk_ct (c : Dev nD) (t : Fin cfg0.N) (r : Fin 512) (l : Fin 2048) :
    (iblk m c 0 t : Vec Ideal S512x2048 .bf16) (ix2 r l) = argU m c (ix2 (token t r) l) := by
  rw [← entry_ct]
  blk_ext [iblk, idx t, token]

theorem iblk_w (c : Dev nD) (t : Fin cfg0.N) (s : Fin 8) (k : Fin 1024) (l : Fin 256) :
    (iblk m c 1 t : Vec Ideal S8x1024x256 .bf16) (ix3 s k l) = argW m c (ix2 k (col s l)) := by
  rw [← entry_w]
  blk_ext [iblk, idx t]

theorem iblk_x (c : Dev nD) (t : Fin cfg0.N) (r : Fin 512) (k : Fin 1024) :
    (iblk m c 2 t : Vec Ideal S512x1024 .f32) (ix2 r k) = argX m c (ix2 (token t r) k) := by
  blk_ext [iblk, V, idx t, token]

theorem iblk_d (c : Dev nD) (t : Fin cfg0.N) (r : Fin 512) (k : Fin 1024) :
    (iblk m c 3 t : Vec Ideal S512x1024 .f32) (ix2 r k) = argD m c (ix2 (token t r) k) := by
  blk_ext [iblk, V, idx t, token]

theorem iblk_c (c : Dev nD) (t : Fin cfg0.N) (k : Fin 1024) :
    (iblk m c 4 t : Vec Ideal S1x1024 .f32) (ix2 0 k) = argC m c (ix2 0 k) := by
  blk_ext [iblk, V, idx t]

theorem iblk_g (c : Dev nD) (t : Fin cfg0.N) (k : Fin 1024) :
    (iblk m c 5 t : Vec Ideal S1x1024 .f32) (ix2 0 k) = argG m c (ix2 0 k) := by
  blk_ext [iblk, V, idx t]

theorem row_x (c : Dev nD) (t : Fin cfg0.N) (r : Fin 512) : row (iblk m c 2 t) r = line (argX m c) (token t r) :=
  funext fun k => iblk_x m c t r k

/-- The gradient block, read in the arguments: slab by slab of the hidden axis is the whole axis. -/
theorem point_args (c : Dev nD) (t : Fin cfg0.N) (r : Fin 512) (k : Fin 1024) :
    point m c t (ix2 r k) = wide (argW m c) (argU m c) (token t r) k := by
  refine (gathered_apply (iblk m c 0 t) (iblk m c 1 t) r k).trans (Fin.sum_mul_add_congr fun s l hl => ?_)
  exact times (iblk_ct m c t r (col s l)) (iblk_w m c t s k l)

theorem unscaled_args (c : Dev nD) (t : Fin cfg0.N) (r : Fin 512) (k : Fin 1024) :
    unscaled (point m c t) (iblk m c 4 t) r k = bare (argW m c) (argU m c) (argC m c) (token t r) k := by
  unfold unscaled bare
  rw [point_args, iblk_c]

theorem stream_args (c : Dev nD) (t : Fin cfg0.N) (r : Fin 512) (k : Fin 1024) :
    stream (point m c t) (iblk m c 2 t) (iblk m c 3 t) (iblk m c 5 t) (iblk m c 4 t) r k = down m c (token t r) k := by
  exact congrArg₂ (· + ·) (iblk_d m c t r k)
    (congrFun (congrArg₂ back (row_x m c t r) (funext fun n => times (iblk_g m c t n) (unscaled_args m c t r n))) k)

theorem shift_args (c : Dev nD) (t : Fin cfg0.N) (k : Fin 1024) :
    shiftPart (point m c t) k = ∑ r : Fin 512, wide (argW m c) (argU m c) (token t r) k :=
  Finset.sum_congr rfl fun r _ => point_args m c t r k

theorem scale_args (c : Dev nD) (t : Fin cfg0.N) (k : Fin 1024) :
    scalePart (point m c t) (iblk m c 2 t) (iblk m c 5 t) k = ∑ r : Fin 512, wide (argW m c) (argU m c) (token t r) k
      * (argX m c (ix2 (token t r) k) * factor (line (argX m c) (token t r)) * argG m c (ix2 0 k)) :=
  Finset.sum_congr rfl fun r _ => by rw [point_args, row_x, iblk_x, iblk_g]

theorem gain_args (c : Dev nD) (t : Fin cfg0.N) (k : Fin 1024) :
    gainPart (point m c t) (iblk m c 2 t) (iblk m c 4 t) k = ∑ r : Fin 512, bare (argW m c) (argU m c) (argC m c) (token t r) k
      * argX m c (ix2 (token t r) k) * factor (line (argX m c) (token t r)) :=
  Finset.sum_congr rfl fun r _ => by rw [unscaled_args, row_x, iblk_x]

/-- A running sum over the tiles, each tile a sum over its tokens, is at its last tile the sum over all tokens. -/
theorem total (out : (n : Nat) → n < cfg0.N → S1x1024.Idx → EReal) (part : Fin cfg0.N → Fin 1024 → EReal) (F : Fin 4096 → Fin 1024 → EReal)
    (first : ∀ (t : Fin cfg0.N) (_ : t.val % 8 = 0) (j : S1x1024.Idx), out t.val t.isLt j = 0 + part t (j 1))
    (next : ∀ (t : Fin cfg0.N) (_ : ¬t.val % 8 = 0) (j : S1x1024.Idx),
      out t.val t.isLt j = out (t.val - 1) (Nat.lt_of_le_of_lt (Nat.sub_le _ _) t.isLt) j + part t (j 1))
    (parts : ∀ t k, part t k = ∑ r : Fin 512, F (token t r) k) (t : Fin cfg0.N) (h : t.val % 8 = 7) (j : S1x1024.Idx) :
    out t.val t.isLt j = ∑ t : Fin 4096, F t (j 1) := by
  refine (Pipeline.eq_sum_fin_of_reset_step_apply_of_flush out 8 (fun _ => (0 : EReal)) (fun t j => part t (j 1)) first next t h j).trans ?_
  refine (zero_add _).trans ((Finset.sum_congr rfl fun s _ => parts ⟨8 * (t.val / 8) + s.val, Pipeline.run_point_lt_of_flush t h s⟩ (j 1)).trans ?_)
  refine Fin.sum_mul_add_congr fun s k hl => congrArg (fun q => F q (j 1)) (Fin.ext ?_)
  have := lt_of_lt_of_eq t.isLt points
  show (8 * (t.val / 8) + s.val) * 512 + k.val = s.val * 512 + k.val
  omega

end Cert.Proof.MixBack
-- ==== Proof.MixBack.Kernel.lean ====
module

public import proofs.«01_k».proof.Proof.MixBack.Arrays

@[expose] public section

set_option maxRecDepth 16384

noncomputable section

namespace Cert.Proof.MixBack

open Idealize.ShloMosaic Idealize.ShloMosaic.TcCoe Idealize.SL.Sem
open Cert.MixBackIdeal Cert.MixBackIdeal.Gen
open Cert.Proof.Norm

variable (m : (ℓ : Loc nD τ sig) → Buf (Elt Ideal) ℓ)

theorem array_stream (c : Dev nD) : (dats m 0 c).arrAt 6 cfg0.N = fun y : S4096x1024.Idx => down m c (y 0) (y 1) := by
  refine (dats m 0 c).arrAt_eq_of_covers 6 _ (by decide +kernel) fun t hf y => ?_
  have e : ((cfg0.win 6).blk t).view.emb y = ix2 (token t (y 0)) (y 1) := by
    blk_ext [idx t, token]
  have h : (outsAt0 m c t.val t.isLt).1 y = down m c (token t (y 0)) (y 1) := (dx_point m c t y).trans (stream_args m c t (y 0) (y 1))
  blk_simp
  rw [after0_6]
  refine h.trans ?_
  rw [e]
  rfl

theorem array_shift (c : Dev nD) : (dats m 0 c).arrAt 7 cfg0.N = fun y : S1x1024.Idx => dShift (argW m c) (argU m c) (y 1) := by
  refine (dats m 0 c).arrAt_eq_of_covers 7 _ (by decide +kernel) fun t hf y => ?_
  have e : ((cfg0.win 7).blk t).view.emb y = (y : S1x1024.Idx) := by
    blk_ext [idx_acc t]
  have h := total (fun n h => (outsAt0 m c n h).2.1) (fun t => shiftPart (point m c t))
    (fun t k => wide (argW m c) (argU m c) t k) (dshift_first m c) (dshift_next m c) (shift_args m c) t ((flush0_7 t).mp hf) y
  blk_simp
  rw [after0_7]
  exact h.trans (congrArg (fun y : S1x1024.Idx => dShift (argW m c) (argU m c) (y 1)) e.symm)

theorem array_scale (c : Dev nD) : (dats m 0 c).arrAt 8 cfg0.N = fun y : S1x1024.Idx => dScale (argX m c) (argG m c) (argW m c) (argU m c) (y 1) := by
  refine (dats m 0 c).arrAt_eq_of_covers 8 _ (by decide +kernel) fun t hf y => ?_
  have e : ((cfg0.win 8).blk t).view.emb y = (y : S1x1024.Idx) := by
    blk_ext [idx_acc t]
  have h := total (fun n h => (outsAt0 m c n h).2.2.1) (fun t => scalePart (point m c t) (iblk m c 2 t) (iblk m c 5 t))
    (fun t k => wide (argW m c) (argU m c) t k * (argX m c (ix2 t k) * factor (line (argX m c) t) * argG m c (ix2 0 k))) (dscale_first m c) (dscale_next m c) (scale_args m c) t ((flush0_8 t).mp hf) y
  blk_simp
  rw [after0_8]
  exact h.trans (congrArg (fun y : S1x1024.Idx => dScale (argX m c) (argG m c) (argW m c) (argU m c) (y 1)) e.symm)

theorem array_gain (c : Dev nD) : (dats m 0 c).arrAt 9 cfg0.N = fun y : S1x1024.Idx => dGain (argX m c) (argC m c) (argW m c) (argU m c) (y 1) := by
  refine (dats m 0 c).arrAt_eq_of_covers 9 _ (by decide +kernel) fun t hf y => ?_
  have e : ((cfg0.win 9).blk t).view.emb y = (y : S1x1024.Idx) := by
    blk_ext [idx_acc t]
  have h := total (fun n h => (outsAt0 m c n h).2.2.2) (fun t => gainPart (point m c t) (iblk m c 2 t) (iblk m c 4 t))
    (fun t k => bare (argW m c) (argU m c) (argC m c) t k * argX m c (ix2 t k) * factor (line (argX m c) t)) (dgain_first m c) (dgain_next m c) (gain_args m c) t ((flush0_9 t).mp hf) y
  blk_simp
  rw [after0_9]
  exact h.trans (congrArg (fun y : S1x1024.Idx => dGain (argX m c) (argC m c) (argW m c) (argU m c) (y 1)) e.symm)

/-- The kernel's run: the four gradients, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v4_0) = (fun i : S4096x1024.Idx => down m c (i 0) (i 1))
      ∧ r.2.mem ((c.tc : Thread nD τ).loc main_v4_1) = (fun i : S1x1024.Idx => dShift (argW m c) (argU m c) (i 1))
      ∧ r.2.mem ((c.tc : Thread nD τ).loc main_v4_2) = (fun i : S1x1024.Idx => dScale (argX m c) (argG m c) (argW m c) (argU m c) (i 1))
      ∧ r.2.mem ((c.tc : Thread nD τ).loc main_v4_3) = (fun i : S1x1024.Idx => dGain (argX m c) (argC m c) (argW m c) (argU m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (θ_run_and (unchanged m g) (run_main m g))
  exact ⟨((h.2 c).1 6).trans (array_stream m c),
    ((h.2 c).1 7).trans (array_shift m c),
    ((h.2 c).1 8).trans (array_scale m c),
    ((h.2 c).1 9).trans (array_gain m c),
    h.1 c⟩

end Cert.Proof.MixBack
-- ==== Proof.MixBack.Reference.lean ====
module

public import proofs.«01_k».proof.Proof.MixBack.Kernel
public import proofs.«01_k».proof.Proof.Gen.MixBackRefIdeal.Run
public import proofs.«01_k».proof.Proof.Gen.MixBackRefIdeal.Read
public import proofs.«01_k».proof.Proof.Gen.Pre_finite_mix

@[expose] public section

set_option maxRecDepth 16384

noncomputable section

namespace Cert.Proof.MixBack

open Idealize.ShloMosaic Idealize.ShloMosaic.TcCoe Idealize.SL.Sem
open Cert.MixBackRefIdeal Cert.MixBackRefIdeal.Gen Cert.MixBackRefIdeal.Read
open Cert.Proof.Norm Cert.Proof.GatedDown

/-- The gradient of the modulated norm is the kernel's. -/
theorem ref_wide (W : S1024x2048.Idx → EReal) (U : S4096x2048.Idx → EReal) (t : Fin 4096) (k : Fin 1024) :
    val_main_v22 (F := Ideal) W U (ix2 t k) = wide W U t k := by
  unfold val_main_v22
  pointwise [wide]

theorem ref_square (X : S4096x1024.Idx → EReal) (t : Fin 4096) (z : Fin 1) :
    val_main_v6 (F := Ideal) X (ix2 t z) = square (line X t) := by
  unfold val_main_v6 val_main_v5 val_main_v4 val_main_v3 val_main_v2 val_main_v1 val_main_v0
  pointwise [val_main_cst, val_main_cst_0, val_main_cst_1, square, line, width, eps]

theorem ref_factor (X : S4096x1024.Idx → EReal) (t : Fin 4096) (z : Fin 1) :
    val_main_v7 (F := Ideal) X (ix2 t z) = factor (line X t) := by
  unfold val_main_v7
  pointwise [ref_square, factor]

theorem ref_normed (X : S4096x1024.Idx → EReal) (t : Fin 4096) (k : Fin 1024) :
    val_main_v12 (F := Ideal) X (ix2 t k) = X (ix2 t k) * factor (line X t) := by
  unfold val_main_v12 val_main_v11
  pointwise [ref_factor]

theorem ref_bare (C : S1x1024.Idx → EReal) (W : S1024x2048.Idx → EReal) (U : S4096x2048.Idx → EReal) (t : Fin 4096) (k : Fin 1024) :
    val_main_v29 (F := Ideal) C W U (ix2 t k) = bare W U C t k := by
  unfold val_main_v29 val_main_v28 val_main_v16 val_main_v15
  pointwise [ref_wide, bare, val_main_cst_3]

theorem ref_shift (W : S1024x2048.Idx → EReal) (U : S4096x2048.Idx → EReal) (z : Fin 1) (k : Fin 1024) :
    val_main_v24 (F := Ideal) W U (ix2 z k) = dShift W U k := by
  unfold val_main_v24 val_main_v23
  pointwise [ref_wide, val_main_cst_4, dShift]

theorem ref_scale (X : S4096x1024.Idx → EReal) (G : S1x1024.Idx → EReal) (W : S1024x2048.Idx → EReal) (U : S4096x2048.Idx → EReal)
    (z : Fin 1) (k : Fin 1024) : val_main_v27 (F := Ideal) X G W U (ix2 z k) = dScale X G W U k := by
  unfold val_main_v27 val_main_v26 val_main_v25 val_main_v14 val_main_v13
  pointwise [ref_wide, ref_normed, val_main_cst_5, dScale]
  exact Finset.sum_congr rfl fun t _ => mul_comm _ _

theorem ref_gain (X : S4096x1024.Idx → EReal) (C : S1x1024.Idx → EReal) (W : S1024x2048.Idx → EReal) (U : S4096x2048.Idx → EReal)
    (z : Fin 1) (k : Fin 1024) : val_main_v32 (F := Ideal) X C W U (ix2 z k) = dGain X C W U k := by
  unfold val_main_v32 val_main_v31 val_main_v30
  pointwise [ref_bare, ref_normed, val_main_cst_6, dGain]
  exact Finset.sum_congr rfl fun t _ => by rw [mul_comm, mul_assoc]

theorem wide_real (W : S1024x2048.Idx → EReal) (U : S4096x2048.Idx → EReal) (hW : RealArray W) (hU : RealArray U) (t : Fin 4096)
    (k : Fin 1024) : ∃ r : ℝ, wide W U t k = r :=
  sum_real (fun f => U (ix2 t f)) (fun f => W (ix2 k f)) (fun _ => hU _) (fun _ => hW _)

theorem bare_real (W : S1024x2048.Idx → EReal) (U : S4096x2048.Idx → EReal) (C : S1x1024.Idx → EReal) (hW : RealArray W) (hU : RealArray U)
    (hC : RealArray C) (t : Fin 4096) (k : Fin 1024) : ∃ r : ℝ, bare W U C t k = r :=
  mul_real (wide_real W U hW hU t k) (add_real ⟨1, by norm_cast⟩ (hC _))

/-- The gradient of the residual stream, by the chain rule, is the kernel's closed form. -/
theorem ref_stream (X : S4096x1024.Idx → EReal) (C G : S1x1024.Idx → EReal) (W : S1024x2048.Idx → EReal) (D : S4096x1024.Idx → EReal)
    (U : S4096x2048.Idx → EReal) (hX : RealArray X) (hC : RealArray C) (hG : RealArray G) (hW : RealArray W) (hU : RealArray U)
    (t : Fin 4096) (k : Fin 1024) : val_main_v49 (F := Ideal) X C G W D U (ix2 t k) = dStream X C G W D U t k := by
  have e := back_eq (line X t) (fun n => G (ix2 0 n) * bare W U C t n) (fun n => hX _)
    (fun n => mul_real (hG _) (bare_real W U C hW hU hC t n)) k
  unfold val_main_v49 val_main_v48 val_main_v47 val_main_v46 val_main_v45 val_main_v44 val_main_v43 val_main_v42 val_main_v41
    val_main_v40 val_main_v39 val_main_v38 val_main_v37 val_main_v36 val_main_v35 val_main_v34 val_main_v33 val_main_v10 val_main_v9
    val_main_v8
  pointwise [ref_factor, ref_square, ref_bare, val_main_cst_9, val_main_cst_8, val_main_cst_7, val_main_cst_2]
  unfold dStream
  rw [← e, add_assoc, add_assoc, ← add_assoc (_ * factor _)]
  unfold Norm.slope width line
  simp only [mul_comm (bare _ _ _ _ _), Finset.sum_const, Finset.card_univ, Fintype.card_fin, one_smul]

/-- The arguments the results depend on hold real numbers. -/
def Finite (X : S4096x1024.Idx → EReal) (C : S1x1024.Idx → EReal) (G : S1x1024.Idx → EReal) (W : S1024x2048.Idx → EReal) (D : S4096x1024.Idx → EReal) (U : S4096x2048.Idx → EReal) : Prop :=
  RealArray X ∧ RealArray C ∧ RealArray G ∧ RealArray W ∧ RealArray D ∧ RealArray U

theorem finite_args (X : S4096x1024.Idx → EReal) (C : S1x1024.Idx → EReal) (S : S1x1024.Idx → EReal) (G : S1x1024.Idx → EReal) (W : S1024x2048.Idx → EReal) (D : S4096x1024.Idx → EReal) (U : S4096x2048.Idx → EReal)
    (h : (Cert.Pre_finite_mix.fn (F := Ideal) X C S G W D U).1 = (fun _ => 1#1)
      ∧ (Cert.Pre_finite_mix.fn (F := Ideal) X C S G W D U).2.1 = (fun _ => 1#1)
      ∧ (Cert.Pre_finite_mix.fn (F := Ideal) X C S G W D U).2.2.1 = (fun _ => 1#1)
      ∧ (Cert.Pre_finite_mix.fn (F := Ideal) X C S G W D U).2.2.2.1 = (fun _ => 1#1)
      ∧ (Cert.Pre_finite_mix.fn (F := Ideal) X C S G W D U).2.2.2.2.1 = (fun _ => 1#1)
      ∧ (Cert.Pre_finite_mix.fn (F := Ideal) X C S G W D U).2.2.2.2.2 = (fun _ => 1#1)) :
    Finite X C G W D U := by
  have from_bit : ∀ {ι : Type} {p : ι → BitVec 1} {x : ι → EReal}, p = (fun _ => 1#1) → (∀ i, p i = 1#1 → ∃ r : ℝ, x i = r) →
      ∀ i, ∃ r : ℝ, x i = r := fun e f i => f i (congrFun e i)
  refine ⟨from_bit h.1 fun i e => ?_, from_bit h.2.1 fun i e => ?_, from_bit h.2.2.1 fun i e => ?_, from_bit h.2.2.2.1 fun i e => ?_, from_bit h.2.2.2.2.1 fun i e => ?_, from_bit h.2.2.2.2.2 fun i e => ?_⟩
  all_goals
    unfold Cert.Pre_finite_mix.fn  at e
    dsimp only at e
    pointwise at e
    exact real_of_abs_lt e

theorem Finite.congr {X X' : S4096x1024.Idx → EReal} {C C' : S1x1024.Idx → EReal} {G G' : S1x1024.Idx → EReal} {W W' : S1024x2048.Idx → EReal} {D D' : S4096x1024.Idx → EReal} {U U' : S4096x2048.Idx → EReal}
    (hX : X = X') (hC : C = C') (hG : G = G') (hW : W = W') (hD : D = D') (hU : U = U')
    (h : Finite X' C' G' W' D' U') : Finite X C G W D U := by
  subst hX hC hG hW hD hU
  exact h

variable (m : (ℓ : Loc nD τ sig) → Buf (Elt Ideal) ℓ)

/-- The reference's run, in the kernel's formulas. -/
theorem reference_run (g : Dev nD → PrngReg)
    (hfin : ∀ c : Dev nD, Finite (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) :
    θ_run (defs (F := Ideal)) (onTc (τ := τ) (main (F := Ideal))) ⟨m, fun _ => 0, g⟩ (fun r => ∀ c : Dev nD,
      r.2.mem ((c.tc : Thread nD τ).loc main_v49) = (fun i : S4096x1024.Idx => dStream (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (i 0) (i 1))
      ∧ r.2.mem ((c.tc : Thread nD τ).loc main_v24) = (fun i : S1x1024.Idx => dShift (m ((c.tc : Thread nD τ).loc main_arg4)) (m ((c.tc : Thread nD τ).loc main_arg6)) (i 1))
      ∧ r.2.mem ((c.tc : Thread nD τ).loc main_v27) = (fun i : S1x1024.Idx => dScale (m ((c.tc : Thread nD τ).loc main_arg0)) (m ((c.tc : Thread nD τ).loc main_arg3)) (m ((c.tc : Thread nD τ).loc main_arg4)) (m ((c.tc : Thread nD τ).loc main_arg6)) (i 1))
      ∧ r.2.mem ((c.tc : Thread nD τ).loc main_v32) = (fun i : S1x1024.Idx => dGain (m ((c.tc : Thread nD τ).loc main_arg0)) (m ((c.tc : Thread nD τ).loc main_arg1)) (m ((c.tc : Thread nD τ).loc main_arg4)) (m ((c.tc : Thread nD τ).loc main_arg6)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Cert.MixBackRefIdeal.Value.run m g)
  obtain ⟨h0, h1, h2, h3, ha⟩ := h c
  obtain ⟨hX, hC, hG, hW, hD, hU⟩ := hfin c
  refine ⟨(h0.trans (val_main_v49_eq m c)).trans (funext fun i => ?_), (h1.trans (val_main_v24_eq _ _)).trans (funext fun i => ?_),
    (h2.trans (val_main_v27_eq _ _ _ _)).trans (funext fun i => ?_), (h3.trans (val_main_v32_eq _ _ _ _)).trans (funext fun i => ?_), ha⟩
  · idx_vars i
    exact ref_stream _ _ _ _ _ _ hX hC hG hW hU _ _
  · idx_vars i
    exact ref_shift _ _ _ _
  · idx_vars i
    exact ref_scale _ _ _ _ _ _
  · idx_vars i
    exact ref_gain _ _ _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => (h c).2.2.2.2, sem_eq_zero_of_no_sems (by decide) r.2⟩) (Cert.MixBackRefIdeal.Value.run m g)

end Cert.Proof.MixBack
-- ==== Proof.Adam.Formula.lean ====
module

public import Idealize.ShloMosaic.Lib.Pointwise

@[expose] public section

/-! One step of the optimiser on one number: the new moments and the change of the weight. The constants are the numbers the
programs print for them. -/

noncomputable section

namespace Cert.Proof.Adam

open Idealize.ShloMosaic

/-- What is kept of the first moment, and what the gradient adds to it. -/
def keepFirst : EReal := Ideal.ofBits FTy.f32 0x3F666666#32
def addFirst : EReal := Ideal.ofBits FTy.f32 0x3DCCCCCD#32

/-- What is kept of the second moment, and what the gradient's square adds to it. -/
def keepSecond : EReal := Ideal.ofBits FTy.f32 0x3F7FBE77#32
def addSecond : EReal := Ideal.ofBits FTy.f32 0x3A83126F#32

/-- The numbers that correct the moments for their start at zero. -/
def startFirst : EReal := Ideal.ofBits FTy.f32 0x3F26BD02#32
def startSecond : EReal := Ideal.ofBits FTy.f32 0x3C231ACC#32

/-- The small number under the quotient, the weight decay, and the rate with its sign turned. -/
def small : EReal := Ideal.ofBits FTy.f32 0x322BCC77#32
def decay : EReal := Ideal.ofBits FTy.f32 0x3C23D70A#32
def rate : EReal := Ideal.ofBits FTy.f32 0xBA83126F#32

/-- The new first moment. -/
def first (g m : EReal) : EReal := keepFirst * m + addFirst * g

/-- The new second moment. -/
def second (g v : EReal) : EReal := keepSecond * v + addSecond * (g * g)

/-- The change of the weight. -/
def change (g w m v : EReal) : EReal :=
  rate * (Ideal.div (Ideal.div (first g m) startFirst) (Ideal.sqrt (Ideal.div (second g v) startSecond) + small) + decay * w)

/-- Eight numbers added one after the other. -/
theorem eight (f : Fin 8 → EReal) : f 0 + f 1 + f 2 + f 3 + f 4 + f 5 + f 6 + f 7 = ∑ d, f d := (Fin.sum_univ_eight f).symm

end Cert.Proof.Adam
-- ==== Proof.AdamIn.Kernel.lean ====
module

public import proofs.«01_k».proof.Proof.Gen.AdamInIdeal.Frame
public import proofs.«01_k».proof.Proof.Adam.Formula
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.AdamIn

open Idealize.ShloMosaic Idealize.ShloMosaic.TcCoe Idealize.SL.Sem
open Cert.AdamInIdeal Cert.AdamInIdeal.Gen
open Cert.Proof.Adam

section Block

variable (x : Vec Ideal S8x1024x256 .bf16) (w m v : Vec Ideal S1024x256 .f32)

/-- The devices' gradients of a tile, summed. -/
def total (x : S8x1024x256.Idx → EReal) (r : Fin 1024) (k : Fin 256) : EReal := ∑ d : Fin 8, x (ix3 d r k)

/-- The region of a whole tile reads it as it is. -/
theorem whole (a : Vec Ideal S1024x256 .f32) : View.ld a r0_8 = a := by
  funext i
  idx_vars i
  pointwise

theorem grad_value (r : Fin 1024) (k : Fin 256) : k0_pay5 x w m v (ix2 r k) = total x r k := by
  unfold k0_pay5 k0_pay4
  pointwise [total]
  exact eight fun d => x (ix3 d r k)

theorem grad_block (r : Fin 1024) (k : Fin 256) : out0_4 x w m v (ix2 r k) = total x r k := by
  unfold out0_4
  rw [View.canon_cons_unit_lit _ _ _ (by decide)]
  exact grad_value x w m v r k

theorem first_block (r : Fin 1024) (k : Fin 256) : out0_6 x w m v (ix2 r k) = first (total x r k) (m (ix2 r k)) := by
  unfold out0_6
  rw [View.canon_cons_unit_lit _ _ _ (by decide), whole]
  unfold k0_pay1
  pointwise [grad_value, first, keepFirst, addFirst]

theorem second_block (r : Fin 1024) (k : Fin 256) : out0_7 x w m v (ix2 r k) = second (total x r k) (v (ix2 r k)) := by
  unfold out0_7
  rw [View.canon_cons_unit_lit _ _ _ (by decide), whole]
  unfold k0_pay2
  pointwise [grad_value, second, keepSecond, addSecond]

theorem change_block (r : Fin 1024) (k : Fin 256) :
    out0_5 x w m v (ix2 r k) = change (total x r k) (w (ix2 r k)) (m (ix2 r k)) (v (ix2 r k)) := by
  unfold out0_5
  rw [View.canon_cons_unit_lit _ _ _ (by decide), whole, whole, whole]
  unfold k0_pay3 k0_pay2 k0_pay1
  pointwise [grad_value, change, first, second, keepFirst, addFirst, keepSecond, addSecond, startFirst, startSecond, small, decay, rate]

end Block

/-- The whole arrays' gradient, new moments and change. -/
def grad (X : S8x1024x256.Idx → EReal) (r : Fin 1024) (k : Fin 256) : EReal := ∑ d : Fin 8, X (ix3 d r k)

def newFirst (X : S8x1024x256.Idx → EReal) (M : S1024x256.Idx → EReal) (r : Fin 1024) (k : Fin 256) : EReal := first (grad X r k) (M (ix2 r k))

def newSecond (X : S8x1024x256.Idx → EReal) (V : S1024x256.Idx → EReal) (r : Fin 1024) (k : Fin 256) : EReal := second (grad X r k) (V (ix2 r k))

def update (X : S8x1024x256.Idx → EReal) (W M V : S1024x256.Idx → EReal) (r : Fin 1024) (k : Fin 256) : EReal :=
  change (grad X r k) (W (ix2 r k)) (M (ix2 r k)) (V (ix2 r k))

variable (m : (ℓ : Loc nD τ sig) → Buf (Elt Ideal) ℓ)

abbrev argX (c : Dev nD) : S8x1024x256.Idx → EReal := m ((c : Thread nD τ).loc main_arg0)
abbrev argW (c : Dev nD) : S1024x256.Idx → EReal := m ((c : Thread nD τ).loc main_arg1)
abbrev argM (c : Dev nD) : S1024x256.Idx → EReal := m ((c : Thread nD τ).loc main_arg2)
abbrev argV (c : Dev nD) : S1024x256.Idx → EReal := m ((c : Thread nD τ).loc main_arg3)

theorem points : cfg0.N = 1 := by decide

/-- Row `r` of the tile of a grid point. -/
def place (t : Fin cfg0.N) (r : Fin 1024) : Fin 1024 := ⟨t.val * 1024 + r.val, by have := lt_of_lt_of_eq t.isLt points; omega⟩

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

theorem entry (c : Dev nD) : (V m c main_v0 : S8x1024x256.Idx → EReal) = argX m c := by
  funext i
  simp only [V, List.flatten_cons, List.flatten_nil, List.append_nil, StableHlo.after_cons, StableHlo.after_nil]
  after_results_simp
  pointwise

theorem total_at (c : Dev nD) (t : Fin cfg0.N) (r : Fin 1024) (k : Fin 256) : total (iblk m c 0 t) r k = grad (argX m c) (place t r) k := by
  unfold total grad
  rw [← entry]
  refine Finset.sum_congr rfl fun d _ => ?_
  blk_ext [iblk, idx t, place]

theorem weight_at (c : Dev nD) (t : Fin cfg0.N) (r : Fin 1024) (k : Fin 256) :
    (iblk m c 1 t : Vec Ideal S1024x256 .f32) (ix2 r k) = argW m c (ix2 (place t r) k) := by
  blk_ext [iblk, V, idx t, place]

theorem moment_at (c : Dev nD) (t : Fin cfg0.N) (r : Fin 1024) (k : Fin 256) :
    (iblk m c 2 t : Vec Ideal S1024x256 .f32) (ix2 r k) = argM m c (ix2 (place t r) k) := by
  blk_ext [iblk, V, idx t, place]

theorem spread_at (c : Dev nD) (t : Fin cfg0.N) (r : Fin 1024) (k : Fin 256) :
    (iblk m c 3 t : Vec Ideal S1024x256 .f32) (ix2 r k) = argV m c (ix2 (place t r) k) := by
  blk_ext [iblk, V, idx t, place]

theorem array_grad (c : Dev nD) : (dats m 0 c).arrAt 4 cfg0.N = fun y : S1024x256.Idx => grad (argX m c) (y 0) (y 1) := by
  refine (dats m 0 c).arrAt_eq_of_covers 4 _ (by decide +kernel) fun t hf y => ?_
  have at_tile : ∀ j : S1024x256.Idx, out0_4 (iblk m c 0 t) (iblk m c 1 t) (iblk m c 2 t) (iblk m c 3 t) j
      = grad (argX m c) (place t (j 0)) (j 1) := fun j => by
    idx_vars j
    rw [grad_block, total_at]
  have h := at_tile y
  have e : ((cfg0.win 4).blk t).view.emb y = ix2 (place t (y 0)) (y 1) := by
    blk_ext [idx t, place]
  blk_simp
  rw [after0_4]
  refine h.trans ?_
  rw [e]
  rfl

theorem array_update (c : Dev nD) : (dats m 0 c).arrAt 5 cfg0.N = fun y : S1024x256.Idx => update (argX m c) (argW m c) (argM m c) (argV m c) (y 0) (y 1) := by
  refine (dats m 0 c).arrAt_eq_of_covers 5 _ (by decide +kernel) fun t hf y => ?_
  have at_tile : ∀ j : S1024x256.Idx, out0_5 (iblk m c 0 t) (iblk m c 1 t) (iblk m c 2 t) (iblk m c 3 t) j
      = update (argX m c) (argW m c) (argM m c) (argV m c) (place t (j 0)) (j 1) := fun j => by
    idx_vars j
    rw [change_block, total_at, weight_at, moment_at, spread_at]
    rfl
  have h := at_tile y
  have e : ((cfg0.win 5).blk t).view.emb y = ix2 (place t (y 0)) (y 1) := by
    blk_ext [idx t, place]
  blk_simp
  rw [after0_5]
  refine h.trans ?_
  rw [e]
  rfl

theorem array_first (c : Dev nD) : (dats m 0 c).arrAt 6 cfg0.N = fun y : S1024x256.Idx => newFirst (argX m c) (argM m c) (y 0) (y 1) := by
  refine (dats m 0 c).arrAt_eq_of_covers 6 _ (by decide +kernel) fun t hf y => ?_
  have at_tile : ∀ j : S1024x256.Idx, out0_6 (iblk m c 0 t) (iblk m c 1 t) (iblk m c 2 t) (iblk m c 3 t) j
      = newFirst (argX m c) (argM m c) (place t (j 0)) (j 1) := fun j => by
    idx_vars j
    rw [first_block, total_at, moment_at]
    rfl
  have h := at_tile y
  have e : ((cfg0.win 6).blk t).view.emb y = ix2 (place t (y 0)) (y 1) := by
    blk_ext [idx t, place]
  blk_simp
  rw [after0_6]
  refine h.trans ?_
  rw [e]
  rfl

theorem array_second (c : Dev nD) : (dats m 0 c).arrAt 7 cfg0.N = fun y : S1024x256.Idx => newSecond (argX m c) (argV m c) (y 0) (y 1) := by
  refine (dats m 0 c).arrAt_eq_of_covers 7 _ (by decide +kernel) fun t hf y => ?_
  have at_tile : ∀ j : S1024x256.Idx, out0_7 (iblk m c 0 t) (iblk m c 1 t) (iblk m c 2 t) (iblk m c 3 t) j
      = newSecond (argX m c) (argV m c) (place t (j 0)) (j 1) := fun j => by
    idx_vars j
    rw [second_block, total_at, spread_at]
    rfl
  have h := at_tile y
  have e : ((cfg0.win 7).blk t).view.emb y = ix2 (place t (y 0)) (y 1) := by
    blk_ext [idx t, place]
  blk_simp
  rw [after0_7]
  refine h.trans ?_
  rw [e]
  rfl

/-- The kernel's run: the gradient, the change and the new moments, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v1_0) = (fun i : S1024x256.Idx => grad (argX m c) (i 0) (i 1))
      ∧ r.2.mem ((c.tc : Thread nD τ).loc main_v1_1) = (fun i : S1024x256.Idx => update (argX m c) (argW m c) (argM m c) (argV m c) (i 0) (i 1))
      ∧ r.2.mem ((c.tc : Thread nD τ).loc main_v1_2) = (fun i : S1024x256.Idx => newFirst (argX m c) (argM m c) (i 0) (i 1))
      ∧ r.2.mem ((c.tc : Thread nD τ).loc main_v1_3) = (fun i : S1024x256.Idx => newSecond (argX m c) (argV m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (unchanged m g) (run_main m g))
  exact ⟨((h.2 c).1 4).trans (array_grad m c), ((h.2 c).1 5).trans (array_update m c), ((h.2 c).1 6).trans (array_first m c),
    ((h.2 c).1 7).trans (array_second m c), h.1 c⟩

end Cert.Proof.AdamIn
-- ==== Proof.AdamIn.Reference.lean ====
module

public import proofs.«01_k».proof.Proof.AdamIn.Kernel
public import proofs.«01_k».proof.Proof.Gen.AdamInRefIdeal.Run
public import proofs.«01_k».proof.Proof.Gen.AdamInRefIdeal.Read

@[expose] public section

set_option maxRecDepth 16384

noncomputable section

namespace Cert.Proof.AdamIn

open Idealize.ShloMosaic Idealize.ShloMosaic.TcCoe Idealize.SL.Sem
open Cert.AdamInRefIdeal Cert.AdamInRefIdeal.Gen Cert.AdamInRefIdeal.Read
open Cert.Proof.Adam

section Formulas

variable (X : S8x1024x256.Idx → EReal) (W M V : S1024x256.Idx → EReal)

/-- The reference's sum of the gradients is the kernel's. -/
theorem ref_grad (r : Fin 1024) (k : Fin 256) : val_main_v0 (F := Ideal) X (ix2 r k) = grad X r k := by
  unfold val_main_v0
  pointwise [grad, val_main_cst_apply]

/-- Its new moments and its change are the kernel's. -/
theorem ref_first (r : Fin 1024) (k : Fin 256) : val_main_v5 (F := Ideal) X M (ix2 r k) = newFirst X M r k := by
  unfold val_main_v5 val_main_v4 val_main_v3 val_main_v2 val_main_v1
  pointwise [ref_grad, newFirst, first, keepFirst, addFirst, val_main_cst_0_apply, val_main_cst_1_apply]

theorem ref_second (r : Fin 1024) (k : Fin 256) : val_main_v11 (F := Ideal) X V (ix2 r k) = newSecond X V r k := by
  unfold val_main_v11 val_main_v10 val_main_v9 val_main_v8 val_main_v7 val_main_v6
  pointwise [ref_grad, newSecond, second, keepSecond, addSecond, val_main_cst_2_apply, val_main_cst_3_apply]

theorem ref_change (r : Fin 1024) (k : Fin 256) : val_main_v24 (F := Ideal) X W M V (ix2 r k) = update X W M V r k := by
  unfold val_main_v24 val_main_v23 val_main_v22 val_main_v21 val_main_v20 val_main_v19 val_main_v18 val_main_v17 val_main_v16 val_main_v15 val_main_v14 val_main_v13 val_main_v12
  pointwise [ref_first, ref_second, newFirst, newSecond, update, change, startFirst, startSecond, small, decay, rate, val_main_cst_4_apply, val_main_cst_5_apply,
    val_main_cst_6_apply, val_main_cst_7_apply, val_main_cst_8_apply]

end Formulas

variable (m : (ℓ : Loc nD τ sig) → Buf (Elt Ideal) ℓ)

/-- The reference's run, in the kernel's formulas. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun i : S1024x256.Idx => grad (m ((c.tc : Thread nD τ).loc main_arg0)) (i 0) (i 1))
      ∧ r.2.mem ((c.tc : Thread nD τ).loc main_v24) = (fun i : S1024x256.Idx => update (m ((c.tc : Thread nD τ).loc main_arg0)) (m ((c.tc : Thread nD τ).loc main_arg1))
        (m ((c.tc : Thread nD τ).loc main_arg2)) (m ((c.tc : Thread nD τ).loc main_arg3)) (i 0) (i 1))
      ∧ r.2.mem ((c.tc : Thread nD τ).loc main_v5) = (fun i : S1024x256.Idx => newFirst (m ((c.tc : Thread nD τ).loc main_arg0)) (m ((c.tc : Thread nD τ).loc main_arg2)) (i 0) (i 1))
      ∧ r.2.mem ((c.tc : Thread nD τ).loc main_v11) = (fun i : S1024x256.Idx => newSecond (m ((c.tc : Thread nD τ).loc main_arg0)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.AdamInRefIdeal.Value.run m g)
  obtain ⟨h0, h1, h2, h3, ha⟩ := h c
  refine ⟨(h0.trans (val_main_v0_eq _)).trans (funext fun i => ?_), (h1.trans (val_main_v24_eq _ _ _ _)).trans (funext fun i => ?_),
    (h2.trans (val_main_v5_eq _ _)).trans (funext fun i => ?_), (h3.trans (val_main_v11_eq _ _)).trans (funext fun i => ?_), ha⟩
  · idx_vars i
    exact ref_grad _ _ _
  · idx_vars i
    exact ref_change _ _ _ _ _ _
  · idx_vars i
    exact ref_first _ _ _ _
  · idx_vars i
    exact ref_second _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2.2.2, sem_eq_zero_of_no_sems (by decide) r.2⟩) (Cert.AdamInRefIdeal.Value.run m g)

end Cert.Proof.AdamIn
-- ==== Proof.AdamOut.Kernel.lean ====
module

public import proofs.«01_k».proof.Proof.Gen.AdamOutIdeal.Frame
public import proofs.«01_k».proof.Proof.Adam.Formula
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.AdamOut

open Idealize.ShloMosaic Idealize.ShloMosaic.TcCoe Idealize.SL.Sem
open Cert.AdamOutIdeal Cert.AdamOutIdeal.Gen
open Cert.Proof.Adam

section Block

variable (x : Vec Ideal S8x128x1024 .bf16) (w m v : Vec Ideal S128x1024 .f32)

/-- The devices' gradients of a tile, summed. -/
def total (x : S8x128x1024.Idx → EReal) (r : Fin 128) (k : Fin 1024) : EReal := ∑ d : Fin 8, x (ix3 d r k)

/-- The region of a whole tile reads it as it is. -/
theorem whole (a : Vec Ideal S128x1024 .f32) : View.ld a r0_8 = a := by
  funext i
  idx_vars i
  pointwise

theorem grad_value (r : Fin 128) (k : Fin 1024) : k0_pay5 x w m v (ix2 r k) = total x r k := by
  unfold k0_pay5 k0_pay4
  pointwise [total]
  exact eight fun d => x (ix3 d r k)

theorem grad_block (r : Fin 128) (k : Fin 1024) : out0_4 x w m v (ix2 r k) = total x r k := by
  unfold out0_4
  rw [View.canon_cons_unit_lit _ _ _ (by decide)]
  exact grad_value x w m v r k

theorem first_block (r : Fin 128) (k : Fin 1024) : out0_6 x w m v (ix2 r k) = first (total x r k) (m (ix2 r k)) := by
  unfold out0_6
  rw [View.canon_cons_unit_lit _ _ _ (by decide), whole]
  unfold k0_pay1
  pointwise [grad_value, first, keepFirst, addFirst]

theorem second_block (r : Fin 128) (k : Fin 1024) : out0_7 x w m v (ix2 r k) = second (total x r k) (v (ix2 r k)) := by
  unfold out0_7
  rw [View.canon_cons_unit_lit _ _ _ (by decide), whole]
  unfold k0_pay2
  pointwise [grad_value, second, keepSecond, addSecond]

theorem change_block (r : Fin 128) (k : Fin 1024) :
    out0_5 x w m v (ix2 r k) = change (total x r k) (w (ix2 r k)) (m (ix2 r k)) (v (ix2 r k)) := by
  unfold out0_5
  rw [View.canon_cons_unit_lit _ _ _ (by decide), whole, whole, whole]
  unfold k0_pay3 k0_pay2 k0_pay1
  pointwise [grad_value, change, first, second, keepFirst, addFirst, keepSecond, addSecond, startFirst, startSecond, small, decay, rate]

end Block

/-- The whole arrays' gradient, new moments and change. -/
def grad (X : S8x128x1024.Idx → EReal) (r : Fin 128) (k : Fin 1024) : EReal := ∑ d : Fin 8, X (ix3 d r k)

def newFirst (X : S8x128x1024.Idx → EReal) (M : S128x1024.Idx → EReal) (r : Fin 128) (k : Fin 1024) : EReal := first (grad X r k) (M (ix2 r k))

def newSecond (X : S8x128x1024.Idx → EReal) (V : S128x1024.Idx → EReal) (r : Fin 128) (k : Fin 1024) : EReal := second (grad X r k) (V (ix2 r k))

def update (X : S8x128x1024.Idx → EReal) (W M V : S128x1024.Idx → EReal) (r : Fin 128) (k : Fin 1024) : EReal :=
  change (grad X r k) (W (ix2 r k)) (M (ix2 r k)) (V (ix2 r k))

variable (m : (ℓ : Loc nD τ sig) → Buf (Elt Ideal) ℓ)

abbrev argX (c : Dev nD) : S8x128x1024.Idx → EReal := m ((c : Thread nD τ).loc main_arg0)
abbrev argW (c : Dev nD) : S128x1024.Idx → EReal := m ((c : Thread nD τ).loc main_arg1)
abbrev argM (c : Dev nD) : S128x1024.Idx → EReal := m ((c : Thread nD τ).loc main_arg2)
abbrev argV (c : Dev nD) : S128x1024.Idx → EReal := m ((c : Thread nD τ).loc main_arg3)

theorem points : cfg0.N = 1 := by decide

/-- Row `r` of the tile of a grid point. -/
def place (t : Fin cfg0.N) (r : Fin 128) : Fin 128 := ⟨t.val * 128 + r.val, by have := lt_of_lt_of_eq t.isLt points; omega⟩

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

theorem entry (c : Dev nD) : (V m c main_v0 : S8x128x1024.Idx → EReal) = argX m c := by
  funext i
  simp only [V, List.flatten_cons, List.flatten_nil, List.append_nil, StableHlo.after_cons, StableHlo.after_nil]
  after_results_simp
  pointwise

theorem total_at (c : Dev nD) (t : Fin cfg0.N) (r : Fin 128) (k : Fin 1024) : total (iblk m c 0 t) r k = grad (argX m c) (place t r) k := by
  unfold total grad
  rw [← entry]
  refine Finset.sum_congr rfl fun d _ => ?_
  blk_ext [iblk, idx t, place]

theorem weight_at (c : Dev nD) (t : Fin cfg0.N) (r : Fin 128) (k : Fin 1024) :
    (iblk m c 1 t : Vec Ideal S128x1024 .f32) (ix2 r k) = argW m c (ix2 (place t r) k) := by
  blk_ext [iblk, V, idx t, place]

theorem moment_at (c : Dev nD) (t : Fin cfg0.N) (r : Fin 128) (k : Fin 1024) :
    (iblk m c 2 t : Vec Ideal S128x1024 .f32) (ix2 r k) = argM m c (ix2 (place t r) k) := by
  blk_ext [iblk, V, idx t, place]

theorem spread_at (c : Dev nD) (t : Fin cfg0.N) (r : Fin 128) (k : Fin 1024) :
    (iblk m c 3 t : Vec Ideal S128x1024 .f32) (ix2 r k) = argV m c (ix2 (place t r) k) := by
  blk_ext [iblk, V, idx t, place]

theorem array_grad (c : Dev nD) : (dats m 0 c).arrAt 4 cfg0.N = fun y : S128x1024.Idx => grad (argX m c) (y 0) (y 1) := by
  refine (dats m 0 c).arrAt_eq_of_covers 4 _ (by decide +kernel) fun t hf y => ?_
  have at_tile : ∀ j : S128x1024.Idx, out0_4 (iblk m c 0 t) (iblk m c 1 t) (iblk m c 2 t) (iblk m c 3 t) j
      = grad (argX m c) (place t (j 0)) (j 1) := fun j => by
    idx_vars j
    rw [grad_block, total_at]
  have h := at_tile y
  have e : ((cfg0.win 4).blk t).view.emb y = ix2 (place t (y 0)) (y 1) := by
    blk_ext [idx t, place]
  blk_simp
  rw [after0_4]
  refine h.trans ?_
  rw [e]
  rfl

theorem array_update (c : Dev nD) : (dats m 0 c).arrAt 5 cfg0.N = fun y : S128x1024.Idx => update (argX m c) (argW m c) (argM m c) (argV m c) (y 0) (y 1) := by
  refine (dats m 0 c).arrAt_eq_of_covers 5 _ (by decide +kernel) fun t hf y => ?_
  have at_tile : ∀ j : S128x1024.Idx, out0_5 (iblk m c 0 t) (iblk m c 1 t) (iblk m c 2 t) (iblk m c 3 t) j
      = update (argX m c) (argW m c) (argM m c) (argV m c) (place t (j 0)) (j 1) := fun j => by
    idx_vars j
    rw [change_block, total_at, weight_at, moment_at, spread_at]
    rfl
  have h := at_tile y
  have e : ((cfg0.win 5).blk t).view.emb y = ix2 (place t (y 0)) (y 1) := by
    blk_ext [idx t, place]
  blk_simp
  rw [after0_5]
  refine h.trans ?_
  rw [e]
  rfl

theorem array_first (c : Dev nD) : (dats m 0 c).arrAt 6 cfg0.N = fun y : S128x1024.Idx => newFirst (argX m c) (argM m c) (y 0) (y 1) := by
  refine (dats m 0 c).arrAt_eq_of_covers 6 _ (by decide +kernel) fun t hf y => ?_
  have at_tile : ∀ j : S128x1024.Idx, out0_6 (iblk m c 0 t) (iblk m c 1 t) (iblk m c 2 t) (iblk m c 3 t) j
      = newFirst (argX m c) (argM m c) (place t (j 0)) (j 1) := fun j => by
    idx_vars j
    rw [first_block, total_at, moment_at]
    rfl
  have h := at_tile y
  have e : ((cfg0.win 6).blk t).view.emb y = ix2 (place t (y 0)) (y 1) := by
    blk_ext [idx t, place]
  blk_simp
  rw [after0_6]
  refine h.trans ?_
  rw [e]
  rfl

theorem array_second (c : Dev nD) : (dats m 0 c).arrAt 7 cfg0.N = fun y : S128x1024.Idx => newSecond (argX m c) (argV m c) (y 0) (y 1) := by
  refine (dats m 0 c).arrAt_eq_of_covers 7 _ (by decide +kernel) fun t hf y => ?_
  have at_tile : ∀ j : S128x1024.Idx, out0_7 (iblk m c 0 t) (iblk m c 1 t) (iblk m c 2 t) (iblk m c 3 t) j
      = newSecond (argX m c) (argV m c) (place t (j 0)) (j 1) := fun j => by
    idx_vars j
    rw [second_block, total_at, spread_at]
    rfl
  have h := at_tile y
  have e : ((cfg0.win 7).blk t).view.emb y = ix2 (place t (y 0)) (y 1) := by
    blk_ext [idx t, place]
  blk_simp
  rw [after0_7]
  refine h.trans ?_
  rw [e]
  rfl

/-- The kernel's run: the gradient, the change and the new moments, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v1_0) = (fun i : S128x1024.Idx => grad (argX m c) (i 0) (i 1))
      ∧ r.2.mem ((c.tc : Thread nD τ).loc main_v1_1) = (fun i : S128x1024.Idx => update (argX m c) (argW m c) (argM m c) (argV m c) (i 0) (i 1))
      ∧ r.2.mem ((c.tc : Thread nD τ).loc main_v1_2) = (fun i : S128x1024.Idx => newFirst (argX m c) (argM m c) (i 0) (i 1))
      ∧ r.2.mem ((c.tc : Thread nD τ).loc main_v1_3) = (fun i : S128x1024.Idx => newSecond (argX m c) (argV m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (unchanged m g) (run_main m g))
  exact ⟨((h.2 c).1 4).trans (array_grad m c), ((h.2 c).1 5).trans (array_update m c), ((h.2 c).1 6).trans (array_first m c),
    ((h.2 c).1 7).trans (array_second m c), h.1 c⟩

end Cert.Proof.AdamOut
-- ==== Proof.AdamOut.Reference.lean ====
module

public import proofs.«01_k».proof.Proof.AdamOut.Kernel
public import proofs.«01_k».proof.Proof.Gen.AdamOutRefIdeal.Run
public import proofs.«01_k».proof.Proof.Gen.AdamOutRefIdeal.Read

@[expose] public section

set_option maxRecDepth 16384

noncomputable section

namespace Cert.Proof.AdamOut

open Idealize.ShloMosaic Idealize.ShloMosaic.TcCoe Idealize.SL.Sem
open Cert.AdamOutRefIdeal Cert.AdamOutRefIdeal.Gen Cert.AdamOutRefIdeal.Read
open Cert.Proof.Adam

section Formulas

variable (X : S8x128x1024.Idx → EReal) (W M V : S128x1024.Idx → EReal)

/-- The reference's sum of the gradients is the kernel's. -/
theorem ref_grad (r : Fin 128) (k : Fin 1024) : val_main_v0 (F := Ideal) X (ix2 r k) = grad X r k := by
  unfold val_main_v0
  pointwise [grad, val_main_cst_apply]

/-- Its new moments and its change are the kernel's. -/
theorem ref_first (r : Fin 128) (k : Fin 1024) : val_main_v5 (F := Ideal) X M (ix2 r k) = newFirst X M r k := by
  unfold val_main_v5 val_main_v4 val_main_v3 val_main_v2 val_main_v1
  pointwise [ref_grad, newFirst, first, keepFirst, addFirst, val_main_cst_0_apply, val_main_cst_1_apply]

theorem ref_second (r : Fin 128) (k : Fin 1024) : val_main_v11 (F := Ideal) X V (ix2 r k) = newSecond X V r k := by
  unfold val_main_v11 val_main_v10 val_main_v9 val_main_v8 val_main_v7 val_main_v6
  pointwise [ref_grad, newSecond, second, keepSecond, addSecond, val_main_cst_2_apply, val_main_cst_3_apply]

theorem ref_change (r : Fin 128) (k : Fin 1024) : val_main_v24 (F := Ideal) X W M V (ix2 r k) = update X W M V r k := by
  unfold val_main_v24 val_main_v23 val_main_v22 val_main_v21 val_main_v20 val_main_v19 val_main_v18 val_main_v17 val_main_v16 val_main_v15 val_main_v14 val_main_v13 val_main_v12
  pointwise [ref_first, ref_second, newFirst, newSecond, update, change, startFirst, startSecond, small, decay, rate, val_main_cst_4_apply, val_main_cst_5_apply,
    val_main_cst_6_apply, val_main_cst_7_apply, val_main_cst_8_apply]

end Formulas

variable (m : (ℓ : Loc nD τ sig) → Buf (Elt Ideal) ℓ)

/-- The reference's run, in the kernel's formulas. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun i : S128x1024.Idx => grad (m ((c.tc : Thread nD τ).loc main_arg0)) (i 0) (i 1))
      ∧ r.2.mem ((c.tc : Thread nD τ).loc main_v24) = (fun i : S128x1024.Idx => update (m ((c.tc : Thread nD τ).loc main_arg0)) (m ((c.tc : Thread nD τ).loc main_arg1))
        (m ((c.tc : Thread nD τ).loc main_arg2)) (m ((c.tc : Thread nD τ).loc main_arg3)) (i 0) (i 1))
      ∧ r.2.mem ((c.tc : Thread nD τ).loc main_v5) = (fun i : S128x1024.Idx => newFirst (m ((c.tc : Thread nD τ).loc main_arg0)) (m ((c.tc : Thread nD τ).loc main_arg2)) (i 0) (i 1))
      ∧ r.2.mem ((c.tc : Thread nD τ).loc main_v11) = (fun i : S128x1024.Idx => newSecond (m ((c.tc : Thread nD τ).loc main_arg0)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.AdamOutRefIdeal.Value.run m g)
  obtain ⟨h0, h1, h2, h3, ha⟩ := h c
  refine ⟨(h0.trans (val_main_v0_eq _)).trans (funext fun i => ?_), (h1.trans (val_main_v24_eq _ _ _ _)).trans (funext fun i => ?_),
    (h2.trans (val_main_v5_eq _ _)).trans (funext fun i => ?_), (h3.trans (val_main_v11_eq _ _)).trans (funext fun i => ?_), ha⟩
  · idx_vars i
    exact ref_grad _ _ _
  · idx_vars i
    exact ref_change _ _ _ _ _ _
  · idx_vars i
    exact ref_first _ _ _ _
  · idx_vars i
    exact ref_second _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2.2.2, sem_eq_zero_of_no_sems (by decide) r.2⟩) (Cert.AdamOutRefIdeal.Value.run m g)

end Cert.Proof.AdamOut
-- ==== Proof.AdamGlu.Kernel.lean ====
module

public import proofs.«01_k».proof.Proof.Gen.AdamGluIdeal.Frame
public import proofs.«01_k».proof.Proof.Adam.Formula
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.AdamGlu

open Idealize.ShloMosaic Idealize.ShloMosaic.TcCoe Idealize.SL.Sem
open Cert.AdamGluIdeal Cert.AdamGluIdeal.Gen
open Cert.Proof.Adam

section Block

variable (x : Vec Ideal S8x64x512 .bf16) (w m v : Vec Ideal S64x512 .f32)

/-- The devices' gradients of a tile, summed. -/
def total (x : S8x64x512.Idx → EReal) (r : Fin 64) (k : Fin 512) : EReal := ∑ d : Fin 8, x (ix3 d r k)

/-- The region of a whole tile reads it as it is. -/
theorem whole (a : Vec Ideal S64x512 .f32) : View.ld a r0_8 = a := by
  funext i
  idx_vars i
  pointwise

theorem grad_value (r : Fin 64) (k : Fin 512) : k0_pay5 x w m v (ix2 r k) = total x r k := by
  unfold k0_pay5 k0_pay4
  pointwise [total]
  exact eight fun d => x (ix3 d r k)

theorem grad_block (r : Fin 64) (k : Fin 512) : out0_4 x w m v (ix2 r k) = total x r k := by
  unfold out0_4
  rw [View.canon_cons_unit_lit _ _ _ (by decide)]
  exact grad_value x w m v r k

theorem first_block (r : Fin 64) (k : Fin 512) : out0_6 x w m v (ix2 r k) = first (total x r k) (m (ix2 r k)) := by
  unfold out0_6
  rw [View.canon_cons_unit_lit _ _ _ (by decide), whole]
  unfold k0_pay1
  pointwise [grad_value, first, keepFirst, addFirst]

theorem second_block (r : Fin 64) (k : Fin 512) : out0_7 x w m v (ix2 r k) = second (total x r k) (v (ix2 r k)) := by
  unfold out0_7
  rw [View.canon_cons_unit_lit _ _ _ (by decide), whole]
  unfold k0_pay2
  pointwise [grad_value, second, keepSecond, addSecond]

theorem change_block (r : Fin 64) (k : Fin 512) :
    out0_5 x w m v (ix2 r k) = change (total x r k) (w (ix2 r k)) (m (ix2 r k)) (v (ix2 r k)) := by
  unfold out0_5
  rw [View.canon_cons_unit_lit _ _ _ (by decide), whole, whole, whole]
  unfold k0_pay3 k0_pay2 k0_pay1
  pointwise [grad_value, change, first, second, keepFirst, addFirst, keepSecond, addSecond, startFirst, startSecond, small, decay, rate]

end Block

/-- The whole arrays' gradient, new moments and change. -/
def grad (X : S8x64x512.Idx → EReal) (r : Fin 64) (k : Fin 512) : EReal := ∑ d : Fin 8, X (ix3 d r k)

def newFirst (X : S8x64x512.Idx → EReal) (M : S64x512.Idx → EReal) (r : Fin 64) (k : Fin 512) : EReal := first (grad X r k) (M (ix2 r k))

def newSecond (X : S8x64x512.Idx → EReal) (V : S64x512.Idx → EReal) (r : Fin 64) (k : Fin 512) : EReal := second (grad X r k) (V (ix2 r k))

def update (X : S8x64x512.Idx → EReal) (W M V : S64x512.Idx → EReal) (r : Fin 64) (k : Fin 512) : EReal :=
  change (grad X r k) (W (ix2 r k)) (M (ix2 r k)) (V (ix2 r k))

variable (m : (ℓ : Loc nD τ sig) → Buf (Elt Ideal) ℓ)

abbrev argX (c : Dev nD) : S8x64x512.Idx → EReal := m ((c : Thread nD τ).loc main_arg0)
abbrev argW (c : Dev nD) : S64x512.Idx → EReal := m ((c : Thread nD τ).loc main_arg1)
abbrev argM (c : Dev nD) : S64x512.Idx → EReal := m ((c : Thread nD τ).loc main_arg2)
abbrev argV (c : Dev nD) : S64x512.Idx → EReal := m ((c : Thread nD τ).loc main_arg3)

theorem points : cfg0.N = 1 := by decide

/-- Row `r` of the tile of a grid point. -/
def place (t : Fin cfg0.N) (r : Fin 64) : Fin 64 := ⟨t.val * 64 + r.val, by have := lt_of_lt_of_eq t.isLt points; omega⟩

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

theorem entry (c : Dev nD) : (V m c main_v0 : S8x64x512.Idx → EReal) = argX m c := by
  funext i
  simp only [V, List.flatten_cons, List.flatten_nil, List.append_nil, StableHlo.after_cons, StableHlo.after_nil]
  after_results_simp
  pointwise

theorem total_at (c : Dev nD) (t : Fin cfg0.N) (r : Fin 64) (k : Fin 512) : total (iblk m c 0 t) r k = grad (argX m c) (place t r) k := by
  unfold total grad
  rw [← entry]
  refine Finset.sum_congr rfl fun d _ => ?_
  blk_ext [iblk, idx t, place]

theorem weight_at (c : Dev nD) (t : Fin cfg0.N) (r : Fin 64) (k : Fin 512) :
    (iblk m c 1 t : Vec Ideal S64x512 .f32) (ix2 r k) = argW m c (ix2 (place t r) k) := by
  blk_ext [iblk, V, idx t, place]

theorem moment_at (c : Dev nD) (t : Fin cfg0.N) (r : Fin 64) (k : Fin 512) :
    (iblk m c 2 t : Vec Ideal S64x512 .f32) (ix2 r k) = argM m c (ix2 (place t r) k) := by
  blk_ext [iblk, V, idx t, place]

theorem spread_at (c : Dev nD) (t : Fin cfg0.N) (r : Fin 64) (k : Fin 512) :
    (iblk m c 3 t : Vec Ideal S64x512 .f32) (ix2 r k) = argV m c (ix2 (place t r) k) := by
  blk_ext [iblk, V, idx t, place]

theorem array_grad (c : Dev nD) : (dats m 0 c).arrAt 4 cfg0.N = fun y : S64x512.Idx => grad (argX m c) (y 0) (y 1) := by
  refine (dats m 0 c).arrAt_eq_of_covers 4 _ (by decide +kernel) fun t hf y => ?_
  have at_tile : ∀ j : S64x512.Idx, out0_4 (iblk m c 0 t) (iblk m c 1 t) (iblk m c 2 t) (iblk m c 3 t) j
      = grad (argX m c) (place t (j 0)) (j 1) := fun j => by
    idx_vars j
    rw [grad_block, total_at]
  have h := at_tile y
  have e : ((cfg0.win 4).blk t).view.emb y = ix2 (place t (y 0)) (y 1) := by
    blk_ext [idx t, place]
  blk_simp
  rw [after0_4]
  refine h.trans ?_
  rw [e]
  rfl

theorem array_update (c : Dev nD) : (dats m 0 c).arrAt 5 cfg0.N = fun y : S64x512.Idx => update (argX m c) (argW m c) (argM m c) (argV m c) (y 0) (y 1) := by
  refine (dats m 0 c).arrAt_eq_of_covers 5 _ (by decide +kernel) fun t hf y => ?_
  have at_tile : ∀ j : S64x512.Idx, out0_5 (iblk m c 0 t) (iblk m c 1 t) (iblk m c 2 t) (iblk m c 3 t) j
      = update (argX m c) (argW m c) (argM m c) (argV m c) (place t (j 0)) (j 1) := fun j => by
    idx_vars j
    rw [change_block, total_at, weight_at, moment_at, spread_at]
    rfl
  have h := at_tile y
  have e : ((cfg0.win 5).blk t).view.emb y = ix2 (place t (y 0)) (y 1) := by
    blk_ext [idx t, place]
  blk_simp
  rw [after0_5]
  refine h.trans ?_
  rw [e]
  rfl

theorem array_first (c : Dev nD) : (dats m 0 c).arrAt 6 cfg0.N = fun y : S64x512.Idx => newFirst (argX m c) (argM m c) (y 0) (y 1) := by
  refine (dats m 0 c).arrAt_eq_of_covers 6 _ (by decide +kernel) fun t hf y => ?_
  have at_tile : ∀ j : S64x512.Idx, out0_6 (iblk m c 0 t) (iblk m c 1 t) (iblk m c 2 t) (iblk m c 3 t) j
      = newFirst (argX m c) (argM m c) (place t (j 0)) (j 1) := fun j => by
    idx_vars j
    rw [first_block, total_at, moment_at]
    rfl
  have h := at_tile y
  have e : ((cfg0.win 6).blk t).view.emb y = ix2 (place t (y 0)) (y 1) := by
    blk_ext [idx t, place]
  blk_simp
  rw [after0_6]
  refine h.trans ?_
  rw [e]
  rfl

theorem array_second (c : Dev nD) : (dats m 0 c).arrAt 7 cfg0.N = fun y : S64x512.Idx => newSecond (argX m c) (argV m c) (y 0) (y 1) := by
  refine (dats m 0 c).arrAt_eq_of_covers 7 _ (by decide +kernel) fun t hf y => ?_
  have at_tile : ∀ j : S64x512.Idx, out0_7 (iblk m c 0 t) (iblk m c 1 t) (iblk m c 2 t) (iblk m c 3 t) j
      = newSecond (argX m c) (argV m c) (place t (j 0)) (j 1) := fun j => by
    idx_vars j
    rw [second_block, total_at, spread_at]
    rfl
  have h := at_tile y
  have e : ((cfg0.win 7).blk t).view.emb y = ix2 (place t (y 0)) (y 1) := by
    blk_ext [idx t, place]
  blk_simp
  rw [after0_7]
  refine h.trans ?_
  rw [e]
  rfl

/-- The kernel's run: the gradient, the change and the new moments, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v1_0) = (fun i : S64x512.Idx => grad (argX m c) (i 0) (i 1))
      ∧ r.2.mem ((c.tc : Thread nD τ).loc main_v1_1) = (fun i : S64x512.Idx => update (argX m c) (argW m c) (argM m c) (argV m c) (i 0) (i 1))
      ∧ r.2.mem ((c.tc : Thread nD τ).loc main_v1_2) = (fun i : S64x512.Idx => newFirst (argX m c) (argM m c) (i 0) (i 1))
      ∧ r.2.mem ((c.tc : Thread nD τ).loc main_v1_3) = (fun i : S64x512.Idx => newSecond (argX m c) (argV m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (unchanged m g) (run_main m g))
  exact ⟨((h.2 c).1 4).trans (array_grad m c), ((h.2 c).1 5).trans (array_update m c), ((h.2 c).1 6).trans (array_first m c),
    ((h.2 c).1 7).trans (array_second m c), h.1 c⟩

end Cert.Proof.AdamGlu
-- ==== Proof.AdamGlu.Reference.lean ====
module

public import proofs.«01_k».proof.Proof.AdamGlu.Kernel
public import proofs.«01_k».proof.Proof.Gen.AdamGluRefIdeal.Run
public import proofs.«01_k».proof.Proof.Gen.AdamGluRefIdeal.Read

@[expose] public section

set_option maxRecDepth 16384

noncomputable section

namespace Cert.Proof.AdamGlu

open Idealize.ShloMosaic Idealize.ShloMosaic.TcCoe Idealize.SL.Sem
open Cert.AdamGluRefIdeal Cert.AdamGluRefIdeal.Gen Cert.AdamGluRefIdeal.Read
open Cert.Proof.Adam

section Formulas

variable (X : S8x64x512.Idx → EReal) (W M V : S64x512.Idx → EReal)

/-- The reference's sum of the gradients is the kernel's. -/
theorem ref_grad (r : Fin 64) (k : Fin 512) : val_main_v0 (F := Ideal) X (ix2 r k) = grad X r k := by
  unfold val_main_v0
  pointwise [grad, val_main_cst_apply]

/-- Its new moments and its change are the kernel's. -/
theorem ref_first (r : Fin 64) (k : Fin 512) : val_main_v5 (F := Ideal) X M (ix2 r k) = newFirst X M r k := by
  unfold val_main_v5 val_main_v4 val_main_v3 val_main_v2 val_main_v1
  pointwise [ref_grad, newFirst, first, keepFirst, addFirst, val_main_cst_0_apply, val_main_cst_1_apply]

theorem ref_second (r : Fin 64) (k : Fin 512) : val_main_v11 (F := Ideal) X V (ix2 r k) = newSecond X V r k := by
  unfold val_main_v11 val_main_v10 val_main_v9 val_main_v8 val_main_v7 val_main_v6
  pointwise [ref_grad, newSecond, second, keepSecond, addSecond, val_main_cst_2_apply, val_main_cst_3_apply]

theorem ref_change (r : Fin 64) (k : Fin 512) : val_main_v24 (F := Ideal) X W M V (ix2 r k) = update X W M V r k := by
  unfold val_main_v24 val_main_v23 val_main_v22 val_main_v21 val_main_v20 val_main_v19 val_main_v18 val_main_v17 val_main_v16 val_main_v15 val_main_v14 val_main_v13 val_main_v12
  pointwise [ref_first, ref_second, newFirst, newSecond, update, change, startFirst, startSecond, small, decay, rate, val_main_cst_4_apply, val_main_cst_5_apply,
    val_main_cst_6_apply, val_main_cst_7_apply, val_main_cst_8_apply]

end Formulas

variable (m : (ℓ : Loc nD τ sig) → Buf (Elt Ideal) ℓ)

/-- The reference's run, in the kernel's formulas. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun i : S64x512.Idx => grad (m ((c.tc : Thread nD τ).loc main_arg0)) (i 0) (i 1))
      ∧ r.2.mem ((c.tc : Thread nD τ).loc main_v24) = (fun i : S64x512.Idx => update (m ((c.tc : Thread nD τ).loc main_arg0)) (m ((c.tc : Thread nD τ).loc main_arg1))
        (m ((c.tc : Thread nD τ).loc main_arg2)) (m ((c.tc : Thread nD τ).loc main_arg3)) (i 0) (i 1))
      ∧ r.2.mem ((c.tc : Thread nD τ).loc main_v5) = (fun i : S64x512.Idx => newFirst (m ((c.tc : Thread nD τ).loc main_arg0)) (m ((c.tc : Thread nD τ).loc main_arg2)) (i 0) (i 1))
      ∧ r.2.mem ((c.tc : Thread nD τ).loc main_v11) = (fun i : S64x512.Idx => newSecond (m ((c.tc : Thread nD τ).loc main_arg0)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.AdamGluRefIdeal.Value.run m g)
  obtain ⟨h0, h1, h2, h3, ha⟩ := h c
  refine ⟨(h0.trans (val_main_v0_eq _)).trans (funext fun i => ?_), (h1.trans (val_main_v24_eq _ _ _ _)).trans (funext fun i => ?_),
    (h2.trans (val_main_v5_eq _ _)).trans (funext fun i => ?_), (h3.trans (val_main_v11_eq _ _)).trans (funext fun i => ?_), ha⟩
  · idx_vars i
    exact ref_grad _ _ _
  · idx_vars i
    exact ref_change _ _ _ _ _ _
  · idx_vars i
    exact ref_first _ _ _ _
  · idx_vars i
    exact ref_second _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2.2.2, sem_eq_zero_of_no_sems (by decide) r.2⟩) (Cert.AdamGluRefIdeal.Value.run m g)

end Cert.Proof.AdamGlu
-- ==== Proof.AdamDown.Kernel.lean ====
module

public import proofs.«01_k».proof.Proof.Gen.AdamDownIdeal.Frame
public import proofs.«01_k».proof.Proof.Adam.Formula
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.AdamDown

open Idealize.ShloMosaic Idealize.ShloMosaic.TcCoe Idealize.SL.Sem
open Cert.AdamDownIdeal Cert.AdamDownIdeal.Gen
open Cert.Proof.Adam

section Block

variable (x : Vec Ideal S8x176x1024 .bf16) (w m v : Vec Ideal S176x1024 .f32)

/-- The devices' gradients of a tile, summed. -/
def total (x : S8x176x1024.Idx → EReal) (r : Fin 176) (k : Fin 1024) : EReal := ∑ d : Fin 8, x (ix3 d r k)

/-- The region of a whole tile reads it as it is. -/
theorem whole (a : Vec Ideal S176x1024 .f32) : View.ld a r0_8 = a := by
  funext i
  idx_vars i
  pointwise

theorem grad_value (r : Fin 176) (k : Fin 1024) : k0_pay5 x w m v (ix2 r k) = total x r k := by
  unfold k0_pay5 k0_pay4
  pointwise [total]
  exact eight fun d => x (ix3 d r k)

theorem grad_block (r : Fin 176) (k : Fin 1024) : out0_4 x w m v (ix2 r k) = total x r k := by
  unfold out0_4
  rw [View.canon_cons_unit_lit _ _ _ (by decide)]
  exact grad_value x w m v r k

theorem first_block (r : Fin 176) (k : Fin 1024) : out0_6 x w m v (ix2 r k) = first (total x r k) (m (ix2 r k)) := by
  unfold out0_6
  rw [View.canon_cons_unit_lit _ _ _ (by decide), whole]
  unfold k0_pay1
  pointwise [grad_value, first, keepFirst, addFirst]

theorem second_block (r : Fin 176) (k : Fin 1024) : out0_7 x w m v (ix2 r k) = second (total x r k) (v (ix2 r k)) := by
  unfold out0_7
  rw [View.canon_cons_unit_lit _ _ _ (by decide), whole]
  unfold k0_pay2
  pointwise [grad_value, second, keepSecond, addSecond]

theorem change_block (r : Fin 176) (k : Fin 1024) :
    out0_5 x w m v (ix2 r k) = change (total x r k) (w (ix2 r k)) (m (ix2 r k)) (v (ix2 r k)) := by
  unfold out0_5
  rw [View.canon_cons_unit_lit _ _ _ (by decide), whole, whole, whole]
  unfold k0_pay3 k0_pay2 k0_pay1
  pointwise [grad_value, change, first, second, keepFirst, addFirst, keepSecond, addSecond, startFirst, startSecond, small, decay, rate]

end Block

/-- The whole arrays' gradient, new moments and change. -/
def grad (X : S8x352x1024.Idx → EReal) (r : Fin 352) (k : Fin 1024) : EReal := ∑ d : Fin 8, X (ix3 d r k)

def newFirst (X : S8x352x1024.Idx → EReal) (M : S352x1024.Idx → EReal) (r : Fin 352) (k : Fin 1024) : EReal := first (grad X r k) (M (ix2 r k))

def newSecond (X : S8x352x1024.Idx → EReal) (V : S352x1024.Idx → EReal) (r : Fin 352) (k : Fin 1024) : EReal := second (grad X r k) (V (ix2 r k))

def update (X : S8x352x1024.Idx → EReal) (W M V : S352x1024.Idx → EReal) (r : Fin 352) (k : Fin 1024) : EReal :=
  change (grad X r k) (W (ix2 r k)) (M (ix2 r k)) (V (ix2 r k))

variable (m : (ℓ : Loc nD τ sig) → Buf (Elt Ideal) ℓ)

abbrev argX (c : Dev nD) : S8x352x1024.Idx → EReal := m ((c : Thread nD τ).loc main_arg0)
abbrev argW (c : Dev nD) : S352x1024.Idx → EReal := m ((c : Thread nD τ).loc main_arg1)
abbrev argM (c : Dev nD) : S352x1024.Idx → EReal := m ((c : Thread nD τ).loc main_arg2)
abbrev argV (c : Dev nD) : S352x1024.Idx → EReal := m ((c : Thread nD τ).loc main_arg3)

theorem points : cfg0.N = 2 := by decide

/-- Row `r` of the tile of a grid point. -/
def place (t : Fin cfg0.N) (r : Fin 176) : Fin 352 := ⟨t.val * 176 + r.val, by have := lt_of_lt_of_eq t.isLt points; omega⟩

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

theorem entry (c : Dev nD) : (V m c main_v0 : S8x352x1024.Idx → EReal) = argX m c := by
  funext i
  simp only [V, List.flatten_cons, List.flatten_nil, List.append_nil, StableHlo.after_cons, StableHlo.after_nil]
  after_results_simp
  pointwise

theorem total_at (c : Dev nD) (t : Fin cfg0.N) (r : Fin 176) (k : Fin 1024) : total (iblk m c 0 t) r k = grad (argX m c) (place t r) k := by
  unfold total grad
  rw [← entry]
  refine Finset.sum_congr rfl fun d _ => ?_
  blk_ext [iblk, idx t, place]

theorem weight_at (c : Dev nD) (t : Fin cfg0.N) (r : Fin 176) (k : Fin 1024) :
    (iblk m c 1 t : Vec Ideal S176x1024 .f32) (ix2 r k) = argW m c (ix2 (place t r) k) := by
  blk_ext [iblk, V, idx t, place]

theorem moment_at (c : Dev nD) (t : Fin cfg0.N) (r : Fin 176) (k : Fin 1024) :
    (iblk m c 2 t : Vec Ideal S176x1024 .f32) (ix2 r k) = argM m c (ix2 (place t r) k) := by
  blk_ext [iblk, V, idx t, place]

theorem spread_at (c : Dev nD) (t : Fin cfg0.N) (r : Fin 176) (k : Fin 1024) :
    (iblk m c 3 t : Vec Ideal S176x1024 .f32) (ix2 r k) = argV m c (ix2 (place t r) k) := by
  blk_ext [iblk, V, idx t, place]

theorem array_grad (c : Dev nD) : (dats m 0 c).arrAt 4 cfg0.N = fun y : S352x1024.Idx => grad (argX m c) (y 0) (y 1) := by
  refine (dats m 0 c).arrAt_eq_of_covers 4 _ (by decide +kernel) fun t hf y => ?_
  have at_tile : ∀ j : S176x1024.Idx, out0_4 (iblk m c 0 t) (iblk m c 1 t) (iblk m c 2 t) (iblk m c 3 t) j
      = grad (argX m c) (place t (j 0)) (j 1) := fun j => by
    idx_vars j
    rw [grad_block, total_at]
  have h := at_tile y
  have e : ((cfg0.win 4).blk t).view.emb y = ix2 (place t (y 0)) (y 1) := by
    blk_ext [idx t, place]
  blk_simp
  rw [after0_4]
  refine h.trans ?_
  rw [e]
  rfl

theorem array_update (c : Dev nD) : (dats m 0 c).arrAt 5 cfg0.N = fun y : S352x1024.Idx => update (argX m c) (argW m c) (argM m c) (argV m c) (y 0) (y 1) := by
  refine (dats m 0 c).arrAt_eq_of_covers 5 _ (by decide +kernel) fun t hf y => ?_
  have at_tile : ∀ j : S176x1024.Idx, out0_5 (iblk m c 0 t) (iblk m c 1 t) (iblk m c 2 t) (iblk m c 3 t) j
      = update (argX m c) (argW m c) (argM m c) (argV m c) (place t (j 0)) (j 1) := fun j => by
    idx_vars j
    rw [change_block, total_at, weight_at, moment_at, spread_at]
    rfl
  have h := at_tile y
  have e : ((cfg0.win 5).blk t).view.emb y = ix2 (place t (y 0)) (y 1) := by
    blk_ext [idx t, place]
  blk_simp
  rw [after0_5]
  refine h.trans ?_
  rw [e]
  rfl

theorem array_first (c : Dev nD) : (dats m 0 c).arrAt 6 cfg0.N = fun y : S352x1024.Idx => newFirst (argX m c) (argM m c) (y 0) (y 1) := by
  refine (dats m 0 c).arrAt_eq_of_covers 6 _ (by decide +kernel) fun t hf y => ?_
  have at_tile : ∀ j : S176x1024.Idx, out0_6 (iblk m c 0 t) (iblk m c 1 t) (iblk m c 2 t) (iblk m c 3 t) j
      = newFirst (argX m c) (argM m c) (place t (j 0)) (j 1) := fun j => by
    idx_vars j
    rw [first_block, total_at, moment_at]
    rfl
  have h := at_tile y
  have e : ((cfg0.win 6).blk t).view.emb y = ix2 (place t (y 0)) (y 1) := by
    blk_ext [idx t, place]
  blk_simp
  rw [after0_6]
  refine h.trans ?_
  rw [e]
  rfl

theorem array_second (c : Dev nD) : (dats m 0 c).arrAt 7 cfg0.N = fun y : S352x1024.Idx => newSecond (argX m c) (argV m c) (y 0) (y 1) := by
  refine (dats m 0 c).arrAt_eq_of_covers 7 _ (by decide +kernel) fun t hf y => ?_
  have at_tile : ∀ j : S176x1024.Idx, out0_7 (iblk m c 0 t) (iblk m c 1 t) (iblk m c 2 t) (iblk m c 3 t) j
      = newSecond (argX m c) (argV m c) (place t (j 0)) (j 1) := fun j => by
    idx_vars j
    rw [second_block, total_at, spread_at]
    rfl
  have h := at_tile y
  have e : ((cfg0.win 7).blk t).view.emb y = ix2 (place t (y 0)) (y 1) := by
    blk_ext [idx t, place]
  blk_simp
  rw [after0_7]
  refine h.trans ?_
  rw [e]
  rfl

/-- The kernel's run: the gradient, the change and the new moments, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v1_0) = (fun i : S352x1024.Idx => grad (argX m c) (i 0) (i 1))
      ∧ r.2.mem ((c.tc : Thread nD τ).loc main_v1_1) = (fun i : S352x1024.Idx => update (argX m c) (argW m c) (argM m c) (argV m c) (i 0) (i 1))
      ∧ r.2.mem ((c.tc : Thread nD τ).loc main_v1_2) = (fun i : S352x1024.Idx => newFirst (argX m c) (argM m c) (i 0) (i 1))
      ∧ r.2.mem ((c.tc : Thread nD τ).loc main_v1_3) = (fun i : S352x1024.Idx => newSecond (argX m c) (argV m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (unchanged m g) (run_main m g))
  exact ⟨((h.2 c).1 4).trans (array_grad m c), ((h.2 c).1 5).trans (array_update m c), ((h.2 c).1 6).trans (array_first m c),
    ((h.2 c).1 7).trans (array_second m c), h.1 c⟩

end Cert.Proof.AdamDown
-- ==== Proof.AdamDown.Reference.lean ====
module

public import proofs.«01_k».proof.Proof.AdamDown.Kernel
public import proofs.«01_k».proof.Proof.Gen.AdamDownRefIdeal.Run
public import proofs.«01_k».proof.Proof.Gen.AdamDownRefIdeal.Read

@[expose] public section

set_option maxRecDepth 16384

noncomputable section

namespace Cert.Proof.AdamDown

open Idealize.ShloMosaic Idealize.ShloMosaic.TcCoe Idealize.SL.Sem
open Cert.AdamDownRefIdeal Cert.AdamDownRefIdeal.Gen Cert.AdamDownRefIdeal.Read
open Cert.Proof.Adam

section Formulas

variable (X : S8x352x1024.Idx → EReal) (W M V : S352x1024.Idx → EReal)

/-- The reference's sum of the gradients is the kernel's. -/
theorem ref_grad (r : Fin 352) (k : Fin 1024) : val_main_v0 (F := Ideal) X (ix2 r k) = grad X r k := by
  unfold val_main_v0
  pointwise [grad, val_main_cst_apply]

/-- Its new moments and its change are the kernel's. -/
theorem ref_first (r : Fin 352) (k : Fin 1024) : val_main_v5 (F := Ideal) X M (ix2 r k) = newFirst X M r k := by
  unfold val_main_v5 val_main_v4 val_main_v3 val_main_v2 val_main_v1
  pointwise [ref_grad, newFirst, first, keepFirst, addFirst, val_main_cst_0_apply, val_main_cst_1_apply]

theorem ref_second (r : Fin 352) (k : Fin 1024) : val_main_v11 (F := Ideal) X V (ix2 r k) = newSecond X V r k := by
  unfold val_main_v11 val_main_v10 val_main_v9 val_main_v8 val_main_v7 val_main_v6
  pointwise [ref_grad, newSecond, second, keepSecond, addSecond, val_main_cst_2_apply, val_main_cst_3_apply]

theorem ref_change (r : Fin 352) (k : Fin 1024) : val_main_v24 (F := Ideal) X W M V (ix2 r k) = update X W M V r k := by
  unfold val_main_v24 val_main_v23 val_main_v22 val_main_v21 val_main_v20 val_main_v19 val_main_v18 val_main_v17 val_main_v16 val_main_v15 val_main_v14 val_main_v13 val_main_v12
  pointwise [ref_first, ref_second, newFirst, newSecond, update, change, startFirst, startSecond, small, decay, rate, val_main_cst_4_apply, val_main_cst_5_apply,
    val_main_cst_6_apply, val_main_cst_7_apply, val_main_cst_8_apply]

end Formulas

variable (m : (ℓ : Loc nD τ sig) → Buf (Elt Ideal) ℓ)

/-- The reference's run, in the kernel's formulas. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun i : S352x1024.Idx => grad (m ((c.tc : Thread nD τ).loc main_arg0)) (i 0) (i 1))
      ∧ r.2.mem ((c.tc : Thread nD τ).loc main_v24) = (fun i : S352x1024.Idx => update (m ((c.tc : Thread nD τ).loc main_arg0)) (m ((c.tc : Thread nD τ).loc main_arg1))
        (m ((c.tc : Thread nD τ).loc main_arg2)) (m ((c.tc : Thread nD τ).loc main_arg3)) (i 0) (i 1))
      ∧ r.2.mem ((c.tc : Thread nD τ).loc main_v5) = (fun i : S352x1024.Idx => newFirst (m ((c.tc : Thread nD τ).loc main_arg0)) (m ((c.tc : Thread nD τ).loc main_arg2)) (i 0) (i 1))
      ∧ r.2.mem ((c.tc : Thread nD τ).loc main_v11) = (fun i : S352x1024.Idx => newSecond (m ((c.tc : Thread nD τ).loc main_arg0)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.AdamDownRefIdeal.Value.run m g)
  obtain ⟨h0, h1, h2, h3, ha⟩ := h c
  refine ⟨(h0.trans (val_main_v0_eq _)).trans (funext fun i => ?_), (h1.trans (val_main_v24_eq _ _ _ _)).trans (funext fun i => ?_),
    (h2.trans (val_main_v5_eq _ _)).trans (funext fun i => ?_), (h3.trans (val_main_v11_eq _ _)).trans (funext fun i => ?_), ha⟩
  · idx_vars i
    exact ref_grad _ _ _
  · idx_vars i
    exact ref_change _ _ _ _ _ _
  · idx_vars i
    exact ref_first _ _ _ _
  · idx_vars i
    exact ref_second _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2.2.2, sem_eq_zero_of_no_sems (by decide) r.2⟩) (Cert.AdamDownRefIdeal.Value.run m g)

end Cert.Proof.AdamDown
-- ==== Proof.AdamConv.Kernel.lean ====
module

public import proofs.«01_k».proof.Proof.Gen.AdamConvIdeal.Frame
public import proofs.«01_k».proof.Proof.Adam.Formula
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.AdamConv

open Idealize.ShloMosaic Idealize.ShloMosaic.TcCoe Idealize.SL.Sem
open Cert.AdamConvIdeal Cert.AdamConvIdeal.Gen
open Cert.Proof.Adam

section Block

variable (x : Vec Ideal S8x3x64 .f32) (w m v : Vec Ideal S3x64 .f32)

/-- The devices' gradients of a tile, summed. -/
def total (x : S8x3x64.Idx → EReal) (r : Fin 3) (k : Fin 64) : EReal := ∑ d : Fin 8, x (ix3 d r k)

/-- The region of a whole tile reads it as it is. -/
theorem whole (a : Vec Ideal S3x64 .f32) : View.ld a r0_8 = a := by
  funext i
  idx_vars i
  pointwise

theorem grad_value (r : Fin 3) (k : Fin 64) : k0_pay5 x w m v (ix2 r k) = total x r k := by
  unfold k0_pay5 k0_pay4
  pointwise [total]
  exact eight fun d => x (ix3 d r k)

theorem grad_block (r : Fin 3) (k : Fin 64) : out0_4 x w m v (ix2 r k) = total x r k := by
  unfold out0_4
  rw [View.canon_cons_unit_lit _ _ _ (by decide)]
  exact grad_value x w m v r k

theorem first_block (r : Fin 3) (k : Fin 64) : out0_6 x w m v (ix2 r k) = first (total x r k) (m (ix2 r k)) := by
  unfold out0_6
  rw [View.canon_cons_unit_lit _ _ _ (by decide), whole]
  unfold k0_pay1
  pointwise [grad_value, first, keepFirst, addFirst]

theorem second_block (r : Fin 3) (k : Fin 64) : out0_7 x w m v (ix2 r k) = second (total x r k) (v (ix2 r k)) := by
  unfold out0_7
  rw [View.canon_cons_unit_lit _ _ _ (by decide), whole]
  unfold k0_pay2
  pointwise [grad_value, second, keepSecond, addSecond]

theorem change_block (r : Fin 3) (k : Fin 64) :
    out0_5 x w m v (ix2 r k) = change (total x r k) (w (ix2 r k)) (m (ix2 r k)) (v (ix2 r k)) := by
  unfold out0_5
  rw [View.canon_cons_unit_lit _ _ _ (by decide), whole, whole, whole]
  unfold k0_pay3 k0_pay2 k0_pay1
  pointwise [grad_value, change, first, second, keepFirst, addFirst, keepSecond, addSecond, startFirst, startSecond, small, decay, rate]

end Block

/-- The whole arrays' gradient, new moments and change. -/
def grad (X : S8x3x64.Idx → EReal) (r : Fin 3) (k : Fin 64) : EReal := ∑ d : Fin 8, X (ix3 d r k)

def newFirst (X : S8x3x64.Idx → EReal) (M : S3x64.Idx → EReal) (r : Fin 3) (k : Fin 64) : EReal := first (grad X r k) (M (ix2 r k))

def newSecond (X : S8x3x64.Idx → EReal) (V : S3x64.Idx → EReal) (r : Fin 3) (k : Fin 64) : EReal := second (grad X r k) (V (ix2 r k))

def update (X : S8x3x64.Idx → EReal) (W M V : S3x64.Idx → EReal) (r : Fin 3) (k : Fin 64) : EReal :=
  change (grad X r k) (W (ix2 r k)) (M (ix2 r k)) (V (ix2 r k))

variable (m : (ℓ : Loc nD τ sig) → Buf (Elt Ideal) ℓ)

abbrev argX (c : Dev nD) : S8x3x64.Idx → EReal := m ((c : Thread nD τ).loc main_arg0)
abbrev argW (c : Dev nD) : S3x64.Idx → EReal := m ((c : Thread nD τ).loc main_arg1)
abbrev argM (c : Dev nD) : S3x64.Idx → EReal := m ((c : Thread nD τ).loc main_arg2)
abbrev argV (c : Dev nD) : S3x64.Idx → EReal := m ((c : Thread nD τ).loc main_arg3)

theorem points : cfg0.N = 1 := by decide

/-- Row `r` of the tile of a grid point. -/
def place (t : Fin cfg0.N) (r : Fin 3) : Fin 3 := ⟨t.val * 3 + r.val, by have := lt_of_lt_of_eq t.isLt points; omega⟩

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

theorem total_at (c : Dev nD) (t : Fin cfg0.N) (r : Fin 3) (k : Fin 64) : total (iblk m c 0 t) r k = grad (argX m c) (place t r) k := by
  unfold total grad
  refine Finset.sum_congr rfl fun d _ => ?_
  blk_ext [iblk, V, idx t, place]

theorem weight_at (c : Dev nD) (t : Fin cfg0.N) (r : Fin 3) (k : Fin 64) :
    (iblk m c 1 t : Vec Ideal S3x64 .f32) (ix2 r k) = argW m c (ix2 (place t r) k) := by
  blk_ext [iblk, V, idx t, place]

theorem moment_at (c : Dev nD) (t : Fin cfg0.N) (r : Fin 3) (k : Fin 64) :
    (iblk m c 2 t : Vec Ideal S3x64 .f32) (ix2 r k) = argM m c (ix2 (place t r) k) := by
  blk_ext [iblk, V, idx t, place]

theorem spread_at (c : Dev nD) (t : Fin cfg0.N) (r : Fin 3) (k : Fin 64) :
    (iblk m c 3 t : Vec Ideal S3x64 .f32) (ix2 r k) = argV m c (ix2 (place t r) k) := by
  blk_ext [iblk, V, idx t, place]

theorem array_grad (c : Dev nD) : (dats m 0 c).arrAt 4 cfg0.N = fun y : S3x64.Idx => grad (argX m c) (y 0) (y 1) := by
  refine (dats m 0 c).arrAt_eq_of_covers 4 _ (by decide +kernel) fun t hf y => ?_
  have at_tile : ∀ j : S3x64.Idx, out0_4 (iblk m c 0 t) (iblk m c 1 t) (iblk m c 2 t) (iblk m c 3 t) j
      = grad (argX m c) (place t (j 0)) (j 1) := fun j => by
    idx_vars j
    rw [grad_block, total_at]
  have h := at_tile y
  have e : ((cfg0.win 4).blk t).view.emb y = ix2 (place t (y 0)) (y 1) := by
    blk_ext [idx t, place]
  blk_simp
  rw [after0_4]
  refine h.trans ?_
  rw [e]
  rfl

theorem array_update (c : Dev nD) : (dats m 0 c).arrAt 5 cfg0.N = fun y : S3x64.Idx => update (argX m c) (argW m c) (argM m c) (argV m c) (y 0) (y 1) := by
  refine (dats m 0 c).arrAt_eq_of_covers 5 _ (by decide +kernel) fun t hf y => ?_
  have at_tile : ∀ j : S3x64.Idx, out0_5 (iblk m c 0 t) (iblk m c 1 t) (iblk m c 2 t) (iblk m c 3 t) j
      = update (argX m c) (argW m c) (argM m c) (argV m c) (place t (j 0)) (j 1) := fun j => by
    idx_vars j
    rw [change_block, total_at, weight_at, moment_at, spread_at]
    rfl
  have h := at_tile y
  have e : ((cfg0.win 5).blk t).view.emb y = ix2 (place t (y 0)) (y 1) := by
    blk_ext [idx t, place]
  blk_simp
  rw [after0_5]
  refine h.trans ?_
  rw [e]
  rfl

theorem array_first (c : Dev nD) : (dats m 0 c).arrAt 6 cfg0.N = fun y : S3x64.Idx => newFirst (argX m c) (argM m c) (y 0) (y 1) := by
  refine (dats m 0 c).arrAt_eq_of_covers 6 _ (by decide +kernel) fun t hf y => ?_
  have at_tile : ∀ j : S3x64.Idx, out0_6 (iblk m c 0 t) (iblk m c 1 t) (iblk m c 2 t) (iblk m c 3 t) j
      = newFirst (argX m c) (argM m c) (place t (j 0)) (j 1) := fun j => by
    idx_vars j
    rw [first_block, total_at, moment_at]
    rfl
  have h := at_tile y
  have e : ((cfg0.win 6).blk t).view.emb y = ix2 (place t (y 0)) (y 1) := by
    blk_ext [idx t, place]
  blk_simp
  rw [after0_6]
  refine h.trans ?_
  rw [e]
  rfl

theorem array_second (c : Dev nD) : (dats m 0 c).arrAt 7 cfg0.N = fun y : S3x64.Idx => newSecond (argX m c) (argV m c) (y 0) (y 1) := by
  refine (dats m 0 c).arrAt_eq_of_covers 7 _ (by decide +kernel) fun t hf y => ?_
  have at_tile : ∀ j : S3x64.Idx, out0_7 (iblk m c 0 t) (iblk m c 1 t) (iblk m c 2 t) (iblk m c 3 t) j
      = newSecond (argX m c) (argV m c) (place t (j 0)) (j 1) := fun j => by
    idx_vars j
    rw [second_block, total_at, spread_at]
    rfl
  have h := at_tile y
  have e : ((cfg0.win 7).blk t).view.emb y = ix2 (place t (y 0)) (y 1) := by
    blk_ext [idx t, place]
  blk_simp
  rw [after0_7]
  refine h.trans ?_
  rw [e]
  rfl

/-- The kernel's run: the gradient, the change and the new moments, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = (fun i : S3x64.Idx => grad (argX m c) (i 0) (i 1))
      ∧ r.2.mem ((c.tc : Thread nD τ).loc main_v0_1) = (fun i : S3x64.Idx => update (argX m c) (argW m c) (argM m c) (argV m c) (i 0) (i 1))
      ∧ r.2.mem ((c.tc : Thread nD τ).loc main_v0_2) = (fun i : S3x64.Idx => newFirst (argX m c) (argM m c) (i 0) (i 1))
      ∧ r.2.mem ((c.tc : Thread nD τ).loc main_v0_3) = (fun i : S3x64.Idx => newSecond (argX m c) (argV m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (unchanged m g) (run_main m g))
  exact ⟨((h.2 c).1 4).trans (array_grad m c), ((h.2 c).1 5).trans (array_update m c), ((h.2 c).1 6).trans (array_first m c),
    ((h.2 c).1 7).trans (array_second m c), h.1 c⟩

end Cert.Proof.AdamConv
-- ==== Proof.AdamConv.Reference.lean ====
module

public import proofs.«01_k».proof.Proof.AdamConv.Kernel
public import proofs.«01_k».proof.Proof.Gen.AdamConvRefIdeal.Run
public import proofs.«01_k».proof.Proof.Gen.AdamConvRefIdeal.Read

@[expose] public section

set_option maxRecDepth 16384

noncomputable section

namespace Cert.Proof.AdamConv

open Idealize.ShloMosaic Idealize.ShloMosaic.TcCoe Idealize.SL.Sem
open Cert.AdamConvRefIdeal Cert.AdamConvRefIdeal.Gen Cert.AdamConvRefIdeal.Read
open Cert.Proof.Adam

section Formulas

variable (X : S8x3x64.Idx → EReal) (W M V : S3x64.Idx → EReal)

/-- The reference's sum of the gradients is the kernel's. -/
theorem ref_grad (r : Fin 3) (k : Fin 64) : val_main_v0 (F := Ideal) X (ix2 r k) = grad X r k := by
  unfold val_main_v0
  pointwise [grad, val_main_cst_apply]

/-- Its new moments and its change are the kernel's. -/
theorem ref_first (r : Fin 3) (k : Fin 64) : val_main_v5 (F := Ideal) X M (ix2 r k) = newFirst X M r k := by
  unfold val_main_v5 val_main_v4 val_main_v3 val_main_v2 val_main_v1
  pointwise [ref_grad, newFirst, first, keepFirst, addFirst, val_main_cst_0_apply, val_main_cst_1_apply]

theorem ref_second (r : Fin 3) (k : Fin 64) : val_main_v11 (F := Ideal) X V (ix2 r k) = newSecond X V r k := by
  unfold val_main_v11 val_main_v10 val_main_v9 val_main_v8 val_main_v7 val_main_v6
  pointwise [ref_grad, newSecond, second, keepSecond, addSecond, val_main_cst_2_apply, val_main_cst_3_apply]

theorem ref_change (r : Fin 3) (k : Fin 64) : val_main_v24 (F := Ideal) X W M V (ix2 r k) = update X W M V r k := by
  unfold val_main_v24 val_main_v23 val_main_v22 val_main_v21 val_main_v20 val_main_v19 val_main_v18 val_main_v17 val_main_v16 val_main_v15 val_main_v14 val_main_v13 val_main_v12
  pointwise [ref_first, ref_second, newFirst, newSecond, update, change, startFirst, startSecond, small, decay, rate, val_main_cst_4_apply, val_main_cst_5_apply,
    val_main_cst_6_apply, val_main_cst_7_apply, val_main_cst_8_apply]

end Formulas

variable (m : (ℓ : Loc nD τ sig) → Buf (Elt Ideal) ℓ)

/-- The reference's run, in the kernel's formulas. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun i : S3x64.Idx => grad (m ((c.tc : Thread nD τ).loc main_arg0)) (i 0) (i 1))
      ∧ r.2.mem ((c.tc : Thread nD τ).loc main_v24) = (fun i : S3x64.Idx => update (m ((c.tc : Thread nD τ).loc main_arg0)) (m ((c.tc : Thread nD τ).loc main_arg1))
        (m ((c.tc : Thread nD τ).loc main_arg2)) (m ((c.tc : Thread nD τ).loc main_arg3)) (i 0) (i 1))
      ∧ r.2.mem ((c.tc : Thread nD τ).loc main_v5) = (fun i : S3x64.Idx => newFirst (m ((c.tc : Thread nD τ).loc main_arg0)) (m ((c.tc : Thread nD τ).loc main_arg2)) (i 0) (i 1))
      ∧ r.2.mem ((c.tc : Thread nD τ).loc main_v11) = (fun i : S3x64.Idx => newSecond (m ((c.tc : Thread nD τ).loc main_arg0)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.AdamConvRefIdeal.Value.run m g)
  obtain ⟨h0, h1, h2, h3, ha⟩ := h c
  refine ⟨(h0.trans (val_main_v0_eq _)).trans (funext fun i => ?_), (h1.trans (val_main_v24_eq _ _ _ _)).trans (funext fun i => ?_),
    (h2.trans (val_main_v5_eq _ _)).trans (funext fun i => ?_), (h3.trans (val_main_v11_eq _ _)).trans (funext fun i => ?_), ha⟩
  · idx_vars i
    exact ref_grad _ _ _
  · idx_vars i
    exact ref_change _ _ _ _ _ _
  · idx_vars i
    exact ref_first _ _ _ _
  · idx_vars i
    exact ref_second _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2.2.2, sem_eq_zero_of_no_sems (by decide) r.2⟩) (Cert.AdamConvRefIdeal.Value.run m g)

end Cert.Proof.AdamConv
-- ==== Proof.AdamTaps.Kernel.lean ====
module

public import proofs.«01_k».proof.Proof.Gen.AdamTapsIdeal.Frame
public import proofs.«01_k».proof.Proof.Adam.Formula
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.AdamTaps

open Idealize.ShloMosaic Idealize.ShloMosaic.TcCoe Idealize.SL.Sem
open Cert.AdamTapsIdeal Cert.AdamTapsIdeal.Gen
open Cert.Proof.Adam

section Block

variable (x : Vec Ideal S8x3x704 .f32) (w m v : Vec Ideal S3x704 .f32)

/-- The devices' gradients of a tile, summed. -/
def total (x : S8x3x704.Idx → EReal) (r : Fin 3) (k : Fin 704) : EReal := ∑ d : Fin 8, x (ix3 d r k)

/-- The region of a whole tile reads it as it is. -/
theorem whole (a : Vec Ideal S3x704 .f32) : View.ld a r0_8 = a := by
  funext i
  idx_vars i
  pointwise

theorem grad_value (r : Fin 3) (k : Fin 704) : k0_pay5 x w m v (ix2 r k) = total x r k := by
  unfold k0_pay5 k0_pay4
  pointwise [total]
  exact eight fun d => x (ix3 d r k)

theorem grad_block (r : Fin 3) (k : Fin 704) : out0_4 x w m v (ix2 r k) = total x r k := by
  unfold out0_4
  rw [View.canon_cons_unit_lit _ _ _ (by decide)]
  exact grad_value x w m v r k

theorem first_block (r : Fin 3) (k : Fin 704) : out0_6 x w m v (ix2 r k) = first (total x r k) (m (ix2 r k)) := by
  unfold out0_6
  rw [View.canon_cons_unit_lit _ _ _ (by decide), whole]
  unfold k0_pay1
  pointwise [grad_value, first, keepFirst, addFirst]

theorem second_block (r : Fin 3) (k : Fin 704) : out0_7 x w m v (ix2 r k) = second (total x r k) (v (ix2 r k)) := by
  unfold out0_7
  rw [View.canon_cons_unit_lit _ _ _ (by decide), whole]
  unfold k0_pay2
  pointwise [grad_value, second, keepSecond, addSecond]

theorem change_block (r : Fin 3) (k : Fin 704) :
    out0_5 x w m v (ix2 r k) = change (total x r k) (w (ix2 r k)) (m (ix2 r k)) (v (ix2 r k)) := by
  unfold out0_5
  rw [View.canon_cons_unit_lit _ _ _ (by decide), whole, whole, whole]
  unfold k0_pay3 k0_pay2 k0_pay1
  pointwise [grad_value, change, first, second, keepFirst, addFirst, keepSecond, addSecond, startFirst, startSecond, small, decay, rate]

end Block

/-- The whole arrays' gradient, new moments and change. -/
def grad (X : S8x3x704.Idx → EReal) (r : Fin 3) (k : Fin 704) : EReal := ∑ d : Fin 8, X (ix3 d r k)

def newFirst (X : S8x3x704.Idx → EReal) (M : S3x704.Idx → EReal) (r : Fin 3) (k : Fin 704) : EReal := first (grad X r k) (M (ix2 r k))

def newSecond (X : S8x3x704.Idx → EReal) (V : S3x704.Idx → EReal) (r : Fin 3) (k : Fin 704) : EReal := second (grad X r k) (V (ix2 r k))

def update (X : S8x3x704.Idx → EReal) (W M V : S3x704.Idx → EReal) (r : Fin 3) (k : Fin 704) : EReal :=
  change (grad X r k) (W (ix2 r k)) (M (ix2 r k)) (V (ix2 r k))

variable (m : (ℓ : Loc nD τ sig) → Buf (Elt Ideal) ℓ)

abbrev argX (c : Dev nD) : S8x3x704.Idx → EReal := m ((c : Thread nD τ).loc main_arg0)
abbrev argW (c : Dev nD) : S3x704.Idx → EReal := m ((c : Thread nD τ).loc main_arg1)
abbrev argM (c : Dev nD) : S3x704.Idx → EReal := m ((c : Thread nD τ).loc main_arg2)
abbrev argV (c : Dev nD) : S3x704.Idx → EReal := m ((c : Thread nD τ).loc main_arg3)

theorem points : cfg0.N = 1 := by decide

/-- Row `r` of the tile of a grid point. -/
def place (t : Fin cfg0.N) (r : Fin 3) : Fin 3 := ⟨t.val * 3 + r.val, by have := lt_of_lt_of_eq t.isLt points; omega⟩

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

theorem total_at (c : Dev nD) (t : Fin cfg0.N) (r : Fin 3) (k : Fin 704) : total (iblk m c 0 t) r k = grad (argX m c) (place t r) k := by
  unfold total grad
  refine Finset.sum_congr rfl fun d _ => ?_
  blk_ext [iblk, V, idx t, place]

theorem weight_at (c : Dev nD) (t : Fin cfg0.N) (r : Fin 3) (k : Fin 704) :
    (iblk m c 1 t : Vec Ideal S3x704 .f32) (ix2 r k) = argW m c (ix2 (place t r) k) := by
  blk_ext [iblk, V, idx t, place]

theorem moment_at (c : Dev nD) (t : Fin cfg0.N) (r : Fin 3) (k : Fin 704) :
    (iblk m c 2 t : Vec Ideal S3x704 .f32) (ix2 r k) = argM m c (ix2 (place t r) k) := by
  blk_ext [iblk, V, idx t, place]

theorem spread_at (c : Dev nD) (t : Fin cfg0.N) (r : Fin 3) (k : Fin 704) :
    (iblk m c 3 t : Vec Ideal S3x704 .f32) (ix2 r k) = argV m c (ix2 (place t r) k) := by
  blk_ext [iblk, V, idx t, place]

theorem array_grad (c : Dev nD) : (dats m 0 c).arrAt 4 cfg0.N = fun y : S3x704.Idx => grad (argX m c) (y 0) (y 1) := by
  refine (dats m 0 c).arrAt_eq_of_covers 4 _ (by decide +kernel) fun t hf y => ?_
  have at_tile : ∀ j : S3x704.Idx, out0_4 (iblk m c 0 t) (iblk m c 1 t) (iblk m c 2 t) (iblk m c 3 t) j
      = grad (argX m c) (place t (j 0)) (j 1) := fun j => by
    idx_vars j
    rw [grad_block, total_at]
  have h := at_tile y
  have e : ((cfg0.win 4).blk t).view.emb y = ix2 (place t (y 0)) (y 1) := by
    blk_ext [idx t, place]
  blk_simp
  rw [after0_4]
  refine h.trans ?_
  rw [e]
  rfl

theorem array_update (c : Dev nD) : (dats m 0 c).arrAt 5 cfg0.N = fun y : S3x704.Idx => update (argX m c) (argW m c) (argM m c) (argV m c) (y 0) (y 1) := by
  refine (dats m 0 c).arrAt_eq_of_covers 5 _ (by decide +kernel) fun t hf y => ?_
  have at_tile : ∀ j : S3x704.Idx, out0_5 (iblk m c 0 t) (iblk m c 1 t) (iblk m c 2 t) (iblk m c 3 t) j
      = update (argX m c) (argW m c) (argM m c) (argV m c) (place t (j 0)) (j 1) := fun j => by
    idx_vars j
    rw [change_block, total_at, weight_at, moment_at, spread_at]
    rfl
  have h := at_tile y
  have e : ((cfg0.win 5).blk t).view.emb y = ix2 (place t (y 0)) (y 1) := by
    blk_ext [idx t, place]
  blk_simp
  rw [after0_5]
  refine h.trans ?_
  rw [e]
  rfl

theorem array_first (c : Dev nD) : (dats m 0 c).arrAt 6 cfg0.N = fun y : S3x704.Idx => newFirst (argX m c) (argM m c) (y 0) (y 1) := by
  refine (dats m 0 c).arrAt_eq_of_covers 6 _ (by decide +kernel) fun t hf y => ?_
  have at_tile : ∀ j : S3x704.Idx, out0_6 (iblk m c 0 t) (iblk m c 1 t) (iblk m c 2 t) (iblk m c 3 t) j
      = newFirst (argX m c) (argM m c) (place t (j 0)) (j 1) := fun j => by
    idx_vars j
    rw [first_block, total_at, moment_at]
    rfl
  have h := at_tile y
  have e : ((cfg0.win 6).blk t).view.emb y = ix2 (place t (y 0)) (y 1) := by
    blk_ext [idx t, place]
  blk_simp
  rw [after0_6]
  refine h.trans ?_
  rw [e]
  rfl

theorem array_second (c : Dev nD) : (dats m 0 c).arrAt 7 cfg0.N = fun y : S3x704.Idx => newSecond (argX m c) (argV m c) (y 0) (y 1) := by
  refine (dats m 0 c).arrAt_eq_of_covers 7 _ (by decide +kernel) fun t hf y => ?_
  have at_tile : ∀ j : S3x704.Idx, out0_7 (iblk m c 0 t) (iblk m c 1 t) (iblk m c 2 t) (iblk m c 3 t) j
      = newSecond (argX m c) (argV m c) (place t (j 0)) (j 1) := fun j => by
    idx_vars j
    rw [second_block, total_at, spread_at]
    rfl
  have h := at_tile y
  have e : ((cfg0.win 7).blk t).view.emb y = ix2 (place t (y 0)) (y 1) := by
    blk_ext [idx t, place]
  blk_simp
  rw [after0_7]
  refine h.trans ?_
  rw [e]
  rfl

/-- The kernel's run: the gradient, the change and the new moments, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = (fun i : S3x704.Idx => grad (argX m c) (i 0) (i 1))
      ∧ r.2.mem ((c.tc : Thread nD τ).loc main_v0_1) = (fun i : S3x704.Idx => update (argX m c) (argW m c) (argM m c) (argV m c) (i 0) (i 1))
      ∧ r.2.mem ((c.tc : Thread nD τ).loc main_v0_2) = (fun i : S3x704.Idx => newFirst (argX m c) (argM m c) (i 0) (i 1))
      ∧ r.2.mem ((c.tc : Thread nD τ).loc main_v0_3) = (fun i : S3x704.Idx => newSecond (argX m c) (argV m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (unchanged m g) (run_main m g))
  exact ⟨((h.2 c).1 4).trans (array_grad m c), ((h.2 c).1 5).trans (array_update m c), ((h.2 c).1 6).trans (array_first m c),
    ((h.2 c).1 7).trans (array_second m c), h.1 c⟩

end Cert.Proof.AdamTaps
-- ==== Proof.AdamTaps.Reference.lean ====
module

public import proofs.«01_k».proof.Proof.AdamTaps.Kernel
public import proofs.«01_k».proof.Proof.Gen.AdamTapsRefIdeal.Run
public import proofs.«01_k».proof.Proof.Gen.AdamTapsRefIdeal.Read

@[expose] public section

set_option maxRecDepth 16384

noncomputable section

namespace Cert.Proof.AdamTaps

open Idealize.ShloMosaic Idealize.ShloMosaic.TcCoe Idealize.SL.Sem
open Cert.AdamTapsRefIdeal Cert.AdamTapsRefIdeal.Gen Cert.AdamTapsRefIdeal.Read
open Cert.Proof.Adam

section Formulas

variable (X : S8x3x704.Idx → EReal) (W M V : S3x704.Idx → EReal)

/-- The reference's sum of the gradients is the kernel's. -/
theorem ref_grad (r : Fin 3) (k : Fin 704) : val_main_v0 (F := Ideal) X (ix2 r k) = grad X r k := by
  unfold val_main_v0
  pointwise [grad, val_main_cst_apply]

/-- Its new moments and its change are the kernel's. -/
theorem ref_first (r : Fin 3) (k : Fin 704) : val_main_v5 (F := Ideal) X M (ix2 r k) = newFirst X M r k := by
  unfold val_main_v5 val_main_v4 val_main_v3 val_main_v2 val_main_v1
  pointwise [ref_grad, newFirst, first, keepFirst, addFirst, val_main_cst_0_apply, val_main_cst_1_apply]

theorem ref_second (r : Fin 3) (k : Fin 704) : val_main_v11 (F := Ideal) X V (ix2 r k) = newSecond X V r k := by
  unfold val_main_v11 val_main_v10 val_main_v9 val_main_v8 val_main_v7 val_main_v6
  pointwise [ref_grad, newSecond, second, keepSecond, addSecond, val_main_cst_2_apply, val_main_cst_3_apply]

theorem ref_change (r : Fin 3) (k : Fin 704) : val_main_v24 (F := Ideal) X W M V (ix2 r k) = update X W M V r k := by
  unfold val_main_v24 val_main_v23 val_main_v22 val_main_v21 val_main_v20 val_main_v19 val_main_v18 val_main_v17 val_main_v16 val_main_v15 val_main_v14 val_main_v13 val_main_v12
  pointwise [ref_first, ref_second, newFirst, newSecond, update, change, startFirst, startSecond, small, decay, rate, val_main_cst_4_apply, val_main_cst_5_apply,
    val_main_cst_6_apply, val_main_cst_7_apply, val_main_cst_8_apply]

end Formulas

variable (m : (ℓ : Loc nD τ sig) → Buf (Elt Ideal) ℓ)

/-- The reference's run, in the kernel's formulas. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun i : S3x704.Idx => grad (m ((c.tc : Thread nD τ).loc main_arg0)) (i 0) (i 1))
      ∧ r.2.mem ((c.tc : Thread nD τ).loc main_v24) = (fun i : S3x704.Idx => update (m ((c.tc : Thread nD τ).loc main_arg0)) (m ((c.tc : Thread nD τ).loc main_arg1))
        (m ((c.tc : Thread nD τ).loc main_arg2)) (m ((c.tc : Thread nD τ).loc main_arg3)) (i 0) (i 1))
      ∧ r.2.mem ((c.tc : Thread nD τ).loc main_v5) = (fun i : S3x704.Idx => newFirst (m ((c.tc : Thread nD τ).loc main_arg0)) (m ((c.tc : Thread nD τ).loc main_arg2)) (i 0) (i 1))
      ∧ r.2.mem ((c.tc : Thread nD τ).loc main_v11) = (fun i : S3x704.Idx => newSecond (m ((c.tc : Thread nD τ).loc main_arg0)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.AdamTapsRefIdeal.Value.run m g)
  obtain ⟨h0, h1, h2, h3, ha⟩ := h c
  refine ⟨(h0.trans (val_main_v0_eq _)).trans (funext fun i => ?_), (h1.trans (val_main_v24_eq _ _ _ _)).trans (funext fun i => ?_),
    (h2.trans (val_main_v5_eq _ _)).trans (funext fun i => ?_), (h3.trans (val_main_v11_eq _ _)).trans (funext fun i => ?_), ha⟩
  · idx_vars i
    exact ref_grad _ _ _
  · idx_vars i
    exact ref_change _ _ _ _ _ _
  · idx_vars i
    exact ref_first _ _ _ _
  · idx_vars i
    exact ref_second _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2.2.2, sem_eq_zero_of_no_sems (by decide) r.2⟩) (Cert.AdamTapsRefIdeal.Value.run m g)

end Cert.Proof.AdamTaps
-- ==== Proof.AdamAda.Kernel.lean ====
module

public import proofs.«01_k».proof.Proof.Gen.AdamAdaIdeal.Frame
public import proofs.«01_k».proof.Proof.Adam.Formula
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.AdamAda

open Idealize.ShloMosaic Idealize.ShloMosaic.TcCoe Idealize.SL.Sem
open Cert.AdamAdaIdeal Cert.AdamAdaIdeal.Gen
open Cert.Proof.Adam

section Block

variable (x : Vec Ideal S1x512x768 .f32) (w m v : Vec Ideal S512x768 .f32)

/-- The gradient of a tile. -/
def total (x : S1x512x768.Idx → EReal) (r : Fin 512) (k : Fin 768) : EReal := x (ix3 0 r k)

/-- The region of a whole tile reads it as it is. -/
theorem whole (a : Vec Ideal S512x768 .f32) : View.ld a r0_1 = a := by
  funext i
  idx_vars i
  pointwise

theorem grad_value (r : Fin 512) (k : Fin 768) : k0_pay1 (View.ld x r0_0) (ix2 r k) = total x r k := by
  unfold k0_pay1
  pointwise [total]

theorem grad_block (r : Fin 512) (k : Fin 768) : out0_4 x w m v (ix2 r k) = total x r k := by
  unfold out0_4
  rw [View.canon_cons_unit_lit _ _ _ (by decide)]
  exact grad_value x r k

theorem first_block (r : Fin 512) (k : Fin 768) : out0_6 x w m v (ix2 r k) = first (total x r k) (m (ix2 r k)) := by
  unfold out0_6
  rw [View.canon_cons_unit_lit _ _ _ (by decide), whole]
  unfold k0_pay2
  pointwise [grad_value, first, keepFirst, addFirst]

theorem second_block (r : Fin 512) (k : Fin 768) : out0_7 x w m v (ix2 r k) = second (total x r k) (v (ix2 r k)) := by
  unfold out0_7
  rw [View.canon_cons_unit_lit _ _ _ (by decide), whole]
  unfold k0_pay3
  pointwise [grad_value, second, keepSecond, addSecond]

theorem change_block (r : Fin 512) (k : Fin 768) :
    out0_5 x w m v (ix2 r k) = change (total x r k) (w (ix2 r k)) (m (ix2 r k)) (v (ix2 r k)) := by
  unfold out0_5
  rw [View.canon_cons_unit_lit _ _ _ (by decide), whole, whole, whole]
  unfold k0_pay4 k0_pay3 k0_pay2
  pointwise [grad_value, change, first, second, keepFirst, addFirst, keepSecond, addSecond, startFirst, startSecond, small, decay, rate]

end Block

/-- The whole arrays' gradient, new moments and change. -/
def grad (X : S1024x768.Idx → EReal) (r : Fin 1024) (k : Fin 768) : EReal := X (ix2 r k)

def newFirst (X : S1024x768.Idx → EReal) (M : S1024x768.Idx → EReal) (r : Fin 1024) (k : Fin 768) : EReal := first (grad X r k) (M (ix2 r k))

def newSecond (X : S1024x768.Idx → EReal) (V : S1024x768.Idx → EReal) (r : Fin 1024) (k : Fin 768) : EReal := second (grad X r k) (V (ix2 r k))

def update (X : S1024x768.Idx → EReal) (W M V : S1024x768.Idx → EReal) (r : Fin 1024) (k : Fin 768) : EReal :=
  change (grad X r k) (W (ix2 r k)) (M (ix2 r k)) (V (ix2 r k))

variable (m : (ℓ : Loc nD τ sig) → Buf (Elt Ideal) ℓ)

abbrev argX (c : Dev nD) : S1024x768.Idx → EReal := m ((c : Thread nD τ).loc main_arg0)
abbrev argW (c : Dev nD) : S1024x768.Idx → EReal := m ((c : Thread nD τ).loc main_arg1)
abbrev argM (c : Dev nD) : S1024x768.Idx → EReal := m ((c : Thread nD τ).loc main_arg2)
abbrev argV (c : Dev nD) : S1024x768.Idx → EReal := m ((c : Thread nD τ).loc main_arg3)

theorem points : cfg0.N = 2 := by decide

/-- Row `r` of the tile of a grid point. -/
def place (t : Fin cfg0.N) (r : Fin 512) : Fin 1024 := ⟨t.val * 512 + r.val, by have := lt_of_lt_of_eq t.isLt points; omega⟩

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

theorem entry (c : Dev nD) (r : Fin 1024) (k : Fin 768) : (V m c main_v0 : S1x1024x768.Idx → EReal) (ix3 0 r k) = argX m c (ix2 r k) := by
  simp only [V, List.flatten_cons, List.flatten_nil, List.append_nil, StableHlo.after_cons, StableHlo.after_nil]
  after_results_simp
  pointwise

theorem total_at (c : Dev nD) (t : Fin cfg0.N) (r : Fin 512) (k : Fin 768) : total (iblk m c 0 t) r k = grad (argX m c) (place t r) k := by
  unfold total grad
  rw [← entry]
  blk_ext [iblk, idx t, place]

theorem weight_at (c : Dev nD) (t : Fin cfg0.N) (r : Fin 512) (k : Fin 768) :
    (iblk m c 1 t : Vec Ideal S512x768 .f32) (ix2 r k) = argW m c (ix2 (place t r) k) := by
  blk_ext [iblk, V, idx t, place]

theorem moment_at (c : Dev nD) (t : Fin cfg0.N) (r : Fin 512) (k : Fin 768) :
    (iblk m c 2 t : Vec Ideal S512x768 .f32) (ix2 r k) = argM m c (ix2 (place t r) k) := by
  blk_ext [iblk, V, idx t, place]

theorem spread_at (c : Dev nD) (t : Fin cfg0.N) (r : Fin 512) (k : Fin 768) :
    (iblk m c 3 t : Vec Ideal S512x768 .f32) (ix2 r k) = argV m c (ix2 (place t r) k) := by
  blk_ext [iblk, V, idx t, place]

theorem array_grad (c : Dev nD) : (dats m 0 c).arrAt 4 cfg0.N = fun y : S1024x768.Idx => grad (argX m c) (y 0) (y 1) := by
  refine (dats m 0 c).arrAt_eq_of_covers 4 _ (by decide +kernel) fun t hf y => ?_
  have at_tile : ∀ j : S512x768.Idx, out0_4 (iblk m c 0 t) (iblk m c 1 t) (iblk m c 2 t) (iblk m c 3 t) j
      = grad (argX m c) (place t (j 0)) (j 1) := fun j => by
    idx_vars j
    rw [grad_block, total_at]
  have h := at_tile y
  have e : ((cfg0.win 4).blk t).view.emb y = ix2 (place t (y 0)) (y 1) := by
    blk_ext [idx t, place]
  blk_simp
  rw [after0_4]
  refine h.trans ?_
  rw [e]
  rfl

theorem array_update (c : Dev nD) : (dats m 0 c).arrAt 5 cfg0.N = fun y : S1024x768.Idx => update (argX m c) (argW m c) (argM m c) (argV m c) (y 0) (y 1) := by
  refine (dats m 0 c).arrAt_eq_of_covers 5 _ (by decide +kernel) fun t hf y => ?_
  have at_tile : ∀ j : S512x768.Idx, out0_5 (iblk m c 0 t) (iblk m c 1 t) (iblk m c 2 t) (iblk m c 3 t) j
      = update (argX m c) (argW m c) (argM m c) (argV m c) (place t (j 0)) (j 1) := fun j => by
    idx_vars j
    rw [change_block, total_at, weight_at, moment_at, spread_at]
    rfl
  have h := at_tile y
  have e : ((cfg0.win 5).blk t).view.emb y = ix2 (place t (y 0)) (y 1) := by
    blk_ext [idx t, place]
  blk_simp
  rw [after0_5]
  refine h.trans ?_
  rw [e]
  rfl

theorem array_first (c : Dev nD) : (dats m 0 c).arrAt 6 cfg0.N = fun y : S1024x768.Idx => newFirst (argX m c) (argM m c) (y 0) (y 1) := by
  refine (dats m 0 c).arrAt_eq_of_covers 6 _ (by decide +kernel) fun t hf y => ?_
  have at_tile : ∀ j : S512x768.Idx, out0_6 (iblk m c 0 t) (iblk m c 1 t) (iblk m c 2 t) (iblk m c 3 t) j
      = newFirst (argX m c) (argM m c) (place t (j 0)) (j 1) := fun j => by
    idx_vars j
    rw [first_block, total_at, moment_at]
    rfl
  have h := at_tile y
  have e : ((cfg0.win 6).blk t).view.emb y = ix2 (place t (y 0)) (y 1) := by
    blk_ext [idx t, place]
  blk_simp
  rw [after0_6]
  refine h.trans ?_
  rw [e]
  rfl

theorem array_second (c : Dev nD) : (dats m 0 c).arrAt 7 cfg0.N = fun y : S1024x768.Idx => newSecond (argX m c) (argV m c) (y 0) (y 1) := by
  refine (dats m 0 c).arrAt_eq_of_covers 7 _ (by decide +kernel) fun t hf y => ?_
  have at_tile : ∀ j : S512x768.Idx, out0_7 (iblk m c 0 t) (iblk m c 1 t) (iblk m c 2 t) (iblk m c 3 t) j
      = newSecond (argX m c) (argV m c) (place t (j 0)) (j 1) := fun j => by
    idx_vars j
    rw [second_block, total_at, spread_at]
    rfl
  have h := at_tile y
  have e : ((cfg0.win 7).blk t).view.emb y = ix2 (place t (y 0)) (y 1) := by
    blk_ext [idx t, place]
  blk_simp
  rw [after0_7]
  refine h.trans ?_
  rw [e]
  rfl

/-- The kernel's run: the gradient, the change and the new moments, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v1_0) = (fun i : S1024x768.Idx => grad (argX m c) (i 0) (i 1))
      ∧ r.2.mem ((c.tc : Thread nD τ).loc main_v1_1) = (fun i : S1024x768.Idx => update (argX m c) (argW m c) (argM m c) (argV m c) (i 0) (i 1))
      ∧ r.2.mem ((c.tc : Thread nD τ).loc main_v1_2) = (fun i : S1024x768.Idx => newFirst (argX m c) (argM m c) (i 0) (i 1))
      ∧ r.2.mem ((c.tc : Thread nD τ).loc main_v1_3) = (fun i : S1024x768.Idx => newSecond (argX m c) (argV m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (unchanged m g) (run_main m g))
  exact ⟨((h.2 c).1 4).trans (array_grad m c), ((h.2 c).1 5).trans (array_update m c), ((h.2 c).1 6).trans (array_first m c),
    ((h.2 c).1 7).trans (array_second m c), h.1 c⟩

end Cert.Proof.AdamAda
-- ==== Proof.AdamAda.Reference.lean ====
module

public import proofs.«01_k».proof.Proof.AdamAda.Kernel
public import proofs.«01_k».proof.Proof.Gen.AdamAdaRefIdeal.Run
public import proofs.«01_k».proof.Proof.Gen.AdamAdaRefIdeal.Read

@[expose] public section

set_option maxRecDepth 16384

noncomputable section

namespace Cert.Proof.AdamAda

open Idealize.ShloMosaic Idealize.ShloMosaic.TcCoe Idealize.SL.Sem
open Cert.AdamAdaRefIdeal Cert.AdamAdaRefIdeal.Gen Cert.AdamAdaRefIdeal.Read
open Cert.Proof.Adam

section Formulas

variable (X : S1024x768.Idx → EReal) (W M V : S1024x768.Idx → EReal)

/-- Its new moments and its change are the kernel's. -/
theorem ref_first (r : Fin 1024) (k : Fin 768) : val_main_v4 (F := Ideal) X M (ix2 r k) = newFirst X M r k := by
  unfold val_main_v4 val_main_v3 val_main_v2 val_main_v1 val_main_v0
  pointwise [grad, newFirst, first, keepFirst, addFirst, val_main_cst_apply, val_main_cst_0_apply]

theorem ref_second (r : Fin 1024) (k : Fin 768) : val_main_v10 (F := Ideal) X V (ix2 r k) = newSecond X V r k := by
  unfold val_main_v10 val_main_v9 val_main_v8 val_main_v7 val_main_v6 val_main_v5
  pointwise [grad, newSecond, second, keepSecond, addSecond, val_main_cst_1_apply, val_main_cst_2_apply]

theorem ref_change (r : Fin 1024) (k : Fin 768) : val_main_v23 (F := Ideal) X W M V (ix2 r k) = update X W M V r k := by
  unfold val_main_v23 val_main_v22 val_main_v21 val_main_v20 val_main_v19 val_main_v18 val_main_v17 val_main_v16 val_main_v15 val_main_v14 val_main_v13 val_main_v12 val_main_v11
  pointwise [ref_first, ref_second, newFirst, newSecond, update, change, startFirst, startSecond, small, decay, rate, val_main_cst_3_apply, val_main_cst_4_apply,
    val_main_cst_5_apply, val_main_cst_6_apply, val_main_cst_7_apply]

end Formulas

variable (m : (ℓ : Loc nD τ sig) → Buf (Elt Ideal) ℓ)

/-- The reference's run, in the kernel's formulas. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_arg0) = (fun i : S1024x768.Idx => grad (m ((c.tc : Thread nD τ).loc main_arg0)) (i 0) (i 1))
      ∧ r.2.mem ((c.tc : Thread nD τ).loc main_v23) = (fun i : S1024x768.Idx => update (m ((c.tc : Thread nD τ).loc main_arg0)) (m ((c.tc : Thread nD τ).loc main_arg1))
        (m ((c.tc : Thread nD τ).loc main_arg2)) (m ((c.tc : Thread nD τ).loc main_arg3)) (i 0) (i 1))
      ∧ r.2.mem ((c.tc : Thread nD τ).loc main_v4) = (fun i : S1024x768.Idx => newFirst (m ((c.tc : Thread nD τ).loc main_arg0)) (m ((c.tc : Thread nD τ).loc main_arg2)) (i 0) (i 1))
      ∧ r.2.mem ((c.tc : Thread nD τ).loc main_v10) = (fun i : S1024x768.Idx => newSecond (m ((c.tc : Thread nD τ).loc main_arg0)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.AdamAdaRefIdeal.Value.run m g)
  obtain ⟨h0, h1, h2, h3, ha⟩ := h c
  refine ⟨h0.trans (funext fun i => ?_), (h1.trans (val_main_v23_eq _ _ _ _)).trans (funext fun i => ?_),
    (h2.trans (val_main_v4_eq _ _)).trans (funext fun i => ?_), (h3.trans (val_main_v10_eq _ _)).trans (funext fun i => ?_), ha⟩
  · idx_vars i
    rfl
  · idx_vars i
    exact ref_change _ _ _ _ _ _
  · idx_vars i
    exact ref_first _ _ _ _
  · idx_vars i
    exact ref_second _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2.2.2, sem_eq_zero_of_no_sems (by decide) r.2⟩) (Cert.AdamAdaRefIdeal.Value.run m g)

end Cert.Proof.AdamAda
-- ==== Proof.AdamUp.Kernel.lean ====
module

public import proofs.«01_k».proof.Proof.Gen.AdamUpIdeal.Frame
public import proofs.«01_k».proof.Proof.Adam.Formula
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.AdamUp

open Idealize.ShloMosaic Idealize.ShloMosaic.TcCoe Idealize.SL.Sem
open Cert.AdamUpIdeal Cert.AdamUpIdeal.Gen
open Cert.Proof.Adam

section Block

variable (i : grid0.Coords) (x y : Vec Ideal S8x176x1024 .bf16) (w m v : Vec Ideal S176x1024 .f32)

/-- The devices' gradients of a tile, summed. -/
def total (x : S8x176x1024.Idx → EReal) (r : Fin 176) (k : Fin 1024) : EReal := ∑ d : Fin 8, x (ix3 d r k)

/-- The region of a whole tile reads it as it is. -/
theorem whole (a : Vec Ideal S176x1024 .f32) : View.ld a r0_8 = a := by
  funext i
  idx_vars i
  pointwise

/-- A tile of the first two takes the first half of the gradients, the other two the second. -/
theorem grad_low (h : Scalar.cmpi .sge (BitVec.ofNat 32 (i 0).val) 2#32 = 0#1) (r : Fin 176) (k : Fin 1024) :
    k0_pay7 i x y w m v (ix2 r k) = total x r k := by
  unfold k0_pay7 k0_pay6 k0_pay5 k0_pay4
  simp only [h, Scalar.select]
  rw [if_neg (by decide)]
  pointwise [total]
  exact eight fun d => x (ix3 d r k)

theorem grad_high (h : Scalar.cmpi .sge (BitVec.ofNat 32 (i 0).val) 2#32 = 1#1) (r : Fin 176) (k : Fin 1024) :
    k0_pay7 i x y w m v (ix2 r k) = total y r k := by
  unfold k0_pay7 k0_pay5
  simp only [h, Scalar.select]
  rw [if_pos (by decide)]
  pointwise [total]
  exact eight fun d => y (ix3 d r k)

theorem grad_block (r : Fin 176) (k : Fin 1024) : out0_5 i x y w m v (ix2 r k) = k0_pay7 i x y w m v (ix2 r k) := by
  unfold out0_5 k0_pay7
  rw [View.canon_cons_unit_lit _ _ _ (by decide)]

theorem first_block (r : Fin 176) (k : Fin 1024) :
    out0_7 i x y w m v (ix2 r k) = first (k0_pay7 i x y w m v (ix2 r k)) (m (ix2 r k)) := by
  unfold out0_7
  rw [View.canon_cons_unit_lit _ _ _ (by decide), whole]
  unfold k0_pay1
  pointwise [first, keepFirst, addFirst]

theorem second_block (r : Fin 176) (k : Fin 1024) :
    out0_8 i x y w m v (ix2 r k) = second (k0_pay7 i x y w m v (ix2 r k)) (v (ix2 r k)) := by
  unfold out0_8
  rw [View.canon_cons_unit_lit _ _ _ (by decide), whole]
  unfold k0_pay2
  pointwise [second, keepSecond, addSecond]

theorem change_block (r : Fin 176) (k : Fin 1024) :
    out0_6 i x y w m v (ix2 r k) = change (k0_pay7 i x y w m v (ix2 r k)) (w (ix2 r k)) (m (ix2 r k)) (v (ix2 r k)) := by
  unfold out0_6
  rw [View.canon_cons_unit_lit _ _ _ (by decide), whole, whole, whole]
  unfold k0_pay3 k0_pay2 k0_pay1
  pointwise [change, first, second, keepFirst, addFirst, keepSecond, addSecond, startFirst, startSecond, small, decay, rate]

end Block

/-- The whole arrays' gradient, new moments and change. -/
def grad (X : S8x1024x704.Idx → EReal) (r : Fin 1024) (k : Fin 704) : EReal := ∑ d : Fin 8, X (ix3 d r k)

def newFirst (X : S8x1024x704.Idx → EReal) (M : S1024x704.Idx → EReal) (r : Fin 1024) (k : Fin 704) : EReal := first (grad X r k) (M (ix2 r k))

def newSecond (X : S8x1024x704.Idx → EReal) (V : S1024x704.Idx → EReal) (r : Fin 1024) (k : Fin 704) : EReal := second (grad X r k) (V (ix2 r k))

def update (X : S8x1024x704.Idx → EReal) (W M V : S1024x704.Idx → EReal) (r : Fin 1024) (k : Fin 704) : EReal :=
  change (grad X r k) (W (ix2 r k)) (M (ix2 r k)) (V (ix2 r k))

variable (m : (ℓ : Loc nD τ sig) → Buf (Elt Ideal) ℓ)

abbrev argX (c : Dev nD) : S8x1024x704.Idx → EReal := m ((c : Thread nD τ).loc main_arg0)
abbrev argW (c : Dev nD) : S1024x704.Idx → EReal := m ((c : Thread nD τ).loc main_arg1)
abbrev argM (c : Dev nD) : S1024x704.Idx → EReal := m ((c : Thread nD τ).loc main_arg2)
abbrev argV (c : Dev nD) : S1024x704.Idx → EReal := m ((c : Thread nD τ).loc main_arg3)

theorem arrays_distinct : Function.Injective (Pipeline.arrRef spec0) := by
  decide +kernel

theorem points : cfg0.N = 4 := by decide

/-- The column of the weight that row `r` of the tile of a grid point is. -/
def place (t : Fin cfg0.N) (r : Fin 176) : Fin 704 := ⟨t.val * 176 + r.val, by have := lt_of_lt_of_eq t.isLt points; omega⟩

theorem idx : ∀ t : Fin cfg0.N, win0_0.index t = ![0, min t.val 1, 0] ∧ win0_1.index t = ![0, t.val - 2, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] := by
  decide +kernel

/-- Which tiles take which half. -/
theorem half : ∀ t : Fin cfg0.N,
    (t.val < 2 → win0_0.index t = ![0, t.val, 0] ∧ Scalar.cmpi .sge (BitVec.ofNat 32 ((grid0.coords t) 0).val) 2#32 = 0#1)
    ∧ (2 ≤ t.val → win0_1.index t = ![0, t.val - 2, 0] ∧ Scalar.cmpi .sge (BitVec.ofNat 32 ((grid0.coords t) 0).val) 2#32 = 1#1) := by
  decide +kernel

/-- The two halves of the gradients, as the host cuts them. -/
theorem entry_low (c : Dev nD) (d : Fin 8) (r : Fin 352) (k : Fin 1024) :
    (V m c main_v2 : S8x352x1024.Idx → EReal) (ix3 d r k) = argX m c (ix3 d k ⟨r.val, by omega⟩) := by
  simp only [V, V0, List.flatten_cons, List.flatten_nil, List.append_nil, StableHlo.after_cons, StableHlo.after_nil]
  after_results_simp
  pointwise

theorem entry_high (c : Dev nD) (d : Fin 8) (r : Fin 352) (k : Fin 1024) :
    (V m c main_v3 : S8x352x1024.Idx → EReal) (ix3 d r k) = argX m c (ix3 d k ⟨352 + r.val, by omega⟩) := by
  simp only [V, V0, List.flatten_cons, List.flatten_nil, List.append_nil, StableHlo.after_cons, StableHlo.after_nil]
  after_results_simp
  pointwise

theorem entry_weight (c : Dev nD) (r : Fin 704) (k : Fin 1024) : (V m c main_v4 : S704x1024.Idx → EReal) (ix2 r k) = argW m c (ix2 k r) := by
  simp only [V, V0, List.flatten_cons, List.flatten_nil, List.append_nil, StableHlo.after_cons, StableHlo.after_nil]
  after_results_simp
  pointwise

theorem entry_moment (c : Dev nD) (r : Fin 704) (k : Fin 1024) : (V m c main_v5 : S704x1024.Idx → EReal) (ix2 r k) = argM m c (ix2 k r) := by
  simp only [V, V0, List.flatten_cons, List.flatten_nil, List.append_nil, StableHlo.after_cons, StableHlo.after_nil]
  after_results_simp
  pointwise

theorem entry_spread (c : Dev nD) (r : Fin 704) (k : Fin 1024) : (V m c main_v6 : S704x1024.Idx → EReal) (ix2 r k) = argV m c (ix2 k r) := by
  simp only [V, V0, List.flatten_cons, List.flatten_nil, List.append_nil, StableHlo.after_cons, StableHlo.after_nil]
  after_results_simp
  pointwise

theorem low_at (c : Dev nD) (t : Fin cfg0.N) (h : t.val < 2) (d : Fin 8) (r : Fin 176) (k : Fin 1024) :
    (iblk m c 0 t : S8x176x1024.Idx → EReal) (ix3 d r k) = argX m c (ix3 d k (place t r)) := by
  refine Eq.trans ?_ (entry_low m c d ⟨t.val * 176 + r.val, by omega⟩ k)
  blk_ext [iblk, ((half t).1 h).1]

theorem high_at (c : Dev nD) (t : Fin cfg0.N) (h : 2 ≤ t.val) (d : Fin 8) (r : Fin 176) (k : Fin 1024) :
    (iblk m c 1 t : S8x176x1024.Idx → EReal) (ix3 d r k) = argX m c (ix3 d k (place t r)) := by
  have hp := lt_of_lt_of_eq t.isLt points
  refine (Eq.trans ?_ (entry_high m c d ⟨(t.val - 2) * 176 + r.val, by omega⟩ k)).trans ?_
  · blk_ext [iblk, ((half t).2 h).1]
  · have e : (⟨352 + ((t.val - 2) * 176 + r.val), by omega⟩ : Fin 704) = place t r := Fin.ext (by show 352 + ((t.val - 2) * 176 + r.val) = t.val * 176 + r.val; omega)
    show argX m c (ix3 d k (⟨352 + ((t.val - 2) * 176 + r.val), by omega⟩ : Fin 704)) = _
    rw [e]

/-- The gradient a tile works with is the sum over the devices. -/
theorem picked (c : Dev nD) (t : Fin cfg0.N) (r : Fin 176) (k : Fin 1024) :
    k0_pay7 (grid0.coords t) (iblk m c 0 t) (iblk m c 1 t) (iblk m c 2 t) (iblk m c 3 t) (iblk m c 4 t) (ix2 r k) = grad (argX m c) k (place t r) := by
  rcases lt_or_ge t.val 2 with h | h
  · rw [grad_low _ _ _ _ _ _ ((half t).1 h).2]
    exact Finset.sum_congr rfl fun d _ => low_at m c t h d r k
  · rw [grad_high _ _ _ _ _ _ ((half t).2 h).2]
    exact Finset.sum_congr rfl fun d _ => high_at m c t h d r k

theorem weight_at (c : Dev nD) (t : Fin cfg0.N) (r : Fin 176) (k : Fin 1024) :
    (iblk m c 2 t : Vec Ideal S176x1024 .f32) (ix2 r k) = argW m c (ix2 k (place t r)) := by
  refine Eq.trans ?_ (entry_weight m c (place t r) k)
  blk_ext [iblk, idx t, place]

theorem moment_at (c : Dev nD) (t : Fin cfg0.N) (r : Fin 176) (k : Fin 1024) :
    (iblk m c 3 t : Vec Ideal S176x1024 .f32) (ix2 r k) = argM m c (ix2 k (place t r)) := by
  refine Eq.trans ?_ (entry_moment m c (place t r) k)
  blk_ext [iblk, idx t, place]

theorem spread_at (c : Dev nD) (t : Fin cfg0.N) (r : Fin 176) (k : Fin 1024) :
    (iblk m c 4 t : Vec Ideal S176x1024 .f32) (ix2 r k) = argV m c (ix2 k (place t r)) := by
  refine Eq.trans ?_ (entry_spread m c (place t r) k)
  blk_ext [iblk, idx t, place]

theorem array_grad (c : Dev nD) : (dats m 0 c).arrAt 5 cfg0.N = fun y : S704x1024.Idx => grad (argX m c) (y 1) (y 0) := by
  refine (dats m 0 c).arrAt_eq_of_covers 5 _ (by decide +kernel) fun t hf y => ?_
  have at_tile : ∀ j : S176x1024.Idx, out0_5 (grid0.coords t) (iblk m c 0 t) (iblk m c 1 t) (iblk m c 2 t) (iblk m c 3 t) (iblk m c 4 t) j
      = grad (argX m c) (j 1) (place t (j 0)) := fun j => by
    idx_vars j
    rw [grad_block, picked]
  have h := at_tile y
  have e : ((cfg0.win 5).blk t).view.emb y = ix2 (place t (y 0)) (y 1) := by
    blk_ext [idx t, place]
  blk_simp
  rw [after0_5]
  refine h.trans ?_
  rw [e]
  rfl

theorem array_update (c : Dev nD) : (dats m 0 c).arrAt 6 cfg0.N = fun y : S704x1024.Idx => update (argX m c) (argW m c) (argM m c) (argV m c) (y 1) (y 0) := by
  refine (dats m 0 c).arrAt_eq_of_covers 6 _ (by decide +kernel) fun t hf y => ?_
  have at_tile : ∀ j : S176x1024.Idx, out0_6 (grid0.coords t) (iblk m c 0 t) (iblk m c 1 t) (iblk m c 2 t) (iblk m c 3 t) (iblk m c 4 t) j
      = update (argX m c) (argW m c) (argM m c) (argV m c) (j 1) (place t (j 0)) := fun j => by
    idx_vars j
    rw [change_block, picked, weight_at, moment_at, spread_at]
    rfl
  have h := at_tile y
  have e : ((cfg0.win 6).blk t).view.emb y = ix2 (place t (y 0)) (y 1) := by
    blk_ext [idx t, place]
  blk_simp
  rw [after0_6]
  refine h.trans ?_
  rw [e]
  rfl

theorem array_first (c : Dev nD) : (dats m 0 c).arrAt 7 cfg0.N = fun y : S704x1024.Idx => newFirst (argX m c) (argM m c) (y 1) (y 0) := by
  refine (dats m 0 c).arrAt_eq_of_covers 7 _ (by decide +kernel) fun t hf y => ?_
  have at_tile : ∀ j : S176x1024.Idx, out0_7 (grid0.coords t) (iblk m c 0 t) (iblk m c 1 t) (iblk m c 2 t) (iblk m c 3 t) (iblk m c 4 t) j
      = newFirst (argX m c) (argM m c) (j 1) (place t (j 0)) := fun j => by
    idx_vars j
    rw [first_block, picked, moment_at]
    rfl
  have h := at_tile y
  have e : ((cfg0.win 7).blk t).view.emb y = ix2 (place t (y 0)) (y 1) := by
    blk_ext [idx t, place]
  blk_simp
  rw [after0_7]
  refine h.trans ?_
  rw [e]
  rfl

theorem array_second (c : Dev nD) : (dats m 0 c).arrAt 8 cfg0.N = fun y : S704x1024.Idx => newSecond (argX m c) (argV m c) (y 1) (y 0) := by
  refine (dats m 0 c).arrAt_eq_of_covers 8 _ (by decide +kernel) fun t hf y => ?_
  have at_tile : ∀ j : S176x1024.Idx, out0_8 (grid0.coords t) (iblk m c 0 t) (iblk m c 1 t) (iblk m c 2 t) (iblk m c 3 t) (iblk m c 4 t) j
      = newSecond (argX m c) (argV m c) (j 1) (place t (j 0)) := fun j => by
    idx_vars j
    rw [second_block, picked, spread_at]
    rfl
  have h := at_tile y
  have e : ((cfg0.win 8).blk t).view.emb y = ix2 (place t (y 0)) (y 1) := by
    blk_ext [idx t, place]
  blk_simp
  rw [after0_8]
  refine h.trans ?_
  rw [e]
  rfl

theorem tail_grad (c : Dev nD) : (Pipeline.afterTail₀ cfgs (dats m) 0 (V0 m) [hostOps1] c main_v8 : S1024x704.Idx → EReal)
      = fun i => grad (argX m c) (i 0) (i 1) := by
  have h : Pipeline.withArrays (cfgs 0).spec c (V0 m c) (fun w => (dats m 0 c).arrAt w (cfgs 0).N) (Proc.tc.devRef main_v7_0)
      = fun i : S704x1024.Idx => grad (argX m c) (i 1) (i 0) :=
    (Pipeline.withArrays_arr (cfgs 0).spec arrays_distinct c (V0 m c) (fun w => (dats m 0 c).arrAt w (cfgs 0).N) 5).trans (array_grad m c)
  funext i
  idx_vars i
  unfold Pipeline.afterTail₀
  simp only [List.flatten_cons, List.flatten_nil, List.append_nil, StableHlo.after_cons, StableHlo.after_nil]
  after_results_simp
  rw [h]
  pointwise

theorem tail_update (c : Dev nD) : (Pipeline.afterTail₀ cfgs (dats m) 0 (V0 m) [hostOps1] c main_v9 : S1024x704.Idx → EReal)
      = fun i => update (argX m c) (argW m c) (argM m c) (argV m c) (i 0) (i 1) := by
  have h : Pipeline.withArrays (cfgs 0).spec c (V0 m c) (fun w => (dats m 0 c).arrAt w (cfgs 0).N) (Proc.tc.devRef main_v7_1)
      = fun i : S704x1024.Idx => update (argX m c) (argW m c) (argM m c) (argV m c) (i 1) (i 0) :=
    (Pipeline.withArrays_arr (cfgs 0).spec arrays_distinct c (V0 m c) (fun w => (dats m 0 c).arrAt w (cfgs 0).N) 6).trans (array_update m c)
  funext i
  idx_vars i
  unfold Pipeline.afterTail₀
  simp only [List.flatten_cons, List.flatten_nil, List.append_nil, StableHlo.after_cons, StableHlo.after_nil]
  after_results_simp
  rw [h]
  pointwise

theorem tail_first (c : Dev nD) : (Pipeline.afterTail₀ cfgs (dats m) 0 (V0 m) [hostOps1] c main_v10 : S1024x704.Idx → EReal)
      = fun i => newFirst (argX m c) (argM m c) (i 0) (i 1) := by
  have h : Pipeline.withArrays (cfgs 0).spec c (V0 m c) (fun w => (dats m 0 c).arrAt w (cfgs 0).N) (Proc.tc.devRef main_v7_2)
      = fun i : S704x1024.Idx => newFirst (argX m c) (argM m c) (i 1) (i 0) :=
    (Pipeline.withArrays_arr (cfgs 0).spec arrays_distinct c (V0 m c) (fun w => (dats m 0 c).arrAt w (cfgs 0).N) 7).trans (array_first m c)
  funext i
  idx_vars i
  unfold Pipeline.afterTail₀
  simp only [List.flatten_cons, List.flatten_nil, List.append_nil, StableHlo.after_cons, StableHlo.after_nil]
  after_results_simp
  rw [h]
  pointwise

theorem tail_second (c : Dev nD) : (Pipeline.afterTail₀ cfgs (dats m) 0 (V0 m) [hostOps1] c main_v11 : S1024x704.Idx → EReal)
      = fun i => newSecond (argX m c) (argV m c) (i 0) (i 1) := by
  have h : Pipeline.withArrays (cfgs 0).spec c (V0 m c) (fun w => (dats m 0 c).arrAt w (cfgs 0).N) (Proc.tc.devRef main_v7_3)
      = fun i : S704x1024.Idx => newSecond (argX m c) (argV m c) (i 1) (i 0) :=
    (Pipeline.withArrays_arr (cfgs 0).spec arrays_distinct c (V0 m c) (fun w => (dats m 0 c).arrAt w (cfgs 0).N) 8).trans (array_second m c)
  funext i
  idx_vars i
  unfold Pipeline.afterTail₀
  simp only [List.flatten_cons, List.flatten_nil, List.append_nil, StableHlo.after_cons, StableHlo.after_nil]
  after_results_simp
  rw [h]
  pointwise

/-- The kernel's run: the gradient, the change and the new moments, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v8) = (fun i : S1024x704.Idx => grad (argX m c) (i 0) (i 1))
      ∧ r.2.mem ((c.tc : Thread nD τ).loc main_v9) = (fun i : S1024x704.Idx => update (argX m c) (argW m c) (argM m c) (argV m c) (i 0) (i 1))
      ∧ r.2.mem ((c.tc : Thread nD τ).loc main_v10) = (fun i : S1024x704.Idx => newFirst (argX m c) (argM m c) (i 0) (i 1))
      ∧ r.2.mem ((c.tc : Thread nD τ).loc main_v11) = (fun i : S1024x704.Idx => newSecond (argX m c) (argV m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (unchanged m g) (run_main m g))
  exact ⟨((h.2 c).2 main_v8 (Pipeline.mem_restRefs_of main_v8 (by decide) (by decide))).trans (tail_grad m c),
    ((h.2 c).2 main_v9 (Pipeline.mem_restRefs_of main_v9 (by decide) (by decide))).trans (tail_update m c),
    ((h.2 c).2 main_v10 (Pipeline.mem_restRefs_of main_v10 (by decide) (by decide))).trans (tail_first m c),
    ((h.2 c).2 main_v11 (Pipeline.mem_restRefs_of main_v11 (by decide) (by decide))).trans (tail_second m c), h.1 c⟩

end Cert.Proof.AdamUp
-- ==== Proof.AdamUp.Reference.lean ====
module

public import proofs.«01_k».proof.Proof.AdamUp.Kernel
public import proofs.«01_k».proof.Proof.Gen.AdamUpRefIdeal.Run
public import proofs.«01_k».proof.Proof.Gen.AdamUpRefIdeal.Read

@[expose] public section

set_option maxRecDepth 16384

noncomputable section

namespace Cert.Proof.AdamUp

open Idealize.ShloMosaic Idealize.ShloMosaic.TcCoe Idealize.SL.Sem
open Cert.AdamUpRefIdeal Cert.AdamUpRefIdeal.Gen Cert.AdamUpRefIdeal.Read
open Cert.Proof.Adam

section Formulas

variable (X : S8x1024x704.Idx → EReal) (W M V : S1024x704.Idx → EReal)

/-- The reference's sum of the gradients is the kernel's. -/
theorem ref_grad (r : Fin 1024) (k : Fin 704) : val_main_v0 (F := Ideal) X (ix2 r k) = grad X r k := by
  unfold val_main_v0
  pointwise [grad, val_main_cst_apply]

/-- Its new moments and its change are the kernel's. -/
theorem ref_first (r : Fin 1024) (k : Fin 704) : val_main_v5 (F := Ideal) X M (ix2 r k) = newFirst X M r k := by
  unfold val_main_v5 val_main_v4 val_main_v3 val_main_v2 val_main_v1
  pointwise [ref_grad, newFirst, first, keepFirst, addFirst, val_main_cst_0_apply, val_main_cst_1_apply]

theorem ref_second (r : Fin 1024) (k : Fin 704) : val_main_v11 (F := Ideal) X V (ix2 r k) = newSecond X V r k := by
  unfold val_main_v11 val_main_v10 val_main_v9 val_main_v8 val_main_v7 val_main_v6
  pointwise [ref_grad, newSecond, second, keepSecond, addSecond, val_main_cst_2_apply, val_main_cst_3_apply]

theorem ref_change (r : Fin 1024) (k : Fin 704) : val_main_v24 (F := Ideal) X W M V (ix2 r k) = update X W M V r k := by
  unfold val_main_v24 val_main_v23 val_main_v22 val_main_v21 val_main_v20 val_main_v19 val_main_v18 val_main_v17 val_main_v16 val_main_v15 val_main_v14 val_main_v13 val_main_v12
  pointwise [ref_first, ref_second, newFirst, newSecond, update, change, startFirst, startSecond, small, decay, rate, val_main_cst_4_apply, val_main_cst_5_apply,
    val_main_cst_6_apply, val_main_cst_7_apply, val_main_cst_8_apply]

end Formulas

variable (m : (ℓ : Loc nD τ sig) → Buf (Elt Ideal) ℓ)

/-- The reference's run, in the kernel's formulas. -/
theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun i : S1024x704.Idx => grad (m ((c.tc : Thread nD τ).loc main_arg0)) (i 0) (i 1))
      ∧ r.2.mem ((c.tc : Thread nD τ).loc main_v24) = (fun i : S1024x704.Idx => update (m ((c.tc : Thread nD τ).loc main_arg0)) (m ((c.tc : Thread nD τ).loc main_arg1))
        (m ((c.tc : Thread nD τ).loc main_arg2)) (m ((c.tc : Thread nD τ).loc main_arg3)) (i 0) (i 1))
      ∧ r.2.mem ((c.tc : Thread nD τ).loc main_v5) = (fun i : S1024x704.Idx => newFirst (m ((c.tc : Thread nD τ).loc main_arg0)) (m ((c.tc : Thread nD τ).loc main_arg2)) (i 0) (i 1))
      ∧ r.2.mem ((c.tc : Thread nD τ).loc main_v11) = (fun i : S1024x704.Idx => newSecond (m ((c.tc : Thread nD τ).loc main_arg0)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.AdamUpRefIdeal.Value.run m g)
  obtain ⟨h0, h1, h2, h3, ha⟩ := h c
  refine ⟨(h0.trans (val_main_v0_eq _)).trans (funext fun i => ?_), (h1.trans (val_main_v24_eq _ _ _ _)).trans (funext fun i => ?_),
    (h2.trans (val_main_v5_eq _ _)).trans (funext fun i => ?_), (h3.trans (val_main_v11_eq _ _)).trans (funext fun i => ?_), ha⟩
  · idx_vars i
    exact ref_grad _ _ _
  · idx_vars i
    exact ref_change _ _ _ _ _ _
  · idx_vars i
    exact ref_first _ _ _ _
  · idx_vars i
    exact ref_second _ _ _ _

/-- The reference runs, leaves its arguments alone, and declares no semaphore. -/
theorem reference_quiet (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2.2.2, sem_eq_zero_of_no_sems (by decide) r.2⟩) (Cert.AdamUpRefIdeal.Value.run m g)

end Cert.Proof.AdamUp
-- ==== Proof.lean ====
/- The claims of the certificate, assembled: the frames are the generated ones, the value claims come from the modules under Proof/. -/
module

public import proofs.«01_k».proof.Defs
public import proofs.«01_k».proof.Proof.Gen.Kernel.Frame
public import proofs.«01_k».proof.Proof.Gen.KernelIdeal.Frame
public import proofs.«01_k».proof.Proof.Gen.Conv.Frame
public import proofs.«01_k».proof.Proof.Gen.ConvIdeal.Frame
public import proofs.«01_k».proof.Proof.Gen.Up.Frame
public import proofs.«01_k».proof.Proof.Gen.UpIdeal.Frame
public import proofs.«01_k».proof.Proof.Gen.GradUp.Frame
public import proofs.«01_k».proof.Proof.Gen.GradUpIdeal.Frame
public import proofs.«01_k».proof.Proof.Gen.InBack.Frame
public import proofs.«01_k».proof.Proof.Gen.InBackIdeal.Frame
public import proofs.«01_k».proof.Proof.Gen.Head.Frame
public import proofs.«01_k».proof.Proof.Gen.HeadIdeal.Frame
public import proofs.«01_k».proof.Proof.Gen.MixBack.Frame
public import proofs.«01_k».proof.Proof.Gen.MixBackIdeal.Frame
public import proofs.«01_k».proof.Proof.Gen.GradIn.Frame
public import proofs.«01_k».proof.Proof.Gen.GradInIdeal.Frame
public import proofs.«01_k».proof.Proof.Gen.GradOut.Frame
public import proofs.«01_k».proof.Proof.Gen.GradOutIdeal.Frame
public import proofs.«01_k».proof.Proof.Gen.OutProj.Frame
public import proofs.«01_k».proof.Proof.Gen.OutProjIdeal.Frame
public import proofs.«01_k».proof.Proof.Gen.GradAda.Frame
public import proofs.«01_k».proof.Proof.Gen.GradAdaIdeal.Frame
public import proofs.«01_k».proof.Proof.Gen.ModCols.Frame
public import proofs.«01_k».proof.Proof.Gen.ModColsIdeal.Frame
public import proofs.«01_k».proof.Proof.Gen.AdamIn.Frame
public import proofs.«01_k».proof.Proof.Gen.AdamInIdeal.Frame
public import proofs.«01_k».proof.Proof.Gen.AdamOut.Frame
public import proofs.«01_k».proof.Proof.Gen.AdamOutIdeal.Frame
public import proofs.«01_k».proof.Proof.Gen.AdamGlu.Frame
public import proofs.«01_k».proof.Proof.Gen.AdamGluIdeal.Frame
public import proofs.«01_k».proof.Proof.Gen.AdamDown.Frame
public import proofs.«01_k».proof.Proof.Gen.AdamDownIdeal.Frame
public import proofs.«01_k».proof.Proof.Gen.AdamConv.Frame
public import proofs.«01_k».proof.Proof.Gen.AdamConvIdeal.Frame
public import proofs.«01_k».proof.Proof.Gen.AdamTaps.Frame
public import proofs.«01_k».proof.Proof.Gen.AdamTapsIdeal.Frame
public import proofs.«01_k».proof.Proof.Gen.AdamAda.Frame
public import proofs.«01_k».proof.Proof.Gen.AdamAdaIdeal.Frame
public import proofs.«01_k».proof.Proof.Gen.AdamUp.Frame
public import proofs.«01_k».proof.Proof.Gen.AdamUpIdeal.Frame
public import proofs.«01_k».proof.Proof.GatedDown.Reference
public import proofs.«01_k».proof.Proof.Conv.Reference
public import proofs.«01_k».proof.Proof.Up.Reference
public import proofs.«01_k».proof.Proof.GradUp.Reference
public import proofs.«01_k».proof.Proof.InBack.Reference
public import proofs.«01_k».proof.Proof.Head.Reference
public import proofs.«01_k».proof.Proof.OutProj.Reference
public import proofs.«01_k».proof.Proof.PreMix.Reference
public import proofs.«01_k».proof.Proof.PreMix.RunFloat
public import proofs.«01_k».proof.Proof.GradAda.Reference
public import proofs.«01_k».proof.Proof.ModCols.Reference
public import proofs.«01_k».proof.Proof.GradOut.Reference
public import proofs.«01_k».proof.Proof.GradIn.Reference
public import proofs.«01_k».proof.Proof.MixBack.Reference
public import proofs.«01_k».proof.Proof.AdamIn.Reference
public import proofs.«01_k».proof.Proof.AdamOut.Reference
public import proofs.«01_k».proof.Proof.AdamGlu.Reference
public import proofs.«01_k».proof.Proof.AdamDown.Reference
public import proofs.«01_k».proof.Proof.AdamConv.Reference
public import proofs.«01_k».proof.Proof.AdamTaps.Reference
public import proofs.«01_k».proof.Proof.AdamAda.Reference
public import proofs.«01_k».proof.Proof.AdamUp.Reference
public import Idealize.ShloMosaic.Adequacy
public import Idealize.ShloMosaic.Init

@[expose] public section

noncomputable section

namespace Cert.Proof

open Idealize.ShloMosaic Idealize.SL.Sem Cert.Kernel

/-- The gated activation's backward pass computes the gradients `jax.vjp` takes of the plain expression. -/
theorem gated_down : algebraic_KernelIdeal_ReferenceIdeal_pre_finite := by
  intro m g m' g' hpre hargs
  refine ⟨_, _, GatedDown.kernel_run m g, ?_⟩
  refine (θ_run Cert.ReferenceIdeal.defs _ _).mono (fun r h c => ?_) (GatedDown.reference_run m' g' fun c => ?_)
  · obtain ⟨e0, e1, e2⟩ := hargs c
    have h' := h c
    rw [e0, e1, e2] at h' ⊢
    exact h'
  · obtain ⟨e0, e1, e2⟩ := hargs c
    rw [e0, e1, e2]
    exact GatedDown.finite_args _ _ _ (hpre c)

/-- The reference runs, leaves its arguments alone, and declares no semaphore. -/
theorem reference_frame : quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

/-- The convolution's backward pass. -/
theorem conv : algebraic_ConvIdeal_ConvRefIdeal := by
  intro m g m' g' _ hargs
  refine ⟨_, _, Conv.kernel_run m g, ?_⟩
  refine (θ_run Cert.ConvRefIdeal.defs _ _).mono (fun r h c => ?_) (Conv.reference_run m' g')
  obtain ⟨e0, e1, e2⟩ := hargs c
  have h' := h c
  rw [e0, e1, e2] at h' ⊢
  exact h'

/-- The up projection and the convolution. -/
theorem up : algebraic_UpIdeal_UpRefIdeal := by
  intro m g m' g' _ hargs
  refine ⟨_, _, Up.kernel_run m g, ?_⟩
  refine (θ_run Cert.UpRefIdeal.defs _ _).mono (fun r h c => ?_) (Up.reference_run m' g')
  obtain ⟨e0, e1, e2⟩ := hargs c
  have h' := h c
  rw [e0, e1, e2] at h' ⊢
  exact h'

/-- The gradient of the up projection's weights. -/
theorem grad_up : algebraic_GradUpIdeal_GradUpRefIdeal := by
  intro m g m' g' _ hargs
  refine ⟨_, GradUp.kernel_run m g, ?_⟩
  refine (θ_run Cert.GradUpRefIdeal.defs _ _).mono (fun r h c => ?_) (GradUp.reference_run m' g')
  obtain ⟨e0, e1, e2⟩ := hargs c
  have h' := h c
  rw [e0, e1, e2] at h' ⊢
  exact h'

set_option maxHeartbeats 2000000 in
/-- The backward pass through the up projection, the modulated norm in front of it and the gated norm below. -/
theorem in_back : algebraic_InBackIdeal_InBackRefIdeal_pre_finite_in := by
  intro m g m' g' hpre hargs
  refine ⟨_, _, _, _, _, _, _, InBack.kernel_run m g, ?_⟩
  refine (θ_run Cert.InBackRefIdeal.defs _ _).mono (fun r h c => ?_) (InBack.reference_run m' g' fun c => ?_)
  · obtain ⟨e0, e1, e2, e3, e4, e5, e6, e7, e8, e9⟩ := hargs c
    have h' := h c
    unfold InBack.down InBack.argO InBack.argT InBack.argP InBack.argX InBack.argC InBack.argG InBack.argW InBack.argD InBack.argU
    rw [e0, e1, e2, e3, e4, e5, e6, e7, e8, e9] at h' ⊢
    exact h'
  · obtain ⟨e0, e1, e2, e3, e4, e5, e6, e7, e8, e9⟩ := hargs c
    exact InBack.Finite.congr e0 e1 e2 e3 e4 e6 e7 e8 e9 (InBack.finite_args _ _ _ _ _ _ _ _ _ _ (hpre c))

set_option maxHeartbeats 2000000 in
/-- The down projection, the gated norm behind it, the loss, and the way back through all three. -/
theorem head : algebraic_HeadIdeal_HeadRefIdeal_pre_finite_down := by
  intro m g m' g' hpre hargs
  refine ⟨_, _, _, _, _, Head.kernel_run m g, ?_⟩
  refine (θ_run Cert.HeadRefIdeal.defs _ _).mono (fun r h c => ?_) (Head.reference_run m' g' fun c => ?_)
  · obtain ⟨e0, e1, e2, e3, e4, e5⟩ := hargs c
    have h' := h c
    unfold Head.down Head.under Head.argH Head.argW Head.argX Head.argL Head.argT Head.argG
    rw [e0, e1, e2, e3, e4, e5] at h' ⊢
    exact h'
  · obtain ⟨e0, e1, e2, e3, e4, e5⟩ := hargs c
    exact Head.Finite.congr e0 e1 e2 e3 e4 e5 (Head.finite_args _ _ _ _ _ _ (hpre c))

set_option maxHeartbeats 2000000 in
/-- The backward pass through the mixer's input projection and the modulated norm in front of it. -/
theorem mix_back : algebraic_MixBackIdeal_MixBackRefIdeal_pre_finite_mix := by
  intro m g m' g' hpre hargs
  refine ⟨_, _, _, _, MixBack.kernel_run m g, ?_⟩
  refine (θ_run Cert.MixBackRefIdeal.defs _ _).mono (fun r h c => ?_) (MixBack.reference_run m' g' fun c => ?_)
  · obtain ⟨e0, e1, e2, e3, e4, e5, e6⟩ := hargs c
    have h' := h c
    unfold MixBack.down MixBack.argX MixBack.argC MixBack.argG MixBack.argW MixBack.argD MixBack.argU
    rw [e0, e1, e2, e3, e4, e5, e6] at h' ⊢
    exact h'
  · obtain ⟨e0, e1, e2, e3, e4, e5, e6⟩ := hargs c
    exact MixBack.Finite.congr e0 e1 e3 e4 e5 e6 (MixBack.finite_args _ _ _ _ _ _ _ (hpre c))

/-- The gradient of the weights of the mixer's input projection. -/
theorem grad_in : algebraic_GradInIdeal_GradInRefIdeal := by
  intro m g m' g' _ hargs
  refine ⟨_, GradIn.kernel_run m g, ?_⟩
  refine (θ_run Cert.GradInRefIdeal.defs _ _).mono (fun r h c => ?_) (GradIn.reference_run m' g')
  obtain ⟨e0, e1, e2⟩ := hargs c
  have h' := h c
  rw [e0, e1, e2] at h' ⊢
  exact h'

/-- The gradient of the weights of the mixer's output projection. -/
theorem grad_out : algebraic_GradOutIdeal_GradOutRefIdeal := by
  intro m g m' g' _ hargs
  refine ⟨_, GradOut.kernel_run m g, ?_⟩
  refine (θ_run Cert.GradOutRefIdeal.defs _ _).mono (fun r h c => ?_) (GradOut.reference_run m' g')
  obtain ⟨e0, e1, e2⟩ := hargs c
  have h' := h c
  rw [e0, e1, e2] at h' ⊢
  exact h'

/-- The mixer's output projection, its gated norm, the residual and the modulated norm that follows. -/
theorem out_proj : algebraic_OutProjIdeal_OutProjRefIdeal := by
  intro m g m' g' _ hargs
  refine ⟨_, _, _, OutProj.kernel_run m g, ?_⟩
  refine (θ_run Cert.OutProjRefIdeal.defs _ _).mono (fun r h c => ?_) (OutProj.reference_run m' g')
  obtain ⟨e0, e1, e2, e3, e4, e5, e6, e7⟩ := hargs c
  have h' := h c
  rw [e0, e1, e2, e3, e4, e5, e6, e7] at h' ⊢
  exact h'

/-- The optimiser's step of the mixer's input weights. -/
theorem adam_in : algebraic_AdamInIdeal_AdamInRefIdeal := by
  intro m g m' g' _ hargs
  refine ⟨_, _, _, _, AdamIn.kernel_run m g, ?_⟩
  refine (θ_run Cert.AdamInRefIdeal.defs _ _).mono (fun r h c => ?_) (AdamIn.reference_run m' g')
  obtain ⟨e0, e1, e2, e3⟩ := hargs c
  have h' := h c
  rw [e0, e1, e2, e3] at h' ⊢
  exact h'

/-- The optimiser's step of the mixer's output weights. -/
theorem adam_out : algebraic_AdamOutIdeal_AdamOutRefIdeal := by
  intro m g m' g' _ hargs
  refine ⟨_, _, _, _, AdamOut.kernel_run m g, ?_⟩
  refine (θ_run Cert.AdamOutRefIdeal.defs _ _).mono (fun r h c => ?_) (AdamOut.reference_run m' g')
  obtain ⟨e0, e1, e2, e3⟩ := hargs c
  have h' := h c
  rw [e0, e1, e2, e3] at h' ⊢
  exact h'

/-- The optimiser's step of the gate of the state space. -/
theorem adam_glu : algebraic_AdamGluIdeal_AdamGluRefIdeal := by
  intro m g m' g' _ hargs
  refine ⟨_, _, _, _, AdamGlu.kernel_run m g, ?_⟩
  refine (θ_run Cert.AdamGluRefIdeal.defs _ _).mono (fun r h c => ?_) (AdamGlu.reference_run m' g')
  obtain ⟨e0, e1, e2, e3⟩ := hargs c
  have h' := h c
  rw [e0, e1, e2, e3] at h' ⊢
  exact h'

/-- The optimiser's step of the down projection. -/
theorem adam_down : algebraic_AdamDownIdeal_AdamDownRefIdeal := by
  intro m g m' g' _ hargs
  refine ⟨_, _, _, _, AdamDown.kernel_run m g, ?_⟩
  refine (θ_run Cert.AdamDownRefIdeal.defs _ _).mono (fun r h c => ?_) (AdamDown.reference_run m' g')
  obtain ⟨e0, e1, e2, e3⟩ := hargs c
  have h' := h c
  rw [e0, e1, e2, e3] at h' ⊢
  exact h'

/-- The optimiser's step of the short convolution's taps. -/
theorem adam_conv : algebraic_AdamConvIdeal_AdamConvRefIdeal := by
  intro m g m' g' _ hargs
  refine ⟨_, _, _, _, AdamConv.kernel_run m g, ?_⟩
  refine (θ_run Cert.AdamConvRefIdeal.defs _ _).mono (fun r h c => ?_) (AdamConv.reference_run m' g')
  obtain ⟨e0, e1, e2, e3⟩ := hargs c
  have h' := h c
  rw [e0, e1, e2, e3] at h' ⊢
  exact h'

/-- The optimiser's step of the taps of the feed-forward convolution. -/
theorem adam_taps : algebraic_AdamTapsIdeal_AdamTapsRefIdeal := by
  intro m g m' g' _ hargs
  refine ⟨_, _, _, _, AdamTaps.kernel_run m g, ?_⟩
  refine (θ_run Cert.AdamTapsRefIdeal.defs _ _).mono (fun r h c => ?_) (AdamTaps.reference_run m' g')
  obtain ⟨e0, e1, e2, e3⟩ := hargs c
  have h' := h c
  rw [e0, e1, e2, e3] at h' ⊢
  exact h'

/-- The optimiser's step of the modulation's weights. -/
theorem adam_ada : algebraic_AdamAdaIdeal_AdamAdaRefIdeal := by
  intro m g m' g' _ hargs
  refine ⟨_, _, _, _, AdamAda.kernel_run m g, ?_⟩
  refine (θ_run Cert.AdamAdaRefIdeal.defs _ _).mono (fun r h c => ?_) (AdamAda.reference_run m' g')
  obtain ⟨e0, e1, e2, e3⟩ := hargs c
  have h' := h c
  rw [e0, e1, e2, e3] at h' ⊢
  exact h'

/-- The optimiser's step of the up projection. -/
theorem adam_up : algebraic_AdamUpIdeal_AdamUpRefIdeal := by
  intro m g m' g' _ hargs
  refine ⟨_, _, _, _, AdamUp.kernel_run m g, ?_⟩
  refine (θ_run Cert.AdamUpRefIdeal.defs _ _).mono (fun r h c => ?_) (AdamUp.reference_run m' g')
  obtain ⟨e0, e1, e2, e3⟩ := hargs c
  have h' := h c
  rw [e0, e1, e2, e3] at h' ⊢
  exact h'

/-- The forward pass's modulated norm and input projection. -/
theorem pre_mix : algebraic_PreMixIdeal_PreMixRefIdeal := by
  intro m g m' g' _ hargs
  refine ⟨_, _, PreMix.kernel_run m g, ?_⟩
  refine (θ_run Cert.PreMixRefIdeal.defs _ _).mono (fun r h c => ?_) (PreMix.reference_run m' g')
  obtain ⟨e0, e1, e2, e3, e4⟩ := hargs c
  have h' := h c
  rw [e0, e1, e2, e3, e4] at h' ⊢
  exact h'

/-- The gradient of the modulation's weights. -/
theorem grad_ada : algebraic_GradAdaIdeal_GradAdaRefIdeal := by
  intro m g m' g' _ hargs
  refine ⟨_, GradAda.kernel_run m g, ?_⟩
  refine (θ_run Cert.GradAdaRefIdeal.defs _ _).mono (fun r h c => ?_) (GradAda.reference_run m' g')
  obtain ⟨e0, e1, e2⟩ := hargs c
  have h' := h c
  rw [e0, e1, e2] at h' ⊢
  exact h'

/-- The modulation's projection and the conditioning's activation. -/
theorem mod_cols : algebraic_ModColsIdeal_ModColsRefIdeal := by
  intro m g m' g' _ hargs
  refine ⟨_, _, ModCols.kernel_run m g, ?_⟩
  refine (θ_run Cert.ModColsRefIdeal.defs _ _).mono (fun r h c => ?_) (ModCols.reference_run m' g')
  obtain ⟨e0, e1, e2⟩ := hargs c
  have h' := h c
  rw [e0, e1, e2] at h' ⊢
  exact h'

theorem claim : Cert.Claim :=
  ⟨Cert.Kernel.Gen.facts, Cert.KernelIdeal.Gen.facts, Cert.ReferenceIdeal.Gen.facts,
    Cert.Conv.Gen.facts, Cert.ConvIdeal.Gen.facts, Cert.ConvRefIdeal.Gen.facts,
    Cert.Up.Gen.facts, Cert.UpIdeal.Gen.facts, Cert.UpRefIdeal.Gen.facts,
    Cert.GradUp.Gen.facts, Cert.GradUpIdeal.Gen.facts, Cert.GradUpRefIdeal.Gen.facts,
    Cert.InBack.Gen.facts, Cert.InBackIdeal.Gen.facts, Cert.InBackRefIdeal.Gen.facts,
    Cert.Head.Gen.facts, Cert.HeadIdeal.Gen.facts, Cert.HeadRefIdeal.Gen.facts,
    Cert.MixBack.Gen.facts, Cert.MixBackIdeal.Gen.facts, Cert.MixBackRefIdeal.Gen.facts,
    Cert.GradIn.Gen.facts, Cert.GradInIdeal.Gen.facts, Cert.GradInRefIdeal.Gen.facts,
    Cert.GradOut.Gen.facts, Cert.GradOutIdeal.Gen.facts, Cert.GradOutRefIdeal.Gen.facts,
    Cert.OutProj.Gen.facts, Cert.OutProjIdeal.Gen.facts, Cert.OutProjRefIdeal.Gen.facts,
    Cert.AdamIn.Gen.facts, Cert.AdamInIdeal.Gen.facts, Cert.AdamInRefIdeal.Gen.facts,
    Cert.AdamOut.Gen.facts, Cert.AdamOutIdeal.Gen.facts, Cert.AdamOutRefIdeal.Gen.facts,
    Cert.AdamGlu.Gen.facts, Cert.AdamGluIdeal.Gen.facts, Cert.AdamGluRefIdeal.Gen.facts,
    Cert.AdamDown.Gen.facts, Cert.AdamDownIdeal.Gen.facts, Cert.AdamDownRefIdeal.Gen.facts,
    Cert.AdamConv.Gen.facts, Cert.AdamConvIdeal.Gen.facts, Cert.AdamConvRefIdeal.Gen.facts,
    Cert.AdamTaps.Gen.facts, Cert.AdamTapsIdeal.Gen.facts, Cert.AdamTapsRefIdeal.Gen.facts,
    Cert.AdamAda.Gen.facts, Cert.AdamAdaIdeal.Gen.facts, Cert.AdamAdaRefIdeal.Gen.facts,
    Cert.AdamUp.Gen.facts, Cert.AdamUpIdeal.Gen.facts, Cert.AdamUpRefIdeal.Gen.facts,
    Cert.PreMix.Gen.facts, Cert.PreMixIdeal.Gen.facts, Cert.PreMixRefIdeal.Gen.facts,
    Cert.GradAda.Gen.facts, Cert.GradAdaIdeal.Gen.facts, Cert.GradAdaRefIdeal.Gen.facts,
    Cert.ModCols.Gen.facts, Cert.ModColsIdeal.Gen.facts, Cert.ModColsRefIdeal.Gen.facts,
    Cert.Pre_finite.Gen.facts, Cert.Pre_finite_in.Gen.facts, Cert.Pre_finite_down.Gen.facts, Cert.Pre_finite_mix.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Conv.Gen.frame m ρ, fun m ρ _ => Cert.ConvIdeal.Gen.frame m ρ, fun m ρ _ => Conv.reference_quiet m ρ,
    fun m ρ _ => Cert.Up.Gen.frame m ρ, fun m ρ _ => Cert.UpIdeal.Gen.frame m ρ, fun m ρ _ => Up.reference_quiet m ρ,
    fun m ρ _ => Cert.GradUp.Gen.frame m ρ, fun m ρ _ => Cert.GradUpIdeal.Gen.frame m ρ, fun m ρ _ => GradUp.reference_quiet m ρ,
    fun m ρ _ => Cert.InBack.Gen.frame m ρ, fun m ρ _ => Cert.InBackIdeal.Gen.frame m ρ, fun m ρ _ => Cert.InBackIdeal.Gen.frame m ρ,
    fun m ρ _ => InBack.reference_quiet m ρ, fun m ρ _ => InBack.reference_quiet m ρ,
    fun m ρ _ => Cert.Head.Gen.frame m ρ, fun m ρ _ => Cert.HeadIdeal.Gen.frame m ρ, fun m ρ _ => Cert.HeadIdeal.Gen.frame m ρ,
    fun m ρ _ => Head.reference_quiet m ρ, fun m ρ _ => Head.reference_quiet m ρ,
    fun m ρ _ => Cert.MixBack.Gen.frame m ρ, fun m ρ _ => Cert.MixBackIdeal.Gen.frame m ρ, fun m ρ _ => Cert.MixBackIdeal.Gen.frame m ρ,
    fun m ρ _ => MixBack.reference_quiet m ρ, fun m ρ _ => MixBack.reference_quiet m ρ,
    fun m ρ _ => Cert.GradIn.Gen.frame m ρ, fun m ρ _ => Cert.GradInIdeal.Gen.frame m ρ, fun m ρ _ => GradIn.reference_quiet m ρ,
    fun m ρ _ => Cert.GradOut.Gen.frame m ρ, fun m ρ _ => Cert.GradOutIdeal.Gen.frame m ρ, fun m ρ _ => GradOut.reference_quiet m ρ,
    fun m ρ _ => Cert.OutProj.Gen.frame m ρ, fun m ρ _ => Cert.OutProjIdeal.Gen.frame m ρ, fun m ρ _ => OutProj.reference_quiet m ρ,
    fun m ρ _ => Cert.AdamIn.Gen.frame m ρ, fun m ρ _ => Cert.AdamInIdeal.Gen.frame m ρ, fun m ρ _ => AdamIn.reference_quiet m ρ,
    fun m ρ _ => Cert.AdamOut.Gen.frame m ρ, fun m ρ _ => Cert.AdamOutIdeal.Gen.frame m ρ, fun m ρ _ => AdamOut.reference_quiet m ρ,
    fun m ρ _ => Cert.AdamGlu.Gen.frame m ρ, fun m ρ _ => Cert.AdamGluIdeal.Gen.frame m ρ, fun m ρ _ => AdamGlu.reference_quiet m ρ,
    fun m ρ _ => Cert.AdamDown.Gen.frame m ρ, fun m ρ _ => Cert.AdamDownIdeal.Gen.frame m ρ, fun m ρ _ => AdamDown.reference_quiet m ρ,
    fun m ρ _ => Cert.AdamConv.Gen.frame m ρ, fun m ρ _ => Cert.AdamConvIdeal.Gen.frame m ρ, fun m ρ _ => AdamConv.reference_quiet m ρ,
    fun m ρ _ => Cert.AdamTaps.Gen.frame m ρ, fun m ρ _ => Cert.AdamTapsIdeal.Gen.frame m ρ, fun m ρ _ => AdamTaps.reference_quiet m ρ,
    fun m ρ _ => Cert.AdamAda.Gen.frame m ρ, fun m ρ _ => Cert.AdamAdaIdeal.Gen.frame m ρ, fun m ρ _ => AdamAda.reference_quiet m ρ,
    fun m ρ _ => Cert.AdamUp.Gen.frame m ρ, fun m ρ _ => Cert.AdamUpIdeal.Gen.frame m ρ, fun m ρ _ => AdamUp.reference_quiet m ρ,
    fun m ρ _ => PreMixFloat.run_frame m ρ, fun m ρ _ => PreMix.run_frame m ρ, fun m ρ _ => PreMix.reference_quiet m ρ,
    fun m ρ _ => Cert.GradAda.Gen.frame m ρ, fun m ρ _ => Cert.GradAdaIdeal.Gen.frame m ρ, fun m ρ _ => GradAda.reference_quiet m ρ,
    fun m ρ _ => Cert.ModCols.Gen.frame m ρ, fun m ρ _ => Cert.ModColsIdeal.Gen.frame m ρ, fun m ρ _ => ModCols.reference_quiet m ρ,
    trivial, gated_down, trivial, conv, trivial, up, trivial, grad_up, trivial, in_back, trivial, head,
    trivial, mix_back, trivial, grad_in, trivial, grad_out, trivial, out_proj,
    trivial, adam_in, trivial, adam_out, trivial, adam_glu, trivial, adam_down, trivial, adam_conv, trivial, adam_taps, trivial, adam_ada, trivial, adam_up,
    trivial, pre_mix, trivial, grad_ada, trivial, mod_cols⟩

end Cert.Proof

end
